-- ==== Defs.lean ====
def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_Up0RefIdeal (m : (ℓ : Loc Cert.Up0RefIdeal.nD Cert.Up0RefIdeal.τ Cert.Up0RefIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0RefIdeal (m : (ℓ : Loc Cert.Down0RefIdeal.nD Cert.Down0RefIdeal.τ Cert.Down0RefIdeal.sig) → Buf (Elt Ideal) ℓ) : Prop :=
  True

def Pre_DownDx0 (m : (ℓ : Loc Cert.DownDx0.nD Cert.DownDx0.τ Cert.DownDx0.sig) → Buf (Elt Bits) ℓ) : Prop :=
  True

def Pre_DownDx0Ideal (m : (ℓ : Loc Cert.DownDx0Ideal.nD Cert.DownDx0Ideal.τ Cert.DownDx0Ideal.sig) → Buf (Elt Ideal) ℓ) : Prop :=
  True

def Pre_DownDx0RefIdeal (m : (ℓ : Loc Cert.DownDx0RefIdeal.nD Cert.DownDx0RefIdeal.τ Cert.DownDx0RefIdeal.sig) → Buf (Elt Ideal) ℓ) : Prop :=
  True

def Pre_DownDw0 (m : (ℓ : Loc Cert.DownDw0.nD Cert.DownDw0.τ Cert.DownDw0.sig) → Buf (Elt Bits) ℓ) : Prop :=
  True

def Pre_DownDw0Ideal (m : (ℓ : Loc Cert.DownDw0Ideal.nD Cert.DownDw0Ideal.τ Cert.DownDw0Ideal.sig) → Buf (Elt Ideal) ℓ) : Prop :=
  True

def Pre_DownDw0RefIdeal (m : (ℓ : Loc Cert.DownDw0RefIdeal.nD Cert.DownDw0RefIdeal.τ Cert.DownDw0RefIdeal.sig) → Buf (Elt Ideal) ℓ) : Prop :=
  True

def Pre_UpDx0 (m : (ℓ : Loc Cert.UpDx0.nD Cert.UpDx0.τ Cert.UpDx0.sig) → Buf (Elt Bits) ℓ) : Prop :=
  True

def Pre_UpDx0Ideal (m : (ℓ : Loc Cert.UpDx0Ideal.nD Cert.UpDx0Ideal.τ Cert.UpDx0Ideal.sig) → Buf (Elt Ideal) ℓ) : Prop :=
  True

def Pre_UpDx0RefIdeal (m : (ℓ : Loc Cert.UpDx0RefIdeal.nD Cert.UpDx0RefIdeal.τ Cert.UpDx0RefIdeal.sig) → Buf (Elt Ideal) ℓ) : Prop :=
  True

def Pre_UpDw0 (m : (ℓ : Loc Cert.UpDw0.nD Cert.UpDw0.τ Cert.UpDw0.sig) → Buf (Elt Bits) ℓ) : Prop :=
  True

def Pre_UpDw0Ideal (m : (ℓ : Loc Cert.UpDw0Ideal.nD Cert.UpDw0Ideal.τ Cert.UpDw0Ideal.sig) → Buf (Elt Ideal) ℓ) : Prop :=
  True

def Pre_UpDw0RefIdeal (m : (ℓ : Loc Cert.UpDw0RefIdeal.nD Cert.UpDw0RefIdeal.τ Cert.UpDw0RefIdeal.sig) → Buf (Elt Ideal) ℓ) : Prop :=
  True

def Pre_Up1 (m : (ℓ : Loc Cert.Up1.nD Cert.Up1.τ Cert.Up1.sig) → Buf (Elt Bits) ℓ) : Prop :=
  True

def Pre_Up1Ideal (m : (ℓ : Loc Cert.Up1Ideal.nD Cert.Up1Ideal.τ Cert.Up1Ideal.sig) → Buf (Elt Ideal) ℓ) : Prop :=
  True

def Pre_Up1RefIdeal (m : (ℓ : Loc Cert.Up1RefIdeal.nD Cert.Up1RefIdeal.τ Cert.Up1RefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1RefIdeal (m : (ℓ : Loc Cert.Down1RefIdeal.nD Cert.Down1RefIdeal.τ Cert.Down1RefIdeal.sig) → Buf (Elt Ideal) ℓ) : Prop :=
  True

def Pre_DownDx1 (m : (ℓ : Loc Cert.DownDx1.nD Cert.DownDx1.τ Cert.DownDx1.sig) → Buf (Elt Bits) ℓ) : Prop :=
  True

def Pre_DownDx1Ideal (m : (ℓ : Loc Cert.DownDx1Ideal.nD Cert.DownDx1Ideal.τ Cert.DownDx1Ideal.sig) → Buf (Elt Ideal) ℓ) : Prop :=
  True

def Pre_DownDx1RefIdeal (m : (ℓ : Loc Cert.DownDx1RefIdeal.nD Cert.DownDx1RefIdeal.τ Cert.DownDx1RefIdeal.sig) → Buf (Elt Ideal) ℓ) : Prop :=
  True

def Pre_DownDw1 (m : (ℓ : Loc Cert.DownDw1.nD Cert.DownDw1.τ Cert.DownDw1.sig) → Buf (Elt Bits) ℓ) : Prop :=
  True

def Pre_DownDw1Ideal (m : (ℓ : Loc Cert.DownDw1Ideal.nD Cert.DownDw1Ideal.τ Cert.DownDw1Ideal.sig) → Buf (Elt Ideal) ℓ) : Prop :=
  True

def Pre_DownDw1RefIdeal (m : (ℓ : Loc Cert.DownDw1RefIdeal.nD Cert.DownDw1RefIdeal.τ Cert.DownDw1RefIdeal.sig) → Buf (Elt Ideal) ℓ) : Prop :=
  True

def Pre_UpDx1 (m : (ℓ : Loc Cert.UpDx1.nD Cert.UpDx1.τ Cert.UpDx1.sig) → Buf (Elt Bits) ℓ) : Prop :=
  True

def Pre_UpDx1Ideal (m : (ℓ : Loc Cert.UpDx1Ideal.nD Cert.UpDx1Ideal.τ Cert.UpDx1Ideal.sig) → Buf (Elt Ideal) ℓ) : Prop :=
  True

def Pre_UpDx1RefIdeal (m : (ℓ : Loc Cert.UpDx1RefIdeal.nD Cert.UpDx1RefIdeal.τ Cert.UpDx1RefIdeal.sig) → Buf (Elt Ideal) ℓ) : Prop :=
  True

def Pre_UpDw1 (m : (ℓ : Loc Cert.UpDw1.nD Cert.UpDw1.τ Cert.UpDw1.sig) → Buf (Elt Bits) ℓ) : Prop :=
  True

def Pre_UpDw1Ideal (m : (ℓ : Loc Cert.UpDw1Ideal.nD Cert.UpDw1Ideal.τ Cert.UpDw1Ideal.sig) → Buf (Elt Ideal) ℓ) : Prop :=
  True

def Pre_UpDw1RefIdeal (m : (ℓ : Loc Cert.UpDw1RefIdeal.nD Cert.UpDw1RefIdeal.τ Cert.UpDw1RefIdeal.sig) → Buf (Elt Ideal) ℓ) : Prop :=
  True

def Pre_InE (m : (ℓ : Loc Cert.InE.nD Cert.InE.τ Cert.InE.sig) → Buf (Elt Bits) ℓ) : Prop :=
  True

def Pre_InEIdeal (m : (ℓ : Loc Cert.InEIdeal.nD Cert.InEIdeal.τ Cert.InEIdeal.sig) → Buf (Elt Ideal) ℓ) : Prop :=
  True

def Pre_InERefIdeal (m : (ℓ : Loc Cert.InERefIdeal.nD Cert.InERefIdeal.τ Cert.InERefIdeal.sig) → Buf (Elt Ideal) ℓ) : Prop :=
  True

def Pre_InEDx (m : (ℓ : Loc Cert.InEDx.nD Cert.InEDx.τ Cert.InEDx.sig) → Buf (Elt Bits) ℓ) : Prop :=
  True

def Pre_InEDxIdeal (m : (ℓ : Loc Cert.InEDxIdeal.nD Cert.InEDxIdeal.τ Cert.InEDxIdeal.sig) → Buf (Elt Ideal) ℓ) : Prop :=
  True

def Pre_InEDxRefIdeal (m : (ℓ : Loc Cert.InEDxRefIdeal.nD Cert.InEDxRefIdeal.τ Cert.InEDxRefIdeal.sig) → Buf (Elt Ideal) ℓ) : Prop :=
  True

def Pre_InEDw (m : (ℓ : Loc Cert.InEDw.nD Cert.InEDw.τ Cert.InEDw.sig) → Buf (Elt Bits) ℓ) : Prop :=
  True

def Pre_InEDwIdeal (m : (ℓ : Loc Cert.InEDwIdeal.nD Cert.InEDwIdeal.τ Cert.InEDwIdeal.sig) → Buf (Elt Ideal) ℓ) : Prop :=
  True

def Pre_InEDwRefIdeal (m : (ℓ : Loc Cert.InEDwRefIdeal.nD Cert.InEDwRefIdeal.τ Cert.InEDwRefIdeal.sig) → Buf (Elt Ideal) ℓ) : Prop :=
  True

def Pre_InO (m : (ℓ : Loc Cert.InO.nD Cert.InO.τ Cert.InO.sig) → Buf (Elt Bits) ℓ) : Prop :=
  True

def Pre_InOIdeal (m : (ℓ : Loc Cert.InOIdeal.nD Cert.InOIdeal.τ Cert.InOIdeal.sig) → Buf (Elt Ideal) ℓ) : Prop :=
  True

def Pre_InORefIdeal (m : (ℓ : Loc Cert.InORefIdeal.nD Cert.InORefIdeal.τ Cert.InORefIdeal.sig) → Buf (Elt Ideal) ℓ) : Prop :=
  True

def Pre_InODx (m : (ℓ : Loc Cert.InODx.nD Cert.InODx.τ Cert.InODx.sig) → Buf (Elt Bits) ℓ) : Prop :=
  True

def Pre_InODxIdeal (m : (ℓ : Loc Cert.InODxIdeal.nD Cert.InODxIdeal.τ Cert.InODxIdeal.sig) → Buf (Elt Ideal) ℓ) : Prop :=
  True

def Pre_InODxRefIdeal (m : (ℓ : Loc Cert.InODxRefIdeal.nD Cert.InODxRefIdeal.τ Cert.InODxRefIdeal.sig) → Buf (Elt Ideal) ℓ) : Prop :=
  True

def Pre_InODw (m : (ℓ : Loc Cert.InODw.nD Cert.InODw.τ Cert.InODw.sig) → Buf (Elt Bits) ℓ) : Prop :=
  True

def Pre_InODwIdeal (m : (ℓ : Loc Cert.InODwIdeal.nD Cert.InODwIdeal.τ Cert.InODwIdeal.sig) → Buf (Elt Ideal) ℓ) : Prop :=
  True

def Pre_InODwRefIdeal (m : (ℓ : Loc Cert.InODwRefIdeal.nD Cert.InODwRefIdeal.τ Cert.InODwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdamInE (m : (ℓ : Loc Cert.AdamInE.nD Cert.AdamInE.τ Cert.AdamInE.sig) → Buf (Elt Bits) ℓ) : Prop :=
  True

def Pre_AdamInEIdeal (m : (ℓ : Loc Cert.AdamInEIdeal.nD Cert.AdamInEIdeal.τ Cert.AdamInEIdeal.sig) → Buf (Elt Ideal) ℓ) : Prop :=
  True

def Pre_AdamInERefIdeal (m : (ℓ : Loc Cert.AdamInERefIdeal.nD Cert.AdamInERefIdeal.τ Cert.AdamInERefIdeal.sig) → Buf (Elt Ideal) ℓ) : Prop :=
  True

def Pre_AdamInO (m : (ℓ : Loc Cert.AdamInO.nD Cert.AdamInO.τ Cert.AdamInO.sig) → Buf (Elt Bits) ℓ) : Prop :=
  True

def Pre_AdamInOIdeal (m : (ℓ : Loc Cert.AdamInOIdeal.nD Cert.AdamInOIdeal.τ Cert.AdamInOIdeal.sig) → Buf (Elt Ideal) ℓ) : Prop :=
  True

def Pre_AdamInORefIdeal (m : (ℓ : Loc Cert.AdamInORefIdeal.nD Cert.AdamInORefIdeal.τ Cert.AdamInORefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamVec (m : (ℓ : Loc Cert.AdamVec.nD Cert.AdamVec.τ Cert.AdamVec.sig) → Buf (Elt Bits) ℓ) : Prop :=
  True

def Pre_AdamVecIdeal (m : (ℓ : Loc Cert.AdamVecIdeal.nD Cert.AdamVecIdeal.τ Cert.AdamVecIdeal.sig) → Buf (Elt Ideal) ℓ) : Prop :=
  True

def Pre_AdamVecRefIdeal (m : (ℓ : Loc Cert.AdamVecRefIdeal.nD Cert.AdamVecRefIdeal.τ Cert.AdamVecRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_NormRes (m : (ℓ : Loc Cert.NormRes.nD Cert.NormRes.τ Cert.NormRes.sig) → Buf (Elt Bits) ℓ) : Prop :=
  True

def Pre_NormResIdeal (m : (ℓ : Loc Cert.NormResIdeal.nD Cert.NormResIdeal.τ Cert.NormResIdeal.sig) → Buf (Elt Ideal) ℓ) : Prop :=
  True

def Pre_NormResRefIdeal (m : (ℓ : Loc Cert.NormResRefIdeal.nD Cert.NormResRefIdeal.τ Cert.NormResRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_PoolScale (m : (ℓ : Loc Cert.PoolScale.nD Cert.PoolScale.τ Cert.PoolScale.sig) → Buf (Elt Bits) ℓ) : Prop :=
  True

def Pre_PoolScaleIdeal (m : (ℓ : Loc Cert.PoolScaleIdeal.nD Cert.PoolScaleIdeal.τ Cert.PoolScaleIdeal.sig) → Buf (Elt Ideal) ℓ) : Prop :=
  True

def Pre_PoolScaleRefIdeal (m : (ℓ : Loc Cert.PoolScaleRefIdeal.nD Cert.PoolScaleRefIdeal.τ Cert.PoolScaleRefIdeal.sig) → Buf (Elt Ideal) ℓ) : Prop :=
  True

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutRefIdeal (m : (ℓ : Loc Cert.S5OutRefIdeal.nD Cert.S5OutRefIdeal.τ Cert.S5OutRefIdeal.sig) → Buf (Elt Ideal) ℓ) : Prop :=
  True

def Pre_S5Du (m : (ℓ : Loc Cert.S5Du.nD Cert.S5Du.τ Cert.S5Du.sig) → Buf (Elt Bits) ℓ) : Prop :=
  True

def Pre_S5DuIdeal (m : (ℓ : Loc Cert.S5DuIdeal.nD Cert.S5DuIdeal.τ Cert.S5DuIdeal.sig) → Buf (Elt Ideal) ℓ) : Prop :=
  True

def Pre_S5DuRefIdeal (m : (ℓ : Loc Cert.S5DuRefIdeal.nD Cert.S5DuRefIdeal.τ Cert.S5DuRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_PoolDx (m : (ℓ : Loc Cert.PoolDx.nD Cert.PoolDx.τ Cert.PoolDx.sig) → Buf (Elt Bits) ℓ) : Prop :=
  True

def Pre_PoolDxIdeal (m : (ℓ : Loc Cert.PoolDxIdeal.nD Cert.PoolDxIdeal.τ Cert.PoolDxIdeal.sig) → Buf (Elt Ideal) ℓ) : Prop :=
  True

def Pre_PoolDxRefIdeal (m : (ℓ : Loc Cert.PoolDxRefIdeal.nD Cert.PoolDxRefIdeal.τ Cert.PoolDxRefIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwRefIdeal (m : (ℓ : Loc Cert.PoolDwRefIdeal.nD Cert.PoolDwRefIdeal.τ Cert.PoolDwRefIdeal.sig) → Buf (Elt Ideal) ℓ) : Prop :=
  True

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ r.2.sem = fun _ => 0)

def quiescent_Up0RefIdeal [hUp0RefIdeal : Cert.Up0RefIdeal.Facts] : Prop :=
  ∀ (m : (ℓ : Loc Cert.Up0RefIdeal.nD Cert.Up0RefIdeal.τ Cert.Up0RefIdeal.sig) → Buf (Elt Ideal) ℓ) (g : Dev Cert.Up0RefIdeal.nD → PrngReg), Pre_Up0RefIdeal m →
    θ_run (Cert.Up0RefIdeal.defs (F := Ideal)) (onTc (τ := Cert.Up0RefIdeal.τ) (Cert.Up0RefIdeal.main (F := Ideal))) ⟨m, fun _ => 0, g⟩ (fun r => (∀ c : Dev Cert.Up0RefIdeal.nD,
      r.2.mem ((c.tc : Thread Cert.Up0RefIdeal.nD Cert.Up0RefIdeal.τ).loc Cert.Up0RefIdeal.main_arg0) = m ((c.tc : Thread Cert.Up0RefIdeal.nD Cert.Up0RefIdeal.τ).loc Cert.Up0RefIdeal.main_arg0)
      ∧ r.2.mem ((c.tc : Thread Cert.Up0RefIdeal.nD Cert.Up0RefIdeal.τ).loc Cert.Up0RefIdeal.main_arg1) = m ((c.tc : Thread Cert.Up0RefIdeal.nD Cert.Up0RefIdeal.τ).loc Cert.Up0RefIdeal.main_arg1))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1))
      ∧ r.2.sem = fun _ => 0)

def quiescent_Down0RefIdeal [hDown0RefIdeal : Cert.Down0RefIdeal.Facts] : Prop :=
  ∀ (m : (ℓ : Loc Cert.Down0RefIdeal.nD Cert.Down0RefIdeal.τ Cert.Down0RefIdeal.sig) → Buf (Elt Ideal) ℓ) (g : Dev Cert.Down0RefIdeal.nD → PrngReg), Pre_Down0RefIdeal m →
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1))
      ∧ r.2.sem = fun _ => 0)

def quiescent_DownDx0 [hDownDx0 : Cert.DownDx0.Facts] : Prop :=
  ∀ (m : (ℓ : Loc Cert.DownDx0.nD Cert.DownDx0.τ Cert.DownDx0.sig) → Buf (Elt Bits) ℓ) (g : Dev Cert.DownDx0.nD → PrngReg), Pre_DownDx0 m →
    θ_run (Cert.DownDx0.defs (F := Bits)) (onTc (τ := Cert.DownDx0.τ) (Cert.DownDx0.main (F := Bits))) ⟨m, fun _ => 0, g⟩ (fun r => (∀ c : Dev Cert.DownDx0.nD,
      r.2.mem ((c.tc : Thread Cert.DownDx0.nD Cert.DownDx0.τ).loc Cert.DownDx0.main_arg0) = m ((c.tc : Thread Cert.DownDx0.nD Cert.DownDx0.τ).loc Cert.DownDx0.main_arg0)
      ∧ r.2.mem ((c.tc : Thread Cert.DownDx0.nD Cert.DownDx0.τ).loc Cert.DownDx0.main_arg1) = m ((c.tc : Thread Cert.DownDx0.nD Cert.DownDx0.τ).loc Cert.DownDx0.main_arg1)
      ∧ r.2.mem ((c.tc : Thread Cert.DownDx0.nD Cert.DownDx0.τ).loc Cert.DownDx0.main_arg2) = m ((c.tc : Thread Cert.DownDx0.nD Cert.DownDx0.τ).loc Cert.DownDx0.main_arg2))
      ∧ r.2.sem = fun _ => 0)

def quiescent_DownDx0Ideal [hDownDx0Ideal : Cert.DownDx0Ideal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg), Pre_DownDx0Ideal m →
    θ_run (Cert.DownDx0Ideal.defs (F := Ideal)) (onTc (τ := Cert.DownDx0Ideal.τ) (Cert.DownDx0Ideal.main (F := Ideal))) ⟨m, fun _ => 0, g⟩ (fun r => (∀ c : Dev Cert.DownDx0Ideal.nD,
      r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
      ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1)
      ∧ r.2.mem ((c.tc : Thread Cert.DownDx0Ideal.nD Cert.DownDx0Ideal.τ).loc Cert.DownDx0Ideal.main_arg2) = m ((c.tc : Thread Cert.DownDx0Ideal.nD Cert.DownDx0Ideal.τ).loc Cert.DownDx0Ideal.main_arg2))
      ∧ r.2.sem = fun _ => 0)

def quiescent_DownDx0RefIdeal [hDownDx0RefIdeal : Cert.DownDx0RefIdeal.Facts] : Prop :=
  ∀ (m : (ℓ : Loc Cert.DownDx0RefIdeal.nD Cert.DownDx0RefIdeal.τ Cert.DownDx0RefIdeal.sig) → Buf (Elt Ideal) ℓ) (g : Dev Cert.DownDx0RefIdeal.nD → PrngReg), Pre_DownDx0RefIdeal m →
    θ_run (Cert.DownDx0RefIdeal.defs (F := Ideal)) (onTc (τ := Cert.DownDx0RefIdeal.τ) (Cert.DownDx0RefIdeal.main (F := Ideal))) ⟨m, fun _ => 0, g⟩ (fun r => (∀ c : Dev Cert.DownDx0RefIdeal.nD,
      r.2.mem ((c.tc : Thread Cert.DownDx0RefIdeal.nD Cert.DownDx0RefIdeal.τ).loc Cert.DownDx0RefIdeal.main_arg0) = m ((c.tc : Thread Cert.DownDx0RefIdeal.nD Cert.DownDx0RefIdeal.τ).loc Cert.DownDx0RefIdeal.main_arg0)
      ∧ r.2.mem ((c.tc : Thread Cert.DownDx0RefIdeal.nD Cert.DownDx0RefIdeal.τ).loc Cert.DownDx0RefIdeal.main_arg1) = m ((c.tc : Thread Cert.DownDx0RefIdeal.nD Cert.DownDx0RefIdeal.τ).loc Cert.DownDx0RefIdeal.main_arg1)
      ∧ r.2.mem ((c.tc : Thread Cert.DownDx0RefIdeal.nD Cert.DownDx0RefIdeal.τ).loc Cert.DownDx0RefIdeal.main_arg2) = m ((c.tc : Thread Cert.DownDx0RefIdeal.nD Cert.DownDx0RefIdeal.τ).loc Cert.DownDx0RefIdeal.main_arg2))
      ∧ r.2.sem = fun _ => 0)

def quiescent_DownDw0 [hDownDw0 : Cert.DownDw0.Facts] : Prop :=
  ∀ (m : (ℓ : Loc Cert.DownDw0.nD Cert.DownDw0.τ Cert.DownDw0.sig) → Buf (Elt Bits) ℓ) (g : Dev Cert.DownDw0.nD → PrngReg), Pre_DownDw0 m →
    θ_run (Cert.DownDw0.defs (F := Bits)) (onTc (τ := Cert.DownDw0.τ) (Cert.DownDw0.main (F := Bits))) ⟨m, fun _ => 0, g⟩ (fun r => (∀ c : Dev Cert.DownDw0.nD,
      r.2.mem ((c.tc : Thread Cert.DownDw0.nD Cert.DownDw0.τ).loc Cert.DownDw0.main_arg0) = m ((c.tc : Thread Cert.DownDw0.nD Cert.DownDw0.τ).loc Cert.DownDw0.main_arg0)
      ∧ r.2.mem ((c.tc : Thread Cert.DownDw0.nD Cert.DownDw0.τ).loc Cert.DownDw0.main_arg1) = m ((c.tc : Thread Cert.DownDw0.nD Cert.DownDw0.τ).loc Cert.DownDw0.main_arg1)
      ∧ r.2.mem ((c.tc : Thread Cert.DownDw0.nD Cert.DownDw0.τ).loc Cert.DownDw0.main_arg2) = m ((c.tc : Thread Cert.DownDw0.nD Cert.DownDw0.τ).loc Cert.DownDw0.main_arg2))
      ∧ r.2.sem = fun _ => 0)

def quiescent_DownDw0Ideal [hDownDw0Ideal : Cert.DownDw0Ideal.Facts] : Prop :=
  ∀ (m : (ℓ : Loc Cert.DownDw0Ideal.nD Cert.DownDw0Ideal.τ Cert.DownDw0Ideal.sig) → Buf (Elt Ideal) ℓ) (g : Dev Cert.DownDw0Ideal.nD → PrngReg), Pre_DownDw0Ideal m →
    θ_run (Cert.DownDw0Ideal.defs (F := Ideal)) (onTc (τ := Cert.DownDw0Ideal.τ) (Cert.DownDw0Ideal.main (F := Ideal))) ⟨m, fun _ => 0, g⟩ (fun r => (∀ c : Dev Cert.DownDw0Ideal.nD,
      r.2.mem ((c.tc : Thread Cert.DownDw0Ideal.nD Cert.DownDw0Ideal.τ).loc Cert.DownDw0Ideal.main_arg0) = m ((c.tc : Thread Cert.DownDw0Ideal.nD Cert.DownDw0Ideal.τ).loc Cert.DownDw0Ideal.main_arg0)
      ∧ r.2.mem ((c.tc : Thread Cert.DownDw0Ideal.nD Cert.DownDw0Ideal.τ).loc Cert.DownDw0Ideal.main_arg1) = m ((c.tc : Thread Cert.DownDw0Ideal.nD Cert.DownDw0Ideal.τ).loc Cert.DownDw0Ideal.main_arg1)
      ∧ r.2.mem ((c.tc : Thread Cert.DownDw0Ideal.nD Cert.DownDw0Ideal.τ).loc Cert.DownDw0Ideal.main_arg2) = m ((c.tc : Thread Cert.DownDw0Ideal.nD Cert.DownDw0Ideal.τ).loc Cert.DownDw0Ideal.main_arg2))
      ∧ r.2.sem = fun _ => 0)

def quiescent_DownDw0RefIdeal [hDownDw0RefIdeal : Cert.DownDw0RefIdeal.Facts] : Prop :=
  ∀ (m : (ℓ : Loc Cert.DownDw0RefIdeal.nD Cert.DownDw0RefIdeal.τ Cert.DownDw0RefIdeal.sig) → Buf (Elt Ideal) ℓ) (g : Dev Cert.DownDw0RefIdeal.nD → PrngReg), Pre_DownDw0RefIdeal m →
    θ_run (Cert.DownDw0RefIdeal.defs (F := Ideal)) (onTc (τ := Cert.DownDw0RefIdeal.τ) (Cert.DownDw0RefIdeal.main (F := Ideal))) ⟨m, fun _ => 0, g⟩ (fun r => (∀ c : Dev Cert.DownDw0RefIdeal.nD,
      r.2.mem ((c.tc : Thread Cert.DownDw0RefIdeal.nD Cert.DownDw0RefIdeal.τ).loc Cert.DownDw0RefIdeal.main_arg0) = m ((c.tc : Thread Cert.DownDw0RefIdeal.nD Cert.DownDw0RefIdeal.τ).loc Cert.DownDw0RefIdeal.main_arg0)
      ∧ r.2.mem ((c.tc : Thread Cert.DownDw0RefIdeal.nD Cert.DownDw0RefIdeal.τ).loc Cert.DownDw0RefIdeal.main_arg1) = m ((c.tc : Thread Cert.DownDw0RefIdeal.nD Cert.DownDw0RefIdeal.τ).loc Cert.DownDw0RefIdeal.main_arg1)
      ∧ r.2.mem ((c.tc : Thread Cert.DownDw0RefIdeal.nD Cert.DownDw0RefIdeal.τ).loc Cert.DownDw0RefIdeal.main_arg2) = m ((c.tc : Thread Cert.DownDw0RefIdeal.nD Cert.DownDw0RefIdeal.τ).loc Cert.DownDw0RefIdeal.main_arg2))
      ∧ r.2.sem = fun _ => 0)

def quiescent_UpDx0 [hUpDx0 : Cert.UpDx0.Facts] : Prop :=
  ∀ (m : (ℓ : Loc Cert.UpDx0.nD Cert.UpDx0.τ Cert.UpDx0.sig) → Buf (Elt Bits) ℓ) (g : Dev Cert.UpDx0.nD → PrngReg), Pre_UpDx0 m →
    θ_run (Cert.UpDx0.defs (F := Bits)) (onTc (τ := Cert.UpDx0.τ) (Cert.UpDx0.main (F := Bits))) ⟨m, fun _ => 0, g⟩ (fun r => (∀ c : Dev Cert.UpDx0.nD,
      r.2.mem ((c.tc : Thread Cert.UpDx0.nD Cert.UpDx0.τ).loc Cert.UpDx0.main_arg0) = m ((c.tc : Thread Cert.UpDx0.nD Cert.UpDx0.τ).loc Cert.UpDx0.main_arg0)
      ∧ r.2.mem ((c.tc : Thread Cert.UpDx0.nD Cert.UpDx0.τ).loc Cert.UpDx0.main_arg1) = m ((c.tc : Thread Cert.UpDx0.nD Cert.UpDx0.τ).loc Cert.UpDx0.main_arg1))
      ∧ r.2.sem = fun _ => 0)

def quiescent_UpDx0Ideal [hUpDx0Ideal : Cert.UpDx0Ideal.Facts] : Prop :=
  ∀ (m : (ℓ : Loc Cert.UpDx0Ideal.nD Cert.UpDx0Ideal.τ Cert.UpDx0Ideal.sig) → Buf (Elt Ideal) ℓ) (g : Dev Cert.UpDx0Ideal.nD → PrngReg), Pre_UpDx0Ideal m →
    θ_run (Cert.UpDx0Ideal.defs (F := Ideal)) (onTc (τ := Cert.UpDx0Ideal.τ) (Cert.UpDx0Ideal.main (F := Ideal))) ⟨m, fun _ => 0, g⟩ (fun r => (∀ c : Dev Cert.UpDx0Ideal.nD,
      r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
      ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1))
      ∧ r.2.sem = fun _ => 0)

def quiescent_UpDx0RefIdeal [hUpDx0RefIdeal : Cert.UpDx0RefIdeal.Facts] : Prop :=
  ∀ (m : (ℓ : Loc Cert.UpDx0RefIdeal.nD Cert.UpDx0RefIdeal.τ Cert.UpDx0RefIdeal.sig) → Buf (Elt Ideal) ℓ) (g : Dev Cert.UpDx0RefIdeal.nD → PrngReg), Pre_UpDx0RefIdeal m →
    θ_run (Cert.UpDx0RefIdeal.defs (F := Ideal)) (onTc (τ := Cert.UpDx0RefIdeal.τ) (Cert.UpDx0RefIdeal.main (F := Ideal))) ⟨m, fun _ => 0, g⟩ (fun r => (∀ c : Dev Cert.UpDx0RefIdeal.nD,
      r.2.mem ((c.tc : Thread Cert.UpDx0RefIdeal.nD Cert.UpDx0RefIdeal.τ).loc Cert.UpDx0RefIdeal.main_arg0) = m ((c.tc : Thread Cert.UpDx0RefIdeal.nD Cert.UpDx0RefIdeal.τ).loc Cert.UpDx0RefIdeal.main_arg0)
      ∧ r.2.mem ((c.tc : Thread Cert.UpDx0RefIdeal.nD Cert.UpDx0RefIdeal.τ).loc Cert.UpDx0RefIdeal.main_arg1) = m ((c.tc : Thread Cert.UpDx0RefIdeal.nD Cert.UpDx0RefIdeal.τ).loc Cert.UpDx0RefIdeal.main_arg1))
      ∧ r.2.sem = fun _ => 0)

def quiescent_UpDw0 [hUpDw0 : Cert.UpDw0.Facts] : Prop :=
  ∀ (m : (ℓ : Loc Cert.UpDw0.nD Cert.UpDw0.τ Cert.UpDw0.sig) → Buf (Elt Bits) ℓ) (g : Dev Cert.UpDw0.nD → PrngReg), Pre_UpDw0 m →
    θ_run (Cert.UpDw0.defs (F := Bits)) (onTc (τ := Cert.UpDw0.τ) (Cert.UpDw0.main (F := Bits))) ⟨m, fun _ => 0, g⟩ (fun r => (∀ c : Dev Cert.UpDw0.nD,
      r.2.mem ((c.tc : Thread Cert.UpDw0.nD Cert.UpDw0.τ).loc Cert.UpDw0.main_arg0) = m ((c.tc : Thread Cert.UpDw0.nD Cert.UpDw0.τ).loc Cert.UpDw0.main_arg0)
      ∧ r.2.mem ((c.tc : Thread Cert.UpDw0.nD Cert.UpDw0.τ).loc Cert.UpDw0.main_arg1) = m ((c.tc : Thread Cert.UpDw0.nD Cert.UpDw0.τ).loc Cert.UpDw0.main_arg1)
      ∧ r.2.mem ((c.tc : Thread Cert.UpDw0.nD Cert.UpDw0.τ).loc Cert.UpDw0.main_arg2) = m ((c.tc : Thread Cert.UpDw0.nD Cert.UpDw0.τ).loc Cert.UpDw0.main_arg2))
      ∧ r.2.sem = fun _ => 0)

def quiescent_UpDw0Ideal [hUpDw0Ideal : Cert.UpDw0Ideal.Facts] : Prop :=
  ∀ (m : (ℓ : Loc Cert.UpDw0Ideal.nD Cert.UpDw0Ideal.τ Cert.UpDw0Ideal.sig) → Buf (Elt Ideal) ℓ) (g : Dev Cert.UpDw0Ideal.nD → PrngReg), Pre_UpDw0Ideal m →
    θ_run (Cert.UpDw0Ideal.defs (F := Ideal)) (onTc (τ := Cert.UpDw0Ideal.τ) (Cert.UpDw0Ideal.main (F := Ideal))) ⟨m, fun _ => 0, g⟩ (fun r => (∀ c : Dev Cert.UpDw0Ideal.nD,
      r.2.mem ((c.tc : Thread Cert.UpDw0Ideal.nD Cert.UpDw0Ideal.τ).loc Cert.UpDw0Ideal.main_arg0) = m ((c.tc : Thread Cert.UpDw0Ideal.nD Cert.UpDw0Ideal.τ).loc Cert.UpDw0Ideal.main_arg0)
      ∧ r.2.mem ((c.tc : Thread Cert.UpDw0Ideal.nD Cert.UpDw0Ideal.τ).loc Cert.UpDw0Ideal.main_arg1) = m ((c.tc : Thread Cert.UpDw0Ideal.nD Cert.UpDw0Ideal.τ).loc Cert.UpDw0Ideal.main_arg1)
      ∧ r.2.mem ((c.tc : Thread Cert.UpDw0Ideal.nD Cert.UpDw0Ideal.τ).loc Cert.UpDw0Ideal.main_arg2) = m ((c.tc : Thread Cert.UpDw0Ideal.nD Cert.UpDw0Ideal.τ).loc Cert.UpDw0Ideal.main_arg2))
      ∧ r.2.sem = fun _ => 0)

def quiescent_UpDw0RefIdeal [hUpDw0RefIdeal : Cert.UpDw0RefIdeal.Facts] : Prop :=
  ∀ (m : (ℓ : Loc Cert.UpDw0RefIdeal.nD Cert.UpDw0RefIdeal.τ Cert.UpDw0RefIdeal.sig) → Buf (Elt Ideal) ℓ) (g : Dev Cert.UpDw0RefIdeal.nD → PrngReg), Pre_UpDw0RefIdeal m →
    θ_run (Cert.UpDw0RefIdeal.defs (F := Ideal)) (onTc (τ := Cert.UpDw0RefIdeal.τ) (Cert.UpDw0RefIdeal.main (F := Ideal))) ⟨m, fun _ => 0, g⟩ (fun r => (∀ c : Dev Cert.UpDw0RefIdeal.nD,
      r.2.mem ((c.tc : Thread Cert.UpDw0RefIdeal.nD Cert.UpDw0RefIdeal.τ).loc Cert.UpDw0RefIdeal.main_arg0) = m ((c.tc : Thread Cert.UpDw0RefIdeal.nD Cert.UpDw0RefIdeal.τ).loc Cert.UpDw0RefIdeal.main_arg0)
      ∧ r.2.mem ((c.tc : Thread Cert.UpDw0RefIdeal.nD Cert.UpDw0RefIdeal.τ).loc Cert.UpDw0RefIdeal.main_arg1) = m ((c.tc : Thread Cert.UpDw0RefIdeal.nD Cert.UpDw0RefIdeal.τ).loc Cert.UpDw0RefIdeal.main_arg1)
      ∧ r.2.mem ((c.tc : Thread Cert.UpDw0RefIdeal.nD Cert.UpDw0RefIdeal.τ).loc Cert.UpDw0RefIdeal.main_arg2) = m ((c.tc : Thread Cert.UpDw0RefIdeal.nD Cert.UpDw0RefIdeal.τ).loc Cert.UpDw0RefIdeal.main_arg2))
      ∧ r.2.sem = fun _ => 0)

def quiescent_Up1 [hUp1 : Cert.Up1.Facts] : Prop :=
  ∀ (m : (ℓ : Loc Cert.Up1.nD Cert.Up1.τ Cert.Up1.sig) → Buf (Elt Bits) ℓ) (g : Dev Cert.Up1.nD → PrngReg), Pre_Up1 m →
    θ_run (Cert.Up1.defs (F := Bits)) (onTc (τ := Cert.Up1.τ) (Cert.Up1.main (F := Bits))) ⟨m, fun _ => 0, g⟩ (fun r => (∀ c : Dev Cert.Up1.nD,
      r.2.mem ((c.tc : Thread Cert.Up1.nD Cert.Up1.τ).loc Cert.Up1.main_arg0) = m ((c.tc : Thread Cert.Up1.nD Cert.Up1.τ).loc Cert.Up1.main_arg0)
      ∧ r.2.mem ((c.tc : Thread Cert.Up1.nD Cert.Up1.τ).loc Cert.Up1.main_arg1) = m ((c.tc : Thread Cert.Up1.nD Cert.Up1.τ).loc Cert.Up1.main_arg1))
      ∧ r.2.sem = fun _ => 0)

def quiescent_Up1Ideal [hUp1Ideal : Cert.Up1Ideal.Facts] : Prop :=
  ∀ (m : (ℓ : Loc Cert.Up1Ideal.nD Cert.Up1Ideal.τ Cert.Up1Ideal.sig) → Buf (Elt Ideal) ℓ) (g : Dev Cert.Up1Ideal.nD → PrngReg), Pre_Up1Ideal m →
    θ_run (Cert.Up1Ideal.defs (F := Ideal)) (onTc (τ := Cert.Up1Ideal.τ) (Cert.Up1Ideal.main (F := Ideal))) ⟨m, fun _ => 0, g⟩ (fun r => (∀ c : Dev Cert.Up1Ideal.nD,
      r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
      ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ r.2.sem = fun _ => 0)

def quiescent_Up1RefIdeal [hUp1RefIdeal : Cert.Up1RefIdeal.Facts] : Prop :=
  ∀ (m : (ℓ : Loc Cert.Up1RefIdeal.nD Cert.Up1RefIdeal.τ Cert.Up1RefIdeal.sig) → Buf (Elt Ideal) ℓ) (g : Dev Cert.Up1RefIdeal.nD → PrngReg), Pre_Up1RefIdeal m →
    θ_run (Cert.Up1RefIdeal.defs (F := Ideal)) (onTc (τ := Cert.Up1RefIdeal.τ) (Cert.Up1RefIdeal.main (F := Ideal))) ⟨m, fun _ => 0, g⟩ (fun r => (∀ c : Dev Cert.Up1RefIdeal.nD,
      r.2.mem ((c.tc : Thread Cert.Up1RefIdeal.nD Cert.Up1RefIdeal.τ).loc Cert.Up1RefIdeal.main_arg0) = m ((c.tc : Thread Cert.Up1RefIdeal.nD Cert.Up1RefIdeal.τ).loc Cert.Up1RefIdeal.main_arg0)
      ∧ r.2.mem ((c.tc : Thread Cert.Up1RefIdeal.nD Cert.Up1RefIdeal.τ).loc Cert.Up1RefIdeal.main_arg1) = m ((c.tc : Thread Cert.Up1RefIdeal.nD Cert.Up1RefIdeal.τ).loc Cert.Up1RefIdeal.main_arg1))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1))
      ∧ r.2.sem = fun _ => 0)

def quiescent_Down1RefIdeal [hDown1RefIdeal : Cert.Down1RefIdeal.Facts] : Prop :=
  ∀ (m : (ℓ : Loc Cert.Down1RefIdeal.nD Cert.Down1RefIdeal.τ Cert.Down1RefIdeal.sig) → Buf (Elt Ideal) ℓ) (g : Dev Cert.Down1RefIdeal.nD → PrngReg), Pre_Down1RefIdeal m →
    θ_run (Cert.Down1RefIdeal.defs (F := Ideal)) (onTc (τ := Cert.Down1RefIdeal.τ) (Cert.Down1RefIdeal.main (F := Ideal))) ⟨m, fun _ => 0, g⟩ (fun r => (∀ c : Dev Cert.Down1RefIdeal.nD,
      r.2.mem ((c.tc : Thread Cert.Down1RefIdeal.nD Cert.Down1RefIdeal.τ).loc Cert.Down1RefIdeal.main_arg0) = m ((c.tc : Thread Cert.Down1RefIdeal.nD Cert.Down1RefIdeal.τ).loc Cert.Down1RefIdeal.main_arg0)
      ∧ r.2.mem ((c.tc : Thread Cert.Down1RefIdeal.nD Cert.Down1RefIdeal.τ).loc Cert.Down1RefIdeal.main_arg1) = m ((c.tc : Thread Cert.Down1RefIdeal.nD Cert.Down1RefIdeal.τ).loc Cert.Down1RefIdeal.main_arg1))
      ∧ r.2.sem = fun _ => 0)

def quiescent_DownDx1 [hDownDx1 : Cert.DownDx1.Facts] : Prop :=
  ∀ (m : (ℓ : Loc Cert.DownDx1.nD Cert.DownDx1.τ Cert.DownDx1.sig) → Buf (Elt Bits) ℓ) (g : Dev Cert.DownDx1.nD → PrngReg), Pre_DownDx1 m →
    θ_run (Cert.DownDx1.defs (F := Bits)) (onTc (τ := Cert.DownDx1.τ) (Cert.DownDx1.main (F := Bits))) ⟨m, fun _ => 0, g⟩ (fun r => (∀ c : Dev Cert.DownDx1.nD,
      r.2.mem ((c.tc : Thread Cert.DownDx1.nD Cert.DownDx1.τ).loc Cert.DownDx1.main_arg0) = m ((c.tc : Thread Cert.DownDx1.nD Cert.DownDx1.τ).loc Cert.DownDx1.main_arg0)
      ∧ r.2.mem ((c.tc : Thread Cert.DownDx1.nD Cert.DownDx1.τ).loc Cert.DownDx1.main_arg1) = m ((c.tc : Thread Cert.DownDx1.nD Cert.DownDx1.τ).loc Cert.DownDx1.main_arg1)
      ∧ r.2.mem ((c.tc : Thread Cert.DownDx1.nD Cert.DownDx1.τ).loc Cert.DownDx1.main_arg2) = m ((c.tc : Thread Cert.DownDx1.nD Cert.DownDx1.τ).loc Cert.DownDx1.main_arg2))
      ∧ r.2.sem = fun _ => 0)

def quiescent_DownDx1Ideal [hDownDx1Ideal : Cert.DownDx1Ideal.Facts] : Prop :=
  ∀ (m : (ℓ : Loc Cert.DownDx1Ideal.nD Cert.DownDx1Ideal.τ Cert.DownDx1Ideal.sig) → Buf (Elt Ideal) ℓ) (g : Dev Cert.DownDx1Ideal.nD → PrngReg), Pre_DownDx1Ideal m →
    θ_run (Cert.DownDx1Ideal.defs (F := Ideal)) (onTc (τ := Cert.DownDx1Ideal.τ) (Cert.DownDx1Ideal.main (F := Ideal))) ⟨m, fun _ => 0, g⟩ (fun r => (∀ c : Dev Cert.DownDx1Ideal.nD,
      r.2.mem ((c.tc : Thread Cert.DownDx1Ideal.nD Cert.DownDx1Ideal.τ).loc Cert.DownDx1Ideal.main_arg0) = m ((c.tc : Thread Cert.DownDx1Ideal.nD Cert.DownDx1Ideal.τ).loc Cert.DownDx1Ideal.main_arg0)
      ∧ r.2.mem ((c.tc : Thread Cert.DownDx1Ideal.nD Cert.DownDx1Ideal.τ).loc Cert.DownDx1Ideal.main_arg1) = m ((c.tc : Thread Cert.DownDx1Ideal.nD Cert.DownDx1Ideal.τ).loc Cert.DownDx1Ideal.main_arg1)
      ∧ r.2.mem ((c.tc : Thread Cert.DownDx1Ideal.nD Cert.DownDx1Ideal.τ).loc Cert.DownDx1Ideal.main_arg2) = m ((c.tc : Thread Cert.DownDx1Ideal.nD Cert.DownDx1Ideal.τ).loc Cert.DownDx1Ideal.main_arg2))
      ∧ r.2.sem = fun _ => 0)

def quiescent_DownDx1RefIdeal [hDownDx1RefIdeal : Cert.DownDx1RefIdeal.Facts] : Prop :=
  ∀ (m : (ℓ : Loc Cert.DownDx1RefIdeal.nD Cert.DownDx1RefIdeal.τ Cert.DownDx1RefIdeal.sig) → Buf (Elt Ideal) ℓ) (g : Dev Cert.DownDx1RefIdeal.nD → PrngReg), Pre_DownDx1RefIdeal m →
    θ_run (Cert.DownDx1RefIdeal.defs (F := Ideal)) (onTc (τ := Cert.DownDx1RefIdeal.τ) (Cert.DownDx1RefIdeal.main (F := Ideal))) ⟨m, fun _ => 0, g⟩ (fun r => (∀ c : Dev Cert.DownDx1RefIdeal.nD,
      r.2.mem ((c.tc : Thread Cert.DownDx1RefIdeal.nD Cert.DownDx1RefIdeal.τ).loc Cert.DownDx1RefIdeal.main_arg0) = m ((c.tc : Thread Cert.DownDx1RefIdeal.nD Cert.DownDx1RefIdeal.τ).loc Cert.DownDx1RefIdeal.main_arg0)
      ∧ r.2.mem ((c.tc : Thread Cert.DownDx1RefIdeal.nD Cert.DownDx1RefIdeal.τ).loc Cert.DownDx1RefIdeal.main_arg1) = m ((c.tc : Thread Cert.DownDx1RefIdeal.nD Cert.DownDx1RefIdeal.τ).loc Cert.DownDx1RefIdeal.main_arg1)
      ∧ r.2.mem ((c.tc : Thread Cert.DownDx1RefIdeal.nD Cert.DownDx1RefIdeal.τ).loc Cert.DownDx1RefIdeal.main_arg2) = m ((c.tc : Thread Cert.DownDx1RefIdeal.nD Cert.DownDx1RefIdeal.τ).loc Cert.DownDx1RefIdeal.main_arg2))
      ∧ r.2.sem = fun _ => 0)

def quiescent_DownDw1 [hDownDw1 : Cert.DownDw1.Facts] : Prop :=
  ∀ (m : (ℓ : Loc Cert.DownDw1.nD Cert.DownDw1.τ Cert.DownDw1.sig) → Buf (Elt Bits) ℓ) (g : Dev Cert.DownDw1.nD → PrngReg), Pre_DownDw1 m →
    θ_run (Cert.DownDw1.defs (F := Bits)) (onTc (τ := Cert.DownDw1.τ) (Cert.DownDw1.main (F := Bits))) ⟨m, fun _ => 0, g⟩ (fun r => (∀ c : Dev Cert.DownDw1.nD,
      r.2.mem ((c.tc : Thread Cert.DownDw1.nD Cert.DownDw1.τ).loc Cert.DownDw1.main_arg0) = m ((c.tc : Thread Cert.DownDw1.nD Cert.DownDw1.τ).loc Cert.DownDw1.main_arg0)
      ∧ r.2.mem ((c.tc : Thread Cert.DownDw1.nD Cert.DownDw1.τ).loc Cert.DownDw1.main_arg1) = m ((c.tc : Thread Cert.DownDw1.nD Cert.DownDw1.τ).loc Cert.DownDw1.main_arg1)
      ∧ r.2.mem ((c.tc : Thread Cert.DownDw1.nD Cert.DownDw1.τ).loc Cert.DownDw1.main_arg2) = m ((c.tc : Thread Cert.DownDw1.nD Cert.DownDw1.τ).loc Cert.DownDw1.main_arg2))
      ∧ r.2.sem = fun _ => 0)

def quiescent_DownDw1Ideal [hDownDw1Ideal : Cert.DownDw1Ideal.Facts] : Prop :=
  ∀ (m : (ℓ : Loc Cert.DownDw1Ideal.nD Cert.DownDw1Ideal.τ Cert.DownDw1Ideal.sig) → Buf (Elt Ideal) ℓ) (g : Dev Cert.DownDw1Ideal.nD → PrngReg), Pre_DownDw1Ideal m →
    θ_run (Cert.DownDw1Ideal.defs (F := Ideal)) (onTc (τ := Cert.DownDw1Ideal.τ) (Cert.DownDw1Ideal.main (F := Ideal))) ⟨m, fun _ => 0, g⟩ (fun r => (∀ c : Dev Cert.DownDw1Ideal.nD,
      r.2.mem ((c.tc : Thread Cert.DownDw1Ideal.nD Cert.DownDw1Ideal.τ).loc Cert.DownDw1Ideal.main_arg0) = m ((c.tc : Thread Cert.DownDw1Ideal.nD Cert.DownDw1Ideal.τ).loc Cert.DownDw1Ideal.main_arg0)
      ∧ r.2.mem ((c.tc : Thread Cert.DownDw1Ideal.nD Cert.DownDw1Ideal.τ).loc Cert.DownDw1Ideal.main_arg1) = m ((c.tc : Thread Cert.DownDw1Ideal.nD Cert.DownDw1Ideal.τ).loc Cert.DownDw1Ideal.main_arg1)
      ∧ r.2.mem ((c.tc : Thread Cert.DownDw1Ideal.nD Cert.DownDw1Ideal.τ).loc Cert.DownDw1Ideal.main_arg2) = m ((c.tc : Thread Cert.DownDw1Ideal.nD Cert.DownDw1Ideal.τ).loc Cert.DownDw1Ideal.main_arg2))
      ∧ r.2.sem = fun _ => 0)

def quiescent_DownDw1RefIdeal [hDownDw1RefIdeal : Cert.DownDw1RefIdeal.Facts] : Prop :=
  ∀ (m : (ℓ : Loc Cert.DownDw1RefIdeal.nD Cert.DownDw1RefIdeal.τ Cert.DownDw1RefIdeal.sig) → Buf (Elt Ideal) ℓ) (g : Dev Cert.DownDw1RefIdeal.nD → PrngReg), Pre_DownDw1RefIdeal m →
    θ_run (Cert.DownDw1RefIdeal.defs (F := Ideal)) (onTc (τ := Cert.DownDw1RefIdeal.τ) (Cert.DownDw1RefIdeal.main (F := Ideal))) ⟨m, fun _ => 0, g⟩ (fun r => (∀ c : Dev Cert.DownDw1RefIdeal.nD,
      r.2.mem ((c.tc : Thread Cert.DownDw1RefIdeal.nD Cert.DownDw1RefIdeal.τ).loc Cert.DownDw1RefIdeal.main_arg0) = m ((c.tc : Thread Cert.DownDw1RefIdeal.nD Cert.DownDw1RefIdeal.τ).loc Cert.DownDw1RefIdeal.main_arg0)
      ∧ r.2.mem ((c.tc : Thread Cert.DownDw1RefIdeal.nD Cert.DownDw1RefIdeal.τ).loc Cert.DownDw1RefIdeal.main_arg1) = m ((c.tc : Thread Cert.DownDw1RefIdeal.nD Cert.DownDw1RefIdeal.τ).loc Cert.DownDw1RefIdeal.main_arg1)
      ∧ r.2.mem ((c.tc : Thread Cert.DownDw1RefIdeal.nD Cert.DownDw1RefIdeal.τ).loc Cert.DownDw1RefIdeal.main_arg2) = m ((c.tc : Thread Cert.DownDw1RefIdeal.nD Cert.DownDw1RefIdeal.τ).loc Cert.DownDw1RefIdeal.main_arg2))
      ∧ r.2.sem = fun _ => 0)

def quiescent_UpDx1 [hUpDx1 : Cert.UpDx1.Facts] : Prop :=
  ∀ (m : (ℓ : Loc Cert.UpDx1.nD Cert.UpDx1.τ Cert.UpDx1.sig) → Buf (Elt Bits) ℓ) (g : Dev Cert.UpDx1.nD → PrngReg), Pre_UpDx1 m →
    θ_run (Cert.UpDx1.defs (F := Bits)) (onTc (τ := Cert.UpDx1.τ) (Cert.UpDx1.main (F := Bits))) ⟨m, fun _ => 0, g⟩ (fun r => (∀ c : Dev Cert.UpDx1.nD,
      r.2.mem ((c.tc : Thread Cert.UpDx1.nD Cert.UpDx1.τ).loc Cert.UpDx1.main_arg0) = m ((c.tc : Thread Cert.UpDx1.nD Cert.UpDx1.τ).loc Cert.UpDx1.main_arg0)
      ∧ r.2.mem ((c.tc : Thread Cert.UpDx1.nD Cert.UpDx1.τ).loc Cert.UpDx1.main_arg1) = m ((c.tc : Thread Cert.UpDx1.nD Cert.UpDx1.τ).loc Cert.UpDx1.main_arg1))
      ∧ r.2.sem = fun _ => 0)

def quiescent_UpDx1Ideal [hUpDx1Ideal : Cert.UpDx1Ideal.Facts] : Prop :=
  ∀ (m : (ℓ : Loc Cert.UpDx1Ideal.nD Cert.UpDx1Ideal.τ Cert.UpDx1Ideal.sig) → Buf (Elt Ideal) ℓ) (g : Dev Cert.UpDx1Ideal.nD → PrngReg), Pre_UpDx1Ideal m →
    θ_run (Cert.UpDx1Ideal.defs (F := Ideal)) (onTc (τ := Cert.UpDx1Ideal.τ) (Cert.UpDx1Ideal.main (F := Ideal))) ⟨m, fun _ => 0, g⟩ (fun r => (∀ c : Dev Cert.UpDx1Ideal.nD,
      r.2.mem ((c.tc : Thread Cert.UpDx1Ideal.nD Cert.UpDx1Ideal.τ).loc Cert.UpDx1Ideal.main_arg0) = m ((c.tc : Thread Cert.UpDx1Ideal.nD Cert.UpDx1Ideal.τ).loc Cert.UpDx1Ideal.main_arg0)
      ∧ r.2.mem ((c.tc : Thread Cert.UpDx1Ideal.nD Cert.UpDx1Ideal.τ).loc Cert.UpDx1Ideal.main_arg1) = m ((c.tc : Thread Cert.UpDx1Ideal.nD Cert.UpDx1Ideal.τ).loc Cert.UpDx1Ideal.main_arg1))
      ∧ r.2.sem = fun _ => 0)

def quiescent_UpDx1RefIdeal [hUpDx1RefIdeal : Cert.UpDx1RefIdeal.Facts] : Prop :=
  ∀ (m : (ℓ : Loc Cert.UpDx1RefIdeal.nD Cert.UpDx1RefIdeal.τ Cert.UpDx1RefIdeal.sig) → Buf (Elt Ideal) ℓ) (g : Dev Cert.UpDx1RefIdeal.nD → PrngReg), Pre_UpDx1RefIdeal m →
    θ_run (Cert.UpDx1RefIdeal.defs (F := Ideal)) (onTc (τ := Cert.UpDx1RefIdeal.τ) (Cert.UpDx1RefIdeal.main (F := Ideal))) ⟨m, fun _ => 0, g⟩ (fun r => (∀ c : Dev Cert.UpDx1RefIdeal.nD,
      r.2.mem ((c.tc : Thread Cert.UpDx1RefIdeal.nD Cert.UpDx1RefIdeal.τ).loc Cert.UpDx1RefIdeal.main_arg0) = m ((c.tc : Thread Cert.UpDx1RefIdeal.nD Cert.UpDx1RefIdeal.τ).loc Cert.UpDx1RefIdeal.main_arg0)
      ∧ r.2.mem ((c.tc : Thread Cert.UpDx1RefIdeal.nD Cert.UpDx1RefIdeal.τ).loc Cert.UpDx1RefIdeal.main_arg1) = m ((c.tc : Thread Cert.UpDx1RefIdeal.nD Cert.UpDx1RefIdeal.τ).loc Cert.UpDx1RefIdeal.main_arg1))
      ∧ r.2.sem = fun _ => 0)

def quiescent_UpDw1 [hUpDw1 : Cert.UpDw1.Facts] : Prop :=
  ∀ (m : (ℓ : Loc Cert.UpDw1.nD Cert.UpDw1.τ Cert.UpDw1.sig) → Buf (Elt Bits) ℓ) (g : Dev Cert.UpDw1.nD → PrngReg), Pre_UpDw1 m →
    θ_run (Cert.UpDw1.defs (F := Bits)) (onTc (τ := Cert.UpDw1.τ) (Cert.UpDw1.main (F := Bits))) ⟨m, fun _ => 0, g⟩ (fun r => (∀ c : Dev Cert.UpDw1.nD,
      r.2.mem ((c.tc : Thread Cert.UpDw1.nD Cert.UpDw1.τ).loc Cert.UpDw1.main_arg0) = m ((c.tc : Thread Cert.UpDw1.nD Cert.UpDw1.τ).loc Cert.UpDw1.main_arg0)
      ∧ r.2.mem ((c.tc : Thread Cert.UpDw1.nD Cert.UpDw1.τ).loc Cert.UpDw1.main_arg1) = m ((c.tc : Thread Cert.UpDw1.nD Cert.UpDw1.τ).loc Cert.UpDw1.main_arg1)
      ∧ r.2.mem ((c.tc : Thread Cert.UpDw1.nD Cert.UpDw1.τ).loc Cert.UpDw1.main_arg2) = m ((c.tc : Thread Cert.UpDw1.nD Cert.UpDw1.τ).loc Cert.UpDw1.main_arg2))
      ∧ r.2.sem = fun _ => 0)

def quiescent_UpDw1Ideal [hUpDw1Ideal : Cert.UpDw1Ideal.Facts] : Prop :=
  ∀ (m : (ℓ : Loc Cert.UpDw1Ideal.nD Cert.UpDw1Ideal.τ Cert.UpDw1Ideal.sig) → Buf (Elt Ideal) ℓ) (g : Dev Cert.UpDw1Ideal.nD → PrngReg), Pre_UpDw1Ideal m →
    θ_run (Cert.UpDw1Ideal.defs (F := Ideal)) (onTc (τ := Cert.UpDw1Ideal.τ) (Cert.UpDw1Ideal.main (F := Ideal))) ⟨m, fun _ => 0, g⟩ (fun r => (∀ c : Dev Cert.UpDw1Ideal.nD,
      r.2.mem ((c.tc : Thread Cert.UpDw1Ideal.nD Cert.UpDw1Ideal.τ).loc Cert.UpDw1Ideal.main_arg0) = m ((c.tc : Thread Cert.UpDw1Ideal.nD Cert.UpDw1Ideal.τ).loc Cert.UpDw1Ideal.main_arg0)
      ∧ r.2.mem ((c.tc : Thread Cert.UpDw1Ideal.nD Cert.UpDw1Ideal.τ).loc Cert.UpDw1Ideal.main_arg1) = m ((c.tc : Thread Cert.UpDw1Ideal.nD Cert.UpDw1Ideal.τ).loc Cert.UpDw1Ideal.main_arg1)
      ∧ r.2.mem ((c.tc : Thread Cert.UpDw1Ideal.nD Cert.UpDw1Ideal.τ).loc Cert.UpDw1Ideal.main_arg2) = m ((c.tc : Thread Cert.UpDw1Ideal.nD Cert.UpDw1Ideal.τ).loc Cert.UpDw1Ideal.main_arg2))
      ∧ r.2.sem = fun _ => 0)

def quiescent_UpDw1RefIdeal [hUpDw1RefIdeal : Cert.UpDw1RefIdeal.Facts] : Prop :=
  ∀ (m : (ℓ : Loc Cert.UpDw1RefIdeal.nD Cert.UpDw1RefIdeal.τ Cert.UpDw1RefIdeal.sig) → Buf (Elt Ideal) ℓ) (g : Dev Cert.UpDw1RefIdeal.nD → PrngReg), Pre_UpDw1RefIdeal m →
    θ_run (Cert.UpDw1RefIdeal.defs (F := Ideal)) (onTc (τ := Cert.UpDw1RefIdeal.τ) (Cert.UpDw1RefIdeal.main (F := Ideal))) ⟨m, fun _ => 0, g⟩ (fun r => (∀ c : Dev Cert.UpDw1RefIdeal.nD,
      r.2.mem ((c.tc : Thread Cert.UpDw1RefIdeal.nD Cert.UpDw1RefIdeal.τ).loc Cert.UpDw1RefIdeal.main_arg0) = m ((c.tc : Thread Cert.UpDw1RefIdeal.nD Cert.UpDw1RefIdeal.τ).loc Cert.UpDw1RefIdeal.main_arg0)
      ∧ r.2.mem ((c.tc : Thread Cert.UpDw1RefIdeal.nD Cert.UpDw1RefIdeal.τ).loc Cert.UpDw1RefIdeal.main_arg1) = m ((c.tc : Thread Cert.UpDw1RefIdeal.nD Cert.UpDw1RefIdeal.τ).loc Cert.UpDw1RefIdeal.main_arg1)
      ∧ r.2.mem ((c.tc : Thread Cert.UpDw1RefIdeal.nD Cert.UpDw1RefIdeal.τ).loc Cert.UpDw1RefIdeal.main_arg2) = m ((c.tc : Thread Cert.UpDw1RefIdeal.nD Cert.UpDw1RefIdeal.τ).loc Cert.UpDw1RefIdeal.main_arg2))
      ∧ r.2.sem = fun _ => 0)

def quiescent_InE [hInE : Cert.InE.Facts] : Prop :=
  ∀ (m : (ℓ : Loc Cert.InE.nD Cert.InE.τ Cert.InE.sig) → Buf (Elt Bits) ℓ) (g : Dev Cert.InE.nD → PrngReg), Pre_InE m →
    θ_run (Cert.InE.defs (F := Bits)) (onTc (τ := Cert.InE.τ) (Cert.InE.main (F := Bits))) ⟨m, fun _ => 0, g⟩ (fun r => (∀ c : Dev Cert.InE.nD,
      r.2.mem ((c.tc : Thread Cert.InE.nD Cert.InE.τ).loc Cert.InE.main_arg0) = m ((c.tc : Thread Cert.InE.nD Cert.InE.τ).loc Cert.InE.main_arg0)
      ∧ r.2.mem ((c.tc : Thread Cert.InE.nD Cert.InE.τ).loc Cert.InE.main_arg1) = m ((c.tc : Thread Cert.InE.nD Cert.InE.τ).loc Cert.InE.main_arg1))
      ∧ r.2.sem = fun _ => 0)

def quiescent_InEIdeal [hInEIdeal : Cert.InEIdeal.Facts] : Prop :=
  ∀ (m : (ℓ : Loc Cert.InEIdeal.nD Cert.InEIdeal.τ Cert.InEIdeal.sig) → Buf (Elt Ideal) ℓ) (g : Dev Cert.InEIdeal.nD → PrngReg), Pre_InEIdeal m →
    θ_run (Cert.InEIdeal.defs (F := Ideal)) (onTc (τ := Cert.InEIdeal.τ) (Cert.InEIdeal.main (F := Ideal))) ⟨m, fun _ => 0, g⟩ (fun r => (∀ c : Dev Cert.InEIdeal.nD,
      r.2.mem ((c.tc : Thread Cert.InEIdeal.nD Cert.InEIdeal.τ).loc Cert.InEIdeal.main_arg0) = m ((c.tc : Thread Cert.InEIdeal.nD Cert.InEIdeal.τ).loc Cert.InEIdeal.main_arg0)
      ∧ r.2.mem ((c.tc : Thread Cert.InEIdeal.nD Cert.InEIdeal.τ).loc Cert.InEIdeal.main_arg1) = m ((c.tc : Thread Cert.InEIdeal.nD Cert.InEIdeal.τ).loc Cert.InEIdeal.main_arg1))
      ∧ r.2.sem = fun _ => 0)

def quiescent_InERefIdeal [hInERefIdeal : Cert.InERefIdeal.Facts] : Prop :=
  ∀ (m : (ℓ : Loc Cert.InERefIdeal.nD Cert.InERefIdeal.τ Cert.InERefIdeal.sig) → Buf (Elt Ideal) ℓ) (g : Dev Cert.InERefIdeal.nD → PrngReg), Pre_InERefIdeal m →
    θ_run (Cert.InERefIdeal.defs (F := Ideal)) (onTc (τ := Cert.InERefIdeal.τ) (Cert.InERefIdeal.main (F := Ideal))) ⟨m, fun _ => 0, g⟩ (fun r => (∀ c : Dev Cert.InERefIdeal.nD,
      r.2.mem ((c.tc : Thread Cert.InERefIdeal.nD Cert.InERefIdeal.τ).loc Cert.InERefIdeal.main_arg0) = m ((c.tc : Thread Cert.InERefIdeal.nD Cert.InERefIdeal.τ).loc Cert.InERefIdeal.main_arg0)
      ∧ r.2.mem ((c.tc : Thread Cert.InERefIdeal.nD Cert.InERefIdeal.τ).loc Cert.InERefIdeal.main_arg1) = m ((c.tc : Thread Cert.InERefIdeal.nD Cert.InERefIdeal.τ).loc Cert.InERefIdeal.main_arg1))
      ∧ r.2.sem = fun _ => 0)

def quiescent_InEDx [hInEDx : Cert.InEDx.Facts] : Prop :=
  ∀ (m : (ℓ : Loc Cert.InEDx.nD Cert.InEDx.τ Cert.InEDx.sig) → Buf (Elt Bits) ℓ) (g : Dev Cert.InEDx.nD → PrngReg), Pre_InEDx m →
    θ_run (Cert.InEDx.defs (F := Bits)) (onTc (τ := Cert.InEDx.τ) (Cert.InEDx.main (F := Bits))) ⟨m, fun _ => 0, g⟩ (fun r => (∀ c : Dev Cert.InEDx.nD,
      r.2.mem ((c.tc : Thread Cert.InEDx.nD Cert.InEDx.τ).loc Cert.InEDx.main_arg0) = m ((c.tc : Thread Cert.InEDx.nD Cert.InEDx.τ).loc Cert.InEDx.main_arg0)
      ∧ r.2.mem ((c.tc : Thread Cert.InEDx.nD Cert.InEDx.τ).loc Cert.InEDx.main_arg1) = m ((c.tc : Thread Cert.InEDx.nD Cert.InEDx.τ).loc Cert.InEDx.main_arg1))
      ∧ r.2.sem = fun _ => 0)

def quiescent_InEDxIdeal [hInEDxIdeal : Cert.InEDxIdeal.Facts] : Prop :=
  ∀ (m : (ℓ : Loc Cert.InEDxIdeal.nD Cert.InEDxIdeal.τ Cert.InEDxIdeal.sig) → Buf (Elt Ideal) ℓ) (g : Dev Cert.InEDxIdeal.nD → PrngReg), Pre_InEDxIdeal m →
    θ_run (Cert.InEDxIdeal.defs (F := Ideal)) (onTc (τ := Cert.InEDxIdeal.τ) (Cert.InEDxIdeal.main (F := Ideal))) ⟨m, fun _ => 0, g⟩ (fun r => (∀ c : Dev Cert.InEDxIdeal.nD,
      r.2.mem ((c.tc : Thread Cert.InEDxIdeal.nD Cert.InEDxIdeal.τ).loc Cert.InEDxIdeal.main_arg0) = m ((c.tc : Thread Cert.InEDxIdeal.nD Cert.InEDxIdeal.τ).loc Cert.InEDxIdeal.main_arg0)
      ∧ r.2.mem ((c.tc : Thread Cert.InEDxIdeal.nD Cert.InEDxIdeal.τ).loc Cert.InEDxIdeal.main_arg1) = m ((c.tc : Thread Cert.InEDxIdeal.nD Cert.InEDxIdeal.τ).loc Cert.InEDxIdeal.main_arg1))
      ∧ r.2.sem = fun _ => 0)

def quiescent_InEDxRefIdeal [hInEDxRefIdeal : Cert.InEDxRefIdeal.Facts] : Prop :=
  ∀ (m : (ℓ : Loc Cert.InEDxRefIdeal.nD Cert.InEDxRefIdeal.τ Cert.InEDxRefIdeal.sig) → Buf (Elt Ideal) ℓ) (g : Dev Cert.InEDxRefIdeal.nD → PrngReg), Pre_InEDxRefIdeal m →
    θ_run (Cert.InEDxRefIdeal.defs (F := Ideal)) (onTc (τ := Cert.InEDxRefIdeal.τ) (Cert.InEDxRefIdeal.main (F := Ideal))) ⟨m, fun _ => 0, g⟩ (fun r => (∀ c : Dev Cert.InEDxRefIdeal.nD,
      r.2.mem ((c.tc : Thread Cert.InEDxRefIdeal.nD Cert.InEDxRefIdeal.τ).loc Cert.InEDxRefIdeal.main_arg0) = m ((c.tc : Thread Cert.InEDxRefIdeal.nD Cert.InEDxRefIdeal.τ).loc Cert.InEDxRefIdeal.main_arg0)
      ∧ r.2.mem ((c.tc : Thread Cert.InEDxRefIdeal.nD Cert.InEDxRefIdeal.τ).loc Cert.InEDxRefIdeal.main_arg1) = m ((c.tc : Thread Cert.InEDxRefIdeal.nD Cert.InEDxRefIdeal.τ).loc Cert.InEDxRefIdeal.main_arg1))
      ∧ r.2.sem = fun _ => 0)

def quiescent_InEDw [hInEDw : Cert.InEDw.Facts] : Prop :=
  ∀ (m : (ℓ : Loc Cert.InEDw.nD Cert.InEDw.τ Cert.InEDw.sig) → Buf (Elt Bits) ℓ) (g : Dev Cert.InEDw.nD → PrngReg), Pre_InEDw m →
    θ_run (Cert.InEDw.defs (F := Bits)) (onTc (τ := Cert.InEDw.τ) (Cert.InEDw.main (F := Bits))) ⟨m, fun _ => 0, g⟩ (fun r => (∀ c : Dev Cert.InEDw.nD,
      r.2.mem ((c.tc : Thread Cert.InEDw.nD Cert.InEDw.τ).loc Cert.InEDw.main_arg0) = m ((c.tc : Thread Cert.InEDw.nD Cert.InEDw.τ).loc Cert.InEDw.main_arg0)
      ∧ r.2.mem ((c.tc : Thread Cert.InEDw.nD Cert.InEDw.τ).loc Cert.InEDw.main_arg1) = m ((c.tc : Thread Cert.InEDw.nD Cert.InEDw.τ).loc Cert.InEDw.main_arg1))
      ∧ r.2.sem = fun _ => 0)

def quiescent_InEDwIdeal [hInEDwIdeal : Cert.InEDwIdeal.Facts] : Prop :=
  ∀ (m : (ℓ : Loc Cert.InEDwIdeal.nD Cert.InEDwIdeal.τ Cert.InEDwIdeal.sig) → Buf (Elt Ideal) ℓ) (g : Dev Cert.InEDwIdeal.nD → PrngReg), Pre_InEDwIdeal m →
    θ_run (Cert.InEDwIdeal.defs (F := Ideal)) (onTc (τ := Cert.InEDwIdeal.τ) (Cert.InEDwIdeal.main (F := Ideal))) ⟨m, fun _ => 0, g⟩ (fun r => (∀ c : Dev Cert.InEDwIdeal.nD,
      r.2.mem ((c.tc : Thread Cert.InEDwIdeal.nD Cert.InEDwIdeal.τ).loc Cert.InEDwIdeal.main_arg0) = m ((c.tc : Thread Cert.InEDwIdeal.nD Cert.InEDwIdeal.τ).loc Cert.InEDwIdeal.main_arg0)
      ∧ r.2.mem ((c.tc : Thread Cert.InEDwIdeal.nD Cert.InEDwIdeal.τ).loc Cert.InEDwIdeal.main_arg1) = m ((c.tc : Thread Cert.InEDwIdeal.nD Cert.InEDwIdeal.τ).loc Cert.InEDwIdeal.main_arg1))
      ∧ r.2.sem = fun _ => 0)

def quiescent_InEDwRefIdeal [hInEDwRefIdeal : Cert.InEDwRefIdeal.Facts] : Prop :=
  ∀ (m : (ℓ : Loc Cert.InEDwRefIdeal.nD Cert.InEDwRefIdeal.τ Cert.InEDwRefIdeal.sig) → Buf (Elt Ideal) ℓ) (g : Dev Cert.InEDwRefIdeal.nD → PrngReg), Pre_InEDwRefIdeal m →
    θ_run (Cert.InEDwRefIdeal.defs (F := Ideal)) (onTc (τ := Cert.InEDwRefIdeal.τ) (Cert.InEDwRefIdeal.main (F := Ideal))) ⟨m, fun _ => 0, g⟩ (fun r => (∀ c : Dev Cert.InEDwRefIdeal.nD,
      r.2.mem ((c.tc : Thread Cert.InEDwRefIdeal.nD Cert.InEDwRefIdeal.τ).loc Cert.InEDwRefIdeal.main_arg0) = m ((c.tc : Thread Cert.InEDwRefIdeal.nD Cert.InEDwRefIdeal.τ).loc Cert.InEDwRefIdeal.main_arg0)
      ∧ r.2.mem ((c.tc : Thread Cert.InEDwRefIdeal.nD Cert.InEDwRefIdeal.τ).loc Cert.InEDwRefIdeal.main_arg1) = m ((c.tc : Thread Cert.InEDwRefIdeal.nD Cert.InEDwRefIdeal.τ).loc Cert.InEDwRefIdeal.main_arg1))
      ∧ r.2.sem = fun _ => 0)

def quiescent_InO [hInO : Cert.InO.Facts] : Prop :=
  ∀ (m : (ℓ : Loc Cert.InO.nD Cert.InO.τ Cert.InO.sig) → Buf (Elt Bits) ℓ) (g : Dev Cert.InO.nD → PrngReg), Pre_InO m →
    θ_run (Cert.InO.defs (F := Bits)) (onTc (τ := Cert.InO.τ) (Cert.InO.main (F := Bits))) ⟨m, fun _ => 0, g⟩ (fun r => (∀ c : Dev Cert.InO.nD,
      r.2.mem ((c.tc : Thread Cert.InO.nD Cert.InO.τ).loc Cert.InO.main_arg0) = m ((c.tc : Thread Cert.InO.nD Cert.InO.τ).loc Cert.InO.main_arg0)
      ∧ r.2.mem ((c.tc : Thread Cert.InO.nD Cert.InO.τ).loc Cert.InO.main_arg1) = m ((c.tc : Thread Cert.InO.nD Cert.InO.τ).loc Cert.InO.main_arg1))
      ∧ r.2.sem = fun _ => 0)

def quiescent_InOIdeal [hInOIdeal : Cert.InOIdeal.Facts] : Prop :=
  ∀ (m : (ℓ : Loc Cert.InOIdeal.nD Cert.InOIdeal.τ Cert.InOIdeal.sig) → Buf (Elt Ideal) ℓ) (g : Dev Cert.InOIdeal.nD → PrngReg), Pre_InOIdeal m →
    θ_run (Cert.InOIdeal.defs (F := Ideal)) (onTc (τ := Cert.InOIdeal.τ) (Cert.InOIdeal.main (F := Ideal))) ⟨m, fun _ => 0, g⟩ (fun r => (∀ c : Dev Cert.InOIdeal.nD,
      r.2.mem ((c.tc : Thread Cert.InOIdeal.nD Cert.InOIdeal.τ).loc Cert.InOIdeal.main_arg0) = m ((c.tc : Thread Cert.InOIdeal.nD Cert.InOIdeal.τ).loc Cert.InOIdeal.main_arg0)
      ∧ r.2.mem ((c.tc : Thread Cert.InOIdeal.nD Cert.InOIdeal.τ).loc Cert.InOIdeal.main_arg1) = m ((c.tc : Thread Cert.InOIdeal.nD Cert.InOIdeal.τ).loc Cert.InOIdeal.main_arg1))
      ∧ r.2.sem = fun _ => 0)

def quiescent_InORefIdeal [hInORefIdeal : Cert.InORefIdeal.Facts] : Prop :=
  ∀ (m : (ℓ : Loc Cert.InORefIdeal.nD Cert.InORefIdeal.τ Cert.InORefIdeal.sig) → Buf (Elt Ideal) ℓ) (g : Dev Cert.InORefIdeal.nD → PrngReg), Pre_InORefIdeal m →
    θ_run (Cert.InORefIdeal.defs (F := Ideal)) (onTc (τ := Cert.InORefIdeal.τ) (Cert.InORefIdeal.main (F := Ideal))) ⟨m, fun _ => 0, g⟩ (fun r => (∀ c : Dev Cert.InORefIdeal.nD,
      r.2.mem ((c.tc : Thread Cert.InORefIdeal.nD Cert.InORefIdeal.τ).loc Cert.InORefIdeal.main_arg0) = m ((c.tc : Thread Cert.InORefIdeal.nD Cert.InORefIdeal.τ).loc Cert.InORefIdeal.main_arg0)
      ∧ r.2.mem ((c.tc : Thread Cert.InORefIdeal.nD Cert.InORefIdeal.τ).loc Cert.InORefIdeal.main_arg1) = m ((c.tc : Thread Cert.InORefIdeal.nD Cert.InORefIdeal.τ).loc Cert.InORefIdeal.main_arg1))
      ∧ r.2.sem = fun _ => 0)

def quiescent_InODx [hInODx : Cert.InODx.Facts] : Prop :=
  ∀ (m : (ℓ : Loc Cert.InODx.nD Cert.InODx.τ Cert.InODx.sig) → Buf (Elt Bits) ℓ) (g : Dev Cert.InODx.nD → PrngReg), Pre_InODx m →
    θ_run (Cert.InODx.defs (F := Bits)) (onTc (τ := Cert.InODx.τ) (Cert.InODx.main (F := Bits))) ⟨m, fun _ => 0, g⟩ (fun r => (∀ c : Dev Cert.InODx.nD,
      r.2.mem ((c.tc : Thread Cert.InODx.nD Cert.InODx.τ).loc Cert.InODx.main_arg0) = m ((c.tc : Thread Cert.InODx.nD Cert.InODx.τ).loc Cert.InODx.main_arg0)
      ∧ r.2.mem ((c.tc : Thread Cert.InODx.nD Cert.InODx.τ).loc Cert.InODx.main_arg1) = m ((c.tc : Thread Cert.InODx.nD Cert.InODx.τ).loc Cert.InODx.main_arg1))
      ∧ r.2.sem = fun _ => 0)

def quiescent_InODxIdeal [hInODxIdeal : Cert.InODxIdeal.Facts] : Prop :=
  ∀ (m : (ℓ : Loc Cert.InODxIdeal.nD Cert.InODxIdeal.τ Cert.InODxIdeal.sig) → Buf (Elt Ideal) ℓ) (g : Dev Cert.InODxIdeal.nD → PrngReg), Pre_InODxIdeal m →
    θ_run (Cert.InODxIdeal.defs (F := Ideal)) (onTc (τ := Cert.InODxIdeal.τ) (Cert.InODxIdeal.main (F := Ideal))) ⟨m, fun _ => 0, g⟩ (fun r => (∀ c : Dev Cert.InODxIdeal.nD,
      r.2.mem ((c.tc : Thread Cert.InODxIdeal.nD Cert.InODxIdeal.τ).loc Cert.InODxIdeal.main_arg0) = m ((c.tc : Thread Cert.InODxIdeal.nD Cert.InODxIdeal.τ).loc Cert.InODxIdeal.main_arg0)
      ∧ r.2.mem ((c.tc : Thread Cert.InODxIdeal.nD Cert.InODxIdeal.τ).loc Cert.InODxIdeal.main_arg1) = m ((c.tc : Thread Cert.InODxIdeal.nD Cert.InODxIdeal.τ).loc Cert.InODxIdeal.main_arg1))
      ∧ r.2.sem = fun _ => 0)

def quiescent_InODxRefIdeal [hInODxRefIdeal : Cert.InODxRefIdeal.Facts] : Prop :=
  ∀ (m : (ℓ : Loc Cert.InODxRefIdeal.nD Cert.InODxRefIdeal.τ Cert.InODxRefIdeal.sig) → Buf (Elt Ideal) ℓ) (g : Dev Cert.InODxRefIdeal.nD → PrngReg), Pre_InODxRefIdeal m →
    θ_run (Cert.InODxRefIdeal.defs (F := Ideal)) (onTc (τ := Cert.InODxRefIdeal.τ) (Cert.InODxRefIdeal.main (F := Ideal))) ⟨m, fun _ => 0, g⟩ (fun r => (∀ c : Dev Cert.InODxRefIdeal.nD,
      r.2.mem ((c.tc : Thread Cert.InODxRefIdeal.nD Cert.InODxRefIdeal.τ).loc Cert.InODxRefIdeal.main_arg0) = m ((c.tc : Thread Cert.InODxRefIdeal.nD Cert.InODxRefIdeal.τ).loc Cert.InODxRefIdeal.main_arg0)
      ∧ r.2.mem ((c.tc : Thread Cert.InODxRefIdeal.nD Cert.InODxRefIdeal.τ).loc Cert.InODxRefIdeal.main_arg1) = m ((c.tc : Thread Cert.InODxRefIdeal.nD Cert.InODxRefIdeal.τ).loc Cert.InODxRefIdeal.main_arg1))
      ∧ r.2.sem = fun _ => 0)

def quiescent_InODw [hInODw : Cert.InODw.Facts] : Prop :=
  ∀ (m : (ℓ : Loc Cert.InODw.nD Cert.InODw.τ Cert.InODw.sig) → Buf (Elt Bits) ℓ) (g : Dev Cert.InODw.nD → PrngReg), Pre_InODw m →
    θ_run (Cert.InODw.defs (F := Bits)) (onTc (τ := Cert.InODw.τ) (Cert.InODw.main (F := Bits))) ⟨m, fun _ => 0, g⟩ (fun r => (∀ c : Dev Cert.InODw.nD,
      r.2.mem ((c.tc : Thread Cert.InODw.nD Cert.InODw.τ).loc Cert.InODw.main_arg0) = m ((c.tc : Thread Cert.InODw.nD Cert.InODw.τ).loc Cert.InODw.main_arg0)
      ∧ r.2.mem ((c.tc : Thread Cert.InODw.nD Cert.InODw.τ).loc Cert.InODw.main_arg1) = m ((c.tc : Thread Cert.InODw.nD Cert.InODw.τ).loc Cert.InODw.main_arg1))
      ∧ r.2.sem = fun _ => 0)

def quiescent_InODwIdeal [hInODwIdeal : Cert.InODwIdeal.Facts] : Prop :=
  ∀ (m : (ℓ : Loc Cert.InODwIdeal.nD Cert.InODwIdeal.τ Cert.InODwIdeal.sig) → Buf (Elt Ideal) ℓ) (g : Dev Cert.InODwIdeal.nD → PrngReg), Pre_InODwIdeal m →
    θ_run (Cert.InODwIdeal.defs (F := Ideal)) (onTc (τ := Cert.InODwIdeal.τ) (Cert.InODwIdeal.main (F := Ideal))) ⟨m, fun _ => 0, g⟩ (fun r => (∀ c : Dev Cert.InODwIdeal.nD,
      r.2.mem ((c.tc : Thread Cert.InODwIdeal.nD Cert.InODwIdeal.τ).loc Cert.InODwIdeal.main_arg0) = m ((c.tc : Thread Cert.InODwIdeal.nD Cert.InODwIdeal.τ).loc Cert.InODwIdeal.main_arg0)
      ∧ r.2.mem ((c.tc : Thread Cert.InODwIdeal.nD Cert.InODwIdeal.τ).loc Cert.InODwIdeal.main_arg1) = m ((c.tc : Thread Cert.InODwIdeal.nD Cert.InODwIdeal.τ).loc Cert.InODwIdeal.main_arg1))
      ∧ r.2.sem = fun _ => 0)

def quiescent_InODwRefIdeal [hInODwRefIdeal : Cert.InODwRefIdeal.Facts] : Prop :=
  ∀ (m : (ℓ : Loc Cert.InODwRefIdeal.nD Cert.InODwRefIdeal.τ Cert.InODwRefIdeal.sig) → Buf (Elt Ideal) ℓ) (g : Dev Cert.InODwRefIdeal.nD → PrngReg), Pre_InODwRefIdeal m →
    θ_run (Cert.InODwRefIdeal.defs (F := Ideal)) (onTc (τ := Cert.InODwRefIdeal.τ) (Cert.InODwRefIdeal.main (F := Ideal))) ⟨m, fun _ => 0, g⟩ (fun r => (∀ c : Dev Cert.InODwRefIdeal.nD,
      r.2.mem ((c.tc : Thread Cert.InODwRefIdeal.nD Cert.InODwRefIdeal.τ).loc Cert.InODwRefIdeal.main_arg0) = m ((c.tc : Thread Cert.InODwRefIdeal.nD Cert.InODwRefIdeal.τ).loc Cert.InODwRefIdeal.main_arg0)
      ∧ r.2.mem ((c.tc : Thread Cert.InODwRefIdeal.nD Cert.InODwRefIdeal.τ).loc Cert.InODwRefIdeal.main_arg1) = m ((c.tc : Thread Cert.InODwRefIdeal.nD Cert.InODwRefIdeal.τ).loc Cert.InODwRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3))
      ∧ r.2.sem = fun _ => 0)

def quiescent_AdamInE [hAdamInE : Cert.AdamInE.Facts] : Prop :=
  ∀ (m : (ℓ : Loc Cert.AdamInE.nD Cert.AdamInE.τ Cert.AdamInE.sig) → Buf (Elt Bits) ℓ) (g : Dev Cert.AdamInE.nD → PrngReg), Pre_AdamInE m →
    θ_run (Cert.AdamInE.defs (F := Bits)) (onTc (τ := Cert.AdamInE.τ) (Cert.AdamInE.main (F := Bits))) ⟨m, fun _ => 0, g⟩ (fun r => (∀ c : Dev Cert.AdamInE.nD,
      r.2.mem ((c.tc : Thread Cert.AdamInE.nD Cert.AdamInE.τ).loc Cert.AdamInE.main_arg0) = m ((c.tc : Thread Cert.AdamInE.nD Cert.AdamInE.τ).loc Cert.AdamInE.main_arg0)
      ∧ r.2.mem ((c.tc : Thread Cert.AdamInE.nD Cert.AdamInE.τ).loc Cert.AdamInE.main_arg1) = m ((c.tc : Thread Cert.AdamInE.nD Cert.AdamInE.τ).loc Cert.AdamInE.main_arg1)
      ∧ r.2.mem ((c.tc : Thread Cert.AdamInE.nD Cert.AdamInE.τ).loc Cert.AdamInE.main_arg2) = m ((c.tc : Thread Cert.AdamInE.nD Cert.AdamInE.τ).loc Cert.AdamInE.main_arg2)
      ∧ r.2.mem ((c.tc : Thread Cert.AdamInE.nD Cert.AdamInE.τ).loc Cert.AdamInE.main_arg3) = m ((c.tc : Thread Cert.AdamInE.nD Cert.AdamInE.τ).loc Cert.AdamInE.main_arg3))
      ∧ r.2.sem = fun _ => 0)

def quiescent_AdamInEIdeal [hAdamInEIdeal : Cert.AdamInEIdeal.Facts] : Prop :=
  ∀ (m : (ℓ : Loc Cert.AdamInEIdeal.nD Cert.AdamInEIdeal.τ Cert.AdamInEIdeal.sig) → Buf (Elt Ideal) ℓ) (g : Dev Cert.AdamInEIdeal.nD → PrngReg), Pre_AdamInEIdeal m →
    θ_run (Cert.AdamInEIdeal.defs (F := Ideal)) (onTc (τ := Cert.AdamInEIdeal.τ) (Cert.AdamInEIdeal.main (F := Ideal))) ⟨m, fun _ => 0, g⟩ (fun r => (∀ c : Dev Cert.AdamInEIdeal.nD,
      r.2.mem ((c.tc : Thread Cert.AdamInEIdeal.nD Cert.AdamInEIdeal.τ).loc Cert.AdamInEIdeal.main_arg0) = m ((c.tc : Thread Cert.AdamInEIdeal.nD Cert.AdamInEIdeal.τ).loc Cert.AdamInEIdeal.main_arg0)
      ∧ r.2.mem ((c.tc : Thread Cert.AdamInEIdeal.nD Cert.AdamInEIdeal.τ).loc Cert.AdamInEIdeal.main_arg1) = m ((c.tc : Thread Cert.AdamInEIdeal.nD Cert.AdamInEIdeal.τ).loc Cert.AdamInEIdeal.main_arg1)
      ∧ r.2.mem ((c.tc : Thread Cert.AdamInEIdeal.nD Cert.AdamInEIdeal.τ).loc Cert.AdamInEIdeal.main_arg2) = m ((c.tc : Thread Cert.AdamInEIdeal.nD Cert.AdamInEIdeal.τ).loc Cert.AdamInEIdeal.main_arg2)
      ∧ r.2.mem ((c.tc : Thread Cert.AdamInEIdeal.nD Cert.AdamInEIdeal.τ).loc Cert.AdamInEIdeal.main_arg3) = m ((c.tc : Thread Cert.AdamInEIdeal.nD Cert.AdamInEIdeal.τ).loc Cert.AdamInEIdeal.main_arg3))
      ∧ r.2.sem = fun _ => 0)

def quiescent_AdamInERefIdeal [hAdamInERefIdeal : Cert.AdamInERefIdeal.Facts] : Prop :=
  ∀ (m : (ℓ : Loc Cert.AdamInERefIdeal.nD Cert.AdamInERefIdeal.τ Cert.AdamInERefIdeal.sig) → Buf (Elt Ideal) ℓ) (g : Dev Cert.AdamInERefIdeal.nD → PrngReg), Pre_AdamInERefIdeal m →
    θ_run (Cert.AdamInERefIdeal.defs (F := Ideal)) (onTc (τ := Cert.AdamInERefIdeal.τ) (Cert.AdamInERefIdeal.main (F := Ideal))) ⟨m, fun _ => 0, g⟩ (fun r => (∀ c : Dev Cert.AdamInERefIdeal.nD,
      r.2.mem ((c.tc : Thread Cert.AdamInERefIdeal.nD Cert.AdamInERefIdeal.τ).loc Cert.AdamInERefIdeal.main_arg0) = m ((c.tc : Thread Cert.AdamInERefIdeal.nD Cert.AdamInERefIdeal.τ).loc Cert.AdamInERefIdeal.main_arg0)
      ∧ r.2.mem ((c.tc : Thread Cert.AdamInERefIdeal.nD Cert.AdamInERefIdeal.τ).loc Cert.AdamInERefIdeal.main_arg1) = m ((c.tc : Thread Cert.AdamInERefIdeal.nD Cert.AdamInERefIdeal.τ).loc Cert.AdamInERefIdeal.main_arg1)
      ∧ r.2.mem ((c.tc : Thread Cert.AdamInERefIdeal.nD Cert.AdamInERefIdeal.τ).loc Cert.AdamInERefIdeal.main_arg2) = m ((c.tc : Thread Cert.AdamInERefIdeal.nD Cert.AdamInERefIdeal.τ).loc Cert.AdamInERefIdeal.main_arg2)
      ∧ r.2.mem ((c.tc : Thread Cert.AdamInERefIdeal.nD Cert.AdamInERefIdeal.τ).loc Cert.AdamInERefIdeal.main_arg3) = m ((c.tc : Thread Cert.AdamInERefIdeal.nD Cert.AdamInERefIdeal.τ).loc Cert.AdamInERefIdeal.main_arg3))
      ∧ r.2.sem = fun _ => 0)

def quiescent_AdamInO [hAdamInO : Cert.AdamInO.Facts] : Prop :=
  ∀ (m : (ℓ : Loc Cert.AdamInO.nD Cert.AdamInO.τ Cert.AdamInO.sig) → Buf (Elt Bits) ℓ) (g : Dev Cert.AdamInO.nD → PrngReg), Pre_AdamInO m →
    θ_run (Cert.AdamInO.defs (F := Bits)) (onTc (τ := Cert.AdamInO.τ) (Cert.AdamInO.main (F := Bits))) ⟨m, fun _ => 0, g⟩ (fun r => (∀ c : Dev Cert.AdamInO.nD,
      r.2.mem ((c.tc : Thread Cert.AdamInO.nD Cert.AdamInO.τ).loc Cert.AdamInO.main_arg0) = m ((c.tc : Thread Cert.AdamInO.nD Cert.AdamInO.τ).loc Cert.AdamInO.main_arg0)
      ∧ r.2.mem ((c.tc : Thread Cert.AdamInO.nD Cert.AdamInO.τ).loc Cert.AdamInO.main_arg1) = m ((c.tc : Thread Cert.AdamInO.nD Cert.AdamInO.τ).loc Cert.AdamInO.main_arg1)
      ∧ r.2.mem ((c.tc : Thread Cert.AdamInO.nD Cert.AdamInO.τ).loc Cert.AdamInO.main_arg2) = m ((c.tc : Thread Cert.AdamInO.nD Cert.AdamInO.τ).loc Cert.AdamInO.main_arg2)
      ∧ r.2.mem ((c.tc : Thread Cert.AdamInO.nD Cert.AdamInO.τ).loc Cert.AdamInO.main_arg3) = m ((c.tc : Thread Cert.AdamInO.nD Cert.AdamInO.τ).loc Cert.AdamInO.main_arg3))
      ∧ r.2.sem = fun _ => 0)

def quiescent_AdamInOIdeal [hAdamInOIdeal : Cert.AdamInOIdeal.Facts] : Prop :=
  ∀ (m : (ℓ : Loc Cert.AdamInOIdeal.nD Cert.AdamInOIdeal.τ Cert.AdamInOIdeal.sig) → Buf (Elt Ideal) ℓ) (g : Dev Cert.AdamInOIdeal.nD → PrngReg), Pre_AdamInOIdeal m →
    θ_run (Cert.AdamInOIdeal.defs (F := Ideal)) (onTc (τ := Cert.AdamInOIdeal.τ) (Cert.AdamInOIdeal.main (F := Ideal))) ⟨m, fun _ => 0, g⟩ (fun r => (∀ c : Dev Cert.AdamInOIdeal.nD,
      r.2.mem ((c.tc : Thread Cert.AdamInOIdeal.nD Cert.AdamInOIdeal.τ).loc Cert.AdamInOIdeal.main_arg0) = m ((c.tc : Thread Cert.AdamInOIdeal.nD Cert.AdamInOIdeal.τ).loc Cert.AdamInOIdeal.main_arg0)
      ∧ r.2.mem ((c.tc : Thread Cert.AdamInOIdeal.nD Cert.AdamInOIdeal.τ).loc Cert.AdamInOIdeal.main_arg1) = m ((c.tc : Thread Cert.AdamInOIdeal.nD Cert.AdamInOIdeal.τ).loc Cert.AdamInOIdeal.main_arg1)
      ∧ r.2.mem ((c.tc : Thread Cert.AdamInOIdeal.nD Cert.AdamInOIdeal.τ).loc Cert.AdamInOIdeal.main_arg2) = m ((c.tc : Thread Cert.AdamInOIdeal.nD Cert.AdamInOIdeal.τ).loc Cert.AdamInOIdeal.main_arg2)
      ∧ r.2.mem ((c.tc : Thread Cert.AdamInOIdeal.nD Cert.AdamInOIdeal.τ).loc Cert.AdamInOIdeal.main_arg3) = m ((c.tc : Thread Cert.AdamInOIdeal.nD Cert.AdamInOIdeal.τ).loc Cert.AdamInOIdeal.main_arg3))
      ∧ r.2.sem = fun _ => 0)

def quiescent_AdamInORefIdeal [hAdamInORefIdeal : Cert.AdamInORefIdeal.Facts] : Prop :=
  ∀ (m : (ℓ : Loc Cert.AdamInORefIdeal.nD Cert.AdamInORefIdeal.τ Cert.AdamInORefIdeal.sig) → Buf (Elt Ideal) ℓ) (g : Dev Cert.AdamInORefIdeal.nD → PrngReg), Pre_AdamInORefIdeal m →
    θ_run (Cert.AdamInORefIdeal.defs (F := Ideal)) (onTc (τ := Cert.AdamInORefIdeal.τ) (Cert.AdamInORefIdeal.main (F := Ideal))) ⟨m, fun _ => 0, g⟩ (fun r => (∀ c : Dev Cert.AdamInORefIdeal.nD,
      r.2.mem ((c.tc : Thread Cert.AdamInORefIdeal.nD Cert.AdamInORefIdeal.τ).loc Cert.AdamInORefIdeal.main_arg0) = m ((c.tc : Thread Cert.AdamInORefIdeal.nD Cert.AdamInORefIdeal.τ).loc Cert.AdamInORefIdeal.main_arg0)
      ∧ r.2.mem ((c.tc : Thread Cert.AdamInORefIdeal.nD Cert.AdamInORefIdeal.τ).loc Cert.AdamInORefIdeal.main_arg1) = m ((c.tc : Thread Cert.AdamInORefIdeal.nD Cert.AdamInORefIdeal.τ).loc Cert.AdamInORefIdeal.main_arg1)
      ∧ r.2.mem ((c.tc : Thread Cert.AdamInORefIdeal.nD Cert.AdamInORefIdeal.τ).loc Cert.AdamInORefIdeal.main_arg2) = m ((c.tc : Thread Cert.AdamInORefIdeal.nD Cert.AdamInORefIdeal.τ).loc Cert.AdamInORefIdeal.main_arg2)
      ∧ r.2.mem ((c.tc : Thread Cert.AdamInORefIdeal.nD Cert.AdamInORefIdeal.τ).loc Cert.AdamInORefIdeal.main_arg3) = m ((c.tc : Thread Cert.AdamInORefIdeal.nD Cert.AdamInORefIdeal.τ).loc Cert.AdamInORefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamVec [hAdamVec : Cert.AdamVec.Facts] : Prop :=
  ∀ (m : (ℓ : Loc Cert.AdamVec.nD Cert.AdamVec.τ Cert.AdamVec.sig) → Buf (Elt Bits) ℓ) (g : Dev Cert.AdamVec.nD → PrngReg), Pre_AdamVec m →
    θ_run (Cert.AdamVec.defs (F := Bits)) (onTc (τ := Cert.AdamVec.τ) (Cert.AdamVec.main (F := Bits))) ⟨m, fun _ => 0, g⟩ (fun r => (∀ c : Dev Cert.AdamVec.nD,
      r.2.mem ((c.tc : Thread Cert.AdamVec.nD Cert.AdamVec.τ).loc Cert.AdamVec.main_arg0) = m ((c.tc : Thread Cert.AdamVec.nD Cert.AdamVec.τ).loc Cert.AdamVec.main_arg0)
      ∧ r.2.mem ((c.tc : Thread Cert.AdamVec.nD Cert.AdamVec.τ).loc Cert.AdamVec.main_arg1) = m ((c.tc : Thread Cert.AdamVec.nD Cert.AdamVec.τ).loc Cert.AdamVec.main_arg1)
      ∧ r.2.mem ((c.tc : Thread Cert.AdamVec.nD Cert.AdamVec.τ).loc Cert.AdamVec.main_arg2) = m ((c.tc : Thread Cert.AdamVec.nD Cert.AdamVec.τ).loc Cert.AdamVec.main_arg2)
      ∧ r.2.mem ((c.tc : Thread Cert.AdamVec.nD Cert.AdamVec.τ).loc Cert.AdamVec.main_arg3) = m ((c.tc : Thread Cert.AdamVec.nD Cert.AdamVec.τ).loc Cert.AdamVec.main_arg3))
      ∧ r.2.sem = fun _ => 0)

def quiescent_AdamVecIdeal [hAdamVecIdeal : Cert.AdamVecIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg), Pre_AdamVecIdeal m →
    θ_run (Cert.AdamVecIdeal.defs (F := Ideal)) (onTc (τ := Cert.AdamVecIdeal.τ) (Cert.AdamVecIdeal.main (F := Ideal))) ⟨m, fun _ => 0, g⟩ (fun r => (∀ c : Dev Cert.AdamVecIdeal.nD,
      r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
      ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
      ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
      ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ r.2.sem = fun _ => 0)

def quiescent_AdamVecRefIdeal [hAdamVecRefIdeal : Cert.AdamVecRefIdeal.Facts] : Prop :=
  ∀ (m : (ℓ : Loc Cert.AdamVecRefIdeal.nD Cert.AdamVecRefIdeal.τ Cert.AdamVecRefIdeal.sig) → Buf (Elt Ideal) ℓ) (g : Dev Cert.AdamVecRefIdeal.nD → PrngReg), Pre_AdamVecRefIdeal m →
    θ_run (Cert.AdamVecRefIdeal.defs (F := Ideal)) (onTc (τ := Cert.AdamVecRefIdeal.τ) (Cert.AdamVecRefIdeal.main (F := Ideal))) ⟨m, fun _ => 0, g⟩ (fun r => (∀ c : Dev Cert.AdamVecRefIdeal.nD,
      r.2.mem ((c.tc : Thread Cert.AdamVecRefIdeal.nD Cert.AdamVecRefIdeal.τ).loc Cert.AdamVecRefIdeal.main_arg0) = m ((c.tc : Thread Cert.AdamVecRefIdeal.nD Cert.AdamVecRefIdeal.τ).loc Cert.AdamVecRefIdeal.main_arg0)
      ∧ r.2.mem ((c.tc : Thread Cert.AdamVecRefIdeal.nD Cert.AdamVecRefIdeal.τ).loc Cert.AdamVecRefIdeal.main_arg1) = m ((c.tc : Thread Cert.AdamVecRefIdeal.nD Cert.AdamVecRefIdeal.τ).loc Cert.AdamVecRefIdeal.main_arg1)
      ∧ r.2.mem ((c.tc : Thread Cert.AdamVecRefIdeal.nD Cert.AdamVecRefIdeal.τ).loc Cert.AdamVecRefIdeal.main_arg2) = m ((c.tc : Thread Cert.AdamVecRefIdeal.nD Cert.AdamVecRefIdeal.τ).loc Cert.AdamVecRefIdeal.main_arg2)
      ∧ r.2.mem ((c.tc : Thread Cert.AdamVecRefIdeal.nD Cert.AdamVecRefIdeal.τ).loc Cert.AdamVecRefIdeal.main_arg3) = m ((c.tc : Thread Cert.AdamVecRefIdeal.nD Cert.AdamVecRefIdeal.τ).loc Cert.AdamVecRefIdeal.main_arg3))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_NormRes [hNormRes : Cert.NormRes.Facts] : Prop :=
  ∀ (m : (ℓ : Loc Cert.NormRes.nD Cert.NormRes.τ Cert.NormRes.sig) → Buf (Elt Bits) ℓ) (g : Dev Cert.NormRes.nD → PrngReg), Pre_NormRes m →
    θ_run (Cert.NormRes.defs (F := Bits)) (onTc (τ := Cert.NormRes.τ) (Cert.NormRes.main (F := Bits))) ⟨m, fun _ => 0, g⟩ (fun r => (∀ c : Dev Cert.NormRes.nD,
      r.2.mem ((c.tc : Thread Cert.NormRes.nD Cert.NormRes.τ).loc Cert.NormRes.main_arg0) = m ((c.tc : Thread Cert.NormRes.nD Cert.NormRes.τ).loc Cert.NormRes.main_arg0)
      ∧ r.2.mem ((c.tc : Thread Cert.NormRes.nD Cert.NormRes.τ).loc Cert.NormRes.main_arg1) = m ((c.tc : Thread Cert.NormRes.nD Cert.NormRes.τ).loc Cert.NormRes.main_arg1)
      ∧ r.2.mem ((c.tc : Thread Cert.NormRes.nD Cert.NormRes.τ).loc Cert.NormRes.main_arg2) = m ((c.tc : Thread Cert.NormRes.nD Cert.NormRes.τ).loc Cert.NormRes.main_arg2)
      ∧ r.2.mem ((c.tc : Thread Cert.NormRes.nD Cert.NormRes.τ).loc Cert.NormRes.main_arg3) = m ((c.tc : Thread Cert.NormRes.nD Cert.NormRes.τ).loc Cert.NormRes.main_arg3)
      ∧ r.2.mem ((c.tc : Thread Cert.NormRes.nD Cert.NormRes.τ).loc Cert.NormRes.main_arg4) = m ((c.tc : Thread Cert.NormRes.nD Cert.NormRes.τ).loc Cert.NormRes.main_arg4)
      ∧ r.2.mem ((c.tc : Thread Cert.NormRes.nD Cert.NormRes.τ).loc Cert.NormRes.main_arg5) = m ((c.tc : Thread Cert.NormRes.nD Cert.NormRes.τ).loc Cert.NormRes.main_arg5))
      ∧ r.2.sem = fun _ => 0)

def quiescent_NormResIdeal [hNormResIdeal : Cert.NormResIdeal.Facts] : Prop :=
  ∀ (m : (ℓ : Loc Cert.NormResIdeal.nD Cert.NormResIdeal.τ Cert.NormResIdeal.sig) → Buf (Elt Ideal) ℓ) (g : Dev Cert.NormResIdeal.nD → PrngReg), Pre_NormResIdeal m →
    θ_run (Cert.NormResIdeal.defs (F := Ideal)) (onTc (τ := Cert.NormResIdeal.τ) (Cert.NormResIdeal.main (F := Ideal))) ⟨m, fun _ => 0, g⟩ (fun r => (∀ c : Dev Cert.NormResIdeal.nD,
      r.2.mem ((c.tc : Thread Cert.NormResIdeal.nD Cert.NormResIdeal.τ).loc Cert.NormResIdeal.main_arg0) = m ((c.tc : Thread Cert.NormResIdeal.nD Cert.NormResIdeal.τ).loc Cert.NormResIdeal.main_arg0)
      ∧ r.2.mem ((c.tc : Thread Cert.NormResIdeal.nD Cert.NormResIdeal.τ).loc Cert.NormResIdeal.main_arg1) = m ((c.tc : Thread Cert.NormResIdeal.nD Cert.NormResIdeal.τ).loc Cert.NormResIdeal.main_arg1)
      ∧ r.2.mem ((c.tc : Thread Cert.NormResIdeal.nD Cert.NormResIdeal.τ).loc Cert.NormResIdeal.main_arg2) = m ((c.tc : Thread Cert.NormResIdeal.nD Cert.NormResIdeal.τ).loc Cert.NormResIdeal.main_arg2)
      ∧ r.2.mem ((c.tc : Thread Cert.NormResIdeal.nD Cert.NormResIdeal.τ).loc Cert.NormResIdeal.main_arg3) = m ((c.tc : Thread Cert.NormResIdeal.nD Cert.NormResIdeal.τ).loc Cert.NormResIdeal.main_arg3)
      ∧ r.2.mem ((c.tc : Thread Cert.NormResIdeal.nD Cert.NormResIdeal.τ).loc Cert.NormResIdeal.main_arg4) = m ((c.tc : Thread Cert.NormResIdeal.nD Cert.NormResIdeal.τ).loc Cert.NormResIdeal.main_arg4)
      ∧ r.2.mem ((c.tc : Thread Cert.NormResIdeal.nD Cert.NormResIdeal.τ).loc Cert.NormResIdeal.main_arg5) = m ((c.tc : Thread Cert.NormResIdeal.nD Cert.NormResIdeal.τ).loc Cert.NormResIdeal.main_arg5))
      ∧ r.2.sem = fun _ => 0)

def quiescent_NormResRefIdeal [hNormResRefIdeal : Cert.NormResRefIdeal.Facts] : Prop :=
  ∀ (m : (ℓ : Loc Cert.NormResRefIdeal.nD Cert.NormResRefIdeal.τ Cert.NormResRefIdeal.sig) → Buf (Elt Ideal) ℓ) (g : Dev Cert.NormResRefIdeal.nD → PrngReg), Pre_NormResRefIdeal m →
    θ_run (Cert.NormResRefIdeal.defs (F := Ideal)) (onTc (τ := Cert.NormResRefIdeal.τ) (Cert.NormResRefIdeal.main (F := Ideal))) ⟨m, fun _ => 0, g⟩ (fun r => (∀ c : Dev Cert.NormResRefIdeal.nD,
      r.2.mem ((c.tc : Thread Cert.NormResRefIdeal.nD Cert.NormResRefIdeal.τ).loc Cert.NormResRefIdeal.main_arg0) = m ((c.tc : Thread Cert.NormResRefIdeal.nD Cert.NormResRefIdeal.τ).loc Cert.NormResRefIdeal.main_arg0)
      ∧ r.2.mem ((c.tc : Thread Cert.NormResRefIdeal.nD Cert.NormResRefIdeal.τ).loc Cert.NormResRefIdeal.main_arg1) = m ((c.tc : Thread Cert.NormResRefIdeal.nD Cert.NormResRefIdeal.τ).loc Cert.NormResRefIdeal.main_arg1)
      ∧ r.2.mem ((c.tc : Thread Cert.NormResRefIdeal.nD Cert.NormResRefIdeal.τ).loc Cert.NormResRefIdeal.main_arg2) = m ((c.tc : Thread Cert.NormResRefIdeal.nD Cert.NormResRefIdeal.τ).loc Cert.NormResRefIdeal.main_arg2)
      ∧ r.2.mem ((c.tc : Thread Cert.NormResRefIdeal.nD Cert.NormResRefIdeal.τ).loc Cert.NormResRefIdeal.main_arg3) = m ((c.tc : Thread Cert.NormResRefIdeal.nD Cert.NormResRefIdeal.τ).loc Cert.NormResRefIdeal.main_arg3)
      ∧ r.2.mem ((c.tc : Thread Cert.NormResRefIdeal.nD Cert.NormResRefIdeal.τ).loc Cert.NormResRefIdeal.main_arg4) = m ((c.tc : Thread Cert.NormResRefIdeal.nD Cert.NormResRefIdeal.τ).loc Cert.NormResRefIdeal.main_arg4)
      ∧ r.2.mem ((c.tc : Thread Cert.NormResRefIdeal.nD Cert.NormResRefIdeal.τ).loc Cert.NormResRefIdeal.main_arg5) = m ((c.tc : Thread Cert.NormResRefIdeal.nD Cert.NormResRefIdeal.τ).loc Cert.NormResRefIdeal.main_arg5))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2)
      ∧ r.2.mem ((c.tc : Thread Cert.ResNormRefIdeal.nD Cert.ResNormRefIdeal.τ).loc Cert.ResNormRefIdeal.main_arg3) = m ((c.tc : Thread Cert.ResNormRefIdeal.nD Cert.ResNormRefIdeal.τ).loc Cert.ResNormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_PoolScale [hPoolScale : Cert.PoolScale.Facts] : Prop :=
  ∀ (m : (ℓ : Loc Cert.PoolScale.nD Cert.PoolScale.τ Cert.PoolScale.sig) → Buf (Elt Bits) ℓ) (g : Dev Cert.PoolScale.nD → PrngReg), Pre_PoolScale m →
    θ_run (Cert.PoolScale.defs (F := Bits)) (onTc (τ := Cert.PoolScale.τ) (Cert.PoolScale.main (F := Bits))) ⟨m, fun _ => 0, g⟩ (fun r => (∀ c : Dev Cert.PoolScale.nD,
      r.2.mem ((c.tc : Thread Cert.PoolScale.nD Cert.PoolScale.τ).loc Cert.PoolScale.main_arg0) = m ((c.tc : Thread Cert.PoolScale.nD Cert.PoolScale.τ).loc Cert.PoolScale.main_arg0)
      ∧ r.2.mem ((c.tc : Thread Cert.PoolScale.nD Cert.PoolScale.τ).loc Cert.PoolScale.main_arg1) = m ((c.tc : Thread Cert.PoolScale.nD Cert.PoolScale.τ).loc Cert.PoolScale.main_arg1)
      ∧ r.2.mem ((c.tc : Thread Cert.PoolScale.nD Cert.PoolScale.τ).loc Cert.PoolScale.main_arg2) = m ((c.tc : Thread Cert.PoolScale.nD Cert.PoolScale.τ).loc Cert.PoolScale.main_arg2))
      ∧ r.2.sem = fun _ => 0)

def quiescent_PoolScaleIdeal [hPoolScaleIdeal : Cert.PoolScaleIdeal.Facts] : Prop :=
  ∀ (m : (ℓ : Loc Cert.PoolScaleIdeal.nD Cert.PoolScaleIdeal.τ Cert.PoolScaleIdeal.sig) → Buf (Elt Ideal) ℓ) (g : Dev Cert.PoolScaleIdeal.nD → PrngReg), Pre_PoolScaleIdeal m →
    θ_run (Cert.PoolScaleIdeal.defs (F := Ideal)) (onTc (τ := Cert.PoolScaleIdeal.τ) (Cert.PoolScaleIdeal.main (F := Ideal))) ⟨m, fun _ => 0, g⟩ (fun r => (∀ c : Dev Cert.PoolScaleIdeal.nD,
      r.2.mem ((c.tc : Thread Cert.PoolScaleIdeal.nD Cert.PoolScaleIdeal.τ).loc Cert.PoolScaleIdeal.main_arg0) = m ((c.tc : Thread Cert.PoolScaleIdeal.nD Cert.PoolScaleIdeal.τ).loc Cert.PoolScaleIdeal.main_arg0)
      ∧ r.2.mem ((c.tc : Thread Cert.PoolScaleIdeal.nD Cert.PoolScaleIdeal.τ).loc Cert.PoolScaleIdeal.main_arg1) = m ((c.tc : Thread Cert.PoolScaleIdeal.nD Cert.PoolScaleIdeal.τ).loc Cert.PoolScaleIdeal.main_arg1)
      ∧ r.2.mem ((c.tc : Thread Cert.PoolScaleIdeal.nD Cert.PoolScaleIdeal.τ).loc Cert.PoolScaleIdeal.main_arg2) = m ((c.tc : Thread Cert.PoolScaleIdeal.nD Cert.PoolScaleIdeal.τ).loc Cert.PoolScaleIdeal.main_arg2))
      ∧ r.2.sem = fun _ => 0)

def quiescent_PoolScaleRefIdeal [hPoolScaleRefIdeal : Cert.PoolScaleRefIdeal.Facts] : Prop :=
  ∀ (m : (ℓ : Loc Cert.PoolScaleRefIdeal.nD Cert.PoolScaleRefIdeal.τ Cert.PoolScaleRefIdeal.sig) → Buf (Elt Ideal) ℓ) (g : Dev Cert.PoolScaleRefIdeal.nD → PrngReg), Pre_PoolScaleRefIdeal m →
    θ_run (Cert.PoolScaleRefIdeal.defs (F := Ideal)) (onTc (τ := Cert.PoolScaleRefIdeal.τ) (Cert.PoolScaleRefIdeal.main (F := Ideal))) ⟨m, fun _ => 0, g⟩ (fun r => (∀ c : Dev Cert.PoolScaleRefIdeal.nD,
      r.2.mem ((c.tc : Thread Cert.PoolScaleRefIdeal.nD Cert.PoolScaleRefIdeal.τ).loc Cert.PoolScaleRefIdeal.main_arg0) = m ((c.tc : Thread Cert.PoolScaleRefIdeal.nD Cert.PoolScaleRefIdeal.τ).loc Cert.PoolScaleRefIdeal.main_arg0)
      ∧ r.2.mem ((c.tc : Thread Cert.PoolScaleRefIdeal.nD Cert.PoolScaleRefIdeal.τ).loc Cert.PoolScaleRefIdeal.main_arg1) = m ((c.tc : Thread Cert.PoolScaleRefIdeal.nD Cert.PoolScaleRefIdeal.τ).loc Cert.PoolScaleRefIdeal.main_arg1)
      ∧ r.2.mem ((c.tc : Thread Cert.PoolScaleRefIdeal.nD Cert.PoolScaleRefIdeal.τ).loc Cert.PoolScaleRefIdeal.main_arg2) = m ((c.tc : Thread Cert.PoolScaleRefIdeal.nD Cert.PoolScaleRefIdeal.τ).loc Cert.PoolScaleRefIdeal.main_arg2))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2))
      ∧ r.2.sem = fun _ => 0)

def quiescent_S5OutRefIdeal [hS5OutRefIdeal : Cert.S5OutRefIdeal.Facts] : Prop :=
  ∀ (m : (ℓ : Loc Cert.S5OutRefIdeal.nD Cert.S5OutRefIdeal.τ Cert.S5OutRefIdeal.sig) → Buf (Elt Ideal) ℓ) (g : Dev Cert.S5OutRefIdeal.nD → PrngReg), Pre_S5OutRefIdeal m →
    θ_run (Cert.S5OutRefIdeal.defs (F := Ideal)) (onTc (τ := Cert.S5OutRefIdeal.τ) (Cert.S5OutRefIdeal.main (F := Ideal))) ⟨m, fun _ => 0, g⟩ (fun r => (∀ c : Dev Cert.S5OutRefIdeal.nD,
      r.2.mem ((c.tc : Thread Cert.S5OutRefIdeal.nD Cert.S5OutRefIdeal.τ).loc Cert.S5OutRefIdeal.main_arg0) = m ((c.tc : Thread Cert.S5OutRefIdeal.nD Cert.S5OutRefIdeal.τ).loc Cert.S5OutRefIdeal.main_arg0)
      ∧ r.2.mem ((c.tc : Thread Cert.S5OutRefIdeal.nD Cert.S5OutRefIdeal.τ).loc Cert.S5OutRefIdeal.main_arg1) = m ((c.tc : Thread Cert.S5OutRefIdeal.nD Cert.S5OutRefIdeal.τ).loc Cert.S5OutRefIdeal.main_arg1)
      ∧ r.2.mem ((c.tc : Thread Cert.S5OutRefIdeal.nD Cert.S5OutRefIdeal.τ).loc Cert.S5OutRefIdeal.main_arg2) = m ((c.tc : Thread Cert.S5OutRefIdeal.nD Cert.S5OutRefIdeal.τ).loc Cert.S5OutRefIdeal.main_arg2))
      ∧ r.2.sem = fun _ => 0)

def quiescent_S5Du [hS5Du : Cert.S5Du.Facts] : Prop :=
  ∀ (m : (ℓ : Loc Cert.S5Du.nD Cert.S5Du.τ Cert.S5Du.sig) → Buf (Elt Bits) ℓ) (g : Dev Cert.S5Du.nD → PrngReg), Pre_S5Du m →
    θ_run (Cert.S5Du.defs (F := Bits)) (onTc (τ := Cert.S5Du.τ) (Cert.S5Du.main (F := Bits))) ⟨m, fun _ => 0, g⟩ (fun r => (∀ c : Dev Cert.S5Du.nD,
      r.2.mem ((c.tc : Thread Cert.S5Du.nD Cert.S5Du.τ).loc Cert.S5Du.main_arg0) = m ((c.tc : Thread Cert.S5Du.nD Cert.S5Du.τ).loc Cert.S5Du.main_arg0)
      ∧ r.2.mem ((c.tc : Thread Cert.S5Du.nD Cert.S5Du.τ).loc Cert.S5Du.main_arg1) = m ((c.tc : Thread Cert.S5Du.nD Cert.S5Du.τ).loc Cert.S5Du.main_arg1))
      ∧ r.2.sem = fun _ => 0)

def quiescent_S5DuIdeal [hS5DuIdeal : Cert.S5DuIdeal.Facts] : Prop :=
  ∀ (m : (ℓ : Loc Cert.S5DuIdeal.nD Cert.S5DuIdeal.τ Cert.S5DuIdeal.sig) → Buf (Elt Ideal) ℓ) (g : Dev Cert.S5DuIdeal.nD → PrngReg), Pre_S5DuIdeal m →
    θ_run (Cert.S5DuIdeal.defs (F := Ideal)) (onTc (τ := Cert.S5DuIdeal.τ) (Cert.S5DuIdeal.main (F := Ideal))) ⟨m, fun _ => 0, g⟩ (fun r => (∀ c : Dev Cert.S5DuIdeal.nD,
      r.2.mem ((c.tc : Thread Cert.S5DuIdeal.nD Cert.S5DuIdeal.τ).loc Cert.S5DuIdeal.main_arg0) = m ((c.tc : Thread Cert.S5DuIdeal.nD Cert.S5DuIdeal.τ).loc Cert.S5DuIdeal.main_arg0)
      ∧ r.2.mem ((c.tc : Thread Cert.S5DuIdeal.nD Cert.S5DuIdeal.τ).loc Cert.S5DuIdeal.main_arg1) = m ((c.tc : Thread Cert.S5DuIdeal.nD Cert.S5DuIdeal.τ).loc Cert.S5DuIdeal.main_arg1))
      ∧ r.2.sem = fun _ => 0)

def quiescent_S5DuRefIdeal [hS5DuRefIdeal : Cert.S5DuRefIdeal.Facts] : Prop :=
  ∀ (m : (ℓ : Loc Cert.S5DuRefIdeal.nD Cert.S5DuRefIdeal.τ Cert.S5DuRefIdeal.sig) → Buf (Elt Ideal) ℓ) (g : Dev Cert.S5DuRefIdeal.nD → PrngReg), Pre_S5DuRefIdeal m →
    θ_run (Cert.S5DuRefIdeal.defs (F := Ideal)) (onTc (τ := Cert.S5DuRefIdeal.τ) (Cert.S5DuRefIdeal.main (F := Ideal))) ⟨m, fun _ => 0, g⟩ (fun r => (∀ c : Dev Cert.S5DuRefIdeal.nD,
      r.2.mem ((c.tc : Thread Cert.S5DuRefIdeal.nD Cert.S5DuRefIdeal.τ).loc Cert.S5DuRefIdeal.main_arg0) = m ((c.tc : Thread Cert.S5DuRefIdeal.nD Cert.S5DuRefIdeal.τ).loc Cert.S5DuRefIdeal.main_arg0)
      ∧ r.2.mem ((c.tc : Thread Cert.S5DuRefIdeal.nD Cert.S5DuRefIdeal.τ).loc Cert.S5DuRefIdeal.main_arg1) = m ((c.tc : Thread Cert.S5DuRefIdeal.nD Cert.S5DuRefIdeal.τ).loc Cert.S5DuRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_PoolDx [hPoolDx : Cert.PoolDx.Facts] : Prop :=
  ∀ (m : (ℓ : Loc Cert.PoolDx.nD Cert.PoolDx.τ Cert.PoolDx.sig) → Buf (Elt Bits) ℓ) (g : Dev Cert.PoolDx.nD → PrngReg), Pre_PoolDx m →
    θ_run (Cert.PoolDx.defs (F := Bits)) (onTc (τ := Cert.PoolDx.τ) (Cert.PoolDx.main (F := Bits))) ⟨m, fun _ => 0, g⟩ (fun r => (∀ c : Dev Cert.PoolDx.nD,
      r.2.mem ((c.tc : Thread Cert.PoolDx.nD Cert.PoolDx.τ).loc Cert.PoolDx.main_arg0) = m ((c.tc : Thread Cert.PoolDx.nD Cert.PoolDx.τ).loc Cert.PoolDx.main_arg0)
      ∧ r.2.mem ((c.tc : Thread Cert.PoolDx.nD Cert.PoolDx.τ).loc Cert.PoolDx.main_arg1) = m ((c.tc : Thread Cert.PoolDx.nD Cert.PoolDx.τ).loc Cert.PoolDx.main_arg1))
      ∧ r.2.sem = fun _ => 0)

def quiescent_PoolDxIdeal [hPoolDxIdeal : Cert.PoolDxIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
      ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ r.2.sem = fun _ => 0)

def quiescent_PoolDxRefIdeal [hPoolDxRefIdeal : Cert.PoolDxRefIdeal.Facts] : Prop :=
  ∀ (m : (ℓ : Loc Cert.PoolDxRefIdeal.nD Cert.PoolDxRefIdeal.τ Cert.PoolDxRefIdeal.sig) → Buf (Elt Ideal) ℓ) (g : Dev Cert.PoolDxRefIdeal.nD → PrngReg), Pre_PoolDxRefIdeal m →
    θ_run (Cert.PoolDxRefIdeal.defs (F := Ideal)) (onTc (τ := Cert.PoolDxRefIdeal.τ) (Cert.PoolDxRefIdeal.main (F := Ideal))) ⟨m, fun _ => 0, g⟩ (fun r => (∀ c : Dev Cert.PoolDxRefIdeal.nD,
      r.2.mem ((c.tc : Thread Cert.PoolDxRefIdeal.nD Cert.PoolDxRefIdeal.τ).loc Cert.PoolDxRefIdeal.main_arg0) = m ((c.tc : Thread Cert.PoolDxRefIdeal.nD Cert.PoolDxRefIdeal.τ).loc Cert.PoolDxRefIdeal.main_arg0)
      ∧ r.2.mem ((c.tc : Thread Cert.PoolDxRefIdeal.nD Cert.PoolDxRefIdeal.τ).loc Cert.PoolDxRefIdeal.main_arg1) = m ((c.tc : Thread Cert.PoolDxRefIdeal.nD Cert.PoolDxRefIdeal.τ).loc Cert.PoolDxRefIdeal.main_arg1))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ r.2.sem = fun _ => 0)

def quiescent_PoolDwRefIdeal [hPoolDwRefIdeal : Cert.PoolDwRefIdeal.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1))
      ∧ r.2.sem = fun _ => 0)

def preserves_Up0_Up0Ideal : Prop :=
  True

def algebraic_Up0Ideal_Up0RefIdeal [hUp0Ideal : Cert.Up0Ideal.Facts] [hUp0RefIdeal : Cert.Up0RefIdeal.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.Up0RefIdeal.nD Cert.Up0RefIdeal.τ Cert.Up0RefIdeal.sig) → Buf (Elt Ideal) ℓ) (g' : Dev Cert.Up0RefIdeal.nD → PrngReg), Pre_Up0Ideal m →
    (∀ c : Dev Cert.Up0Ideal.nD,
      m' ((c.tc : Thread Cert.Up0RefIdeal.nD Cert.Up0RefIdeal.τ).loc Cert.Up0RefIdeal.main_arg0) = m ((c.tc : Thread Cert.Up0Ideal.nD Cert.Up0Ideal.τ).loc Cert.Up0Ideal.main_arg0)
      ∧ m' ((c.tc : Thread Cert.Up0RefIdeal.nD Cert.Up0RefIdeal.τ).loc Cert.Up0RefIdeal.main_arg1) = m ((c.tc : Thread Cert.Up0Ideal.nD Cert.Up0Ideal.τ).loc Cert.Up0Ideal.main_arg1)) →
    ∃ (v0 : (c : Dev Cert.Up0Ideal.nD) → Buf (Elt Ideal) ((c.tc : Thread Cert.Up0Ideal.nD Cert.Up0Ideal.τ).loc Cert.Up0Ideal.main_v3_0)) (v1 : (c : Dev Cert.Up0Ideal.nD) → Buf (Elt Ideal) ((c.tc : Thread Cert.Up0Ideal.nD Cert.Up0Ideal.τ).loc Cert.Up0Ideal.main_v3_1)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v3_0) = v0 c
          ∧ r.2.mem ((c.tc : Thread Cert.Up0Ideal.nD Cert.Up0Ideal.τ).loc Cert.Up0Ideal.main_v3_1) = v1 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ θ_run (Cert.Up0RefIdeal.defs (F := Ideal)) (onTc (τ := Cert.Up0RefIdeal.τ) (Cert.Up0RefIdeal.main (F := Ideal))) ⟨m', fun _ => 0, g'⟩ (fun r => ∀ c : Dev Cert.Up0RefIdeal.nD,
          r.2.mem ((c.tc : Thread Cert.Up0RefIdeal.nD Cert.Up0RefIdeal.τ).loc Cert.Up0RefIdeal.main_v4) = v0 c
          ∧ r.2.mem ((c.tc : Thread Cert.Up0RefIdeal.nD Cert.Up0RefIdeal.τ).loc Cert.Up0RefIdeal.main_v7) = v1 c
          ∧ r.2.mem ((c.tc : Thread Cert.Up0RefIdeal.nD Cert.Up0RefIdeal.τ).loc Cert.Up0RefIdeal.main_arg0) = m' ((c.tc : Thread Cert.Up0RefIdeal.nD Cert.Up0RefIdeal.τ).loc Cert.Up0RefIdeal.main_arg0)
          ∧ r.2.mem ((c.tc : Thread Cert.Up0RefIdeal.nD Cert.Up0RefIdeal.τ).loc Cert.Up0RefIdeal.main_arg1) = m' ((c.tc : Thread Cert.Up0RefIdeal.nD Cert.Up0RefIdeal.τ).loc Cert.Up0RefIdeal.main_arg1))

def preserves_Down0_Down0Ideal : Prop :=
  True

def algebraic_Down0Ideal_Down0RefIdeal [hDown0Ideal : Cert.Down0Ideal.Facts] [hDown0RefIdeal : Cert.Down0RefIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0RefIdeal.nD Cert.Down0RefIdeal.τ Cert.Down0RefIdeal.sig) → Buf (Elt Ideal) ℓ) (g' : Dev Cert.Down0RefIdeal.nD → PrngReg), Pre_Down0Ideal m →
    (∀ c : Dev Cert.Down0Ideal.nD,
      m' ((c.tc : Thread Cert.Down0RefIdeal.nD Cert.Down0RefIdeal.τ).loc Cert.Down0RefIdeal.main_arg0) = m ((c.tc : Thread Cert.Down0Ideal.nD Cert.Down0Ideal.τ).loc Cert.Down0Ideal.main_arg0)
      ∧ m' ((c.tc : Thread Cert.Down0RefIdeal.nD Cert.Down0RefIdeal.τ).loc Cert.Down0RefIdeal.main_arg1) = m ((c.tc : Thread Cert.Down0Ideal.nD Cert.Down0Ideal.τ).loc Cert.Down0Ideal.main_arg1)) →
    ∃ (v0 : (c : Dev Cert.Down0Ideal.nD) → Buf (Elt Ideal) ((c.tc : Thread Cert.Down0Ideal.nD Cert.Down0Ideal.τ).loc Cert.Down0Ideal.main_v4)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v4) = v0 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1))
      ∧ θ_run (Cert.Down0RefIdeal.defs (F := Ideal)) (onTc (τ := Cert.Down0RefIdeal.τ) (Cert.Down0RefIdeal.main (F := Ideal))) ⟨m', fun _ => 0, g'⟩ (fun r => ∀ c : Dev Cert.Down0RefIdeal.nD,
          r.2.mem ((c.tc : Thread Cert.Down0RefIdeal.nD Cert.Down0RefIdeal.τ).loc Cert.Down0RefIdeal.main_v3) = v0 c
          ∧ r.2.mem ((c.tc : Thread Cert.Down0RefIdeal.nD Cert.Down0RefIdeal.τ).loc Cert.Down0RefIdeal.main_arg0) = m' ((c.tc : Thread Cert.Down0RefIdeal.nD Cert.Down0RefIdeal.τ).loc Cert.Down0RefIdeal.main_arg0)
          ∧ r.2.mem ((c.tc : Thread Cert.Down0RefIdeal.nD Cert.Down0RefIdeal.τ).loc Cert.Down0RefIdeal.main_arg1) = m' ((c.tc : Thread Cert.Down0RefIdeal.nD Cert.Down0RefIdeal.τ).loc Cert.Down0RefIdeal.main_arg1))

def preserves_DownDx0_DownDx0Ideal : Prop :=
  True

def algebraic_DownDx0Ideal_DownDx0RefIdeal [hDownDx0Ideal : Cert.DownDx0Ideal.Facts] [hDownDx0RefIdeal : Cert.DownDx0RefIdeal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg)
    (m' : (ℓ : Loc Cert.DownDx0RefIdeal.nD Cert.DownDx0RefIdeal.τ Cert.DownDx0RefIdeal.sig) → Buf (Elt Ideal) ℓ) (g' : Dev Cert.DownDx0RefIdeal.nD → PrngReg), Pre_DownDx0Ideal m →
    (∀ c : Dev Cert.DownDx0Ideal.nD,
      m' ((c.tc : Thread Cert.DownDx0RefIdeal.nD Cert.DownDx0RefIdeal.τ).loc Cert.DownDx0RefIdeal.main_arg0) = m ((c.tc : Thread Cert.DownDx0Ideal.nD Cert.DownDx0Ideal.τ).loc Cert.DownDx0Ideal.main_arg0)
      ∧ m' ((c.tc : Thread Cert.DownDx0RefIdeal.nD Cert.DownDx0RefIdeal.τ).loc Cert.DownDx0RefIdeal.main_arg1) = m ((c.tc : Thread Cert.DownDx0Ideal.nD Cert.DownDx0Ideal.τ).loc Cert.DownDx0Ideal.main_arg1)
      ∧ m' ((c.tc : Thread Cert.DownDx0RefIdeal.nD Cert.DownDx0RefIdeal.τ).loc Cert.DownDx0RefIdeal.main_arg2) = m ((c.tc : Thread Cert.DownDx0Ideal.nD Cert.DownDx0Ideal.τ).loc Cert.DownDx0Ideal.main_arg2)) →
    ∃ (v0 : (c : Dev Cert.DownDx0Ideal.nD) → Buf (Elt Ideal) ((c.tc : Thread Cert.DownDx0Ideal.nD Cert.DownDx0Ideal.τ).loc Cert.DownDx0Ideal.main_v4)),
      θ_run (Cert.DownDx0Ideal.defs (F := Ideal)) (onTc (τ := Cert.DownDx0Ideal.τ) (Cert.DownDx0Ideal.main (F := Ideal))) ⟨m, fun _ => 0, g⟩ (fun r => ∀ c : Dev Cert.DownDx0Ideal.nD,
          r.2.mem ((c.tc : Thread Cert.DownDx0Ideal.nD Cert.DownDx0Ideal.τ).loc Cert.DownDx0Ideal.main_v4) = v0 c
          ∧ r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
          ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1)
          ∧ r.2.mem ((c.tc : Thread Cert.DownDx0Ideal.nD Cert.DownDx0Ideal.τ).loc Cert.DownDx0Ideal.main_arg2) = m ((c.tc : Thread Cert.DownDx0Ideal.nD Cert.DownDx0Ideal.τ).loc Cert.DownDx0Ideal.main_arg2))
      ∧ θ_run (Cert.DownDx0RefIdeal.defs (F := Ideal)) (onTc (τ := Cert.DownDx0RefIdeal.τ) (Cert.DownDx0RefIdeal.main (F := Ideal))) ⟨m', fun _ => 0, g'⟩ (fun r => ∀ c : Dev Cert.DownDx0RefIdeal.nD,
          r.2.mem ((c.tc : Thread Cert.DownDx0RefIdeal.nD Cert.DownDx0RefIdeal.τ).loc Cert.DownDx0RefIdeal.main_v16) = v0 c
          ∧ r.2.mem ((c.tc : Thread Cert.DownDx0RefIdeal.nD Cert.DownDx0RefIdeal.τ).loc Cert.DownDx0RefIdeal.main_arg0) = m' ((c.tc : Thread Cert.DownDx0RefIdeal.nD Cert.DownDx0RefIdeal.τ).loc Cert.DownDx0RefIdeal.main_arg0)
          ∧ r.2.mem ((c.tc : Thread Cert.DownDx0RefIdeal.nD Cert.DownDx0RefIdeal.τ).loc Cert.DownDx0RefIdeal.main_arg1) = m' ((c.tc : Thread Cert.DownDx0RefIdeal.nD Cert.DownDx0RefIdeal.τ).loc Cert.DownDx0RefIdeal.main_arg1)
          ∧ r.2.mem ((c.tc : Thread Cert.DownDx0RefIdeal.nD Cert.DownDx0RefIdeal.τ).loc Cert.DownDx0RefIdeal.main_arg2) = m' ((c.tc : Thread Cert.DownDx0RefIdeal.nD Cert.DownDx0RefIdeal.τ).loc Cert.DownDx0RefIdeal.main_arg2))

def preserves_DownDw0_DownDw0Ideal : Prop :=
  True

def algebraic_DownDw0Ideal_DownDw0RefIdeal [hDownDw0Ideal : Cert.DownDw0Ideal.Facts] [hDownDw0RefIdeal : Cert.DownDw0RefIdeal.Facts] : Prop :=
  ∀ (m : (ℓ : Loc Cert.DownDw0Ideal.nD Cert.DownDw0Ideal.τ Cert.DownDw0Ideal.sig) → Buf (Elt Ideal) ℓ) (g : Dev Cert.DownDw0Ideal.nD → PrngReg)
    (m' : (ℓ : Loc Cert.DownDw0RefIdeal.nD Cert.DownDw0RefIdeal.τ Cert.DownDw0RefIdeal.sig) → Buf (Elt Ideal) ℓ) (g' : Dev Cert.DownDw0RefIdeal.nD → PrngReg), Pre_DownDw0Ideal m →
    (∀ c : Dev Cert.DownDw0Ideal.nD,
      m' ((c.tc : Thread Cert.DownDw0RefIdeal.nD Cert.DownDw0RefIdeal.τ).loc Cert.DownDw0RefIdeal.main_arg0) = m ((c.tc : Thread Cert.DownDw0Ideal.nD Cert.DownDw0Ideal.τ).loc Cert.DownDw0Ideal.main_arg0)
      ∧ m' ((c.tc : Thread Cert.DownDw0RefIdeal.nD Cert.DownDw0RefIdeal.τ).loc Cert.DownDw0RefIdeal.main_arg1) = m ((c.tc : Thread Cert.DownDw0Ideal.nD Cert.DownDw0Ideal.τ).loc Cert.DownDw0Ideal.main_arg1)
      ∧ m' ((c.tc : Thread Cert.DownDw0RefIdeal.nD Cert.DownDw0RefIdeal.τ).loc Cert.DownDw0RefIdeal.main_arg2) = m ((c.tc : Thread Cert.DownDw0Ideal.nD Cert.DownDw0Ideal.τ).loc Cert.DownDw0Ideal.main_arg2)) →
    ∃ (v0 : (c : Dev Cert.DownDw0Ideal.nD) → Buf (Elt Ideal) ((c.tc : Thread Cert.DownDw0Ideal.nD Cert.DownDw0Ideal.τ).loc Cert.DownDw0Ideal.main_v5)),
      θ_run (Cert.DownDw0Ideal.defs (F := Ideal)) (onTc (τ := Cert.DownDw0Ideal.τ) (Cert.DownDw0Ideal.main (F := Ideal))) ⟨m, fun _ => 0, g⟩ (fun r => ∀ c : Dev Cert.DownDw0Ideal.nD,
          r.2.mem ((c.tc : Thread Cert.DownDw0Ideal.nD Cert.DownDw0Ideal.τ).loc Cert.DownDw0Ideal.main_v5) = v0 c
          ∧ r.2.mem ((c.tc : Thread Cert.DownDw0Ideal.nD Cert.DownDw0Ideal.τ).loc Cert.DownDw0Ideal.main_arg0) = m ((c.tc : Thread Cert.DownDw0Ideal.nD Cert.DownDw0Ideal.τ).loc Cert.DownDw0Ideal.main_arg0)
          ∧ r.2.mem ((c.tc : Thread Cert.DownDw0Ideal.nD Cert.DownDw0Ideal.τ).loc Cert.DownDw0Ideal.main_arg1) = m ((c.tc : Thread Cert.DownDw0Ideal.nD Cert.DownDw0Ideal.τ).loc Cert.DownDw0Ideal.main_arg1)
          ∧ r.2.mem ((c.tc : Thread Cert.DownDw0Ideal.nD Cert.DownDw0Ideal.τ).loc Cert.DownDw0Ideal.main_arg2) = m ((c.tc : Thread Cert.DownDw0Ideal.nD Cert.DownDw0Ideal.τ).loc Cert.DownDw0Ideal.main_arg2))
      ∧ θ_run (Cert.DownDw0RefIdeal.defs (F := Ideal)) (onTc (τ := Cert.DownDw0RefIdeal.τ) (Cert.DownDw0RefIdeal.main (F := Ideal))) ⟨m', fun _ => 0, g'⟩ (fun r => ∀ c : Dev Cert.DownDw0RefIdeal.nD,
          r.2.mem ((c.tc : Thread Cert.DownDw0RefIdeal.nD Cert.DownDw0RefIdeal.τ).loc Cert.DownDw0RefIdeal.main_v10) = v0 c
          ∧ r.2.mem ((c.tc : Thread Cert.DownDw0RefIdeal.nD Cert.DownDw0RefIdeal.τ).loc Cert.DownDw0RefIdeal.main_arg0) = m' ((c.tc : Thread Cert.DownDw0RefIdeal.nD Cert.DownDw0RefIdeal.τ).loc Cert.DownDw0RefIdeal.main_arg0)
          ∧ r.2.mem ((c.tc : Thread Cert.DownDw0RefIdeal.nD Cert.DownDw0RefIdeal.τ).loc Cert.DownDw0RefIdeal.main_arg1) = m' ((c.tc : Thread Cert.DownDw0RefIdeal.nD Cert.DownDw0RefIdeal.τ).loc Cert.DownDw0RefIdeal.main_arg1)
          ∧ r.2.mem ((c.tc : Thread Cert.DownDw0RefIdeal.nD Cert.DownDw0RefIdeal.τ).loc Cert.DownDw0RefIdeal.main_arg2) = m' ((c.tc : Thread Cert.DownDw0RefIdeal.nD Cert.DownDw0RefIdeal.τ).loc Cert.DownDw0RefIdeal.main_arg2))

def preserves_UpDx0_UpDx0Ideal : Prop :=
  True

def algebraic_UpDx0Ideal_UpDx0RefIdeal [hUpDx0Ideal : Cert.UpDx0Ideal.Facts] [hUpDx0RefIdeal : Cert.UpDx0RefIdeal.Facts] : Prop :=
  ∀ (m : (ℓ : Loc Cert.UpDx0Ideal.nD Cert.UpDx0Ideal.τ Cert.UpDx0Ideal.sig) → Buf (Elt Ideal) ℓ) (g : Dev Cert.UpDx0Ideal.nD → PrngReg)
    (m' : (ℓ : Loc Cert.UpDx0RefIdeal.nD Cert.UpDx0RefIdeal.τ Cert.UpDx0RefIdeal.sig) → Buf (Elt Ideal) ℓ) (g' : Dev Cert.UpDx0RefIdeal.nD → PrngReg), Pre_UpDx0Ideal m →
    (∀ c : Dev Cert.UpDx0Ideal.nD,
      m' ((c.tc : Thread Cert.UpDx0RefIdeal.nD Cert.UpDx0RefIdeal.τ).loc Cert.UpDx0RefIdeal.main_arg0) = m ((c.tc : Thread Cert.UpDx0Ideal.nD Cert.UpDx0Ideal.τ).loc Cert.UpDx0Ideal.main_arg0)
      ∧ m' ((c.tc : Thread Cert.UpDx0RefIdeal.nD Cert.UpDx0RefIdeal.τ).loc Cert.UpDx0RefIdeal.main_arg1) = m ((c.tc : Thread Cert.UpDx0Ideal.nD Cert.UpDx0Ideal.τ).loc Cert.UpDx0Ideal.main_arg1)) →
    ∃ (v0 : (c : Dev Cert.UpDx0Ideal.nD) → Buf (Elt Ideal) ((c.tc : Thread Cert.UpDx0Ideal.nD Cert.UpDx0Ideal.τ).loc Cert.UpDx0Ideal.main_v3)),
      θ_run (Cert.UpDx0Ideal.defs (F := Ideal)) (onTc (τ := Cert.UpDx0Ideal.τ) (Cert.UpDx0Ideal.main (F := Ideal))) ⟨m, fun _ => 0, g⟩ (fun r => ∀ c : Dev Cert.UpDx0Ideal.nD,
          r.2.mem ((c.tc : Thread Cert.UpDx0Ideal.nD Cert.UpDx0Ideal.τ).loc Cert.UpDx0Ideal.main_v3) = v0 c
          ∧ r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
          ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1))
      ∧ θ_run (Cert.UpDx0RefIdeal.defs (F := Ideal)) (onTc (τ := Cert.UpDx0RefIdeal.τ) (Cert.UpDx0RefIdeal.main (F := Ideal))) ⟨m', fun _ => 0, g'⟩ (fun r => ∀ c : Dev Cert.UpDx0RefIdeal.nD,
          r.2.mem ((c.tc : Thread Cert.UpDx0RefIdeal.nD Cert.UpDx0RefIdeal.τ).loc Cert.UpDx0RefIdeal.main_v5) = v0 c
          ∧ r.2.mem ((c.tc : Thread Cert.UpDx0RefIdeal.nD Cert.UpDx0RefIdeal.τ).loc Cert.UpDx0RefIdeal.main_arg0) = m' ((c.tc : Thread Cert.UpDx0RefIdeal.nD Cert.UpDx0RefIdeal.τ).loc Cert.UpDx0RefIdeal.main_arg0)
          ∧ r.2.mem ((c.tc : Thread Cert.UpDx0RefIdeal.nD Cert.UpDx0RefIdeal.τ).loc Cert.UpDx0RefIdeal.main_arg1) = m' ((c.tc : Thread Cert.UpDx0RefIdeal.nD Cert.UpDx0RefIdeal.τ).loc Cert.UpDx0RefIdeal.main_arg1))

def preserves_UpDw0_UpDw0Ideal : Prop :=
  True

def algebraic_UpDw0Ideal_UpDw0RefIdeal [hUpDw0Ideal : Cert.UpDw0Ideal.Facts] [hUpDw0RefIdeal : Cert.UpDw0RefIdeal.Facts] : Prop :=
  ∀ (m : (ℓ : Loc Cert.UpDw0Ideal.nD Cert.UpDw0Ideal.τ Cert.UpDw0Ideal.sig) → Buf (Elt Ideal) ℓ) (g : Dev Cert.UpDw0Ideal.nD → PrngReg)
    (m' : (ℓ : Loc Cert.UpDw0RefIdeal.nD Cert.UpDw0RefIdeal.τ Cert.UpDw0RefIdeal.sig) → Buf (Elt Ideal) ℓ) (g' : Dev Cert.UpDw0RefIdeal.nD → PrngReg), Pre_UpDw0Ideal m →
    (∀ c : Dev Cert.UpDw0Ideal.nD,
      m' ((c.tc : Thread Cert.UpDw0RefIdeal.nD Cert.UpDw0RefIdeal.τ).loc Cert.UpDw0RefIdeal.main_arg0) = m ((c.tc : Thread Cert.UpDw0Ideal.nD Cert.UpDw0Ideal.τ).loc Cert.UpDw0Ideal.main_arg0)
      ∧ m' ((c.tc : Thread Cert.UpDw0RefIdeal.nD Cert.UpDw0RefIdeal.τ).loc Cert.UpDw0RefIdeal.main_arg1) = m ((c.tc : Thread Cert.UpDw0Ideal.nD Cert.UpDw0Ideal.τ).loc Cert.UpDw0Ideal.main_arg1)
      ∧ m' ((c.tc : Thread Cert.UpDw0RefIdeal.nD Cert.UpDw0RefIdeal.τ).loc Cert.UpDw0RefIdeal.main_arg2) = m ((c.tc : Thread Cert.UpDw0Ideal.nD Cert.UpDw0Ideal.τ).loc Cert.UpDw0Ideal.main_arg2)) →
    ∃ (v0 : (c : Dev Cert.UpDw0Ideal.nD) → Buf (Elt Ideal) ((c.tc : Thread Cert.UpDw0Ideal.nD Cert.UpDw0Ideal.τ).loc Cert.UpDw0Ideal.main_v0)),
      θ_run (Cert.UpDw0Ideal.defs (F := Ideal)) (onTc (τ := Cert.UpDw0Ideal.τ) (Cert.UpDw0Ideal.main (F := Ideal))) ⟨m, fun _ => 0, g⟩ (fun r => ∀ c : Dev Cert.UpDw0Ideal.nD,
          r.2.mem ((c.tc : Thread Cert.UpDw0Ideal.nD Cert.UpDw0Ideal.τ).loc Cert.UpDw0Ideal.main_v0) = v0 c
          ∧ r.2.mem ((c.tc : Thread Cert.UpDw0Ideal.nD Cert.UpDw0Ideal.τ).loc Cert.UpDw0Ideal.main_arg0) = m ((c.tc : Thread Cert.UpDw0Ideal.nD Cert.UpDw0Ideal.τ).loc Cert.UpDw0Ideal.main_arg0)
          ∧ r.2.mem ((c.tc : Thread Cert.UpDw0Ideal.nD Cert.UpDw0Ideal.τ).loc Cert.UpDw0Ideal.main_arg1) = m ((c.tc : Thread Cert.UpDw0Ideal.nD Cert.UpDw0Ideal.τ).loc Cert.UpDw0Ideal.main_arg1)
          ∧ r.2.mem ((c.tc : Thread Cert.UpDw0Ideal.nD Cert.UpDw0Ideal.τ).loc Cert.UpDw0Ideal.main_arg2) = m ((c.tc : Thread Cert.UpDw0Ideal.nD Cert.UpDw0Ideal.τ).loc Cert.UpDw0Ideal.main_arg2))
      ∧ θ_run (Cert.UpDw0RefIdeal.defs (F := Ideal)) (onTc (τ := Cert.UpDw0RefIdeal.τ) (Cert.UpDw0RefIdeal.main (F := Ideal))) ⟨m', fun _ => 0, g'⟩ (fun r => ∀ c : Dev Cert.UpDw0RefIdeal.nD,
          r.2.mem ((c.tc : Thread Cert.UpDw0RefIdeal.nD Cert.UpDw0RefIdeal.τ).loc Cert.UpDw0RefIdeal.main_v9) = v0 c
          ∧ r.2.mem ((c.tc : Thread Cert.UpDw0RefIdeal.nD Cert.UpDw0RefIdeal.τ).loc Cert.UpDw0RefIdeal.main_arg0) = m' ((c.tc : Thread Cert.UpDw0RefIdeal.nD Cert.UpDw0RefIdeal.τ).loc Cert.UpDw0RefIdeal.main_arg0)
          ∧ r.2.mem ((c.tc : Thread Cert.UpDw0RefIdeal.nD Cert.UpDw0RefIdeal.τ).loc Cert.UpDw0RefIdeal.main_arg1) = m' ((c.tc : Thread Cert.UpDw0RefIdeal.nD Cert.UpDw0RefIdeal.τ).loc Cert.UpDw0RefIdeal.main_arg1)
          ∧ r.2.mem ((c.tc : Thread Cert.UpDw0RefIdeal.nD Cert.UpDw0RefIdeal.τ).loc Cert.UpDw0RefIdeal.main_arg2) = m' ((c.tc : Thread Cert.UpDw0RefIdeal.nD Cert.UpDw0RefIdeal.τ).loc Cert.UpDw0RefIdeal.main_arg2))

def preserves_Up1_Up1Ideal : Prop :=
  True

def algebraic_Up1Ideal_Up1RefIdeal [hUp1Ideal : Cert.Up1Ideal.Facts] [hUp1RefIdeal : Cert.Up1RefIdeal.Facts] : Prop :=
  ∀ (m : (ℓ : Loc Cert.Up1Ideal.nD Cert.Up1Ideal.τ Cert.Up1Ideal.sig) → Buf (Elt Ideal) ℓ) (g : Dev Cert.Up1Ideal.nD → PrngReg)
    (m' : (ℓ : Loc Cert.Up1RefIdeal.nD Cert.Up1RefIdeal.τ Cert.Up1RefIdeal.sig) → Buf (Elt Ideal) ℓ) (g' : Dev Cert.Up1RefIdeal.nD → PrngReg), Pre_Up1Ideal m →
    (∀ c : Dev Cert.Up1Ideal.nD,
      m' ((c.tc : Thread Cert.Up1RefIdeal.nD Cert.Up1RefIdeal.τ).loc Cert.Up1RefIdeal.main_arg0) = m ((c.tc : Thread Cert.Up1Ideal.nD Cert.Up1Ideal.τ).loc Cert.Up1Ideal.main_arg0)
      ∧ m' ((c.tc : Thread Cert.Up1RefIdeal.nD Cert.Up1RefIdeal.τ).loc Cert.Up1RefIdeal.main_arg1) = m ((c.tc : Thread Cert.Up1Ideal.nD Cert.Up1Ideal.τ).loc Cert.Up1Ideal.main_arg1)) →
    ∃ (v0 : (c : Dev Cert.Up1Ideal.nD) → Buf (Elt Ideal) ((c.tc : Thread Cert.Up1Ideal.nD Cert.Up1Ideal.τ).loc Cert.Up1Ideal.main_v3_0)) (v1 : (c : Dev Cert.Up1Ideal.nD) → Buf (Elt Ideal) ((c.tc : Thread Cert.Up1Ideal.nD Cert.Up1Ideal.τ).loc Cert.Up1Ideal.main_v3_1)),
      θ_run (Cert.Up1Ideal.defs (F := Ideal)) (onTc (τ := Cert.Up1Ideal.τ) (Cert.Up1Ideal.main (F := Ideal))) ⟨m, fun _ => 0, g⟩ (fun r => ∀ c : Dev Cert.Up1Ideal.nD,
          r.2.mem ((c.tc : Thread Cert.Up1Ideal.nD Cert.Up1Ideal.τ).loc Cert.Up1Ideal.main_v3_0) = v0 c
          ∧ r.2.mem ((c.tc : Thread Cert.Up1Ideal.nD Cert.Up1Ideal.τ).loc Cert.Up1Ideal.main_v3_1) = v1 c
          ∧ r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
          ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ θ_run (Cert.Up1RefIdeal.defs (F := Ideal)) (onTc (τ := Cert.Up1RefIdeal.τ) (Cert.Up1RefIdeal.main (F := Ideal))) ⟨m', fun _ => 0, g'⟩ (fun r => ∀ c : Dev Cert.Up1RefIdeal.nD,
          r.2.mem ((c.tc : Thread Cert.Up1RefIdeal.nD Cert.Up1RefIdeal.τ).loc Cert.Up1RefIdeal.main_v4) = v0 c
          ∧ r.2.mem ((c.tc : Thread Cert.Up1RefIdeal.nD Cert.Up1RefIdeal.τ).loc Cert.Up1RefIdeal.main_v7) = v1 c
          ∧ r.2.mem ((c.tc : Thread Cert.Up1RefIdeal.nD Cert.Up1RefIdeal.τ).loc Cert.Up1RefIdeal.main_arg0) = m' ((c.tc : Thread Cert.Up1RefIdeal.nD Cert.Up1RefIdeal.τ).loc Cert.Up1RefIdeal.main_arg0)
          ∧ r.2.mem ((c.tc : Thread Cert.Up1RefIdeal.nD Cert.Up1RefIdeal.τ).loc Cert.Up1RefIdeal.main_arg1) = m' ((c.tc : Thread Cert.Up1RefIdeal.nD Cert.Up1RefIdeal.τ).loc Cert.Up1RefIdeal.main_arg1))

def preserves_Down1_Down1Ideal : Prop :=
  True

def algebraic_Down1Ideal_Down1RefIdeal [hDown1Ideal : Cert.Down1Ideal.Facts] [hDown1RefIdeal : Cert.Down1RefIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1RefIdeal.nD Cert.Down1RefIdeal.τ Cert.Down1RefIdeal.sig) → Buf (Elt Ideal) ℓ) (g' : Dev Cert.Down1RefIdeal.nD → PrngReg), Pre_Down1Ideal m →
    (∀ c : Dev Cert.Down1Ideal.nD,
      m' ((c.tc : Thread Cert.Down1RefIdeal.nD Cert.Down1RefIdeal.τ).loc Cert.Down1RefIdeal.main_arg0) = m ((c.tc : Thread Cert.Down1Ideal.nD Cert.Down1Ideal.τ).loc Cert.Down1Ideal.main_arg0)
      ∧ m' ((c.tc : Thread Cert.Down1RefIdeal.nD Cert.Down1RefIdeal.τ).loc Cert.Down1RefIdeal.main_arg1) = m ((c.tc : Thread Cert.Down1Ideal.nD Cert.Down1Ideal.τ).loc Cert.Down1Ideal.main_arg1)) →
    ∃ (v0 : (c : Dev Cert.Down1Ideal.nD) → Buf (Elt Ideal) ((c.tc : Thread Cert.Down1Ideal.nD Cert.Down1Ideal.τ).loc Cert.Down1Ideal.main_v4)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v4) = v0 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1))
      ∧ θ_run (Cert.Down1RefIdeal.defs (F := Ideal)) (onTc (τ := Cert.Down1RefIdeal.τ) (Cert.Down1RefIdeal.main (F := Ideal))) ⟨m', fun _ => 0, g'⟩ (fun r => ∀ c : Dev Cert.Down1RefIdeal.nD,
          r.2.mem ((c.tc : Thread Cert.Down1RefIdeal.nD Cert.Down1RefIdeal.τ).loc Cert.Down1RefIdeal.main_v3) = v0 c
          ∧ r.2.mem ((c.tc : Thread Cert.Down1RefIdeal.nD Cert.Down1RefIdeal.τ).loc Cert.Down1RefIdeal.main_arg0) = m' ((c.tc : Thread Cert.Down1RefIdeal.nD Cert.Down1RefIdeal.τ).loc Cert.Down1RefIdeal.main_arg0)
          ∧ r.2.mem ((c.tc : Thread Cert.Down1RefIdeal.nD Cert.Down1RefIdeal.τ).loc Cert.Down1RefIdeal.main_arg1) = m' ((c.tc : Thread Cert.Down1RefIdeal.nD Cert.Down1RefIdeal.τ).loc Cert.Down1RefIdeal.main_arg1))

def preserves_DownDx1_DownDx1Ideal : Prop :=
  True

def algebraic_DownDx1Ideal_DownDx1RefIdeal [hDownDx1Ideal : Cert.DownDx1Ideal.Facts] [hDownDx1RefIdeal : Cert.DownDx1RefIdeal.Facts] : Prop :=
  ∀ (m : (ℓ : Loc Cert.DownDx1Ideal.nD Cert.DownDx1Ideal.τ Cert.DownDx1Ideal.sig) → Buf (Elt Ideal) ℓ) (g : Dev Cert.DownDx1Ideal.nD → PrngReg)
    (m' : (ℓ : Loc Cert.DownDx1RefIdeal.nD Cert.DownDx1RefIdeal.τ Cert.DownDx1RefIdeal.sig) → Buf (Elt Ideal) ℓ) (g' : Dev Cert.DownDx1RefIdeal.nD → PrngReg), Pre_DownDx1Ideal m →
    (∀ c : Dev Cert.DownDx1Ideal.nD,
      m' ((c.tc : Thread Cert.DownDx1RefIdeal.nD Cert.DownDx1RefIdeal.τ).loc Cert.DownDx1RefIdeal.main_arg0) = m ((c.tc : Thread Cert.DownDx1Ideal.nD Cert.DownDx1Ideal.τ).loc Cert.DownDx1Ideal.main_arg0)
      ∧ m' ((c.tc : Thread Cert.DownDx1RefIdeal.nD Cert.DownDx1RefIdeal.τ).loc Cert.DownDx1RefIdeal.main_arg1) = m ((c.tc : Thread Cert.DownDx1Ideal.nD Cert.DownDx1Ideal.τ).loc Cert.DownDx1Ideal.main_arg1)
      ∧ m' ((c.tc : Thread Cert.DownDx1RefIdeal.nD Cert.DownDx1RefIdeal.τ).loc Cert.DownDx1RefIdeal.main_arg2) = m ((c.tc : Thread Cert.DownDx1Ideal.nD Cert.DownDx1Ideal.τ).loc Cert.DownDx1Ideal.main_arg2)) →
    ∃ (v0 : (c : Dev Cert.DownDx1Ideal.nD) → Buf (Elt Ideal) ((c.tc : Thread Cert.DownDx1Ideal.nD Cert.DownDx1Ideal.τ).loc Cert.DownDx1Ideal.main_v4)),
      θ_run (Cert.DownDx1Ideal.defs (F := Ideal)) (onTc (τ := Cert.DownDx1Ideal.τ) (Cert.DownDx1Ideal.main (F := Ideal))) ⟨m, fun _ => 0, g⟩ (fun r => ∀ c : Dev Cert.DownDx1Ideal.nD,
          r.2.mem ((c.tc : Thread Cert.DownDx1Ideal.nD Cert.DownDx1Ideal.τ).loc Cert.DownDx1Ideal.main_v4) = v0 c
          ∧ r.2.mem ((c.tc : Thread Cert.DownDx1Ideal.nD Cert.DownDx1Ideal.τ).loc Cert.DownDx1Ideal.main_arg0) = m ((c.tc : Thread Cert.DownDx1Ideal.nD Cert.DownDx1Ideal.τ).loc Cert.DownDx1Ideal.main_arg0)
          ∧ r.2.mem ((c.tc : Thread Cert.DownDx1Ideal.nD Cert.DownDx1Ideal.τ).loc Cert.DownDx1Ideal.main_arg1) = m ((c.tc : Thread Cert.DownDx1Ideal.nD Cert.DownDx1Ideal.τ).loc Cert.DownDx1Ideal.main_arg1)
          ∧ r.2.mem ((c.tc : Thread Cert.DownDx1Ideal.nD Cert.DownDx1Ideal.τ).loc Cert.DownDx1Ideal.main_arg2) = m ((c.tc : Thread Cert.DownDx1Ideal.nD Cert.DownDx1Ideal.τ).loc Cert.DownDx1Ideal.main_arg2))
      ∧ θ_run (Cert.DownDx1RefIdeal.defs (F := Ideal)) (onTc (τ := Cert.DownDx1RefIdeal.τ) (Cert.DownDx1RefIdeal.main (F := Ideal))) ⟨m', fun _ => 0, g'⟩ (fun r => ∀ c : Dev Cert.DownDx1RefIdeal.nD,
          r.2.mem ((c.tc : Thread Cert.DownDx1RefIdeal.nD Cert.DownDx1RefIdeal.τ).loc Cert.DownDx1RefIdeal.main_v16) = v0 c
          ∧ r.2.mem ((c.tc : Thread Cert.DownDx1RefIdeal.nD Cert.DownDx1RefIdeal.τ).loc Cert.DownDx1RefIdeal.main_arg0) = m' ((c.tc : Thread Cert.DownDx1RefIdeal.nD Cert.DownDx1RefIdeal.τ).loc Cert.DownDx1RefIdeal.main_arg0)
          ∧ r.2.mem ((c.tc : Thread Cert.DownDx1RefIdeal.nD Cert.DownDx1RefIdeal.τ).loc Cert.DownDx1RefIdeal.main_arg1) = m' ((c.tc : Thread Cert.DownDx1RefIdeal.nD Cert.DownDx1RefIdeal.τ).loc Cert.DownDx1RefIdeal.main_arg1)
          ∧ r.2.mem ((c.tc : Thread Cert.DownDx1RefIdeal.nD Cert.DownDx1RefIdeal.τ).loc Cert.DownDx1RefIdeal.main_arg2) = m' ((c.tc : Thread Cert.DownDx1RefIdeal.nD Cert.DownDx1RefIdeal.τ).loc Cert.DownDx1RefIdeal.main_arg2))

def preserves_DownDw1_DownDw1Ideal : Prop :=
  True

def algebraic_DownDw1Ideal_DownDw1RefIdeal [hDownDw1Ideal : Cert.DownDw1Ideal.Facts] [hDownDw1RefIdeal : Cert.DownDw1RefIdeal.Facts] : Prop :=
  ∀ (m : (ℓ : Loc Cert.DownDw1Ideal.nD Cert.DownDw1Ideal.τ Cert.DownDw1Ideal.sig) → Buf (Elt Ideal) ℓ) (g : Dev Cert.DownDw1Ideal.nD → PrngReg)
    (m' : (ℓ : Loc Cert.DownDw1RefIdeal.nD Cert.DownDw1RefIdeal.τ Cert.DownDw1RefIdeal.sig) → Buf (Elt Ideal) ℓ) (g' : Dev Cert.DownDw1RefIdeal.nD → PrngReg), Pre_DownDw1Ideal m →
    (∀ c : Dev Cert.DownDw1Ideal.nD,
      m' ((c.tc : Thread Cert.DownDw1RefIdeal.nD Cert.DownDw1RefIdeal.τ).loc Cert.DownDw1RefIdeal.main_arg0) = m ((c.tc : Thread Cert.DownDw1Ideal.nD Cert.DownDw1Ideal.τ).loc Cert.DownDw1Ideal.main_arg0)
      ∧ m' ((c.tc : Thread Cert.DownDw1RefIdeal.nD Cert.DownDw1RefIdeal.τ).loc Cert.DownDw1RefIdeal.main_arg1) = m ((c.tc : Thread Cert.DownDw1Ideal.nD Cert.DownDw1Ideal.τ).loc Cert.DownDw1Ideal.main_arg1)
      ∧ m' ((c.tc : Thread Cert.DownDw1RefIdeal.nD Cert.DownDw1RefIdeal.τ).loc Cert.DownDw1RefIdeal.main_arg2) = m ((c.tc : Thread Cert.DownDw1Ideal.nD Cert.DownDw1Ideal.τ).loc Cert.DownDw1Ideal.main_arg2)) →
    ∃ (v0 : (c : Dev Cert.DownDw1Ideal.nD) → Buf (Elt Ideal) ((c.tc : Thread Cert.DownDw1Ideal.nD Cert.DownDw1Ideal.τ).loc Cert.DownDw1Ideal.main_v5)),
      θ_run (Cert.DownDw1Ideal.defs (F := Ideal)) (onTc (τ := Cert.DownDw1Ideal.τ) (Cert.DownDw1Ideal.main (F := Ideal))) ⟨m, fun _ => 0, g⟩ (fun r => ∀ c : Dev Cert.DownDw1Ideal.nD,
          r.2.mem ((c.tc : Thread Cert.DownDw1Ideal.nD Cert.DownDw1Ideal.τ).loc Cert.DownDw1Ideal.main_v5) = v0 c
          ∧ r.2.mem ((c.tc : Thread Cert.DownDw1Ideal.nD Cert.DownDw1Ideal.τ).loc Cert.DownDw1Ideal.main_arg0) = m ((c.tc : Thread Cert.DownDw1Ideal.nD Cert.DownDw1Ideal.τ).loc Cert.DownDw1Ideal.main_arg0)
          ∧ r.2.mem ((c.tc : Thread Cert.DownDw1Ideal.nD Cert.DownDw1Ideal.τ).loc Cert.DownDw1Ideal.main_arg1) = m ((c.tc : Thread Cert.DownDw1Ideal.nD Cert.DownDw1Ideal.τ).loc Cert.DownDw1Ideal.main_arg1)
          ∧ r.2.mem ((c.tc : Thread Cert.DownDw1Ideal.nD Cert.DownDw1Ideal.τ).loc Cert.DownDw1Ideal.main_arg2) = m ((c.tc : Thread Cert.DownDw1Ideal.nD Cert.DownDw1Ideal.τ).loc Cert.DownDw1Ideal.main_arg2))
      ∧ θ_run (Cert.DownDw1RefIdeal.defs (F := Ideal)) (onTc (τ := Cert.DownDw1RefIdeal.τ) (Cert.DownDw1RefIdeal.main (F := Ideal))) ⟨m', fun _ => 0, g'⟩ (fun r => ∀ c : Dev Cert.DownDw1RefIdeal.nD,
          r.2.mem ((c.tc : Thread Cert.DownDw1RefIdeal.nD Cert.DownDw1RefIdeal.τ).loc Cert.DownDw1RefIdeal.main_v10) = v0 c
          ∧ r.2.mem ((c.tc : Thread Cert.DownDw1RefIdeal.nD Cert.DownDw1RefIdeal.τ).loc Cert.DownDw1RefIdeal.main_arg0) = m' ((c.tc : Thread Cert.DownDw1RefIdeal.nD Cert.DownDw1RefIdeal.τ).loc Cert.DownDw1RefIdeal.main_arg0)
          ∧ r.2.mem ((c.tc : Thread Cert.DownDw1RefIdeal.nD Cert.DownDw1RefIdeal.τ).loc Cert.DownDw1RefIdeal.main_arg1) = m' ((c.tc : Thread Cert.DownDw1RefIdeal.nD Cert.DownDw1RefIdeal.τ).loc Cert.DownDw1RefIdeal.main_arg1)
          ∧ r.2.mem ((c.tc : Thread Cert.DownDw1RefIdeal.nD Cert.DownDw1RefIdeal.τ).loc Cert.DownDw1RefIdeal.main_arg2) = m' ((c.tc : Thread Cert.DownDw1RefIdeal.nD Cert.DownDw1RefIdeal.τ).loc Cert.DownDw1RefIdeal.main_arg2))

def preserves_UpDx1_UpDx1Ideal : Prop :=
  True

def algebraic_UpDx1Ideal_UpDx1RefIdeal [hUpDx1Ideal : Cert.UpDx1Ideal.Facts] [hUpDx1RefIdeal : Cert.UpDx1RefIdeal.Facts] : Prop :=
  ∀ (m : (ℓ : Loc Cert.UpDx1Ideal.nD Cert.UpDx1Ideal.τ Cert.UpDx1Ideal.sig) → Buf (Elt Ideal) ℓ) (g : Dev Cert.UpDx1Ideal.nD → PrngReg)
    (m' : (ℓ : Loc Cert.UpDx1RefIdeal.nD Cert.UpDx1RefIdeal.τ Cert.UpDx1RefIdeal.sig) → Buf (Elt Ideal) ℓ) (g' : Dev Cert.UpDx1RefIdeal.nD → PrngReg), Pre_UpDx1Ideal m →
    (∀ c : Dev Cert.UpDx1Ideal.nD,
      m' ((c.tc : Thread Cert.UpDx1RefIdeal.nD Cert.UpDx1RefIdeal.τ).loc Cert.UpDx1RefIdeal.main_arg0) = m ((c.tc : Thread Cert.UpDx1Ideal.nD Cert.UpDx1Ideal.τ).loc Cert.UpDx1Ideal.main_arg0)
      ∧ m' ((c.tc : Thread Cert.UpDx1RefIdeal.nD Cert.UpDx1RefIdeal.τ).loc Cert.UpDx1RefIdeal.main_arg1) = m ((c.tc : Thread Cert.UpDx1Ideal.nD Cert.UpDx1Ideal.τ).loc Cert.UpDx1Ideal.main_arg1)) →
    ∃ (v0 : (c : Dev Cert.UpDx1Ideal.nD) → Buf (Elt Ideal) ((c.tc : Thread Cert.UpDx1Ideal.nD Cert.UpDx1Ideal.τ).loc Cert.UpDx1Ideal.main_v3)),
      θ_run (Cert.UpDx1Ideal.defs (F := Ideal)) (onTc (τ := Cert.UpDx1Ideal.τ) (Cert.UpDx1Ideal.main (F := Ideal))) ⟨m, fun _ => 0, g⟩ (fun r => ∀ c : Dev Cert.UpDx1Ideal.nD,
          r.2.mem ((c.tc : Thread Cert.UpDx1Ideal.nD Cert.UpDx1Ideal.τ).loc Cert.UpDx1Ideal.main_v3) = v0 c
          ∧ r.2.mem ((c.tc : Thread Cert.UpDx1Ideal.nD Cert.UpDx1Ideal.τ).loc Cert.UpDx1Ideal.main_arg0) = m ((c.tc : Thread Cert.UpDx1Ideal.nD Cert.UpDx1Ideal.τ).loc Cert.UpDx1Ideal.main_arg0)
          ∧ r.2.mem ((c.tc : Thread Cert.UpDx1Ideal.nD Cert.UpDx1Ideal.τ).loc Cert.UpDx1Ideal.main_arg1) = m ((c.tc : Thread Cert.UpDx1Ideal.nD Cert.UpDx1Ideal.τ).loc Cert.UpDx1Ideal.main_arg1))
      ∧ θ_run (Cert.UpDx1RefIdeal.defs (F := Ideal)) (onTc (τ := Cert.UpDx1RefIdeal.τ) (Cert.UpDx1RefIdeal.main (F := Ideal))) ⟨m', fun _ => 0, g'⟩ (fun r => ∀ c : Dev Cert.UpDx1RefIdeal.nD,
          r.2.mem ((c.tc : Thread Cert.UpDx1RefIdeal.nD Cert.UpDx1RefIdeal.τ).loc Cert.UpDx1RefIdeal.main_v5) = v0 c
          ∧ r.2.mem ((c.tc : Thread Cert.UpDx1RefIdeal.nD Cert.UpDx1RefIdeal.τ).loc Cert.UpDx1RefIdeal.main_arg0) = m' ((c.tc : Thread Cert.UpDx1RefIdeal.nD Cert.UpDx1RefIdeal.τ).loc Cert.UpDx1RefIdeal.main_arg0)
          ∧ r.2.mem ((c.tc : Thread Cert.UpDx1RefIdeal.nD Cert.UpDx1RefIdeal.τ).loc Cert.UpDx1RefIdeal.main_arg1) = m' ((c.tc : Thread Cert.UpDx1RefIdeal.nD Cert.UpDx1RefIdeal.τ).loc Cert.UpDx1RefIdeal.main_arg1))

def preserves_UpDw1_UpDw1Ideal : Prop :=
  True

def algebraic_UpDw1Ideal_UpDw1RefIdeal [hUpDw1Ideal : Cert.UpDw1Ideal.Facts] [hUpDw1RefIdeal : Cert.UpDw1RefIdeal.Facts] : Prop :=
  ∀ (m : (ℓ : Loc Cert.UpDw1Ideal.nD Cert.UpDw1Ideal.τ Cert.UpDw1Ideal.sig) → Buf (Elt Ideal) ℓ) (g : Dev Cert.UpDw1Ideal.nD → PrngReg)
    (m' : (ℓ : Loc Cert.UpDw1RefIdeal.nD Cert.UpDw1RefIdeal.τ Cert.UpDw1RefIdeal.sig) → Buf (Elt Ideal) ℓ) (g' : Dev Cert.UpDw1RefIdeal.nD → PrngReg), Pre_UpDw1Ideal m →
    (∀ c : Dev Cert.UpDw1Ideal.nD,
      m' ((c.tc : Thread Cert.UpDw1RefIdeal.nD Cert.UpDw1RefIdeal.τ).loc Cert.UpDw1RefIdeal.main_arg0) = m ((c.tc : Thread Cert.UpDw1Ideal.nD Cert.UpDw1Ideal.τ).loc Cert.UpDw1Ideal.main_arg0)
      ∧ m' ((c.tc : Thread Cert.UpDw1RefIdeal.nD Cert.UpDw1RefIdeal.τ).loc Cert.UpDw1RefIdeal.main_arg1) = m ((c.tc : Thread Cert.UpDw1Ideal.nD Cert.UpDw1Ideal.τ).loc Cert.UpDw1Ideal.main_arg1)
      ∧ m' ((c.tc : Thread Cert.UpDw1RefIdeal.nD Cert.UpDw1RefIdeal.τ).loc Cert.UpDw1RefIdeal.main_arg2) = m ((c.tc : Thread Cert.UpDw1Ideal.nD Cert.UpDw1Ideal.τ).loc Cert.UpDw1Ideal.main_arg2)) →
    ∃ (v0 : (c : Dev Cert.UpDw1Ideal.nD) → Buf (Elt Ideal) ((c.tc : Thread Cert.UpDw1Ideal.nD Cert.UpDw1Ideal.τ).loc Cert.UpDw1Ideal.main_v0)),
      θ_run (Cert.UpDw1Ideal.defs (F := Ideal)) (onTc (τ := Cert.UpDw1Ideal.τ) (Cert.UpDw1Ideal.main (F := Ideal))) ⟨m, fun _ => 0, g⟩ (fun r => ∀ c : Dev Cert.UpDw1Ideal.nD,
          r.2.mem ((c.tc : Thread Cert.UpDw1Ideal.nD Cert.UpDw1Ideal.τ).loc Cert.UpDw1Ideal.main_v0) = v0 c
          ∧ r.2.mem ((c.tc : Thread Cert.UpDw1Ideal.nD Cert.UpDw1Ideal.τ).loc Cert.UpDw1Ideal.main_arg0) = m ((c.tc : Thread Cert.UpDw1Ideal.nD Cert.UpDw1Ideal.τ).loc Cert.UpDw1Ideal.main_arg0)
          ∧ r.2.mem ((c.tc : Thread Cert.UpDw1Ideal.nD Cert.UpDw1Ideal.τ).loc Cert.UpDw1Ideal.main_arg1) = m ((c.tc : Thread Cert.UpDw1Ideal.nD Cert.UpDw1Ideal.τ).loc Cert.UpDw1Ideal.main_arg1)
          ∧ r.2.mem ((c.tc : Thread Cert.UpDw1Ideal.nD Cert.UpDw1Ideal.τ).loc Cert.UpDw1Ideal.main_arg2) = m ((c.tc : Thread Cert.UpDw1Ideal.nD Cert.UpDw1Ideal.τ).loc Cert.UpDw1Ideal.main_arg2))
      ∧ θ_run (Cert.UpDw1RefIdeal.defs (F := Ideal)) (onTc (τ := Cert.UpDw1RefIdeal.τ) (Cert.UpDw1RefIdeal.main (F := Ideal))) ⟨m', fun _ => 0, g'⟩ (fun r => ∀ c : Dev Cert.UpDw1RefIdeal.nD,
          r.2.mem ((c.tc : Thread Cert.UpDw1RefIdeal.nD Cert.UpDw1RefIdeal.τ).loc Cert.UpDw1RefIdeal.main_v9) = v0 c
          ∧ r.2.mem ((c.tc : Thread Cert.UpDw1RefIdeal.nD Cert.UpDw1RefIdeal.τ).loc Cert.UpDw1RefIdeal.main_arg0) = m' ((c.tc : Thread Cert.UpDw1RefIdeal.nD Cert.UpDw1RefIdeal.τ).loc Cert.UpDw1RefIdeal.main_arg0)
          ∧ r.2.mem ((c.tc : Thread Cert.UpDw1RefIdeal.nD Cert.UpDw1RefIdeal.τ).loc Cert.UpDw1RefIdeal.main_arg1) = m' ((c.tc : Thread Cert.UpDw1RefIdeal.nD Cert.UpDw1RefIdeal.τ).loc Cert.UpDw1RefIdeal.main_arg1)
          ∧ r.2.mem ((c.tc : Thread Cert.UpDw1RefIdeal.nD Cert.UpDw1RefIdeal.τ).loc Cert.UpDw1RefIdeal.main_arg2) = m' ((c.tc : Thread Cert.UpDw1RefIdeal.nD Cert.UpDw1RefIdeal.τ).loc Cert.UpDw1RefIdeal.main_arg2))

def preserves_InE_InEIdeal : Prop :=
  True

def algebraic_InEIdeal_InERefIdeal [hInEIdeal : Cert.InEIdeal.Facts] [hInERefIdeal : Cert.InERefIdeal.Facts] : Prop :=
  ∀ (m : (ℓ : Loc Cert.InEIdeal.nD Cert.InEIdeal.τ Cert.InEIdeal.sig) → Buf (Elt Ideal) ℓ) (g : Dev Cert.InEIdeal.nD → PrngReg)
    (m' : (ℓ : Loc Cert.InERefIdeal.nD Cert.InERefIdeal.τ Cert.InERefIdeal.sig) → Buf (Elt Ideal) ℓ) (g' : Dev Cert.InERefIdeal.nD → PrngReg), Pre_InEIdeal m →
    (∀ c : Dev Cert.InEIdeal.nD,
      m' ((c.tc : Thread Cert.InERefIdeal.nD Cert.InERefIdeal.τ).loc Cert.InERefIdeal.main_arg0) = m ((c.tc : Thread Cert.InEIdeal.nD Cert.InEIdeal.τ).loc Cert.InEIdeal.main_arg0)
      ∧ m' ((c.tc : Thread Cert.InERefIdeal.nD Cert.InERefIdeal.τ).loc Cert.InERefIdeal.main_arg1) = m ((c.tc : Thread Cert.InEIdeal.nD Cert.InEIdeal.τ).loc Cert.InEIdeal.main_arg1)) →
    ∃ (v0 : (c : Dev Cert.InEIdeal.nD) → Buf (Elt Ideal) ((c.tc : Thread Cert.InEIdeal.nD Cert.InEIdeal.τ).loc Cert.InEIdeal.main_v2)),
      θ_run (Cert.InEIdeal.defs (F := Ideal)) (onTc (τ := Cert.InEIdeal.τ) (Cert.InEIdeal.main (F := Ideal))) ⟨m, fun _ => 0, g⟩ (fun r => ∀ c : Dev Cert.InEIdeal.nD,
          r.2.mem ((c.tc : Thread Cert.InEIdeal.nD Cert.InEIdeal.τ).loc Cert.InEIdeal.main_v2) = v0 c
          ∧ r.2.mem ((c.tc : Thread Cert.InEIdeal.nD Cert.InEIdeal.τ).loc Cert.InEIdeal.main_arg0) = m ((c.tc : Thread Cert.InEIdeal.nD Cert.InEIdeal.τ).loc Cert.InEIdeal.main_arg0)
          ∧ r.2.mem ((c.tc : Thread Cert.InEIdeal.nD Cert.InEIdeal.τ).loc Cert.InEIdeal.main_arg1) = m ((c.tc : Thread Cert.InEIdeal.nD Cert.InEIdeal.τ).loc Cert.InEIdeal.main_arg1))
      ∧ θ_run (Cert.InERefIdeal.defs (F := Ideal)) (onTc (τ := Cert.InERefIdeal.τ) (Cert.InERefIdeal.main (F := Ideal))) ⟨m', fun _ => 0, g'⟩ (fun r => ∀ c : Dev Cert.InERefIdeal.nD,
          r.2.mem ((c.tc : Thread Cert.InERefIdeal.nD Cert.InERefIdeal.τ).loc Cert.InERefIdeal.main_v2) = v0 c
          ∧ r.2.mem ((c.tc : Thread Cert.InERefIdeal.nD Cert.InERefIdeal.τ).loc Cert.InERefIdeal.main_arg0) = m' ((c.tc : Thread Cert.InERefIdeal.nD Cert.InERefIdeal.τ).loc Cert.InERefIdeal.main_arg0)
          ∧ r.2.mem ((c.tc : Thread Cert.InERefIdeal.nD Cert.InERefIdeal.τ).loc Cert.InERefIdeal.main_arg1) = m' ((c.tc : Thread Cert.InERefIdeal.nD Cert.InERefIdeal.τ).loc Cert.InERefIdeal.main_arg1))

def preserves_InEDx_InEDxIdeal : Prop :=
  True

def algebraic_InEDxIdeal_InEDxRefIdeal [hInEDxIdeal : Cert.InEDxIdeal.Facts] [hInEDxRefIdeal : Cert.InEDxRefIdeal.Facts] : Prop :=
  ∀ (m : (ℓ : Loc Cert.InEDxIdeal.nD Cert.InEDxIdeal.τ Cert.InEDxIdeal.sig) → Buf (Elt Ideal) ℓ) (g : Dev Cert.InEDxIdeal.nD → PrngReg)
    (m' : (ℓ : Loc Cert.InEDxRefIdeal.nD Cert.InEDxRefIdeal.τ Cert.InEDxRefIdeal.sig) → Buf (Elt Ideal) ℓ) (g' : Dev Cert.InEDxRefIdeal.nD → PrngReg), Pre_InEDxIdeal m →
    (∀ c : Dev Cert.InEDxIdeal.nD,
      m' ((c.tc : Thread Cert.InEDxRefIdeal.nD Cert.InEDxRefIdeal.τ).loc Cert.InEDxRefIdeal.main_arg0) = m ((c.tc : Thread Cert.InEDxIdeal.nD Cert.InEDxIdeal.τ).loc Cert.InEDxIdeal.main_arg0)
      ∧ m' ((c.tc : Thread Cert.InEDxRefIdeal.nD Cert.InEDxRefIdeal.τ).loc Cert.InEDxRefIdeal.main_arg1) = m ((c.tc : Thread Cert.InEDxIdeal.nD Cert.InEDxIdeal.τ).loc Cert.InEDxIdeal.main_arg1)) →
    ∃ (v0 : (c : Dev Cert.InEDxIdeal.nD) → Buf (Elt Ideal) ((c.tc : Thread Cert.InEDxIdeal.nD Cert.InEDxIdeal.τ).loc Cert.InEDxIdeal.main_v2)),
      θ_run (Cert.InEDxIdeal.defs (F := Ideal)) (onTc (τ := Cert.InEDxIdeal.τ) (Cert.InEDxIdeal.main (F := Ideal))) ⟨m, fun _ => 0, g⟩ (fun r => ∀ c : Dev Cert.InEDxIdeal.nD,
          r.2.mem ((c.tc : Thread Cert.InEDxIdeal.nD Cert.InEDxIdeal.τ).loc Cert.InEDxIdeal.main_v2) = v0 c
          ∧ r.2.mem ((c.tc : Thread Cert.InEDxIdeal.nD Cert.InEDxIdeal.τ).loc Cert.InEDxIdeal.main_arg0) = m ((c.tc : Thread Cert.InEDxIdeal.nD Cert.InEDxIdeal.τ).loc Cert.InEDxIdeal.main_arg0)
          ∧ r.2.mem ((c.tc : Thread Cert.InEDxIdeal.nD Cert.InEDxIdeal.τ).loc Cert.InEDxIdeal.main_arg1) = m ((c.tc : Thread Cert.InEDxIdeal.nD Cert.InEDxIdeal.τ).loc Cert.InEDxIdeal.main_arg1))
      ∧ θ_run (Cert.InEDxRefIdeal.defs (F := Ideal)) (onTc (τ := Cert.InEDxRefIdeal.τ) (Cert.InEDxRefIdeal.main (F := Ideal))) ⟨m', fun _ => 0, g'⟩ (fun r => ∀ c : Dev Cert.InEDxRefIdeal.nD,
          r.2.mem ((c.tc : Thread Cert.InEDxRefIdeal.nD Cert.InEDxRefIdeal.τ).loc Cert.InEDxRefIdeal.main_v4) = v0 c
          ∧ r.2.mem ((c.tc : Thread Cert.InEDxRefIdeal.nD Cert.InEDxRefIdeal.τ).loc Cert.InEDxRefIdeal.main_arg0) = m' ((c.tc : Thread Cert.InEDxRefIdeal.nD Cert.InEDxRefIdeal.τ).loc Cert.InEDxRefIdeal.main_arg0)
          ∧ r.2.mem ((c.tc : Thread Cert.InEDxRefIdeal.nD Cert.InEDxRefIdeal.τ).loc Cert.InEDxRefIdeal.main_arg1) = m' ((c.tc : Thread Cert.InEDxRefIdeal.nD Cert.InEDxRefIdeal.τ).loc Cert.InEDxRefIdeal.main_arg1))

def preserves_InEDw_InEDwIdeal : Prop :=
  True

def algebraic_InEDwIdeal_InEDwRefIdeal [hInEDwIdeal : Cert.InEDwIdeal.Facts] [hInEDwRefIdeal : Cert.InEDwRefIdeal.Facts] : Prop :=
  ∀ (m : (ℓ : Loc Cert.InEDwIdeal.nD Cert.InEDwIdeal.τ Cert.InEDwIdeal.sig) → Buf (Elt Ideal) ℓ) (g : Dev Cert.InEDwIdeal.nD → PrngReg)
    (m' : (ℓ : Loc Cert.InEDwRefIdeal.nD Cert.InEDwRefIdeal.τ Cert.InEDwRefIdeal.sig) → Buf (Elt Ideal) ℓ) (g' : Dev Cert.InEDwRefIdeal.nD → PrngReg), Pre_InEDwIdeal m →
    (∀ c : Dev Cert.InEDwIdeal.nD,
      m' ((c.tc : Thread Cert.InEDwRefIdeal.nD Cert.InEDwRefIdeal.τ).loc Cert.InEDwRefIdeal.main_arg0) = m ((c.tc : Thread Cert.InEDwIdeal.nD Cert.InEDwIdeal.τ).loc Cert.InEDwIdeal.main_arg0)
      ∧ m' ((c.tc : Thread Cert.InEDwRefIdeal.nD Cert.InEDwRefIdeal.τ).loc Cert.InEDwRefIdeal.main_arg1) = m ((c.tc : Thread Cert.InEDwIdeal.nD Cert.InEDwIdeal.τ).loc Cert.InEDwIdeal.main_arg1)) →
    ∃ (v0 : (c : Dev Cert.InEDwIdeal.nD) → Buf (Elt Ideal) ((c.tc : Thread Cert.InEDwIdeal.nD Cert.InEDwIdeal.τ).loc Cert.InEDwIdeal.main_v0)),
      θ_run (Cert.InEDwIdeal.defs (F := Ideal)) (onTc (τ := Cert.InEDwIdeal.τ) (Cert.InEDwIdeal.main (F := Ideal))) ⟨m, fun _ => 0, g⟩ (fun r => ∀ c : Dev Cert.InEDwIdeal.nD,
          r.2.mem ((c.tc : Thread Cert.InEDwIdeal.nD Cert.InEDwIdeal.τ).loc Cert.InEDwIdeal.main_v0) = v0 c
          ∧ r.2.mem ((c.tc : Thread Cert.InEDwIdeal.nD Cert.InEDwIdeal.τ).loc Cert.InEDwIdeal.main_arg0) = m ((c.tc : Thread Cert.InEDwIdeal.nD Cert.InEDwIdeal.τ).loc Cert.InEDwIdeal.main_arg0)
          ∧ r.2.mem ((c.tc : Thread Cert.InEDwIdeal.nD Cert.InEDwIdeal.τ).loc Cert.InEDwIdeal.main_arg1) = m ((c.tc : Thread Cert.InEDwIdeal.nD Cert.InEDwIdeal.τ).loc Cert.InEDwIdeal.main_arg1))
      ∧ θ_run (Cert.InEDwRefIdeal.defs (F := Ideal)) (onTc (τ := Cert.InEDwRefIdeal.τ) (Cert.InEDwRefIdeal.main (F := Ideal))) ⟨m', fun _ => 0, g'⟩ (fun r => ∀ c : Dev Cert.InEDwRefIdeal.nD,
          r.2.mem ((c.tc : Thread Cert.InEDwRefIdeal.nD Cert.InEDwRefIdeal.τ).loc Cert.InEDwRefIdeal.main_v5) = v0 c
          ∧ r.2.mem ((c.tc : Thread Cert.InEDwRefIdeal.nD Cert.InEDwRefIdeal.τ).loc Cert.InEDwRefIdeal.main_arg0) = m' ((c.tc : Thread Cert.InEDwRefIdeal.nD Cert.InEDwRefIdeal.τ).loc Cert.InEDwRefIdeal.main_arg0)
          ∧ r.2.mem ((c.tc : Thread Cert.InEDwRefIdeal.nD Cert.InEDwRefIdeal.τ).loc Cert.InEDwRefIdeal.main_arg1) = m' ((c.tc : Thread Cert.InEDwRefIdeal.nD Cert.InEDwRefIdeal.τ).loc Cert.InEDwRefIdeal.main_arg1))

def preserves_InO_InOIdeal : Prop :=
  True

def algebraic_InOIdeal_InORefIdeal [hInOIdeal : Cert.InOIdeal.Facts] [hInORefIdeal : Cert.InORefIdeal.Facts] : Prop :=
  ∀ (m : (ℓ : Loc Cert.InOIdeal.nD Cert.InOIdeal.τ Cert.InOIdeal.sig) → Buf (Elt Ideal) ℓ) (g : Dev Cert.InOIdeal.nD → PrngReg)
    (m' : (ℓ : Loc Cert.InORefIdeal.nD Cert.InORefIdeal.τ Cert.InORefIdeal.sig) → Buf (Elt Ideal) ℓ) (g' : Dev Cert.InORefIdeal.nD → PrngReg), Pre_InOIdeal m →
    (∀ c : Dev Cert.InOIdeal.nD,
      m' ((c.tc : Thread Cert.InORefIdeal.nD Cert.InORefIdeal.τ).loc Cert.InORefIdeal.main_arg0) = m ((c.tc : Thread Cert.InOIdeal.nD Cert.InOIdeal.τ).loc Cert.InOIdeal.main_arg0)
      ∧ m' ((c.tc : Thread Cert.InORefIdeal.nD Cert.InORefIdeal.τ).loc Cert.InORefIdeal.main_arg1) = m ((c.tc : Thread Cert.InOIdeal.nD Cert.InOIdeal.τ).loc Cert.InOIdeal.main_arg1)) →
    ∃ (v0 : (c : Dev Cert.InOIdeal.nD) → Buf (Elt Ideal) ((c.tc : Thread Cert.InOIdeal.nD Cert.InOIdeal.τ).loc Cert.InOIdeal.main_v4)),
      θ_run (Cert.InOIdeal.defs (F := Ideal)) (onTc (τ := Cert.InOIdeal.τ) (Cert.InOIdeal.main (F := Ideal))) ⟨m, fun _ => 0, g⟩ (fun r => ∀ c : Dev Cert.InOIdeal.nD,
          r.2.mem ((c.tc : Thread Cert.InOIdeal.nD Cert.InOIdeal.τ).loc Cert.InOIdeal.main_v4) = v0 c
          ∧ r.2.mem ((c.tc : Thread Cert.InOIdeal.nD Cert.InOIdeal.τ).loc Cert.InOIdeal.main_arg0) = m ((c.tc : Thread Cert.InOIdeal.nD Cert.InOIdeal.τ).loc Cert.InOIdeal.main_arg0)
          ∧ r.2.mem ((c.tc : Thread Cert.InOIdeal.nD Cert.InOIdeal.τ).loc Cert.InOIdeal.main_arg1) = m ((c.tc : Thread Cert.InOIdeal.nD Cert.InOIdeal.τ).loc Cert.InOIdeal.main_arg1))
      ∧ θ_run (Cert.InORefIdeal.defs (F := Ideal)) (onTc (τ := Cert.InORefIdeal.τ) (Cert.InORefIdeal.main (F := Ideal))) ⟨m', fun _ => 0, g'⟩ (fun r => ∀ c : Dev Cert.InORefIdeal.nD,
          r.2.mem ((c.tc : Thread Cert.InORefIdeal.nD Cert.InORefIdeal.τ).loc Cert.InORefIdeal.main_v4) = v0 c
          ∧ r.2.mem ((c.tc : Thread Cert.InORefIdeal.nD Cert.InORefIdeal.τ).loc Cert.InORefIdeal.main_arg0) = m' ((c.tc : Thread Cert.InORefIdeal.nD Cert.InORefIdeal.τ).loc Cert.InORefIdeal.main_arg0)
          ∧ r.2.mem ((c.tc : Thread Cert.InORefIdeal.nD Cert.InORefIdeal.τ).loc Cert.InORefIdeal.main_arg1) = m' ((c.tc : Thread Cert.InORefIdeal.nD Cert.InORefIdeal.τ).loc Cert.InORefIdeal.main_arg1))

def preserves_InODx_InODxIdeal : Prop :=
  True

def algebraic_InODxIdeal_InODxRefIdeal [hInODxIdeal : Cert.InODxIdeal.Facts] [hInODxRefIdeal : Cert.InODxRefIdeal.Facts] : Prop :=
  ∀ (m : (ℓ : Loc Cert.InODxIdeal.nD Cert.InODxIdeal.τ Cert.InODxIdeal.sig) → Buf (Elt Ideal) ℓ) (g : Dev Cert.InODxIdeal.nD → PrngReg)
    (m' : (ℓ : Loc Cert.InODxRefIdeal.nD Cert.InODxRefIdeal.τ Cert.InODxRefIdeal.sig) → Buf (Elt Ideal) ℓ) (g' : Dev Cert.InODxRefIdeal.nD → PrngReg), Pre_InODxIdeal m →
    (∀ c : Dev Cert.InODxIdeal.nD,
      m' ((c.tc : Thread Cert.InODxRefIdeal.nD Cert.InODxRefIdeal.τ).loc Cert.InODxRefIdeal.main_arg0) = m ((c.tc : Thread Cert.InODxIdeal.nD Cert.InODxIdeal.τ).loc Cert.InODxIdeal.main_arg0)
      ∧ m' ((c.tc : Thread Cert.InODxRefIdeal.nD Cert.InODxRefIdeal.τ).loc Cert.InODxRefIdeal.main_arg1) = m ((c.tc : Thread Cert.InODxIdeal.nD Cert.InODxIdeal.τ).loc Cert.InODxIdeal.main_arg1)) →
    ∃ (v0 : (c : Dev Cert.InODxIdeal.nD) → Buf (Elt Ideal) ((c.tc : Thread Cert.InODxIdeal.nD Cert.InODxIdeal.τ).loc Cert.InODxIdeal.main_v4)),
      θ_run (Cert.InODxIdeal.defs (F := Ideal)) (onTc (τ := Cert.InODxIdeal.τ) (Cert.InODxIdeal.main (F := Ideal))) ⟨m, fun _ => 0, g⟩ (fun r => ∀ c : Dev Cert.InODxIdeal.nD,
          r.2.mem ((c.tc : Thread Cert.InODxIdeal.nD Cert.InODxIdeal.τ).loc Cert.InODxIdeal.main_v4) = v0 c
          ∧ r.2.mem ((c.tc : Thread Cert.InODxIdeal.nD Cert.InODxIdeal.τ).loc Cert.InODxIdeal.main_arg0) = m ((c.tc : Thread Cert.InODxIdeal.nD Cert.InODxIdeal.τ).loc Cert.InODxIdeal.main_arg0)
          ∧ r.2.mem ((c.tc : Thread Cert.InODxIdeal.nD Cert.InODxIdeal.τ).loc Cert.InODxIdeal.main_arg1) = m ((c.tc : Thread Cert.InODxIdeal.nD Cert.InODxIdeal.τ).loc Cert.InODxIdeal.main_arg1))
      ∧ θ_run (Cert.InODxRefIdeal.defs (F := Ideal)) (onTc (τ := Cert.InODxRefIdeal.τ) (Cert.InODxRefIdeal.main (F := Ideal))) ⟨m', fun _ => 0, g'⟩ (fun r => ∀ c : Dev Cert.InODxRefIdeal.nD,
          r.2.mem ((c.tc : Thread Cert.InODxRefIdeal.nD Cert.InODxRefIdeal.τ).loc Cert.InODxRefIdeal.main_v6) = v0 c
          ∧ r.2.mem ((c.tc : Thread Cert.InODxRefIdeal.nD Cert.InODxRefIdeal.τ).loc Cert.InODxRefIdeal.main_arg0) = m' ((c.tc : Thread Cert.InODxRefIdeal.nD Cert.InODxRefIdeal.τ).loc Cert.InODxRefIdeal.main_arg0)
          ∧ r.2.mem ((c.tc : Thread Cert.InODxRefIdeal.nD Cert.InODxRefIdeal.τ).loc Cert.InODxRefIdeal.main_arg1) = m' ((c.tc : Thread Cert.InODxRefIdeal.nD Cert.InODxRefIdeal.τ).loc Cert.InODxRefIdeal.main_arg1))

def preserves_InODw_InODwIdeal : Prop :=
  True

def algebraic_InODwIdeal_InODwRefIdeal [hInODwIdeal : Cert.InODwIdeal.Facts] [hInODwRefIdeal : Cert.InODwRefIdeal.Facts] : Prop :=
  ∀ (m : (ℓ : Loc Cert.InODwIdeal.nD Cert.InODwIdeal.τ Cert.InODwIdeal.sig) → Buf (Elt Ideal) ℓ) (g : Dev Cert.InODwIdeal.nD → PrngReg)
    (m' : (ℓ : Loc Cert.InODwRefIdeal.nD Cert.InODwRefIdeal.τ Cert.InODwRefIdeal.sig) → Buf (Elt Ideal) ℓ) (g' : Dev Cert.InODwRefIdeal.nD → PrngReg), Pre_InODwIdeal m →
    (∀ c : Dev Cert.InODwIdeal.nD,
      m' ((c.tc : Thread Cert.InODwRefIdeal.nD Cert.InODwRefIdeal.τ).loc Cert.InODwRefIdeal.main_arg0) = m ((c.tc : Thread Cert.InODwIdeal.nD Cert.InODwIdeal.τ).loc Cert.InODwIdeal.main_arg0)
      ∧ m' ((c.tc : Thread Cert.InODwRefIdeal.nD Cert.InODwRefIdeal.τ).loc Cert.InODwRefIdeal.main_arg1) = m ((c.tc : Thread Cert.InODwIdeal.nD Cert.InODwIdeal.τ).loc Cert.InODwIdeal.main_arg1)) →
    ∃ (v0 : (c : Dev Cert.InODwIdeal.nD) → Buf (Elt Ideal) ((c.tc : Thread Cert.InODwIdeal.nD Cert.InODwIdeal.τ).loc Cert.InODwIdeal.main_v0)),
      θ_run (Cert.InODwIdeal.defs (F := Ideal)) (onTc (τ := Cert.InODwIdeal.τ) (Cert.InODwIdeal.main (F := Ideal))) ⟨m, fun _ => 0, g⟩ (fun r => ∀ c : Dev Cert.InODwIdeal.nD,
          r.2.mem ((c.tc : Thread Cert.InODwIdeal.nD Cert.InODwIdeal.τ).loc Cert.InODwIdeal.main_v0) = v0 c
          ∧ r.2.mem ((c.tc : Thread Cert.InODwIdeal.nD Cert.InODwIdeal.τ).loc Cert.InODwIdeal.main_arg0) = m ((c.tc : Thread Cert.InODwIdeal.nD Cert.InODwIdeal.τ).loc Cert.InODwIdeal.main_arg0)
          ∧ r.2.mem ((c.tc : Thread Cert.InODwIdeal.nD Cert.InODwIdeal.τ).loc Cert.InODwIdeal.main_arg1) = m ((c.tc : Thread Cert.InODwIdeal.nD Cert.InODwIdeal.τ).loc Cert.InODwIdeal.main_arg1))
      ∧ θ_run (Cert.InODwRefIdeal.defs (F := Ideal)) (onTc (τ := Cert.InODwRefIdeal.τ) (Cert.InODwRefIdeal.main (F := Ideal))) ⟨m', fun _ => 0, g'⟩ (fun r => ∀ c : Dev Cert.InODwRefIdeal.nD,
          r.2.mem ((c.tc : Thread Cert.InODwRefIdeal.nD Cert.InODwRefIdeal.τ).loc Cert.InODwRefIdeal.main_v5) = v0 c
          ∧ r.2.mem ((c.tc : Thread Cert.InODwRefIdeal.nD Cert.InODwRefIdeal.τ).loc Cert.InODwRefIdeal.main_arg0) = m' ((c.tc : Thread Cert.InODwRefIdeal.nD Cert.InODwRefIdeal.τ).loc Cert.InODwRefIdeal.main_arg0)
          ∧ r.2.mem ((c.tc : Thread Cert.InODwRefIdeal.nD Cert.InODwRefIdeal.τ).loc Cert.InODwRefIdeal.main_arg1) = m' ((c.tc : Thread Cert.InODwRefIdeal.nD Cert.InODwRefIdeal.τ).loc Cert.InODwRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v0) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v1)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v1) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v3) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v4) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v23) = v0 c
          ∧ r.2.mem ((c.tc : Thread Cert.AdamMlpRefIdeal.nD Cert.AdamMlpRefIdeal.τ).loc Cert.AdamMlpRefIdeal.main_v4) = v1 c
          ∧ r.2.mem ((c.tc : Thread Cert.AdamMlpRefIdeal.nD Cert.AdamMlpRefIdeal.τ).loc Cert.AdamMlpRefIdeal.main_v10) = v2 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3))

def preserves_AdamInE_AdamInEIdeal : Prop :=
  True

def algebraic_AdamInEIdeal_AdamInERefIdeal [hAdamInEIdeal : Cert.AdamInEIdeal.Facts] [hAdamInERefIdeal : Cert.AdamInERefIdeal.Facts] : Prop :=
  ∀ (m : (ℓ : Loc Cert.AdamInEIdeal.nD Cert.AdamInEIdeal.τ Cert.AdamInEIdeal.sig) → Buf (Elt Ideal) ℓ) (g : Dev Cert.AdamInEIdeal.nD → PrngReg)
    (m' : (ℓ : Loc Cert.AdamInERefIdeal.nD Cert.AdamInERefIdeal.τ Cert.AdamInERefIdeal.sig) → Buf (Elt Ideal) ℓ) (g' : Dev Cert.AdamInERefIdeal.nD → PrngReg), Pre_AdamInEIdeal m →
    (∀ c : Dev Cert.AdamInEIdeal.nD,
      m' ((c.tc : Thread Cert.AdamInERefIdeal.nD Cert.AdamInERefIdeal.τ).loc Cert.AdamInERefIdeal.main_arg0) = m ((c.tc : Thread Cert.AdamInEIdeal.nD Cert.AdamInEIdeal.τ).loc Cert.AdamInEIdeal.main_arg0)
      ∧ m' ((c.tc : Thread Cert.AdamInERefIdeal.nD Cert.AdamInERefIdeal.τ).loc Cert.AdamInERefIdeal.main_arg1) = m ((c.tc : Thread Cert.AdamInEIdeal.nD Cert.AdamInEIdeal.τ).loc Cert.AdamInEIdeal.main_arg1)
      ∧ m' ((c.tc : Thread Cert.AdamInERefIdeal.nD Cert.AdamInERefIdeal.τ).loc Cert.AdamInERefIdeal.main_arg2) = m ((c.tc : Thread Cert.AdamInEIdeal.nD Cert.AdamInEIdeal.τ).loc Cert.AdamInEIdeal.main_arg2)
      ∧ m' ((c.tc : Thread Cert.AdamInERefIdeal.nD Cert.AdamInERefIdeal.τ).loc Cert.AdamInERefIdeal.main_arg3) = m ((c.tc : Thread Cert.AdamInEIdeal.nD Cert.AdamInEIdeal.τ).loc Cert.AdamInEIdeal.main_arg3)) →
    ∃ (v0 : (c : Dev Cert.AdamInEIdeal.nD) → Buf (Elt Ideal) ((c.tc : Thread Cert.AdamInEIdeal.nD Cert.AdamInEIdeal.τ).loc Cert.AdamInEIdeal.main_v0_0)) (v1 : (c : Dev Cert.AdamInEIdeal.nD) → Buf (Elt Ideal) ((c.tc : Thread Cert.AdamInEIdeal.nD Cert.AdamInEIdeal.τ).loc Cert.AdamInEIdeal.main_v0_1)) (v2 : (c : Dev Cert.AdamInEIdeal.nD) → Buf (Elt Ideal) ((c.tc : Thread Cert.AdamInEIdeal.nD Cert.AdamInEIdeal.τ).loc Cert.AdamInEIdeal.main_v0_2)),
      θ_run (Cert.AdamInEIdeal.defs (F := Ideal)) (onTc (τ := Cert.AdamInEIdeal.τ) (Cert.AdamInEIdeal.main (F := Ideal))) ⟨m, fun _ => 0, g⟩ (fun r => ∀ c : Dev Cert.AdamInEIdeal.nD,
          r.2.mem ((c.tc : Thread Cert.AdamInEIdeal.nD Cert.AdamInEIdeal.τ).loc Cert.AdamInEIdeal.main_v0_0) = v0 c
          ∧ r.2.mem ((c.tc : Thread Cert.AdamInEIdeal.nD Cert.AdamInEIdeal.τ).loc Cert.AdamInEIdeal.main_v0_1) = v1 c
          ∧ r.2.mem ((c.tc : Thread Cert.AdamInEIdeal.nD Cert.AdamInEIdeal.τ).loc Cert.AdamInEIdeal.main_v0_2) = v2 c
          ∧ r.2.mem ((c.tc : Thread Cert.AdamInEIdeal.nD Cert.AdamInEIdeal.τ).loc Cert.AdamInEIdeal.main_arg0) = m ((c.tc : Thread Cert.AdamInEIdeal.nD Cert.AdamInEIdeal.τ).loc Cert.AdamInEIdeal.main_arg0)
          ∧ r.2.mem ((c.tc : Thread Cert.AdamInEIdeal.nD Cert.AdamInEIdeal.τ).loc Cert.AdamInEIdeal.main_arg1) = m ((c.tc : Thread Cert.AdamInEIdeal.nD Cert.AdamInEIdeal.τ).loc Cert.AdamInEIdeal.main_arg1)
          ∧ r.2.mem ((c.tc : Thread Cert.AdamInEIdeal.nD Cert.AdamInEIdeal.τ).loc Cert.AdamInEIdeal.main_arg2) = m ((c.tc : Thread Cert.AdamInEIdeal.nD Cert.AdamInEIdeal.τ).loc Cert.AdamInEIdeal.main_arg2)
          ∧ r.2.mem ((c.tc : Thread Cert.AdamInEIdeal.nD Cert.AdamInEIdeal.τ).loc Cert.AdamInEIdeal.main_arg3) = m ((c.tc : Thread Cert.AdamInEIdeal.nD Cert.AdamInEIdeal.τ).loc Cert.AdamInEIdeal.main_arg3))
      ∧ θ_run (Cert.AdamInERefIdeal.defs (F := Ideal)) (onTc (τ := Cert.AdamInERefIdeal.τ) (Cert.AdamInERefIdeal.main (F := Ideal))) ⟨m', fun _ => 0, g'⟩ (fun r => ∀ c : Dev Cert.AdamInERefIdeal.nD,
          r.2.mem ((c.tc : Thread Cert.AdamInERefIdeal.nD Cert.AdamInERefIdeal.τ).loc Cert.AdamInERefIdeal.main_v23) = v0 c
          ∧ r.2.mem ((c.tc : Thread Cert.AdamInERefIdeal.nD Cert.AdamInERefIdeal.τ).loc Cert.AdamInERefIdeal.main_v4) = v1 c
          ∧ r.2.mem ((c.tc : Thread Cert.AdamInERefIdeal.nD Cert.AdamInERefIdeal.τ).loc Cert.AdamInERefIdeal.main_v10) = v2 c
          ∧ r.2.mem ((c.tc : Thread Cert.AdamInERefIdeal.nD Cert.AdamInERefIdeal.τ).loc Cert.AdamInERefIdeal.main_arg0) = m' ((c.tc : Thread Cert.AdamInERefIdeal.nD Cert.AdamInERefIdeal.τ).loc Cert.AdamInERefIdeal.main_arg0)
          ∧ r.2.mem ((c.tc : Thread Cert.AdamInERefIdeal.nD Cert.AdamInERefIdeal.τ).loc Cert.AdamInERefIdeal.main_arg1) = m' ((c.tc : Thread Cert.AdamInERefIdeal.nD Cert.AdamInERefIdeal.τ).loc Cert.AdamInERefIdeal.main_arg1)
          ∧ r.2.mem ((c.tc : Thread Cert.AdamInERefIdeal.nD Cert.AdamInERefIdeal.τ).loc Cert.AdamInERefIdeal.main_arg2) = m' ((c.tc : Thread Cert.AdamInERefIdeal.nD Cert.AdamInERefIdeal.τ).loc Cert.AdamInERefIdeal.main_arg2)
          ∧ r.2.mem ((c.tc : Thread Cert.AdamInERefIdeal.nD Cert.AdamInERefIdeal.τ).loc Cert.AdamInERefIdeal.main_arg3) = m' ((c.tc : Thread Cert.AdamInERefIdeal.nD Cert.AdamInERefIdeal.τ).loc Cert.AdamInERefIdeal.main_arg3))

def preserves_AdamInO_AdamInOIdeal : Prop :=
  True

def algebraic_AdamInOIdeal_AdamInORefIdeal [hAdamInOIdeal : Cert.AdamInOIdeal.Facts] [hAdamInORefIdeal : Cert.AdamInORefIdeal.Facts] : Prop :=
  ∀ (m : (ℓ : Loc Cert.AdamInOIdeal.nD Cert.AdamInOIdeal.τ Cert.AdamInOIdeal.sig) → Buf (Elt Ideal) ℓ) (g : Dev Cert.AdamInOIdeal.nD → PrngReg)
    (m' : (ℓ : Loc Cert.AdamInORefIdeal.nD Cert.AdamInORefIdeal.τ Cert.AdamInORefIdeal.sig) → Buf (Elt Ideal) ℓ) (g' : Dev Cert.AdamInORefIdeal.nD → PrngReg), Pre_AdamInOIdeal m →
    (∀ c : Dev Cert.AdamInOIdeal.nD,
      m' ((c.tc : Thread Cert.AdamInORefIdeal.nD Cert.AdamInORefIdeal.τ).loc Cert.AdamInORefIdeal.main_arg0) = m ((c.tc : Thread Cert.AdamInOIdeal.nD Cert.AdamInOIdeal.τ).loc Cert.AdamInOIdeal.main_arg0)
      ∧ m' ((c.tc : Thread Cert.AdamInORefIdeal.nD Cert.AdamInORefIdeal.τ).loc Cert.AdamInORefIdeal.main_arg1) = m ((c.tc : Thread Cert.AdamInOIdeal.nD Cert.AdamInOIdeal.τ).loc Cert.AdamInOIdeal.main_arg1)
      ∧ m' ((c.tc : Thread Cert.AdamInORefIdeal.nD Cert.AdamInORefIdeal.τ).loc Cert.AdamInORefIdeal.main_arg2) = m ((c.tc : Thread Cert.AdamInOIdeal.nD Cert.AdamInOIdeal.τ).loc Cert.AdamInOIdeal.main_arg2)
      ∧ m' ((c.tc : Thread Cert.AdamInORefIdeal.nD Cert.AdamInORefIdeal.τ).loc Cert.AdamInORefIdeal.main_arg3) = m ((c.tc : Thread Cert.AdamInOIdeal.nD Cert.AdamInOIdeal.τ).loc Cert.AdamInOIdeal.main_arg3)) →
    ∃ (v0 : (c : Dev Cert.AdamInOIdeal.nD) → Buf (Elt Ideal) ((c.tc : Thread Cert.AdamInOIdeal.nD Cert.AdamInOIdeal.τ).loc Cert.AdamInOIdeal.main_v0_0)) (v1 : (c : Dev Cert.AdamInOIdeal.nD) → Buf (Elt Ideal) ((c.tc : Thread Cert.AdamInOIdeal.nD Cert.AdamInOIdeal.τ).loc Cert.AdamInOIdeal.main_v0_1)) (v2 : (c : Dev Cert.AdamInOIdeal.nD) → Buf (Elt Ideal) ((c.tc : Thread Cert.AdamInOIdeal.nD Cert.AdamInOIdeal.τ).loc Cert.AdamInOIdeal.main_v0_2)),
      θ_run (Cert.AdamInOIdeal.defs (F := Ideal)) (onTc (τ := Cert.AdamInOIdeal.τ) (Cert.AdamInOIdeal.main (F := Ideal))) ⟨m, fun _ => 0, g⟩ (fun r => ∀ c : Dev Cert.AdamInOIdeal.nD,
          r.2.mem ((c.tc : Thread Cert.AdamInOIdeal.nD Cert.AdamInOIdeal.τ).loc Cert.AdamInOIdeal.main_v0_0) = v0 c
          ∧ r.2.mem ((c.tc : Thread Cert.AdamInOIdeal.nD Cert.AdamInOIdeal.τ).loc Cert.AdamInOIdeal.main_v0_1) = v1 c
          ∧ r.2.mem ((c.tc : Thread Cert.AdamInOIdeal.nD Cert.AdamInOIdeal.τ).loc Cert.AdamInOIdeal.main_v0_2) = v2 c
          ∧ r.2.mem ((c.tc : Thread Cert.AdamInOIdeal.nD Cert.AdamInOIdeal.τ).loc Cert.AdamInOIdeal.main_arg0) = m ((c.tc : Thread Cert.AdamInOIdeal.nD Cert.AdamInOIdeal.τ).loc Cert.AdamInOIdeal.main_arg0)
          ∧ r.2.mem ((c.tc : Thread Cert.AdamInOIdeal.nD Cert.AdamInOIdeal.τ).loc Cert.AdamInOIdeal.main_arg1) = m ((c.tc : Thread Cert.AdamInOIdeal.nD Cert.AdamInOIdeal.τ).loc Cert.AdamInOIdeal.main_arg1)
          ∧ r.2.mem ((c.tc : Thread Cert.AdamInOIdeal.nD Cert.AdamInOIdeal.τ).loc Cert.AdamInOIdeal.main_arg2) = m ((c.tc : Thread Cert.AdamInOIdeal.nD Cert.AdamInOIdeal.τ).loc Cert.AdamInOIdeal.main_arg2)
          ∧ r.2.mem ((c.tc : Thread Cert.AdamInOIdeal.nD Cert.AdamInOIdeal.τ).loc Cert.AdamInOIdeal.main_arg3) = m ((c.tc : Thread Cert.AdamInOIdeal.nD Cert.AdamInOIdeal.τ).loc Cert.AdamInOIdeal.main_arg3))
      ∧ θ_run (Cert.AdamInORefIdeal.defs (F := Ideal)) (onTc (τ := Cert.AdamInORefIdeal.τ) (Cert.AdamInORefIdeal.main (F := Ideal))) ⟨m', fun _ => 0, g'⟩ (fun r => ∀ c : Dev Cert.AdamInORefIdeal.nD,
          r.2.mem ((c.tc : Thread Cert.AdamInORefIdeal.nD Cert.AdamInORefIdeal.τ).loc Cert.AdamInORefIdeal.main_v23) = v0 c
          ∧ r.2.mem ((c.tc : Thread Cert.AdamInORefIdeal.nD Cert.AdamInORefIdeal.τ).loc Cert.AdamInORefIdeal.main_v4) = v1 c
          ∧ r.2.mem ((c.tc : Thread Cert.AdamInORefIdeal.nD Cert.AdamInORefIdeal.τ).loc Cert.AdamInORefIdeal.main_v10) = v2 c
          ∧ r.2.mem ((c.tc : Thread Cert.AdamInORefIdeal.nD Cert.AdamInORefIdeal.τ).loc Cert.AdamInORefIdeal.main_arg0) = m' ((c.tc : Thread Cert.AdamInORefIdeal.nD Cert.AdamInORefIdeal.τ).loc Cert.AdamInORefIdeal.main_arg0)
          ∧ r.2.mem ((c.tc : Thread Cert.AdamInORefIdeal.nD Cert.AdamInORefIdeal.τ).loc Cert.AdamInORefIdeal.main_arg1) = m' ((c.tc : Thread Cert.AdamInORefIdeal.nD Cert.AdamInORefIdeal.τ).loc Cert.AdamInORefIdeal.main_arg1)
          ∧ r.2.mem ((c.tc : Thread Cert.AdamInORefIdeal.nD Cert.AdamInORefIdeal.τ).loc Cert.AdamInORefIdeal.main_arg2) = m' ((c.tc : Thread Cert.AdamInORefIdeal.nD Cert.AdamInORefIdeal.τ).loc Cert.AdamInORefIdeal.main_arg2)
          ∧ r.2.mem ((c.tc : Thread Cert.AdamInORefIdeal.nD Cert.AdamInORefIdeal.τ).loc Cert.AdamInORefIdeal.main_arg3) = m' ((c.tc : Thread Cert.AdamInORefIdeal.nD Cert.AdamInORefIdeal.τ).loc Cert.AdamInORefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamVec_AdamVecIdeal : Prop :=
  True

def algebraic_AdamVecIdeal_AdamVecRefIdeal [hAdamVecIdeal : Cert.AdamVecIdeal.Facts] [hAdamVecRefIdeal : Cert.AdamVecRefIdeal.Facts] : Prop :=
  ∀ (m : (ℓ : Loc Cert.AdamVecIdeal.nD Cert.AdamVecIdeal.τ Cert.AdamVecIdeal.sig) → Buf (Elt Ideal) ℓ) (g : Dev Cert.AdamVecIdeal.nD → PrngReg)
    (m' : (ℓ : Loc Cert.AdamVecRefIdeal.nD Cert.AdamVecRefIdeal.τ Cert.AdamVecRefIdeal.sig) → Buf (Elt Ideal) ℓ) (g' : Dev Cert.AdamVecRefIdeal.nD → PrngReg), Pre_AdamVecIdeal m →
    (∀ c : Dev Cert.AdamVecIdeal.nD,
      m' ((c.tc : Thread Cert.AdamVecRefIdeal.nD Cert.AdamVecRefIdeal.τ).loc Cert.AdamVecRefIdeal.main_arg0) = m ((c.tc : Thread Cert.AdamVecIdeal.nD Cert.AdamVecIdeal.τ).loc Cert.AdamVecIdeal.main_arg0)
      ∧ m' ((c.tc : Thread Cert.AdamVecRefIdeal.nD Cert.AdamVecRefIdeal.τ).loc Cert.AdamVecRefIdeal.main_arg1) = m ((c.tc : Thread Cert.AdamVecIdeal.nD Cert.AdamVecIdeal.τ).loc Cert.AdamVecIdeal.main_arg1)
      ∧ m' ((c.tc : Thread Cert.AdamVecRefIdeal.nD Cert.AdamVecRefIdeal.τ).loc Cert.AdamVecRefIdeal.main_arg2) = m ((c.tc : Thread Cert.AdamVecIdeal.nD Cert.AdamVecIdeal.τ).loc Cert.AdamVecIdeal.main_arg2)
      ∧ m' ((c.tc : Thread Cert.AdamVecRefIdeal.nD Cert.AdamVecRefIdeal.τ).loc Cert.AdamVecRefIdeal.main_arg3) = m ((c.tc : Thread Cert.AdamVecIdeal.nD Cert.AdamVecIdeal.τ).loc Cert.AdamVecIdeal.main_arg3)) →
    ∃ (v0 : (c : Dev Cert.AdamVecIdeal.nD) → Buf (Elt Ideal) ((c.tc : Thread Cert.AdamVecIdeal.nD Cert.AdamVecIdeal.τ).loc Cert.AdamVecIdeal.main_v0_0)) (v1 : (c : Dev Cert.AdamVecIdeal.nD) → Buf (Elt Ideal) ((c.tc : Thread Cert.AdamVecIdeal.nD Cert.AdamVecIdeal.τ).loc Cert.AdamVecIdeal.main_v0_1)) (v2 : (c : Dev Cert.AdamVecIdeal.nD) → Buf (Elt Ideal) ((c.tc : Thread Cert.AdamVecIdeal.nD Cert.AdamVecIdeal.τ).loc Cert.AdamVecIdeal.main_v0_2)),
      θ_run (Cert.AdamVecIdeal.defs (F := Ideal)) (onTc (τ := Cert.AdamVecIdeal.τ) (Cert.AdamVecIdeal.main (F := Ideal))) ⟨m, fun _ => 0, g⟩ (fun r => ∀ c : Dev Cert.AdamVecIdeal.nD,
          r.2.mem ((c.tc : Thread Cert.AdamVecIdeal.nD Cert.AdamVecIdeal.τ).loc Cert.AdamVecIdeal.main_v0_0) = v0 c
          ∧ r.2.mem ((c.tc : Thread Cert.AdamVecIdeal.nD Cert.AdamVecIdeal.τ).loc Cert.AdamVecIdeal.main_v0_1) = v1 c
          ∧ r.2.mem ((c.tc : Thread Cert.AdamVecIdeal.nD Cert.AdamVecIdeal.τ).loc Cert.AdamVecIdeal.main_v0_2) = v2 c
          ∧ r.2.mem ((c.tc : Thread Cert.AdamVecIdeal.nD Cert.AdamVecIdeal.τ).loc Cert.AdamVecIdeal.main_arg0) = m ((c.tc : Thread Cert.AdamVecIdeal.nD Cert.AdamVecIdeal.τ).loc Cert.AdamVecIdeal.main_arg0)
          ∧ r.2.mem ((c.tc : Thread Cert.AdamVecIdeal.nD Cert.AdamVecIdeal.τ).loc Cert.AdamVecIdeal.main_arg1) = m ((c.tc : Thread Cert.AdamVecIdeal.nD Cert.AdamVecIdeal.τ).loc Cert.AdamVecIdeal.main_arg1)
          ∧ r.2.mem ((c.tc : Thread Cert.AdamVecIdeal.nD Cert.AdamVecIdeal.τ).loc Cert.AdamVecIdeal.main_arg2) = m ((c.tc : Thread Cert.AdamVecIdeal.nD Cert.AdamVecIdeal.τ).loc Cert.AdamVecIdeal.main_arg2)
          ∧ r.2.mem ((c.tc : Thread Cert.AdamVecIdeal.nD Cert.AdamVecIdeal.τ).loc Cert.AdamVecIdeal.main_arg3) = m ((c.tc : Thread Cert.AdamVecIdeal.nD Cert.AdamVecIdeal.τ).loc Cert.AdamVecIdeal.main_arg3))
      ∧ θ_run (Cert.AdamVecRefIdeal.defs (F := Ideal)) (onTc (τ := Cert.AdamVecRefIdeal.τ) (Cert.AdamVecRefIdeal.main (F := Ideal))) ⟨m', fun _ => 0, g'⟩ (fun r => ∀ c : Dev Cert.AdamVecRefIdeal.nD,
          r.2.mem ((c.tc : Thread Cert.AdamVecRefIdeal.nD Cert.AdamVecRefIdeal.τ).loc Cert.AdamVecRefIdeal.main_v23) = v0 c
          ∧ r.2.mem ((c.tc : Thread Cert.AdamVecRefIdeal.nD Cert.AdamVecRefIdeal.τ).loc Cert.AdamVecRefIdeal.main_v4) = v1 c
          ∧ r.2.mem ((c.tc : Thread Cert.AdamVecRefIdeal.nD Cert.AdamVecRefIdeal.τ).loc Cert.AdamVecRefIdeal.main_v10) = v2 c
          ∧ r.2.mem ((c.tc : Thread Cert.AdamVecRefIdeal.nD Cert.AdamVecRefIdeal.τ).loc Cert.AdamVecRefIdeal.main_arg0) = m' ((c.tc : Thread Cert.AdamVecRefIdeal.nD Cert.AdamVecRefIdeal.τ).loc Cert.AdamVecRefIdeal.main_arg0)
          ∧ r.2.mem ((c.tc : Thread Cert.AdamVecRefIdeal.nD Cert.AdamVecRefIdeal.τ).loc Cert.AdamVecRefIdeal.main_arg1) = m' ((c.tc : Thread Cert.AdamVecRefIdeal.nD Cert.AdamVecRefIdeal.τ).loc Cert.AdamVecRefIdeal.main_arg1)
          ∧ r.2.mem ((c.tc : Thread Cert.AdamVecRefIdeal.nD Cert.AdamVecRefIdeal.τ).loc Cert.AdamVecRefIdeal.main_arg2) = m' ((c.tc : Thread Cert.AdamVecRefIdeal.nD Cert.AdamVecRefIdeal.τ).loc Cert.AdamVecRefIdeal.main_arg2)
          ∧ r.2.mem ((c.tc : Thread Cert.AdamVecRefIdeal.nD Cert.AdamVecRefIdeal.τ).loc Cert.AdamVecRefIdeal.main_arg3) = m' ((c.tc : Thread Cert.AdamVecRefIdeal.nD Cert.AdamVecRefIdeal.τ).loc Cert.AdamVecRefIdeal.main_arg3))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)) →
    ∃ (v0 : (c : Dev Cert.GluBwdIdeal.nD) → Buf (Elt Ideal) ((c.tc : Thread Cert.GluBwdIdeal.nD Cert.GluBwdIdeal.τ).loc Cert.GluBwdIdeal.main_v0_0)) (v1 : (c : Dev Cert.GluBwdIdeal.nD) → Buf (Elt Ideal) ((c.tc : Thread Cert.GluBwdIdeal.nD Cert.GluBwdIdeal.τ).loc Cert.GluBwdIdeal.main_v0_1)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0_0) = v0 c
          ∧ r.2.mem ((c.tc : Thread Cert.GluBwdIdeal.nD Cert.GluBwdIdeal.τ).loc Cert.GluBwdIdeal.main_v0_1) = v1 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v12) = v0 c
          ∧ r.2.mem ((c.tc : Thread Cert.GluBwdRefIdeal.nD Cert.GluBwdRefIdeal.τ).loc Cert.GluBwdRefIdeal.main_v14) = v1 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v7) = v0 c
          ∧ r.2.mem ((c.tc : Thread Cert.GateRefIdeal.nD Cert.GateRefIdeal.τ).loc Cert.GateRefIdeal.main_v9) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v34) = v0 c
          ∧ r.2.mem ((c.tc : Thread Cert.RmsRefIdeal.nD Cert.RmsRefIdeal.τ).loc Cert.RmsRefIdeal.main_v17) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_NormRes_NormResIdeal : Prop :=
  True

def algebraic_NormResIdeal_NormResRefIdeal [hNormResIdeal : Cert.NormResIdeal.Facts] [hNormResRefIdeal : Cert.NormResRefIdeal.Facts] : Prop :=
  ∀ (m : (ℓ : Loc Cert.NormResIdeal.nD Cert.NormResIdeal.τ Cert.NormResIdeal.sig) → Buf (Elt Ideal) ℓ) (g : Dev Cert.NormResIdeal.nD → PrngReg)
    (m' : (ℓ : Loc Cert.NormResRefIdeal.nD Cert.NormResRefIdeal.τ Cert.NormResRefIdeal.sig) → Buf (Elt Ideal) ℓ) (g' : Dev Cert.NormResRefIdeal.nD → PrngReg), Pre_NormResIdeal m →
    (∀ c : Dev Cert.NormResIdeal.nD,
      m' ((c.tc : Thread Cert.NormResRefIdeal.nD Cert.NormResRefIdeal.τ).loc Cert.NormResRefIdeal.main_arg0) = m ((c.tc : Thread Cert.NormResIdeal.nD Cert.NormResIdeal.τ).loc Cert.NormResIdeal.main_arg0)
      ∧ m' ((c.tc : Thread Cert.NormResRefIdeal.nD Cert.NormResRefIdeal.τ).loc Cert.NormResRefIdeal.main_arg1) = m ((c.tc : Thread Cert.NormResIdeal.nD Cert.NormResIdeal.τ).loc Cert.NormResIdeal.main_arg1)
      ∧ m' ((c.tc : Thread Cert.NormResRefIdeal.nD Cert.NormResRefIdeal.τ).loc Cert.NormResRefIdeal.main_arg2) = m ((c.tc : Thread Cert.NormResIdeal.nD Cert.NormResIdeal.τ).loc Cert.NormResIdeal.main_arg2)
      ∧ m' ((c.tc : Thread Cert.NormResRefIdeal.nD Cert.NormResRefIdeal.τ).loc Cert.NormResRefIdeal.main_arg3) = m ((c.tc : Thread Cert.NormResIdeal.nD Cert.NormResIdeal.τ).loc Cert.NormResIdeal.main_arg3)
      ∧ m' ((c.tc : Thread Cert.NormResRefIdeal.nD Cert.NormResRefIdeal.τ).loc Cert.NormResRefIdeal.main_arg4) = m ((c.tc : Thread Cert.NormResIdeal.nD Cert.NormResIdeal.τ).loc Cert.NormResIdeal.main_arg4)
      ∧ m' ((c.tc : Thread Cert.NormResRefIdeal.nD Cert.NormResRefIdeal.τ).loc Cert.NormResRefIdeal.main_arg5) = m ((c.tc : Thread Cert.NormResIdeal.nD Cert.NormResIdeal.τ).loc Cert.NormResIdeal.main_arg5)) →
    ∃ (v0 : (c : Dev Cert.NormResIdeal.nD) → Buf (Elt Ideal) ((c.tc : Thread Cert.NormResIdeal.nD Cert.NormResIdeal.τ).loc Cert.NormResIdeal.main_v0_0)) (v1 : (c : Dev Cert.NormResIdeal.nD) → Buf (Elt Ideal) ((c.tc : Thread Cert.NormResIdeal.nD Cert.NormResIdeal.τ).loc Cert.NormResIdeal.main_v0_1)) (v2 : (c : Dev Cert.NormResIdeal.nD) → Buf (Elt Ideal) ((c.tc : Thread Cert.NormResIdeal.nD Cert.NormResIdeal.τ).loc Cert.NormResIdeal.main_v0_2)) (v3 : (c : Dev Cert.NormResIdeal.nD) → Buf (Elt Ideal) ((c.tc : Thread Cert.NormResIdeal.nD Cert.NormResIdeal.τ).loc Cert.NormResIdeal.main_v0_3)),
      θ_run (Cert.NormResIdeal.defs (F := Ideal)) (onTc (τ := Cert.NormResIdeal.τ) (Cert.NormResIdeal.main (F := Ideal))) ⟨m, fun _ => 0, g⟩ (fun r => ∀ c : Dev Cert.NormResIdeal.nD,
          r.2.mem ((c.tc : Thread Cert.NormResIdeal.nD Cert.NormResIdeal.τ).loc Cert.NormResIdeal.main_v0_0) = v0 c
          ∧ r.2.mem ((c.tc : Thread Cert.NormResIdeal.nD Cert.NormResIdeal.τ).loc Cert.NormResIdeal.main_v0_1) = v1 c
          ∧ r.2.mem ((c.tc : Thread Cert.NormResIdeal.nD Cert.NormResIdeal.τ).loc Cert.NormResIdeal.main_v0_2) = v2 c
          ∧ r.2.mem ((c.tc : Thread Cert.NormResIdeal.nD Cert.NormResIdeal.τ).loc Cert.NormResIdeal.main_v0_3) = v3 c
          ∧ r.2.mem ((c.tc : Thread Cert.NormResIdeal.nD Cert.NormResIdeal.τ).loc Cert.NormResIdeal.main_arg0) = m ((c.tc : Thread Cert.NormResIdeal.nD Cert.NormResIdeal.τ).loc Cert.NormResIdeal.main_arg0)
          ∧ r.2.mem ((c.tc : Thread Cert.NormResIdeal.nD Cert.NormResIdeal.τ).loc Cert.NormResIdeal.main_arg1) = m ((c.tc : Thread Cert.NormResIdeal.nD Cert.NormResIdeal.τ).loc Cert.NormResIdeal.main_arg1)
          ∧ r.2.mem ((c.tc : Thread Cert.NormResIdeal.nD Cert.NormResIdeal.τ).loc Cert.NormResIdeal.main_arg2) = m ((c.tc : Thread Cert.NormResIdeal.nD Cert.NormResIdeal.τ).loc Cert.NormResIdeal.main_arg2)
          ∧ r.2.mem ((c.tc : Thread Cert.NormResIdeal.nD Cert.NormResIdeal.τ).loc Cert.NormResIdeal.main_arg3) = m ((c.tc : Thread Cert.NormResIdeal.nD Cert.NormResIdeal.τ).loc Cert.NormResIdeal.main_arg3)
          ∧ r.2.mem ((c.tc : Thread Cert.NormResIdeal.nD Cert.NormResIdeal.τ).loc Cert.NormResIdeal.main_arg4) = m ((c.tc : Thread Cert.NormResIdeal.nD Cert.NormResIdeal.τ).loc Cert.NormResIdeal.main_arg4)
          ∧ r.2.mem ((c.tc : Thread Cert.NormResIdeal.nD Cert.NormResIdeal.τ).loc Cert.NormResIdeal.main_arg5) = m ((c.tc : Thread Cert.NormResIdeal.nD Cert.NormResIdeal.τ).loc Cert.NormResIdeal.main_arg5))
      ∧ θ_run (Cert.NormResRefIdeal.defs (F := Ideal)) (onTc (τ := Cert.NormResRefIdeal.τ) (Cert.NormResRefIdeal.main (F := Ideal))) ⟨m', fun _ => 0, g'⟩ (fun r => ∀ c : Dev Cert.NormResRefIdeal.nD,
          r.2.mem ((c.tc : Thread Cert.NormResRefIdeal.nD Cert.NormResRefIdeal.τ).loc Cert.NormResRefIdeal.main_v34) = v0 c
          ∧ r.2.mem ((c.tc : Thread Cert.NormResRefIdeal.nD Cert.NormResRefIdeal.τ).loc Cert.NormResRefIdeal.main_v69) = v1 c
          ∧ r.2.mem ((c.tc : Thread Cert.NormResRefIdeal.nD Cert.NormResRefIdeal.τ).loc Cert.NormResRefIdeal.main_v17) = v2 c
          ∧ r.2.mem ((c.tc : Thread Cert.NormResRefIdeal.nD Cert.NormResRefIdeal.τ).loc Cert.NormResRefIdeal.main_v52) = v3 c
          ∧ r.2.mem ((c.tc : Thread Cert.NormResRefIdeal.nD Cert.NormResRefIdeal.τ).loc Cert.NormResRefIdeal.main_arg0) = m' ((c.tc : Thread Cert.NormResRefIdeal.nD Cert.NormResRefIdeal.τ).loc Cert.NormResRefIdeal.main_arg0)
          ∧ r.2.mem ((c.tc : Thread Cert.NormResRefIdeal.nD Cert.NormResRefIdeal.τ).loc Cert.NormResRefIdeal.main_arg1) = m' ((c.tc : Thread Cert.NormResRefIdeal.nD Cert.NormResRefIdeal.τ).loc Cert.NormResRefIdeal.main_arg1)
          ∧ r.2.mem ((c.tc : Thread Cert.NormResRefIdeal.nD Cert.NormResRefIdeal.τ).loc Cert.NormResRefIdeal.main_arg2) = m' ((c.tc : Thread Cert.NormResRefIdeal.nD Cert.NormResRefIdeal.τ).loc Cert.NormResRefIdeal.main_arg2)
          ∧ r.2.mem ((c.tc : Thread Cert.NormResRefIdeal.nD Cert.NormResRefIdeal.τ).loc Cert.NormResRefIdeal.main_arg3) = m' ((c.tc : Thread Cert.NormResRefIdeal.nD Cert.NormResRefIdeal.τ).loc Cert.NormResRefIdeal.main_arg3)
          ∧ r.2.mem ((c.tc : Thread Cert.NormResRefIdeal.nD Cert.NormResRefIdeal.τ).loc Cert.NormResRefIdeal.main_arg4) = m' ((c.tc : Thread Cert.NormResRefIdeal.nD Cert.NormResRefIdeal.τ).loc Cert.NormResRefIdeal.main_arg4)
          ∧ r.2.mem ((c.tc : Thread Cert.NormResRefIdeal.nD Cert.NormResRefIdeal.τ).loc Cert.NormResRefIdeal.main_arg5) = m' ((c.tc : Thread Cert.NormResRefIdeal.nD Cert.NormResRefIdeal.τ).loc Cert.NormResRefIdeal.main_arg5))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v34) = v0 c
          ∧ r.2.mem ((c.tc : Thread Cert.PostBwdRefIdeal.nD Cert.PostBwdRefIdeal.τ).loc Cert.PostBwdRefIdeal.main_v17) = v1 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)
      ∧ m' ((c.tc : Thread Cert.ResNormRefIdeal.nD Cert.ResNormRefIdeal.τ).loc Cert.ResNormRefIdeal.main_arg3) = m ((c.tc : Thread Cert.ResNormIdeal.nD Cert.ResNormIdeal.τ).loc Cert.ResNormIdeal.main_arg3)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v0_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v0_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v12) = v0 c
          ∧ r.2.mem ((c.tc : Thread Cert.ResNormRefIdeal.nD Cert.ResNormRefIdeal.τ).loc Cert.ResNormRefIdeal.main_v25) = v1 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2)
          ∧ r.2.mem ((c.tc : Thread Cert.ResNormRefIdeal.nD Cert.ResNormRefIdeal.τ).loc Cert.ResNormRefIdeal.main_arg3) = m' ((c.tc : Thread Cert.ResNormRefIdeal.nD Cert.ResNormRefIdeal.τ).loc Cert.ResNormRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v28) = v0 c
          ∧ r.2.mem ((c.tc : Thread Cert.LossRefIdeal.nD Cert.LossRefIdeal.τ).loc Cert.LossRefIdeal.main_v27) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v0)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v12) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_PoolScale_PoolScaleIdeal : Prop :=
  True

def algebraic_PoolScaleIdeal_PoolScaleRefIdeal [hPoolScaleIdeal : Cert.PoolScaleIdeal.Facts] [hPoolScaleRefIdeal : Cert.PoolScaleRefIdeal.Facts] : Prop :=
  ∀ (m : (ℓ : Loc Cert.PoolScaleIdeal.nD Cert.PoolScaleIdeal.τ Cert.PoolScaleIdeal.sig) → Buf (Elt Ideal) ℓ) (g : Dev Cert.PoolScaleIdeal.nD → PrngReg)
    (m' : (ℓ : Loc Cert.PoolScaleRefIdeal.nD Cert.PoolScaleRefIdeal.τ Cert.PoolScaleRefIdeal.sig) → Buf (Elt Ideal) ℓ) (g' : Dev Cert.PoolScaleRefIdeal.nD → PrngReg), Pre_PoolScaleIdeal m →
    (∀ c : Dev Cert.PoolScaleIdeal.nD,
      m' ((c.tc : Thread Cert.PoolScaleRefIdeal.nD Cert.PoolScaleRefIdeal.τ).loc Cert.PoolScaleRefIdeal.main_arg0) = m ((c.tc : Thread Cert.PoolScaleIdeal.nD Cert.PoolScaleIdeal.τ).loc Cert.PoolScaleIdeal.main_arg0)
      ∧ m' ((c.tc : Thread Cert.PoolScaleRefIdeal.nD Cert.PoolScaleRefIdeal.τ).loc Cert.PoolScaleRefIdeal.main_arg1) = m ((c.tc : Thread Cert.PoolScaleIdeal.nD Cert.PoolScaleIdeal.τ).loc Cert.PoolScaleIdeal.main_arg1)
      ∧ m' ((c.tc : Thread Cert.PoolScaleRefIdeal.nD Cert.PoolScaleRefIdeal.τ).loc Cert.PoolScaleRefIdeal.main_arg2) = m ((c.tc : Thread Cert.PoolScaleIdeal.nD Cert.PoolScaleIdeal.τ).loc Cert.PoolScaleIdeal.main_arg2)) →
    ∃ (v0 : (c : Dev Cert.PoolScaleIdeal.nD) → Buf (Elt Ideal) ((c.tc : Thread Cert.PoolScaleIdeal.nD Cert.PoolScaleIdeal.τ).loc Cert.PoolScaleIdeal.main_v0_0)) (v1 : (c : Dev Cert.PoolScaleIdeal.nD) → Buf (Elt Ideal) ((c.tc : Thread Cert.PoolScaleIdeal.nD Cert.PoolScaleIdeal.τ).loc Cert.PoolScaleIdeal.main_v0_1)),
      θ_run (Cert.PoolScaleIdeal.defs (F := Ideal)) (onTc (τ := Cert.PoolScaleIdeal.τ) (Cert.PoolScaleIdeal.main (F := Ideal))) ⟨m, fun _ => 0, g⟩ (fun r => ∀ c : Dev Cert.PoolScaleIdeal.nD,
          r.2.mem ((c.tc : Thread Cert.PoolScaleIdeal.nD Cert.PoolScaleIdeal.τ).loc Cert.PoolScaleIdeal.main_v0_0) = v0 c
          ∧ r.2.mem ((c.tc : Thread Cert.PoolScaleIdeal.nD Cert.PoolScaleIdeal.τ).loc Cert.PoolScaleIdeal.main_v0_1) = v1 c
          ∧ r.2.mem ((c.tc : Thread Cert.PoolScaleIdeal.nD Cert.PoolScaleIdeal.τ).loc Cert.PoolScaleIdeal.main_arg0) = m ((c.tc : Thread Cert.PoolScaleIdeal.nD Cert.PoolScaleIdeal.τ).loc Cert.PoolScaleIdeal.main_arg0)
          ∧ r.2.mem ((c.tc : Thread Cert.PoolScaleIdeal.nD Cert.PoolScaleIdeal.τ).loc Cert.PoolScaleIdeal.main_arg1) = m ((c.tc : Thread Cert.PoolScaleIdeal.nD Cert.PoolScaleIdeal.τ).loc Cert.PoolScaleIdeal.main_arg1)
          ∧ r.2.mem ((c.tc : Thread Cert.PoolScaleIdeal.nD Cert.PoolScaleIdeal.τ).loc Cert.PoolScaleIdeal.main_arg2) = m ((c.tc : Thread Cert.PoolScaleIdeal.nD Cert.PoolScaleIdeal.τ).loc Cert.PoolScaleIdeal.main_arg2))
      ∧ θ_run (Cert.PoolScaleRefIdeal.defs (F := Ideal)) (onTc (τ := Cert.PoolScaleRefIdeal.τ) (Cert.PoolScaleRefIdeal.main (F := Ideal))) ⟨m', fun _ => 0, g'⟩ (fun r => ∀ c : Dev Cert.PoolScaleRefIdeal.nD,
          r.2.mem ((c.tc : Thread Cert.PoolScaleRefIdeal.nD Cert.PoolScaleRefIdeal.τ).loc Cert.PoolScaleRefIdeal.main_v8) = v0 c
          ∧ r.2.mem ((c.tc : Thread Cert.PoolScaleRefIdeal.nD Cert.PoolScaleRefIdeal.τ).loc Cert.PoolScaleRefIdeal.main_v5) = v1 c
          ∧ r.2.mem ((c.tc : Thread Cert.PoolScaleRefIdeal.nD Cert.PoolScaleRefIdeal.τ).loc Cert.PoolScaleRefIdeal.main_arg0) = m' ((c.tc : Thread Cert.PoolScaleRefIdeal.nD Cert.PoolScaleRefIdeal.τ).loc Cert.PoolScaleRefIdeal.main_arg0)
          ∧ r.2.mem ((c.tc : Thread Cert.PoolScaleRefIdeal.nD Cert.PoolScaleRefIdeal.τ).loc Cert.PoolScaleRefIdeal.main_arg1) = m' ((c.tc : Thread Cert.PoolScaleRefIdeal.nD Cert.PoolScaleRefIdeal.τ).loc Cert.PoolScaleRefIdeal.main_arg1)
          ∧ r.2.mem ((c.tc : Thread Cert.PoolScaleRefIdeal.nD Cert.PoolScaleRefIdeal.τ).loc Cert.PoolScaleRefIdeal.main_arg2) = m' ((c.tc : Thread Cert.PoolScaleRefIdeal.nD Cert.PoolScaleRefIdeal.τ).loc Cert.PoolScaleRefIdeal.main_arg2))

def preserves_S5Out_S5OutIdeal : Prop :=
  True

def algebraic_S5OutIdeal_S5OutRefIdeal [hS5OutIdeal : Cert.S5OutIdeal.Facts] [hS5OutRefIdeal : Cert.S5OutRefIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutRefIdeal.nD Cert.S5OutRefIdeal.τ Cert.S5OutRefIdeal.sig) → Buf (Elt Ideal) ℓ) (g' : Dev Cert.S5OutRefIdeal.nD → PrngReg), Pre_S5OutIdeal m →
    (∀ c : Dev Cert.S5OutIdeal.nD,
      m' ((c.tc : Thread Cert.S5OutRefIdeal.nD Cert.S5OutRefIdeal.τ).loc Cert.S5OutRefIdeal.main_arg0) = m ((c.tc : Thread Cert.S5OutIdeal.nD Cert.S5OutIdeal.τ).loc Cert.S5OutIdeal.main_arg0)
      ∧ m' ((c.tc : Thread Cert.S5OutRefIdeal.nD Cert.S5OutRefIdeal.τ).loc Cert.S5OutRefIdeal.main_arg1) = m ((c.tc : Thread Cert.S5OutIdeal.nD Cert.S5OutIdeal.τ).loc Cert.S5OutIdeal.main_arg1)
      ∧ m' ((c.tc : Thread Cert.S5OutRefIdeal.nD Cert.S5OutRefIdeal.τ).loc Cert.S5OutRefIdeal.main_arg2) = m ((c.tc : Thread Cert.S5OutIdeal.nD Cert.S5OutIdeal.τ).loc Cert.S5OutIdeal.main_arg2)) →
    ∃ (v0 : (c : Dev Cert.S5OutIdeal.nD) → Buf (Elt Ideal) ((c.tc : Thread Cert.S5OutIdeal.nD Cert.S5OutIdeal.τ).loc Cert.S5OutIdeal.main_v0_0)) (v1 : (c : Dev Cert.S5OutIdeal.nD) → Buf (Elt Ideal) ((c.tc : Thread Cert.S5OutIdeal.nD Cert.S5OutIdeal.τ).loc Cert.S5OutIdeal.main_v0_1)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v0_0) = v0 c
          ∧ r.2.mem ((c.tc : Thread Cert.S5OutIdeal.nD Cert.S5OutIdeal.τ).loc Cert.S5OutIdeal.main_v0_1) = v1 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2))
      ∧ θ_run (Cert.S5OutRefIdeal.defs (F := Ideal)) (onTc (τ := Cert.S5OutRefIdeal.τ) (Cert.S5OutRefIdeal.main (F := Ideal))) ⟨m', fun _ => 0, g'⟩ (fun r => ∀ c : Dev Cert.S5OutRefIdeal.nD,
          r.2.mem ((c.tc : Thread Cert.S5OutRefIdeal.nD Cert.S5OutRefIdeal.τ).loc Cert.S5OutRefIdeal.main_v3) = v0 c
          ∧ r.2.mem ((c.tc : Thread Cert.S5OutRefIdeal.nD Cert.S5OutRefIdeal.τ).loc Cert.S5OutRefIdeal.main_v16) = v1 c
          ∧ r.2.mem ((c.tc : Thread Cert.S5OutRefIdeal.nD Cert.S5OutRefIdeal.τ).loc Cert.S5OutRefIdeal.main_arg0) = m' ((c.tc : Thread Cert.S5OutRefIdeal.nD Cert.S5OutRefIdeal.τ).loc Cert.S5OutRefIdeal.main_arg0)
          ∧ r.2.mem ((c.tc : Thread Cert.S5OutRefIdeal.nD Cert.S5OutRefIdeal.τ).loc Cert.S5OutRefIdeal.main_arg1) = m' ((c.tc : Thread Cert.S5OutRefIdeal.nD Cert.S5OutRefIdeal.τ).loc Cert.S5OutRefIdeal.main_arg1)
          ∧ r.2.mem ((c.tc : Thread Cert.S5OutRefIdeal.nD Cert.S5OutRefIdeal.τ).loc Cert.S5OutRefIdeal.main_arg2) = m' ((c.tc : Thread Cert.S5OutRefIdeal.nD Cert.S5OutRefIdeal.τ).loc Cert.S5OutRefIdeal.main_arg2))

def preserves_S5Du_S5DuIdeal : Prop :=
  True

def algebraic_S5DuIdeal_S5DuRefIdeal [hS5DuIdeal : Cert.S5DuIdeal.Facts] [hS5DuRefIdeal : Cert.S5DuRefIdeal.Facts] : Prop :=
  ∀ (m : (ℓ : Loc Cert.S5DuIdeal.nD Cert.S5DuIdeal.τ Cert.S5DuIdeal.sig) → Buf (Elt Ideal) ℓ) (g : Dev Cert.S5DuIdeal.nD → PrngReg)
    (m' : (ℓ : Loc Cert.S5DuRefIdeal.nD Cert.S5DuRefIdeal.τ Cert.S5DuRefIdeal.sig) → Buf (Elt Ideal) ℓ) (g' : Dev Cert.S5DuRefIdeal.nD → PrngReg), Pre_S5DuIdeal m →
    (∀ c : Dev Cert.S5DuIdeal.nD,
      m' ((c.tc : Thread Cert.S5DuRefIdeal.nD Cert.S5DuRefIdeal.τ).loc Cert.S5DuRefIdeal.main_arg0) = m ((c.tc : Thread Cert.S5DuIdeal.nD Cert.S5DuIdeal.τ).loc Cert.S5DuIdeal.main_arg0)
      ∧ m' ((c.tc : Thread Cert.S5DuRefIdeal.nD Cert.S5DuRefIdeal.τ).loc Cert.S5DuRefIdeal.main_arg1) = m ((c.tc : Thread Cert.S5DuIdeal.nD Cert.S5DuIdeal.τ).loc Cert.S5DuIdeal.main_arg1)) →
    ∃ (v0 : (c : Dev Cert.S5DuIdeal.nD) → Buf (Elt Ideal) ((c.tc : Thread Cert.S5DuIdeal.nD Cert.S5DuIdeal.τ).loc Cert.S5DuIdeal.main_v0)),
      θ_run (Cert.S5DuIdeal.defs (F := Ideal)) (onTc (τ := Cert.S5DuIdeal.τ) (Cert.S5DuIdeal.main (F := Ideal))) ⟨m, fun _ => 0, g⟩ (fun r => ∀ c : Dev Cert.S5DuIdeal.nD,
          r.2.mem ((c.tc : Thread Cert.S5DuIdeal.nD Cert.S5DuIdeal.τ).loc Cert.S5DuIdeal.main_v0) = v0 c
          ∧ r.2.mem ((c.tc : Thread Cert.S5DuIdeal.nD Cert.S5DuIdeal.τ).loc Cert.S5DuIdeal.main_arg0) = m ((c.tc : Thread Cert.S5DuIdeal.nD Cert.S5DuIdeal.τ).loc Cert.S5DuIdeal.main_arg0)
          ∧ r.2.mem ((c.tc : Thread Cert.S5DuIdeal.nD Cert.S5DuIdeal.τ).loc Cert.S5DuIdeal.main_arg1) = m ((c.tc : Thread Cert.S5DuIdeal.nD Cert.S5DuIdeal.τ).loc Cert.S5DuIdeal.main_arg1))
      ∧ θ_run (Cert.S5DuRefIdeal.defs (F := Ideal)) (onTc (τ := Cert.S5DuRefIdeal.τ) (Cert.S5DuRefIdeal.main (F := Ideal))) ⟨m', fun _ => 0, g'⟩ (fun r => ∀ c : Dev Cert.S5DuRefIdeal.nD,
          r.2.mem ((c.tc : Thread Cert.S5DuRefIdeal.nD Cert.S5DuRefIdeal.τ).loc Cert.S5DuRefIdeal.main_v0) = v0 c
          ∧ r.2.mem ((c.tc : Thread Cert.S5DuRefIdeal.nD Cert.S5DuRefIdeal.τ).loc Cert.S5DuRefIdeal.main_arg0) = m' ((c.tc : Thread Cert.S5DuRefIdeal.nD Cert.S5DuRefIdeal.τ).loc Cert.S5DuRefIdeal.main_arg0)
          ∧ r.2.mem ((c.tc : Thread Cert.S5DuRefIdeal.nD Cert.S5DuRefIdeal.τ).loc Cert.S5DuRefIdeal.main_arg1) = m' ((c.tc : Thread Cert.S5DuRefIdeal.nD Cert.S5DuRefIdeal.τ).loc Cert.S5DuRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v6) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v12)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v12) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v4) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1))

def preserves_PoolDx_PoolDxIdeal : Prop :=
  True

def algebraic_PoolDxIdeal_PoolDxRefIdeal [hPoolDxIdeal : Cert.PoolDxIdeal.Facts] [hPoolDxRefIdeal : Cert.PoolDxRefIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg)
    (m' : (ℓ : Loc Cert.PoolDxRefIdeal.nD Cert.PoolDxRefIdeal.τ Cert.PoolDxRefIdeal.sig) → Buf (Elt Ideal) ℓ) (g' : Dev Cert.PoolDxRefIdeal.nD → PrngReg), Pre_PoolDxIdeal m →
    (∀ c : Dev Cert.PoolDxIdeal.nD,
      m' ((c.tc : Thread Cert.PoolDxRefIdeal.nD Cert.PoolDxRefIdeal.τ).loc Cert.PoolDxRefIdeal.main_arg0) = m ((c.tc : Thread Cert.PoolDxIdeal.nD Cert.PoolDxIdeal.τ).loc Cert.PoolDxIdeal.main_arg0)
      ∧ m' ((c.tc : Thread Cert.PoolDxRefIdeal.nD Cert.PoolDxRefIdeal.τ).loc Cert.PoolDxRefIdeal.main_arg1) = m ((c.tc : Thread Cert.PoolDxIdeal.nD Cert.PoolDxIdeal.τ).loc Cert.PoolDxIdeal.main_arg1)) →
    ∃ (v0 : (c : Dev Cert.PoolDxIdeal.nD) → Buf (Elt Ideal) ((c.tc : Thread Cert.PoolDxIdeal.nD Cert.PoolDxIdeal.τ).loc Cert.PoolDxIdeal.main_v12)),
      θ_run (Cert.PoolDxIdeal.defs (F := Ideal)) (onTc (τ := Cert.PoolDxIdeal.τ) (Cert.PoolDxIdeal.main (F := Ideal))) ⟨m, fun _ => 0, g⟩ (fun r => ∀ c : Dev Cert.PoolDxIdeal.nD,
          r.2.mem ((c.tc : Thread Cert.PoolDxIdeal.nD Cert.PoolDxIdeal.τ).loc Cert.PoolDxIdeal.main_v12) = v0 c
          ∧ r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
          ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ θ_run (Cert.PoolDxRefIdeal.defs (F := Ideal)) (onTc (τ := Cert.PoolDxRefIdeal.τ) (Cert.PoolDxRefIdeal.main (F := Ideal))) ⟨m', fun _ => 0, g'⟩ (fun r => ∀ c : Dev Cert.PoolDxRefIdeal.nD,
          r.2.mem ((c.tc : Thread Cert.PoolDxRefIdeal.nD Cert.PoolDxRefIdeal.τ).loc Cert.PoolDxRefIdeal.main_v10) = v0 c
          ∧ r.2.mem ((c.tc : Thread Cert.PoolDxRefIdeal.nD Cert.PoolDxRefIdeal.τ).loc Cert.PoolDxRefIdeal.main_arg0) = m' ((c.tc : Thread Cert.PoolDxRefIdeal.nD Cert.PoolDxRefIdeal.τ).loc Cert.PoolDxRefIdeal.main_arg0)
          ∧ r.2.mem ((c.tc : Thread Cert.PoolDxRefIdeal.nD Cert.PoolDxRefIdeal.τ).loc Cert.PoolDxRefIdeal.main_arg1) = m' ((c.tc : Thread Cert.PoolDxRefIdeal.nD Cert.PoolDxRefIdeal.τ).loc Cert.PoolDxRefIdeal.main_arg1))

def preserves_PoolDw_PoolDwIdeal : Prop :=
  True

def algebraic_PoolDwIdeal_PoolDwRefIdeal [hPoolDwIdeal : Cert.PoolDwIdeal.Facts] [hPoolDwRefIdeal : Cert.PoolDwRefIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwRefIdeal.nD Cert.PoolDwRefIdeal.τ Cert.PoolDwRefIdeal.sig) → Buf (Elt Ideal) ℓ) (g' : Dev Cert.PoolDwRefIdeal.nD → PrngReg), Pre_PoolDwIdeal m →
    (∀ c : Dev Cert.PoolDwIdeal.nD,
      m' ((c.tc : Thread Cert.PoolDwRefIdeal.nD Cert.PoolDwRefIdeal.τ).loc Cert.PoolDwRefIdeal.main_arg0) = m ((c.tc : Thread Cert.PoolDwIdeal.nD Cert.PoolDwIdeal.τ).loc Cert.PoolDwIdeal.main_arg0)
      ∧ m' ((c.tc : Thread Cert.PoolDwRefIdeal.nD Cert.PoolDwRefIdeal.τ).loc Cert.PoolDwRefIdeal.main_arg1) = m ((c.tc : Thread Cert.PoolDwIdeal.nD Cert.PoolDwIdeal.τ).loc Cert.PoolDwIdeal.main_arg1)) →
    ∃ (v0 : (c : Dev Cert.PoolDwIdeal.nD) → Buf (Elt Ideal) ((c.tc : Thread Cert.PoolDwIdeal.nD Cert.PoolDwIdeal.τ).loc Cert.PoolDwIdeal.main_v0)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v0) = v0 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ θ_run (Cert.PoolDwRefIdeal.defs (F := Ideal)) (onTc (τ := Cert.PoolDwRefIdeal.τ) (Cert.PoolDwRefIdeal.main (F := Ideal))) ⟨m', fun _ => 0, g'⟩ (fun r => ∀ c : Dev Cert.PoolDwRefIdeal.nD,
          r.2.mem ((c.tc : Thread Cert.PoolDwRefIdeal.nD Cert.PoolDwRefIdeal.τ).loc Cert.PoolDwRefIdeal.main_v5) = v0 c
          ∧ r.2.mem ((c.tc : Thread Cert.PoolDwRefIdeal.nD Cert.PoolDwRefIdeal.τ).loc Cert.PoolDwRefIdeal.main_arg0) = m' ((c.tc : Thread Cert.PoolDwRefIdeal.nD Cert.PoolDwRefIdeal.τ).loc Cert.PoolDwRefIdeal.main_arg0)
          ∧ r.2.mem ((c.tc : Thread Cert.PoolDwRefIdeal.nD Cert.PoolDwRefIdeal.τ).loc Cert.PoolDwRefIdeal.main_arg1) = m' ((c.tc : Thread Cert.PoolDwRefIdeal.nD Cert.PoolDwRefIdeal.τ).loc Cert.PoolDwRefIdeal.main_arg1))

def Claim : Prop :=
  ∃ (hUp0 : Cert.Up0.Facts) (hUp0Ideal : Cert.Up0Ideal.Facts) (hUp0RefIdeal : Cert.Up0RefIdeal.Facts) (hDown0 : Cert.Down0.Facts) (hDown0Ideal : Cert.Down0Ideal.Facts) (hDown0RefIdeal : Cert.Down0RefIdeal.Facts) (hDownDx0 : Cert.DownDx0.Facts) (hDownDx0Ideal : Cert.DownDx0Ideal.Facts) (hDownDx0RefIdeal : Cert.DownDx0RefIdeal.Facts) (hDownDw0 : Cert.DownDw0.Facts) (hDownDw0Ideal : Cert.DownDw0Ideal.Facts) (hDownDw0RefIdeal : Cert.DownDw0RefIdeal.Facts) (hUpDx0 : Cert.UpDx0.Facts) (hUpDx0Ideal : Cert.UpDx0Ideal.Facts) (hUpDx0RefIdeal : Cert.UpDx0RefIdeal.Facts) (hUpDw0 : Cert.UpDw0.Facts) (hUpDw0Ideal : Cert.UpDw0Ideal.Facts) (hUpDw0RefIdeal : Cert.UpDw0RefIdeal.Facts) (hUp1 : Cert.Up1.Facts) (hUp1Ideal : Cert.Up1Ideal.Facts) (hUp1RefIdeal : Cert.Up1RefIdeal.Facts) (hDown1 : Cert.Down1.Facts) (hDown1Ideal : Cert.Down1Ideal.Facts) (hDown1RefIdeal : Cert.Down1RefIdeal.Facts) (hDownDx1 : Cert.DownDx1.Facts) (hDownDx1Ideal : Cert.DownDx1Ideal.Facts) (hDownDx1RefIdeal : Cert.DownDx1RefIdeal.Facts) (hDownDw1 : Cert.DownDw1.Facts) (hDownDw1Ideal : Cert.DownDw1Ideal.Facts) (hDownDw1RefIdeal : Cert.DownDw1RefIdeal.Facts) (hUpDx1 : Cert.UpDx1.Facts) (hUpDx1Ideal : Cert.UpDx1Ideal.Facts) (hUpDx1RefIdeal : Cert.UpDx1RefIdeal.Facts) (hUpDw1 : Cert.UpDw1.Facts) (hUpDw1Ideal : Cert.UpDw1Ideal.Facts) (hUpDw1RefIdeal : Cert.UpDw1RefIdeal.Facts) (hInE : Cert.InE.Facts) (hInEIdeal : Cert.InEIdeal.Facts) (hInERefIdeal : Cert.InERefIdeal.Facts) (hInEDx : Cert.InEDx.Facts) (hInEDxIdeal : Cert.InEDxIdeal.Facts) (hInEDxRefIdeal : Cert.InEDxRefIdeal.Facts) (hInEDw : Cert.InEDw.Facts) (hInEDwIdeal : Cert.InEDwIdeal.Facts) (hInEDwRefIdeal : Cert.InEDwRefIdeal.Facts) (hInO : Cert.InO.Facts) (hInOIdeal : Cert.InOIdeal.Facts) (hInORefIdeal : Cert.InORefIdeal.Facts) (hInODx : Cert.InODx.Facts) (hInODxIdeal : Cert.InODxIdeal.Facts) (hInODxRefIdeal : Cert.InODxRefIdeal.Facts) (hInODw : Cert.InODw.Facts) (hInODwIdeal : Cert.InODwIdeal.Facts) (hInODwRefIdeal : Cert.InODwRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hGlu : Cert.Glu.Facts) (hGluIdeal : Cert.GluIdeal.Facts) (hGluRefIdeal : Cert.GluRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hAdamMlp : Cert.AdamMlp.Facts) (hAdamMlpIdeal : Cert.AdamMlpIdeal.Facts) (hAdamMlpRefIdeal : Cert.AdamMlpRefIdeal.Facts) (hAdamInE : Cert.AdamInE.Facts) (hAdamInEIdeal : Cert.AdamInEIdeal.Facts) (hAdamInERefIdeal : Cert.AdamInERefIdeal.Facts) (hAdamInO : Cert.AdamInO.Facts) (hAdamInOIdeal : Cert.AdamInOIdeal.Facts) (hAdamInORefIdeal : Cert.AdamInORefIdeal.Facts) (hAdamOut : Cert.AdamOut.Facts) (hAdamOutIdeal : Cert.AdamOutIdeal.Facts) (hAdamOutRefIdeal : Cert.AdamOutRefIdeal.Facts) (hAdamGlu : Cert.AdamGlu.Facts) (hAdamGluIdeal : Cert.AdamGluIdeal.Facts) (hAdamGluRefIdeal : Cert.AdamGluRefIdeal.Facts) (hAdamSmall : Cert.AdamSmall.Facts) (hAdamSmallIdeal : Cert.AdamSmallIdeal.Facts) (hAdamSmallRefIdeal : Cert.AdamSmallRefIdeal.Facts) (hAdamVec : Cert.AdamVec.Facts) (hAdamVecIdeal : Cert.AdamVecIdeal.Facts) (hAdamVecRefIdeal : Cert.AdamVecRefIdeal.Facts) (hGluBwd : Cert.GluBwd.Facts) (hGluBwdIdeal : Cert.GluBwdIdeal.Facts) (hGluBwdRefIdeal : Cert.GluBwdRefIdeal.Facts) (hGate : Cert.Gate.Facts) (hGateIdeal : Cert.GateIdeal.Facts) (hGateRefIdeal : Cert.GateRefIdeal.Facts) (hRms : Cert.Rms.Facts) (hRmsIdeal : Cert.RmsIdeal.Facts) (hRmsRefIdeal : Cert.RmsRefIdeal.Facts) (hNormRes : Cert.NormRes.Facts) (hNormResIdeal : Cert.NormResIdeal.Facts) (hNormResRefIdeal : Cert.NormResRefIdeal.Facts) (hPostBwd : Cert.PostBwd.Facts) (hPostBwdIdeal : Cert.PostBwdIdeal.Facts) (hPostBwdRefIdeal : Cert.PostBwdRefIdeal.Facts) (hResNorm : Cert.ResNorm.Facts) (hResNormIdeal : Cert.ResNormIdeal.Facts) (hResNormRefIdeal : Cert.ResNormRefIdeal.Facts) (hLoss : Cert.Loss.Facts) (hLossIdeal : Cert.LossIdeal.Facts) (hLossRefIdeal : Cert.LossRefIdeal.Facts) (hPreNorm : Cert.PreNorm.Facts) (hPreNormIdeal : Cert.PreNormIdeal.Facts) (hPreNormRefIdeal : Cert.PreNormRefIdeal.Facts) (hPoolScale : Cert.PoolScale.Facts) (hPoolScaleIdeal : Cert.PoolScaleIdeal.Facts) (hPoolScaleRefIdeal : Cert.PoolScaleRefIdeal.Facts) (hS5Out : Cert.S5Out.Facts) (hS5OutIdeal : Cert.S5OutIdeal.Facts) (hS5OutRefIdeal : Cert.S5OutRefIdeal.Facts) (hS5Du : Cert.S5Du.Facts) (hS5DuIdeal : Cert.S5DuIdeal.Facts) (hS5DuRefIdeal : Cert.S5DuRefIdeal.Facts) (hGateFwd : Cert.GateFwd.Facts) (hGateFwdIdeal : Cert.GateFwdIdeal.Facts) (hGateFwdRefIdeal : Cert.GateFwdRefIdeal.Facts) (hPool : Cert.Pool.Facts) (hPoolIdeal : Cert.PoolIdeal.Facts) (hPoolRefIdeal : Cert.PoolRefIdeal.Facts) (hPoolDx : Cert.PoolDx.Facts) (hPoolDxIdeal : Cert.PoolDxIdeal.Facts) (hPoolDxRefIdeal : Cert.PoolDxRefIdeal.Facts) (hPoolDw : Cert.PoolDw.Facts) (hPoolDwIdeal : Cert.PoolDwIdeal.Facts) (hPoolDwRefIdeal : Cert.PoolDwRefIdeal.Facts),
    quiescent_Up0 (hUp0 := hUp0)
    ∧ quiescent_Up0Ideal (hUp0Ideal := hUp0Ideal)
    ∧ quiescent_Up0RefIdeal (hUp0RefIdeal := hUp0RefIdeal)
    ∧ quiescent_Down0 (hDown0 := hDown0)
    ∧ quiescent_Down0Ideal (hDown0Ideal := hDown0Ideal)
    ∧ quiescent_Down0RefIdeal (hDown0RefIdeal := hDown0RefIdeal)
    ∧ quiescent_DownDx0 (hDownDx0 := hDownDx0)
    ∧ quiescent_DownDx0Ideal (hDownDx0Ideal := hDownDx0Ideal)
    ∧ quiescent_DownDx0RefIdeal (hDownDx0RefIdeal := hDownDx0RefIdeal)
    ∧ quiescent_DownDw0 (hDownDw0 := hDownDw0)
    ∧ quiescent_DownDw0Ideal (hDownDw0Ideal := hDownDw0Ideal)
    ∧ quiescent_DownDw0RefIdeal (hDownDw0RefIdeal := hDownDw0RefIdeal)
    ∧ quiescent_UpDx0 (hUpDx0 := hUpDx0)
    ∧ quiescent_UpDx0Ideal (hUpDx0Ideal := hUpDx0Ideal)
    ∧ quiescent_UpDx0RefIdeal (hUpDx0RefIdeal := hUpDx0RefIdeal)
    ∧ quiescent_UpDw0 (hUpDw0 := hUpDw0)
    ∧ quiescent_UpDw0Ideal (hUpDw0Ideal := hUpDw0Ideal)
    ∧ quiescent_UpDw0RefIdeal (hUpDw0RefIdeal := hUpDw0RefIdeal)
    ∧ quiescent_Up1 (hUp1 := hUp1)
    ∧ quiescent_Up1Ideal (hUp1Ideal := hUp1Ideal)
    ∧ quiescent_Up1RefIdeal (hUp1RefIdeal := hUp1RefIdeal)
    ∧ quiescent_Down1 (hDown1 := hDown1)
    ∧ quiescent_Down1Ideal (hDown1Ideal := hDown1Ideal)
    ∧ quiescent_Down1RefIdeal (hDown1RefIdeal := hDown1RefIdeal)
    ∧ quiescent_DownDx1 (hDownDx1 := hDownDx1)
    ∧ quiescent_DownDx1Ideal (hDownDx1Ideal := hDownDx1Ideal)
    ∧ quiescent_DownDx1RefIdeal (hDownDx1RefIdeal := hDownDx1RefIdeal)
    ∧ quiescent_DownDw1 (hDownDw1 := hDownDw1)
    ∧ quiescent_DownDw1Ideal (hDownDw1Ideal := hDownDw1Ideal)
    ∧ quiescent_DownDw1RefIdeal (hDownDw1RefIdeal := hDownDw1RefIdeal)
    ∧ quiescent_UpDx1 (hUpDx1 := hUpDx1)
    ∧ quiescent_UpDx1Ideal (hUpDx1Ideal := hUpDx1Ideal)
    ∧ quiescent_UpDx1RefIdeal (hUpDx1RefIdeal := hUpDx1RefIdeal)
    ∧ quiescent_UpDw1 (hUpDw1 := hUpDw1)
    ∧ quiescent_UpDw1Ideal (hUpDw1Ideal := hUpDw1Ideal)
    ∧ quiescent_UpDw1RefIdeal (hUpDw1RefIdeal := hUpDw1RefIdeal)
    ∧ quiescent_InE (hInE := hInE)
    ∧ quiescent_InEIdeal (hInEIdeal := hInEIdeal)
    ∧ quiescent_InERefIdeal (hInERefIdeal := hInERefIdeal)
    ∧ quiescent_InEDx (hInEDx := hInEDx)
    ∧ quiescent_InEDxIdeal (hInEDxIdeal := hInEDxIdeal)
    ∧ quiescent_InEDxRefIdeal (hInEDxRefIdeal := hInEDxRefIdeal)
    ∧ quiescent_InEDw (hInEDw := hInEDw)
    ∧ quiescent_InEDwIdeal (hInEDwIdeal := hInEDwIdeal)
    ∧ quiescent_InEDwRefIdeal (hInEDwRefIdeal := hInEDwRefIdeal)
    ∧ quiescent_InO (hInO := hInO)
    ∧ quiescent_InOIdeal (hInOIdeal := hInOIdeal)
    ∧ quiescent_InORefIdeal (hInORefIdeal := hInORefIdeal)
    ∧ quiescent_InODx (hInODx := hInODx)
    ∧ quiescent_InODxIdeal (hInODxIdeal := hInODxIdeal)
    ∧ quiescent_InODxRefIdeal (hInODxRefIdeal := hInODxRefIdeal)
    ∧ quiescent_InODw (hInODw := hInODw)
    ∧ quiescent_InODwIdeal (hInODwIdeal := hInODwIdeal)
    ∧ quiescent_InODwRefIdeal (hInODwRefIdeal := hInODwRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Glu (hGlu := hGlu)
    ∧ quiescent_GluIdeal (hGluIdeal := hGluIdeal)
    ∧ quiescent_GluRefIdeal (hGluRefIdeal := hGluRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdamInE (hAdamInE := hAdamInE)
    ∧ quiescent_AdamInEIdeal (hAdamInEIdeal := hAdamInEIdeal)
    ∧ quiescent_AdamInERefIdeal (hAdamInERefIdeal := hAdamInERefIdeal)
    ∧ quiescent_AdamInO (hAdamInO := hAdamInO)
    ∧ quiescent_AdamInOIdeal (hAdamInOIdeal := hAdamInOIdeal)
    ∧ quiescent_AdamInORefIdeal (hAdamInORefIdeal := hAdamInORefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamVec (hAdamVec := hAdamVec)
    ∧ quiescent_AdamVecIdeal (hAdamVecIdeal := hAdamVecIdeal)
    ∧ quiescent_AdamVecRefIdeal (hAdamVecRefIdeal := hAdamVecRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_Gate (hGate := hGate)
    ∧ quiescent_GateIdeal (hGateIdeal := hGateIdeal)
    ∧ quiescent_GateRefIdeal (hGateRefIdeal := hGateRefIdeal)
    ∧ quiescent_Rms (hRms := hRms)
    ∧ quiescent_RmsIdeal (hRmsIdeal := hRmsIdeal)
    ∧ quiescent_RmsRefIdeal (hRmsRefIdeal := hRmsRefIdeal)
    ∧ quiescent_NormRes (hNormRes := hNormRes)
    ∧ quiescent_NormResIdeal (hNormResIdeal := hNormResIdeal)
    ∧ quiescent_NormResRefIdeal (hNormResRefIdeal := hNormResRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_ResNorm (hResNorm := hResNorm)
    ∧ quiescent_ResNormIdeal (hResNormIdeal := hResNormIdeal)
    ∧ quiescent_ResNormRefIdeal (hResNormRefIdeal := hResNormRefIdeal)
    ∧ quiescent_Loss (hLoss := hLoss)
    ∧ quiescent_LossIdeal (hLossIdeal := hLossIdeal)
    ∧ quiescent_LossRefIdeal (hLossRefIdeal := hLossRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_PoolScale (hPoolScale := hPoolScale)
    ∧ quiescent_PoolScaleIdeal (hPoolScaleIdeal := hPoolScaleIdeal)
    ∧ quiescent_PoolScaleRefIdeal (hPoolScaleRefIdeal := hPoolScaleRefIdeal)
    ∧ quiescent_S5Out (hS5Out := hS5Out)
    ∧ quiescent_S5OutIdeal (hS5OutIdeal := hS5OutIdeal)
    ∧ quiescent_S5OutRefIdeal (hS5OutRefIdeal := hS5OutRefIdeal)
    ∧ quiescent_S5Du (hS5Du := hS5Du)
    ∧ quiescent_S5DuIdeal (hS5DuIdeal := hS5DuIdeal)
    ∧ quiescent_S5DuRefIdeal (hS5DuRefIdeal := hS5DuRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_Pool (hPool := hPool)
    ∧ quiescent_PoolIdeal (hPoolIdeal := hPoolIdeal)
    ∧ quiescent_PoolRefIdeal (hPoolRefIdeal := hPoolRefIdeal)
    ∧ quiescent_PoolDx (hPoolDx := hPoolDx)
    ∧ quiescent_PoolDxIdeal (hPoolDxIdeal := hPoolDxIdeal)
    ∧ quiescent_PoolDxRefIdeal (hPoolDxRefIdeal := hPoolDxRefIdeal)
    ∧ quiescent_PoolDw (hPoolDw := hPoolDw)
    ∧ quiescent_PoolDwIdeal (hPoolDwIdeal := hPoolDwIdeal)
    ∧ quiescent_PoolDwRefIdeal (hPoolDwRefIdeal := hPoolDwRefIdeal)
    ∧ preserves_Up0_Up0Ideal
    ∧ algebraic_Up0Ideal_Up0RefIdeal (hUp0Ideal := hUp0Ideal) (hUp0RefIdeal := hUp0RefIdeal)
    ∧ preserves_Down0_Down0Ideal
    ∧ algebraic_Down0Ideal_Down0RefIdeal (hDown0Ideal := hDown0Ideal) (hDown0RefIdeal := hDown0RefIdeal)
    ∧ preserves_DownDx0_DownDx0Ideal
    ∧ algebraic_DownDx0Ideal_DownDx0RefIdeal (hDownDx0Ideal := hDownDx0Ideal) (hDownDx0RefIdeal := hDownDx0RefIdeal)
    ∧ preserves_DownDw0_DownDw0Ideal
    ∧ algebraic_DownDw0Ideal_DownDw0RefIdeal (hDownDw0Ideal := hDownDw0Ideal) (hDownDw0RefIdeal := hDownDw0RefIdeal)
    ∧ preserves_UpDx0_UpDx0Ideal
    ∧ algebraic_UpDx0Ideal_UpDx0RefIdeal (hUpDx0Ideal := hUpDx0Ideal) (hUpDx0RefIdeal := hUpDx0RefIdeal)
    ∧ preserves_UpDw0_UpDw0Ideal
    ∧ algebraic_UpDw0Ideal_UpDw0RefIdeal (hUpDw0Ideal := hUpDw0Ideal) (hUpDw0RefIdeal := hUpDw0RefIdeal)
    ∧ preserves_Up1_Up1Ideal
    ∧ algebraic_Up1Ideal_Up1RefIdeal (hUp1Ideal := hUp1Ideal) (hUp1RefIdeal := hUp1RefIdeal)
    ∧ preserves_Down1_Down1Ideal
    ∧ algebraic_Down1Ideal_Down1RefIdeal (hDown1Ideal := hDown1Ideal) (hDown1RefIdeal := hDown1RefIdeal)
    ∧ preserves_DownDx1_DownDx1Ideal
    ∧ algebraic_DownDx1Ideal_DownDx1RefIdeal (hDownDx1Ideal := hDownDx1Ideal) (hDownDx1RefIdeal := hDownDx1RefIdeal)
    ∧ preserves_DownDw1_DownDw1Ideal
    ∧ algebraic_DownDw1Ideal_DownDw1RefIdeal (hDownDw1Ideal := hDownDw1Ideal) (hDownDw1RefIdeal := hDownDw1RefIdeal)
    ∧ preserves_UpDx1_UpDx1Ideal
    ∧ algebraic_UpDx1Ideal_UpDx1RefIdeal (hUpDx1Ideal := hUpDx1Ideal) (hUpDx1RefIdeal := hUpDx1RefIdeal)
    ∧ preserves_UpDw1_UpDw1Ideal
    ∧ algebraic_UpDw1Ideal_UpDw1RefIdeal (hUpDw1Ideal := hUpDw1Ideal) (hUpDw1RefIdeal := hUpDw1RefIdeal)
    ∧ preserves_InE_InEIdeal
    ∧ algebraic_InEIdeal_InERefIdeal (hInEIdeal := hInEIdeal) (hInERefIdeal := hInERefIdeal)
    ∧ preserves_InEDx_InEDxIdeal
    ∧ algebraic_InEDxIdeal_InEDxRefIdeal (hInEDxIdeal := hInEDxIdeal) (hInEDxRefIdeal := hInEDxRefIdeal)
    ∧ preserves_InEDw_InEDwIdeal
    ∧ algebraic_InEDwIdeal_InEDwRefIdeal (hInEDwIdeal := hInEDwIdeal) (hInEDwRefIdeal := hInEDwRefIdeal)
    ∧ preserves_InO_InOIdeal
    ∧ algebraic_InOIdeal_InORefIdeal (hInOIdeal := hInOIdeal) (hInORefIdeal := hInORefIdeal)
    ∧ preserves_InODx_InODxIdeal
    ∧ algebraic_InODxIdeal_InODxRefIdeal (hInODxIdeal := hInODxIdeal) (hInODxRefIdeal := hInODxRefIdeal)
    ∧ preserves_InODw_InODwIdeal
    ∧ algebraic_InODwIdeal_InODwRefIdeal (hInODwIdeal := hInODwIdeal) (hInODwRefIdeal := hInODwRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Glu_GluIdeal
    ∧ algebraic_GluIdeal_GluRefIdeal (hGluIdeal := hGluIdeal) (hGluRefIdeal := hGluRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdamInE_AdamInEIdeal
    ∧ algebraic_AdamInEIdeal_AdamInERefIdeal (hAdamInEIdeal := hAdamInEIdeal) (hAdamInERefIdeal := hAdamInERefIdeal)
    ∧ preserves_AdamInO_AdamInOIdeal
    ∧ algebraic_AdamInOIdeal_AdamInORefIdeal (hAdamInOIdeal := hAdamInOIdeal) (hAdamInORefIdeal := hAdamInORefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamVec_AdamVecIdeal
    ∧ algebraic_AdamVecIdeal_AdamVecRefIdeal (hAdamVecIdeal := hAdamVecIdeal) (hAdamVecRefIdeal := hAdamVecRefIdeal)
    ∧ preserves_GluBwd_GluBwdIdeal
    ∧ algebraic_GluBwdIdeal_GluBwdRefIdeal (hGluBwdIdeal := hGluBwdIdeal) (hGluBwdRefIdeal := hGluBwdRefIdeal)
    ∧ preserves_Gate_GateIdeal
    ∧ algebraic_GateIdeal_GateRefIdeal (hGateIdeal := hGateIdeal) (hGateRefIdeal := hGateRefIdeal)
    ∧ preserves_Rms_RmsIdeal
    ∧ algebraic_RmsIdeal_RmsRefIdeal (hRmsIdeal := hRmsIdeal) (hRmsRefIdeal := hRmsRefIdeal)
    ∧ preserves_NormRes_NormResIdeal
    ∧ algebraic_NormResIdeal_NormResRefIdeal (hNormResIdeal := hNormResIdeal) (hNormResRefIdeal := hNormResRefIdeal)
    ∧ preserves_PostBwd_PostBwdIdeal
    ∧ algebraic_PostBwdIdeal_PostBwdRefIdeal (hPostBwdIdeal := hPostBwdIdeal) (hPostBwdRefIdeal := hPostBwdRefIdeal)
    ∧ preserves_ResNorm_ResNormIdeal
    ∧ algebraic_ResNormIdeal_ResNormRefIdeal (hResNormIdeal := hResNormIdeal) (hResNormRefIdeal := hResNormRefIdeal)
    ∧ preserves_Loss_LossIdeal
    ∧ algebraic_LossIdeal_LossRefIdeal (hLossIdeal := hLossIdeal) (hLossRefIdeal := hLossRefIdeal)
    ∧ preserves_PreNorm_PreNormIdeal
    ∧ algebraic_PreNormIdeal_PreNormRefIdeal (hPreNormIdeal := hPreNormIdeal) (hPreNormRefIdeal := hPreNormRefIdeal)
    ∧ preserves_PoolScale_PoolScaleIdeal
    ∧ algebraic_PoolScaleIdeal_PoolScaleRefIdeal (hPoolScaleIdeal := hPoolScaleIdeal) (hPoolScaleRefIdeal := hPoolScaleRefIdeal)
    ∧ preserves_S5Out_S5OutIdeal
    ∧ algebraic_S5OutIdeal_S5OutRefIdeal (hS5OutIdeal := hS5OutIdeal) (hS5OutRefIdeal := hS5OutRefIdeal)
    ∧ preserves_S5Du_S5DuIdeal
    ∧ algebraic_S5DuIdeal_S5DuRefIdeal (hS5DuIdeal := hS5DuIdeal) (hS5DuRefIdeal := hS5DuRefIdeal)
    ∧ preserves_GateFwd_GateFwdIdeal
    ∧ algebraic_GateFwdIdeal_GateFwdRefIdeal (hGateFwdIdeal := hGateFwdIdeal) (hGateFwdRefIdeal := hGateFwdRefIdeal)
    ∧ preserves_Pool_PoolIdeal
    ∧ algebraic_PoolIdeal_PoolRefIdeal (hPoolIdeal := hPoolIdeal) (hPoolRefIdeal := hPoolRefIdeal)
    ∧ preserves_PoolDx_PoolDxIdeal
    ∧ algebraic_PoolDxIdeal_PoolDxRefIdeal (hPoolDxIdeal := hPoolDxIdeal) (hPoolDxRefIdeal := hPoolDxRefIdeal)
    ∧ preserves_PoolDw_PoolDwIdeal
    ∧ algebraic_PoolDwIdeal_PoolDwRefIdeal (hPoolDwIdeal := hPoolDwIdeal) (hPoolDwRefIdeal := hPoolDwRefIdeal)
-- ==== Up0.lean ====
abbrev S4096x1024 : Shape := ⟨2, ![4096, 1024]⟩
abbrev S2x1024x4096 : Shape := ⟨3, ![2, 1024, 4096]⟩
abbrev S2048x4x1024 : Shape := ⟨3, ![2048, 4, 1024]⟩
abbrev S4x2048x1024 : Shape := ⟨3, ![4, 2048, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .f32⟩
  | .hbm, ⟨2, _⟩ => ⟨S2048x4x1024, .f32⟩
  | .hbm, ⟨3, _⟩ => ⟨S4x2048x1024, .f32⟩
  | .hbm, ⟨4, _⟩ => ⟨S4x2048x1024, .bf16⟩
  | .hbm, ⟨5, _⟩ => ⟨S4096x4096, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up0Ideal.lean ====
abbrev S4096x1024 : Shape := ⟨2, ![4096, 1024]⟩
abbrev S2x1024x4096 : Shape := ⟨3, ![2, 1024, 4096]⟩
abbrev S2048x4x1024 : Shape := ⟨3, ![2048, 4, 1024]⟩
abbrev S4x2048x1024 : Shape := ⟨3, ![4, 2048, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .f32⟩
  | .hbm, ⟨2, _⟩ => ⟨S2048x4x1024, .f32⟩
  | .hbm, ⟨3, _⟩ => ⟨S4x2048x1024, .f32⟩
  | .hbm, ⟨4, _⟩ => ⟨S4x2048x1024, .bf16⟩
  | .hbm, ⟨5, _⟩ => ⟨S4096x4096, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up0RefIdeal.lean ====
abbrev S4096x1024 : Shape := ⟨2, ![4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .f32⟩
  | .hbm, ⟨2, _⟩ => ⟨S4096x1024, .f32⟩
  | .hbm, ⟨3, _⟩ => ⟨S1x1024x4096, .f32⟩
  | .hbm, ⟨4, _⟩ => ⟨S1024x4096, .f32⟩
  | .hbm, ⟨5, _⟩ => ⟨S4096x4096, .f32⟩
  | .hbm, ⟨6, _⟩ => ⟨S4096x4096, .bf16⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Down0.lean ====
abbrev S4096x4096 : Shape := ⟨2, ![4096, 4096]⟩
abbrev S2x4096x1024 : Shape := ⟨3, ![2, 4096, 1024]⟩
abbrev S2x4x1024x1024 : Shape := ⟨4, ![2, 4, 1024, 1024]⟩
abbrev S4x2x1024x1024 : Shape := ⟨4, ![4, 2, 1024, 1024]⟩
abbrev S4x2048x1024 : Shape := ⟨3, ![4, 2048, 1024]⟩
abbrev S4096x1024 : Shape := ⟨2, ![4096, 1024]⟩
abbrev S1024x4096 : Shape := ⟨2, ![1024, 4096]⟩
abbrev S4x1024x512 : Shape := ⟨3, ![4, 1024, 512]⟩
abbrev S1024x512 : Shape := ⟨2, ![1024, 512]⟩
abbrev S4096x512 : Shape := ⟨2, ![4096, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .f32⟩
  | .hbm, ⟨2, _⟩ => ⟨S2x4x1024x1024, .f32⟩
  | .hbm, ⟨3, _⟩ => ⟨S4x2x1024x1024, .f32⟩
  | .hbm, ⟨4, _⟩ => ⟨S4x2048x1024, .f32⟩
  | .hbm, ⟨5, _⟩ => ⟨S4x2048x1024, .bf16⟩
  | .hbm, ⟨6, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down0Ideal.lean ====
abbrev S4096x4096 : Shape := ⟨2, ![4096, 4096]⟩
abbrev S2x4096x1024 : Shape := ⟨3, ![2, 4096, 1024]⟩
abbrev S2x4x1024x1024 : Shape := ⟨4, ![2, 4, 1024, 1024]⟩
abbrev S4x2x1024x1024 : Shape := ⟨4, ![4, 2, 1024, 1024]⟩
abbrev S4x2048x1024 : Shape := ⟨3, ![4, 2048, 1024]⟩
abbrev S4096x1024 : Shape := ⟨2, ![4096, 1024]⟩
abbrev S1024x4096 : Shape := ⟨2, ![1024, 4096]⟩
abbrev S4x1024x512 : Shape := ⟨3, ![4, 1024, 512]⟩
abbrev S1024x512 : Shape := ⟨2, ![1024, 512]⟩
abbrev S4096x512 : Shape := ⟨2, ![4096, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .f32⟩
  | .hbm, ⟨2, _⟩ => ⟨S2x4x1024x1024, .f32⟩
  | .hbm, ⟨3, _⟩ => ⟨S4x2x1024x1024, .f32⟩
  | .hbm, ⟨4, _⟩ => ⟨S4x2048x1024, .f32⟩
  | .hbm, ⟨5, _⟩ => ⟨S4x2048x1024, .bf16⟩
  | .hbm, ⟨6, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down0RefIdeal.lean ====
abbrev S4096x4096 : Shape := ⟨2, ![4096, 4096]⟩
abbrev S2x4096x1024 : Shape := ⟨3, ![2, 4096, 1024]⟩
abbrev S1x4096x1024 : Shape := ⟨3, ![1, 4096, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .f32⟩
  | .hbm, ⟨2, _⟩ => ⟨S4096x4096, .f32⟩
  | .hbm, ⟨3, _⟩ => ⟨S1x4096x1024, .f32⟩
  | .hbm, ⟨4, _⟩ => ⟨S4096x1024, .f32⟩
  | .hbm, ⟨5, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDx0.lean ====
abbrev S4096x1024 : Shape := ⟨2, ![4096, 1024]⟩
abbrev S2x4096x1024 : Shape := ⟨3, ![2, 4096, 1024]⟩
abbrev S4096x4096 : Shape := ⟨2, ![4096, 4096]⟩
abbrev S2x4x1024x1024 : Shape := ⟨4, ![2, 4, 1024, 1024]⟩
abbrev S4x2x1024x1024 : Shape := ⟨4, ![4, 2, 1024, 1024]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .f32⟩
  | .hbm, ⟨2, _⟩ => ⟨S4096x4096, .bf16⟩
  | .hbm, ⟨3, _⟩ => ⟨S2x4x1024x1024, .f32⟩
  | .hbm, ⟨4, _⟩ => ⟨S4x2x1024x1024, .f32⟩
  | .hbm, ⟨5, _⟩ => ⟨S4x2048x1024, .f32⟩
  | .hbm, ⟨6, _⟩ => ⟨S4x2048x1024, .bf16⟩
  | .hbm, ⟨7, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDx0Ideal.lean ====
abbrev S4096x1024 : Shape := ⟨2, ![4096, 1024]⟩
abbrev S2x4096x1024 : Shape := ⟨3, ![2, 4096, 1024]⟩
abbrev S4096x4096 : Shape := ⟨2, ![4096, 4096]⟩
abbrev S2x4x1024x1024 : Shape := ⟨4, ![2, 4, 1024, 1024]⟩
abbrev S4x2x1024x1024 : Shape := ⟨4, ![4, 2, 1024, 1024]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .f32⟩
  | .hbm, ⟨2, _⟩ => ⟨S4096x4096, .bf16⟩
  | .hbm, ⟨3, _⟩ => ⟨S2x4x1024x1024, .f32⟩
  | .hbm, ⟨4, _⟩ => ⟨S4x2x1024x1024, .f32⟩
  | .hbm, ⟨5, _⟩ => ⟨S4x2048x1024, .f32⟩
  | .hbm, ⟨6, _⟩ => ⟨S4x2048x1024, .bf16⟩
  | .hbm, ⟨7, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDx0RefIdeal.lean ====
abbrev S4096x1024 : Shape := ⟨2, ![4096, 1024]⟩
abbrev S2x4096x1024 : Shape := ⟨3, ![2, 4096, 1024]⟩
abbrev S4096x4096 : Shape := ⟨2, ![4096, 4096]⟩
abbrev S_ : Shape := ⟨0, ![]⟩
abbrev S1x4096x1024 : Shape := ⟨3, ![1, 4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .f32⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S1x4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== DownDw0.lean ====
abbrev S4096x4096 : Shape := ⟨2, ![4096, 4096]⟩
abbrev S4096x1024 : Shape := ⟨2, ![4096, 1024]⟩
abbrev S4x2048x1024 : Shape := ⟨3, ![4, 2048, 1024]⟩
abbrev S_ : Shape := ⟨0, ![]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x2048x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4x2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw0Ideal.lean ====
abbrev S4096x4096 : Shape := ⟨2, ![4096, 4096]⟩
abbrev S4096x1024 : Shape := ⟨2, ![4096, 1024]⟩
abbrev S4x2048x1024 : Shape := ⟨3, ![4, 2048, 1024]⟩
abbrev S_ : Shape := ⟨0, ![]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x2048x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4x2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw0RefIdeal.lean ====
abbrev S4096x4096 : Shape := ⟨2, ![4096, 4096]⟩
abbrev S4096x1024 : Shape := ⟨2, ![4096, 1024]⟩
abbrev S4x2048x1024 : Shape := ⟨3, ![4, 2048, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x2048x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S1024x4096, .f32⟩
  | .hbm, ⟨13, _⟩ => ⟨S4096x1024, .f32⟩
  | .hbm, ⟨14, _⟩ => ⟨S4x1024x1024, .f32⟩
  | .hbm, ⟨15, _⟩ => ⟨S4x1024x1024, .f32⟩
  | .hbm, ⟨16, _⟩ => ⟨S4x2048x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== UpDx0.lean ====
abbrev S4096x4096 : Shape := ⟨2, ![4096, 4096]⟩
abbrev S2x1024x4096 : Shape := ⟨3, ![2, 1024, 4096]⟩
abbrev S2048x4x1024 : Shape := ⟨3, ![2048, 4, 1024]⟩
abbrev S4x2048x1024 : Shape := ⟨3, ![4, 2048, 1024]⟩
abbrev S4096x1024 : Shape := ⟨2, ![4096, 1024]⟩
abbrev S1024x4096 : Shape := ⟨2, ![1024, 4096]⟩
abbrev S4x512x1024 : Shape := ⟨3, ![4, 512, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S2048x4x1024, .f32⟩
  | .hbm, ⟨3, _⟩ => ⟨S4x2048x1024, .f32⟩
  | .hbm, ⟨4, _⟩ => ⟨S4x2048x1024, .bf16⟩
  | .hbm, ⟨5, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDx0Ideal.lean ====
abbrev S4096x4096 : Shape := ⟨2, ![4096, 4096]⟩
abbrev S2x1024x4096 : Shape := ⟨3, ![2, 1024, 4096]⟩
abbrev S2048x4x1024 : Shape := ⟨3, ![2048, 4, 1024]⟩
abbrev S4x2048x1024 : Shape := ⟨3, ![4, 2048, 1024]⟩
abbrev S4096x1024 : Shape := ⟨2, ![4096, 1024]⟩
abbrev S1024x4096 : Shape := ⟨2, ![1024, 4096]⟩
abbrev S4x512x1024 : Shape := ⟨3, ![4, 512, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S2048x4x1024, .f32⟩
  | .hbm, ⟨3, _⟩ => ⟨S4x2048x1024, .f32⟩
  | .hbm, ⟨4, _⟩ => ⟨S4x2048x1024, .bf16⟩
  | .hbm, ⟨5, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDx0RefIdeal.lean ====
abbrev S4096x4096 : Shape := ⟨2, ![4096, 4096]⟩
abbrev S2x1024x4096 : Shape := ⟨3, ![2, 1024, 4096]⟩
abbrev S_ : Shape := ⟨0, ![]⟩
abbrev S4096x1024 : Shape := ⟨2, ![4096, 1024]⟩
abbrev S1x1024x4096 : Shape := ⟨3, ![1, 1024, 4096]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S_, .f32⟩
  | .hbm, ⟨3, _⟩ => ⟨S4096x1024, .f32⟩
  | .hbm, ⟨4, _⟩ => ⟨S1x1024x4096, .f32⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw0.lean ====
abbrev S4096x1024 : Shape := ⟨2, ![4096, 1024]⟩
abbrev S4096x4096 : Shape := ⟨2, ![4096, 4096]⟩
abbrev S4x2048x1024 : Shape := ⟨3, ![4, 2048, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x2048x1024, .f32⟩
  | .hbm, ⟨3, _⟩ => ⟨S4x2048x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDw0Ideal.lean ====
  let c0_i32_4 : BitVec 32 := 0#32
  let v17 : BitVec 32 := Scalar.addi c0_i32_4 arg0
-- ==== UpDw0RefIdeal.lean ====
abbrev S4096x1024 : Shape := ⟨2, ![4096, 1024]⟩
abbrev S4096x4096 : Shape := ⟨2, ![4096, 4096]⟩
abbrev S4x2048x1024 : Shape := ⟨3, ![4, 2048, 1024]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x2048x1024, .f32⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1024x1024, .f32⟩
  | .hbm, ⟨13, _⟩ => ⟨S4x2048x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Up1.lean ====
abbrev S4096x1024 : Shape := ⟨2, ![4096, 1024]⟩
abbrev S2x1024x4096 : Shape := ⟨3, ![2, 1024, 4096]⟩
abbrev S2048x4x1024 : Shape := ⟨3, ![2048, 4, 1024]⟩
abbrev S4x2048x1024 : Shape := ⟨3, ![4, 2048, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .f32⟩
  | .hbm, ⟨2, _⟩ => ⟨S2048x4x1024, .f32⟩
  | .hbm, ⟨3, _⟩ => ⟨S4x2048x1024, .f32⟩
  | .hbm, ⟨4, _⟩ => ⟨S4x2048x1024, .bf16⟩
  | .hbm, ⟨5, _⟩ => ⟨S4096x4096, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up1Ideal.lean ====
abbrev S4096x1024 : Shape := ⟨2, ![4096, 1024]⟩
abbrev S2x1024x4096 : Shape := ⟨3, ![2, 1024, 4096]⟩
abbrev S2048x4x1024 : Shape := ⟨3, ![2048, 4, 1024]⟩
abbrev S4x2048x1024 : Shape := ⟨3, ![4, 2048, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .f32⟩
  | .hbm, ⟨2, _⟩ => ⟨S2048x4x1024, .f32⟩
  | .hbm, ⟨3, _⟩ => ⟨S4x2048x1024, .f32⟩
  | .hbm, ⟨4, _⟩ => ⟨S4x2048x1024, .bf16⟩
  | .hbm, ⟨5, _⟩ => ⟨S4096x4096, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up1RefIdeal.lean ====
abbrev S4096x1024 : Shape := ⟨2, ![4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .f32⟩
  | .hbm, ⟨2, _⟩ => ⟨S4096x1024, .f32⟩
  | .hbm, ⟨3, _⟩ => ⟨S1x1024x4096, .f32⟩
  | .hbm, ⟨4, _⟩ => ⟨S1024x4096, .f32⟩
  | .hbm, ⟨5, _⟩ => ⟨S4096x4096, .f32⟩
  | .hbm, ⟨6, _⟩ => ⟨S4096x4096, .bf16⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Down1.lean ====
abbrev S4096x4096 : Shape := ⟨2, ![4096, 4096]⟩
abbrev S2x4096x1024 : Shape := ⟨3, ![2, 4096, 1024]⟩
abbrev S2x4x1024x1024 : Shape := ⟨4, ![2, 4, 1024, 1024]⟩
abbrev S4x2x1024x1024 : Shape := ⟨4, ![4, 2, 1024, 1024]⟩
abbrev S4x2048x1024 : Shape := ⟨3, ![4, 2048, 1024]⟩
abbrev S4096x1024 : Shape := ⟨2, ![4096, 1024]⟩
abbrev S1024x4096 : Shape := ⟨2, ![1024, 4096]⟩
abbrev S4x1024x512 : Shape := ⟨3, ![4, 1024, 512]⟩
abbrev S1024x512 : Shape := ⟨2, ![1024, 512]⟩
abbrev S4096x512 : Shape := ⟨2, ![4096, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .f32⟩
  | .hbm, ⟨2, _⟩ => ⟨S2x4x1024x1024, .f32⟩
  | .hbm, ⟨3, _⟩ => ⟨S4x2x1024x1024, .f32⟩
  | .hbm, ⟨4, _⟩ => ⟨S4x2048x1024, .f32⟩
  | .hbm, ⟨5, _⟩ => ⟨S4x2048x1024, .bf16⟩
  | .hbm, ⟨6, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down1Ideal.lean ====
abbrev S4096x4096 : Shape := ⟨2, ![4096, 4096]⟩
abbrev S2x4096x1024 : Shape := ⟨3, ![2, 4096, 1024]⟩
abbrev S2x4x1024x1024 : Shape := ⟨4, ![2, 4, 1024, 1024]⟩
abbrev S4x2x1024x1024 : Shape := ⟨4, ![4, 2, 1024, 1024]⟩
abbrev S4x2048x1024 : Shape := ⟨3, ![4, 2048, 1024]⟩
abbrev S4096x1024 : Shape := ⟨2, ![4096, 1024]⟩
abbrev S1024x4096 : Shape := ⟨2, ![1024, 4096]⟩
abbrev S4x1024x512 : Shape := ⟨3, ![4, 1024, 512]⟩
abbrev S1024x512 : Shape := ⟨2, ![1024, 512]⟩
abbrev S4096x512 : Shape := ⟨2, ![4096, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .f32⟩
  | .hbm, ⟨2, _⟩ => ⟨S2x4x1024x1024, .f32⟩
  | .hbm, ⟨3, _⟩ => ⟨S4x2x1024x1024, .f32⟩
  | .hbm, ⟨4, _⟩ => ⟨S4x2048x1024, .f32⟩
  | .hbm, ⟨5, _⟩ => ⟨S4x2048x1024, .bf16⟩
  | .hbm, ⟨6, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down1RefIdeal.lean ====
abbrev S4096x4096 : Shape := ⟨2, ![4096, 4096]⟩
abbrev S2x4096x1024 : Shape := ⟨3, ![2, 4096, 1024]⟩
abbrev S1x4096x1024 : Shape := ⟨3, ![1, 4096, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x4096x1024, .f32⟩
  | .hbm, ⟨2, _⟩ => ⟨S4096x4096, .f32⟩
  | .hbm, ⟨3, _⟩ => ⟨S1x4096x1024, .f32⟩
  | .hbm, ⟨4, _⟩ => ⟨S4096x1024, .f32⟩
  | .hbm, ⟨5, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDx1.lean ====
abbrev S4096x1024 : Shape := ⟨2, ![4096, 1024]⟩
abbrev S2x4096x1024 : Shape := ⟨3, ![2, 4096, 1024]⟩
abbrev S4096x4096 : Shape := ⟨2, ![4096, 4096]⟩
abbrev S2x4x1024x1024 : Shape := ⟨4, ![2, 4, 1024, 1024]⟩
abbrev S4x2x1024x1024 : Shape := ⟨4, ![4, 2, 1024, 1024]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .f32⟩
  | .hbm, ⟨2, _⟩ => ⟨S4096x4096, .bf16⟩
  | .hbm, ⟨3, _⟩ => ⟨S2x4x1024x1024, .f32⟩
  | .hbm, ⟨4, _⟩ => ⟨S4x2x1024x1024, .f32⟩
  | .hbm, ⟨5, _⟩ => ⟨S4x2048x1024, .f32⟩
  | .hbm, ⟨6, _⟩ => ⟨S4x2048x1024, .bf16⟩
  | .hbm, ⟨7, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDx1Ideal.lean ====
abbrev S4096x1024 : Shape := ⟨2, ![4096, 1024]⟩
abbrev S2x4096x1024 : Shape := ⟨3, ![2, 4096, 1024]⟩
abbrev S4096x4096 : Shape := ⟨2, ![4096, 4096]⟩
abbrev S2x4x1024x1024 : Shape := ⟨4, ![2, 4, 1024, 1024]⟩
abbrev S4x2x1024x1024 : Shape := ⟨4, ![4, 2, 1024, 1024]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .f32⟩
  | .hbm, ⟨2, _⟩ => ⟨S4096x4096, .bf16⟩
  | .hbm, ⟨3, _⟩ => ⟨S2x4x1024x1024, .f32⟩
  | .hbm, ⟨4, _⟩ => ⟨S4x2x1024x1024, .f32⟩
  | .hbm, ⟨5, _⟩ => ⟨S4x2048x1024, .f32⟩
  | .hbm, ⟨6, _⟩ => ⟨S4x2048x1024, .bf16⟩
  | .hbm, ⟨7, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDx1RefIdeal.lean ====
abbrev S4096x1024 : Shape := ⟨2, ![4096, 1024]⟩
abbrev S2x4096x1024 : Shape := ⟨3, ![2, 4096, 1024]⟩
abbrev S4096x4096 : Shape := ⟨2, ![4096, 4096]⟩
abbrev S_ : Shape := ⟨0, ![]⟩
abbrev S1x4096x1024 : Shape := ⟨3, ![1, 4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .f32⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S1x4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== DownDw1.lean ====
abbrev S4096x4096 : Shape := ⟨2, ![4096, 4096]⟩
abbrev S4096x1024 : Shape := ⟨2, ![4096, 1024]⟩
abbrev S4x2048x1024 : Shape := ⟨3, ![4, 2048, 1024]⟩
abbrev S_ : Shape := ⟨0, ![]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x2048x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4x2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, v27.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw1Ideal.lean ====
abbrev S4096x4096 : Shape := ⟨2, ![4096, 4096]⟩
abbrev S4096x1024 : Shape := ⟨2, ![4096, 1024]⟩
abbrev S4x2048x1024 : Shape := ⟨3, ![4, 2048, 1024]⟩
abbrev S_ : Shape := ⟨0, ![]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x2048x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4x2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, v27.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw1RefIdeal.lean ====
abbrev S4096x4096 : Shape := ⟨2, ![4096, 4096]⟩
abbrev S4096x1024 : Shape := ⟨2, ![4096, 1024]⟩
abbrev S4x2048x1024 : Shape := ⟨3, ![4, 2048, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x2048x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S1024x4096, .f32⟩
  | .hbm, ⟨13, _⟩ => ⟨S4096x1024, .f32⟩
  | .hbm, ⟨14, _⟩ => ⟨S4x1024x1024, .f32⟩
  | .hbm, ⟨15, _⟩ => ⟨S4x1024x1024, .f32⟩
  | .hbm, ⟨16, _⟩ => ⟨S4x2048x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== UpDx1.lean ====
abbrev S4096x4096 : Shape := ⟨2, ![4096, 4096]⟩
abbrev S2x1024x4096 : Shape := ⟨3, ![2, 1024, 4096]⟩
abbrev S2048x4x1024 : Shape := ⟨3, ![2048, 4, 1024]⟩
abbrev S4x2048x1024 : Shape := ⟨3, ![4, 2048, 1024]⟩
abbrev S4096x1024 : Shape := ⟨2, ![4096, 1024]⟩
abbrev S1024x4096 : Shape := ⟨2, ![1024, 4096]⟩
abbrev S4x512x1024 : Shape := ⟨3, ![4, 512, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S2048x4x1024, .f32⟩
  | .hbm, ⟨3, _⟩ => ⟨S4x2048x1024, .f32⟩
  | .hbm, ⟨4, _⟩ => ⟨S4x2048x1024, .bf16⟩
  | .hbm, ⟨5, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDx1Ideal.lean ====
abbrev S4096x4096 : Shape := ⟨2, ![4096, 4096]⟩
abbrev S2x1024x4096 : Shape := ⟨3, ![2, 1024, 4096]⟩
abbrev S2048x4x1024 : Shape := ⟨3, ![2048, 4, 1024]⟩
abbrev S4x2048x1024 : Shape := ⟨3, ![4, 2048, 1024]⟩
abbrev S4096x1024 : Shape := ⟨2, ![4096, 1024]⟩
abbrev S1024x4096 : Shape := ⟨2, ![1024, 4096]⟩
abbrev S4x512x1024 : Shape := ⟨3, ![4, 512, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S2048x4x1024, .f32⟩
  | .hbm, ⟨3, _⟩ => ⟨S4x2048x1024, .f32⟩
  | .hbm, ⟨4, _⟩ => ⟨S4x2048x1024, .bf16⟩
  | .hbm, ⟨5, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDx1RefIdeal.lean ====
abbrev S4096x4096 : Shape := ⟨2, ![4096, 4096]⟩
abbrev S2x1024x4096 : Shape := ⟨3, ![2, 1024, 4096]⟩
abbrev S_ : Shape := ⟨0, ![]⟩
abbrev S4096x1024 : Shape := ⟨2, ![4096, 1024]⟩
abbrev S1x1024x4096 : Shape := ⟨3, ![1, 1024, 4096]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .f32⟩
  | .hbm, ⟨2, _⟩ => ⟨S_, .f32⟩
  | .hbm, ⟨3, _⟩ => ⟨S4096x1024, .f32⟩
  | .hbm, ⟨4, _⟩ => ⟨S1x1024x4096, .f32⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw1.lean ====
abbrev S4096x1024 : Shape := ⟨2, ![4096, 1024]⟩
abbrev S4096x4096 : Shape := ⟨2, ![4096, 4096]⟩
abbrev S4x2048x1024 : Shape := ⟨3, ![4, 2048, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x2048x1024, .f32⟩
  | .hbm, ⟨3, _⟩ => ⟨S4x2048x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDw1RefIdeal.lean ====
abbrev S4096x1024 : Shape := ⟨2, ![4096, 1024]⟩
abbrev S4096x4096 : Shape := ⟨2, ![4096, 4096]⟩
abbrev S4x2048x1024 : Shape := ⟨3, ![4, 2048, 1024]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x2048x1024, .f32⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1024x1024, .f32⟩
  | .hbm, ⟨13, _⟩ => ⟨S4x2048x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InE.lean ====
abbrev S4096x1024 : Shape := ⟨2, ![4096, 1024]⟩
abbrev S1024x2056 : Shape := ⟨2, ![1024, 2056]⟩
abbrev S_ : Shape := ⟨0, ![]⟩
abbrev S1024x2176 : Shape := ⟨2, ![1024, 2176]⟩
abbrev S4096x2176 : Shape := ⟨2, ![4096, 2176]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2056, .f32⟩
  | .hbm, ⟨2, _⟩ => ⟨S1024x2056, .bf16⟩
  | .hbm, ⟨3, _⟩ => ⟨S_, .i32⟩
  | .hbm, ⟨4, _⟩ => ⟨S_, .bf16⟩
  | .hbm, ⟨5, _⟩ => ⟨S1024x2176, .bf16⟩
  | .hbm, ⟨6, _⟩ => ⟨S4096x2176, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .f32⟩
  | .local _ .vmem, ⟨4, _⟩ => ⟨S1024x2176, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InERefIdeal.lean ====
abbrev S4096x1024 : Shape := ⟨2, ![4096, 1024]⟩
abbrev S1024x2056 : Shape := ⟨2, ![1024, 2056]⟩
abbrev S4096x2056 : Shape := ⟨2, ![4096, 2056]⟩
abbrev S_ : Shape := ⟨0, ![]⟩
abbrev S4096x2176 : Shape := ⟨2, ![4096, 2176]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2056, .f32⟩
  | .hbm, ⟨2, _⟩ => ⟨S4096x1024, .f32⟩
  | .hbm, ⟨3, _⟩ => ⟨S4096x2056, .f32⟩
  | .hbm, ⟨4, _⟩ => ⟨S_, .i32⟩
  | .hbm, ⟨5, _⟩ => ⟨S_, .f32⟩
  | .hbm, ⟨6, _⟩ => ⟨S4096x2176, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== InEDx.lean ====
abbrev S4096x2176 : Shape := ⟨2, ![4096, 2176]⟩
abbrev S1024x2056 : Shape := ⟨2, ![1024, 2056]⟩
abbrev S_ : Shape := ⟨0, ![]⟩
abbrev S1024x2176 : Shape := ⟨2, ![1024, 2176]⟩
abbrev S4096x1024 : Shape := ⟨2, ![4096, 1024]⟩
abbrev S2048x2176 : Shape := ⟨2, ![2048, 2176]⟩
abbrev S512x2176 : Shape := ⟨2, ![512, 2176]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x2176, .bf16⟩
  | .hbm, ⟨1, _⟩ => ⟨S1024x2056, .f32⟩
  | .hbm, ⟨2, _⟩ => ⟨S1024x2056, .bf16⟩
  | .hbm, ⟨3, _⟩ => ⟨S_, .i32⟩
  | .hbm, ⟨4, _⟩ => ⟨S_, .bf16⟩
  | .hbm, ⟨5, _⟩ => ⟨S1024x2176, .bf16⟩
  | .hbm, ⟨6, _⟩ => ⟨S4096x1024, .f32⟩
  | .local _ .vmem, ⟨0, _⟩ => ⟨S2048x2176, .bf16⟩
  | .local _ .vmem, ⟨1, _⟩ => ⟨S2048x2176, .bf16⟩
  | .local _ .vmem, ⟨2, _⟩ => ⟨S512x2176, .bf16⟩
  | .local _ .vmem, ⟨3, _⟩ => ⟨S512x2176, .bf16⟩
  | .local _ .vmem, ⟨4, _⟩ => ⟨S2048x512, .f32⟩
  | .local _ .vmem, ⟨5, _⟩ => ⟨S2048x512, .f32⟩
  | _, _ => ⟨S4096x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InEDxRefIdeal.lean ====
abbrev S4096x2176 : Shape := ⟨2, ![4096, 2176]⟩
abbrev S1024x2056 : Shape := ⟨2, ![1024, 2056]⟩
abbrev S_ : Shape := ⟨0, ![]⟩
abbrev S4096x1024 : Shape := ⟨2, ![4096, 1024]⟩
abbrev S4096x2056 : Shape := ⟨2, ![4096, 2056]⟩

abbrev nBuf : Space → Nat
  | .hbm => 8
  | .vmem => 0
  | .smem => 0
  | _ => 0

abbrev bufTy : (tb : Table) → Fin (tcTables nBuf tb) → BufTy
  | .hbm, ⟨0, _⟩ => ⟨S4096x2176, .bf16⟩
  | .hbm, ⟨1, _⟩ => ⟨S1024x2056, .f32⟩
  | .hbm, ⟨2, _⟩ => ⟨S_, .f32⟩
  | .hbm, ⟨3, _⟩ => ⟨S4096x1024, .f32⟩
  | .hbm, ⟨4, _⟩ => ⟨S4096x2056, .bf16⟩
  | .hbm, ⟨5, _⟩ => ⟨S4096x2056, .f32⟩
  | .hbm, ⟨6, _⟩ => ⟨S4096x2056, .f32⟩
  | .hbm, ⟨7, _⟩ => ⟨S4096x1024, .f32⟩
  | _, _ => ⟨S4096x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InEDw.lean ====
abbrev S4096x1024 : Shape := ⟨2, ![4096, 1024]⟩
abbrev S4096x2176 : Shape := ⟨2, ![4096, 2176]⟩
abbrev S1024x2176 : Shape := ⟨2, ![1024, 2176]⟩
abbrev S2048x512 : Shape := ⟨2, ![2048, 512]⟩
abbrev S2048x2176 : Shape := ⟨2, ![2048, 2176]⟩
abbrev S512x2176 : Shape := ⟨2, ![512, 2176]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2176, .bf16⟩
  | .hbm, ⟨2, _⟩ => ⟨S1024x2176, .f32⟩
  | .local _ .vmem, ⟨0, _⟩ => ⟨S2048x512, .bf16⟩
  | .local _ .vmem, ⟨1, _⟩ => ⟨S2048x512, .bf16⟩
  | .local _ .vmem, ⟨2, _⟩ => ⟨S2048x2176, .bf16⟩
  | .local _ .vmem, ⟨3, _⟩ => ⟨S2048x2176, .bf16⟩
  | .local _ .vmem, ⟨4, _⟩ => ⟨S512x2176, .f32⟩
  | .local _ .vmem, ⟨5, _⟩ => ⟨S512x2176, .f32⟩
  | .local _ .vmem, ⟨6, _⟩ => ⟨S512x2176, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InEDwRefIdeal.lean ====
abbrev S4096x1024 : Shape := ⟨2, ![4096, 1024]⟩
abbrev S4096x2176 : Shape := ⟨2, ![4096, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2176, .bf16⟩
  | .hbm, ⟨2, _⟩ => ⟨S_, .f32⟩
  | .hbm, ⟨3, _⟩ => ⟨S1024x2176, .f32⟩
  | .hbm, ⟨4, _⟩ => ⟨S4096x1024, .f32⟩
  | .hbm, ⟨5, _⟩ => ⟨S4096x2176, .f32⟩
  | .hbm, ⟨6, _⟩ => ⟨S4096x2176, .f32⟩
  | .hbm, ⟨7, _⟩ => ⟨S2176x1024, .f32⟩
  | .hbm, ⟨8, _⟩ => ⟨S1024x2176, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InO.lean ====
abbrev S4096x1024 : Shape := ⟨2, ![4096, 1024]⟩
abbrev S1024x1536 : Shape := ⟨2, ![1024, 1536]⟩
abbrev S1024x1024 : Shape := ⟨2, ![1024, 1024]⟩
abbrev S1024x512 : Shape := ⟨2, ![1024, 512]⟩
abbrev S4096x1536 : Shape := ⟨2, ![4096, 1536]⟩
abbrev S2048x1024 : Shape := ⟨2, ![2048, 1024]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .f32⟩
  | .hbm, ⟨2, _⟩ => ⟨S1024x1536, .bf16⟩
  | .hbm, ⟨3, _⟩ => ⟨S1024x1024, .bf16⟩
  | .hbm, ⟨4, _⟩ => ⟨S1024x512, .bf16⟩
  | .hbm, ⟨5, _⟩ => ⟨S1024x1536, .bf16⟩
  | .hbm, ⟨6, _⟩ => ⟨S4096x1536, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InORefIdeal.lean ====
abbrev S4096x1024 : Shape := ⟨2, ![4096, 1024]⟩
abbrev S1024x1536 : Shape := ⟨2, ![1024, 1536]⟩
abbrev S4096x1536 : Shape := ⟨2, ![4096, 1536]⟩
abbrev S4096x512 : Shape := ⟨2, ![4096, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .f32⟩
  | .hbm, ⟨2, _⟩ => ⟨S4096x1024, .f32⟩
  | .hbm, ⟨3, _⟩ => ⟨S4096x1536, .f32⟩
  | .hbm, ⟨4, _⟩ => ⟨S4096x1024, .f32⟩
  | .hbm, ⟨5, _⟩ => ⟨S4096x512, .f32⟩
  | .hbm, ⟨6, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InODx.lean ====
abbrev S4096x1536 : Shape := ⟨2, ![4096, 1536]⟩
abbrev S1024x1536 : Shape := ⟨2, ![1024, 1536]⟩
abbrev S1024x1024 : Shape := ⟨2, ![1024, 1024]⟩
abbrev S1024x512 : Shape := ⟨2, ![1024, 512]⟩
abbrev S4096x1024 : Shape := ⟨2, ![4096, 1024]⟩
abbrev S2048x1536 : Shape := ⟨2, ![2048, 1536]⟩
abbrev S2048x1024 : Shape := ⟨2, ![2048, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .f32⟩
  | .hbm, ⟨2, _⟩ => ⟨S1024x1536, .bf16⟩
  | .hbm, ⟨3, _⟩ => ⟨S1024x1024, .bf16⟩
  | .hbm, ⟨4, _⟩ => ⟨S1024x512, .bf16⟩
  | .hbm, ⟨5, _⟩ => ⟨S1024x1536, .bf16⟩
  | .hbm, ⟨6, _⟩ => ⟨S4096x1024, .f32⟩
  | .local _ .vmem, ⟨0, _⟩ => ⟨S2048x1536, .bf16⟩
  | .local _ .vmem, ⟨1, _⟩ => ⟨S2048x1536, .bf16⟩
  | .local _ .vmem, ⟨2, _⟩ => ⟨S1024x1536, .bf16⟩
  | .local _ .vmem, ⟨3, _⟩ => ⟨S2048x1024, .f32⟩
  | .local _ .vmem, ⟨4, _⟩ => ⟨S2048x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InODxRefIdeal.lean ====
abbrev S4096x1536 : Shape := ⟨2, ![4096, 1536]⟩
abbrev S1024x1536 : Shape := ⟨2, ![1024, 1536]⟩
abbrev S4096x512 : Shape := ⟨2, ![4096, 512]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .f32⟩
  | .hbm, ⟨2, _⟩ => ⟨S4096x512, .bf16⟩
  | .hbm, ⟨3, _⟩ => ⟨S4096x1024, .bf16⟩
  | .hbm, ⟨4, _⟩ => ⟨S4096x1536, .bf16⟩
  | .hbm, ⟨5, _⟩ => ⟨S_, .f32⟩
  | .hbm, ⟨6, _⟩ => ⟨S4096x1024, .f32⟩
  | .hbm, ⟨7, _⟩ => ⟨S4096x1536, .f32⟩
  | .hbm, ⟨8, _⟩ => ⟨S4096x1536, .f32⟩
  | .hbm, ⟨9, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InODw.lean ====
abbrev S4096x1024 : Shape := ⟨2, ![4096, 1024]⟩
abbrev S4096x1536 : Shape := ⟨2, ![4096, 1536]⟩
abbrev S1024x1536 : Shape := ⟨2, ![1024, 1536]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InODwRefIdeal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .local _ .vmem, ⟨0, _⟩ => ⟨S4096x512, .f32⟩
  | .local _ .vmem, ⟨1, _⟩ => ⟨S4096x512, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwIdeal.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .local _ .vmem, ⟨0, _⟩ => ⟨S4096x512, .f32⟩
  | .local _ .vmem, ⟨1, _⟩ => ⟨S4096x512, .f32⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Glu.lean ====
abbrev S4096x512 : Shape := ⟨2, ![4096, 512]⟩
abbrev S512x512 : Shape := ⟨2, ![512, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512x512, .bf16⟩
  | .hbm, ⟨3, _⟩ => ⟨S4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluRefIdeal.lean ====
abbrev S4096x512 : Shape := ⟨2, ![4096, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GluDx.lean ====
abbrev S4096x512 : Shape := ⟨2, ![4096, 512]⟩
abbrev S512x512 : Shape := ⟨2, ![512, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x512, .f32⟩
  | .hbm, ⟨2, _⟩ => ⟨S512x512, .bf16⟩
  | .hbm, ⟨3, _⟩ => ⟨S4096x512, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDxRefIdeal.lean ====
abbrev S4096x512 : Shape := ⟨2, ![4096, 512]⟩
abbrev S512x512 : Shape := ⟨2, ![512, 512]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .f32⟩
  | .hbm, ⟨2, _⟩ => ⟨S_, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluDw.lean ====
abbrev S4096x512 : Shape := ⟨2, ![4096, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S512x512, .f32⟩
  | .local _ .vmem, ⟨0, _⟩ => ⟨S4096x512, .f32⟩
  | .local _ .vmem, ⟨1, _⟩ => ⟨S4096x512, .bf16⟩
  | .local _ .vmem, ⟨2, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S4096x512 : Shape := ⟨2, ![4096, 512]⟩
abbrev S_ : Shape := ⟨0, ![]⟩
abbrev S512x512 : Shape := ⟨2, ![512, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S512x512, .f32⟩
  | .hbm, ⟨7, _⟩ => ⟨S512x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamMlp.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpIdeal.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInE.lean ====
abbrev S1024x514 : Shape := ⟨2, ![1024, 514]⟩
abbrev S512x514 : Shape := ⟨2, ![512, 514]⟩

abbrev nBuf : Space → Nat
  | .hbm => 7
  | .vmem => 14
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S1024x514, .f32⟩
  | .hbm, ⟨5, _⟩ => ⟨S1024x514, .f32⟩
  | .hbm, ⟨6, _⟩ => ⟨S1024x514, .f32⟩
  | .local _ .vmem, ⟨0, _⟩ => ⟨S512x514, .f32⟩
  | .local _ .vmem, ⟨1, _⟩ => ⟨S512x514, .f32⟩
  | .local _ .vmem, ⟨2, _⟩ => ⟨S512x514, .f32⟩
  | .local _ .vmem, ⟨3, _⟩ => ⟨S512x514, .f32⟩
  | .local _ .vmem, ⟨4, _⟩ => ⟨S512x514, .f32⟩
  | .local _ .vmem, ⟨5, _⟩ => ⟨S512x514, .f32⟩
  | .local _ .vmem, ⟨6, _⟩ => ⟨S512x514, .f32⟩
  | .local _ .vmem, ⟨7, _⟩ => ⟨S512x514, .f32⟩
  | .local _ .vmem, ⟨8, _⟩ => ⟨S512x514, .f32⟩
  | .local _ .vmem, ⟨9, _⟩ => ⟨S512x514, .f32⟩
  | .local _ .vmem, ⟨10, _⟩ => ⟨S512x514, .f32⟩
  | .local _ .vmem, ⟨11, _⟩ => ⟨S512x514, .f32⟩
  | .local _ .vmem, ⟨12, _⟩ => ⟨S512x514, .f32⟩
  | .local _ .vmem, ⟨13, _⟩ => ⟨S512x514, .f32⟩
  | _, _ => ⟨S1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInEIdeal.lean ====
abbrev S1024x514 : Shape := ⟨2, ![1024, 514]⟩
abbrev S512x514 : Shape := ⟨2, ![512, 514]⟩

abbrev nBuf : Space → Nat
  | .hbm => 7
  | .vmem => 14
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S1024x514, .f32⟩
  | .hbm, ⟨5, _⟩ => ⟨S1024x514, .f32⟩
  | .hbm, ⟨6, _⟩ => ⟨S1024x514, .f32⟩
  | .local _ .vmem, ⟨0, _⟩ => ⟨S512x514, .f32⟩
  | .local _ .vmem, ⟨1, _⟩ => ⟨S512x514, .f32⟩
  | .local _ .vmem, ⟨2, _⟩ => ⟨S512x514, .f32⟩
  | .local _ .vmem, ⟨3, _⟩ => ⟨S512x514, .f32⟩
  | .local _ .vmem, ⟨4, _⟩ => ⟨S512x514, .f32⟩
  | .local _ .vmem, ⟨5, _⟩ => ⟨S512x514, .f32⟩
  | .local _ .vmem, ⟨6, _⟩ => ⟨S512x514, .f32⟩
  | .local _ .vmem, ⟨7, _⟩ => ⟨S512x514, .f32⟩
  | .local _ .vmem, ⟨8, _⟩ => ⟨S512x514, .f32⟩
  | .local _ .vmem, ⟨9, _⟩ => ⟨S512x514, .f32⟩
  | .local _ .vmem, ⟨10, _⟩ => ⟨S512x514, .f32⟩
  | .local _ .vmem, ⟨11, _⟩ => ⟨S512x514, .f32⟩
  | .local _ .vmem, ⟨12, _⟩ => ⟨S512x514, .f32⟩
  | .local _ .vmem, ⟨13, _⟩ => ⟨S512x514, .f32⟩
  | _, _ => ⟨S1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInERefIdeal.lean ====
abbrev S1024x514 : Shape := ⟨2, ![1024, 514]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S_, .f32⟩
  | .hbm, ⟨5, _⟩ => ⟨S1024x514, .f32⟩
  | .hbm, ⟨6, _⟩ => ⟨S1024x514, .f32⟩
  | .hbm, ⟨7, _⟩ => ⟨S_, .f32⟩
  | .hbm, ⟨8, _⟩ => ⟨S1024x514, .f32⟩
  | .hbm, ⟨9, _⟩ => ⟨S1024x514, .f32⟩
  | .hbm, ⟨10, _⟩ => ⟨S1024x514, .f32⟩
  | .hbm, ⟨11, _⟩ => ⟨S_, .f32⟩
  | .hbm, ⟨12, _⟩ => ⟨S1024x514, .f32⟩
  | .hbm, ⟨13, _⟩ => ⟨S1024x514, .f32⟩
  | .hbm, ⟨14, _⟩ => ⟨S1024x514, .f32⟩
  | .hbm, ⟨15, _⟩ => ⟨S_, .f32⟩
  | .hbm, ⟨16, _⟩ => ⟨S1024x514, .f32⟩
  | .hbm, ⟨17, _⟩ => ⟨S1024x514, .f32⟩
  | .hbm, ⟨18, _⟩ => ⟨S1024x514, .f32⟩
  | .hbm, ⟨19, _⟩ => ⟨S_, .f32⟩
  | .hbm, ⟨20, _⟩ => ⟨S1024x514, .f32⟩
  | .hbm, ⟨21, _⟩ => ⟨S1024x514, .f32⟩
  | .hbm, ⟨22, _⟩ => ⟨S_, .f32⟩
  | .hbm, ⟨23, _⟩ => ⟨S1024x514, .f32⟩
  | .hbm, ⟨24, _⟩ => ⟨S1024x514, .f32⟩
  | .hbm, ⟨25, _⟩ => ⟨S1024x514, .f32⟩
  | .hbm, ⟨26, _⟩ => ⟨S_, .f32⟩
  | .hbm, ⟨27, _⟩ => ⟨S1024x514, .f32⟩
  | .hbm, ⟨28, _⟩ => ⟨S1024x514, .f32⟩
  | .hbm, ⟨29, _⟩ => ⟨S1024x514, .f32⟩
  | .hbm, ⟨30, _⟩ => ⟨S_, .f32⟩
  | .hbm, ⟨31, _⟩ => ⟨S1024x514, .f32⟩
  | .hbm, ⟨32, _⟩ => ⟨S1024x514, .f32⟩
  | .hbm, ⟨33, _⟩ => ⟨S1024x514, .f32⟩
  | .hbm, ⟨34, _⟩ => ⟨S_, .f32⟩
  | .hbm, ⟨35, _⟩ => ⟨S1024x514, .f32⟩
  | .hbm, ⟨36, _⟩ => ⟨S1024x514, .f32⟩
  | _, _ => ⟨S1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInO.lean ====
abbrev S1024x384 : Shape := ⟨2, ![1024, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInOIdeal.lean ====
abbrev S1024x384 : Shape := ⟨2, ![1024, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInORefIdeal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S128x512 : Shape := ⟨2, ![128, 512]⟩

abbrev nBuf : Space → Nat
  | .hbm => 7
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGluIdeal.lean ====
abbrev S128x512 : Shape := ⟨2, ![128, 512]⟩

abbrev nBuf : Space → Nat
  | .hbm => 7
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGluRefIdeal.lean ====
abbrev S128x512 : Shape := ⟨2, ![128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S128x512, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S128x512, .f32⟩
  | .hbm, ⟨11, _⟩ => ⟨S_, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S_, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S2160x128 : Shape := ⟨2, ![2160, 128]⟩

abbrev nBuf : Space → Nat
  | .hbm => 7
  | .vmem => 7
  | .smem => 0
  | _ => 0

abbrev bufTy : (tb : Table) → Fin (tcTables nBuf tb) → BufTy
  | .hbm, ⟨0, _⟩ => ⟨S2160x128, .f32⟩
  | .hbm, ⟨1, _⟩ => ⟨S2160x128, .f32⟩
  | .hbm, ⟨2, _⟩ => ⟨S2160x128, .f32⟩
  | .hbm, ⟨3, _⟩ => ⟨S2160x128, .f32⟩
  | .hbm, ⟨4, _⟩ => ⟨S2160x128, .f32⟩
  | .hbm, ⟨5, _⟩ => ⟨S2160x128, .f32⟩
  | .hbm, ⟨6, _⟩ => ⟨S2160x128, .f32⟩
  | .local _ .vmem, ⟨0, _⟩ => ⟨S2160x128, .f32⟩
  | .local _ .vmem, ⟨1, _⟩ => ⟨S2160x128, .f32⟩
  | .local _ .vmem, ⟨2, _⟩ => ⟨S2160x128, .f32⟩
  | .local _ .vmem, ⟨3, _⟩ => ⟨S2160x128, .f32⟩
  | .local _ .vmem, ⟨4, _⟩ => ⟨S2160x128, .f32⟩
  | .local _ .vmem, ⟨5, _⟩ => ⟨S2160x128, .f32⟩
  | .local _ .vmem, ⟨6, _⟩ => ⟨S2160x128, .f32⟩
  | _, _ => ⟨S2160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
abbrev S2160x128 : Shape := ⟨2, ![2160, 128]⟩

abbrev nBuf : Space → Nat
  | .hbm => 7
  | .vmem => 7
  | .smem => 0
  | _ => 0

abbrev bufTy : (tb : Table) → Fin (tcTables nBuf tb) → BufTy
  | .hbm, ⟨0, _⟩ => ⟨S2160x128, .f32⟩
  | .hbm, ⟨1, _⟩ => ⟨S2160x128, .f32⟩
  | .hbm, ⟨2, _⟩ => ⟨S2160x128, .f32⟩
  | .hbm, ⟨3, _⟩ => ⟨S2160x128, .f32⟩
  | .hbm, ⟨4, _⟩ => ⟨S2160x128, .f32⟩
  | .hbm, ⟨5, _⟩ => ⟨S2160x128, .f32⟩
  | .hbm, ⟨6, _⟩ => ⟨S2160x128, .f32⟩
  | .local _ .vmem, ⟨0, _⟩ => ⟨S2160x128, .f32⟩
  | .local _ .vmem, ⟨1, _⟩ => ⟨S2160x128, .f32⟩
  | .local _ .vmem, ⟨2, _⟩ => ⟨S2160x128, .f32⟩
  | .local _ .vmem, ⟨3, _⟩ => ⟨S2160x128, .f32⟩
  | .local _ .vmem, ⟨4, _⟩ => ⟨S2160x128, .f32⟩
  | .local _ .vmem, ⟨5, _⟩ => ⟨S2160x128, .f32⟩
  | .local _ .vmem, ⟨6, _⟩ => ⟨S2160x128, .f32⟩
  | _, _ => ⟨S2160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S2160x128 : Shape := ⟨2, ![2160, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2160x128, .f32⟩
  | .hbm, ⟨1, _⟩ => ⟨S2160x128, .f32⟩
  | .hbm, ⟨2, _⟩ => ⟨S2160x128, .f32⟩
  | .hbm, ⟨3, _⟩ => ⟨S2160x128, .f32⟩
  | .hbm, ⟨4, _⟩ => ⟨S_, .f32⟩
  | .hbm, ⟨5, _⟩ => ⟨S2160x128, .f32⟩
  | .hbm, ⟨6, _⟩ => ⟨S2160x128, .f32⟩
  | .hbm, ⟨7, _⟩ => ⟨S_, .f32⟩
  | .hbm, ⟨8, _⟩ => ⟨S2160x128, .f32⟩
  | .hbm, ⟨9, _⟩ => ⟨S2160x128, .f32⟩
  | .hbm, ⟨10, _⟩ => ⟨S2160x128, .f32⟩
  | .hbm, ⟨11, _⟩ => ⟨S_, .f32⟩
  | .hbm, ⟨12, _⟩ => ⟨S2160x128, .f32⟩
  | .hbm, ⟨13, _⟩ => ⟨S2160x128, .f32⟩
  | .hbm, ⟨14, _⟩ => ⟨S2160x128, .f32⟩
  | .hbm, ⟨15, _⟩ => ⟨S_, .f32⟩
  | .hbm, ⟨16, _⟩ => ⟨S2160x128, .f32⟩
  | .hbm, ⟨17, _⟩ => ⟨S2160x128, .f32⟩
  | .hbm, ⟨18, _⟩ => ⟨S2160x128, .f32⟩
  | .hbm, ⟨19, _⟩ => ⟨S_, .f32⟩
  | .hbm, ⟨20, _⟩ => ⟨S2160x128, .f32⟩
  | .hbm, ⟨21, _⟩ => ⟨S2160x128, .f32⟩
  | .hbm, ⟨22, _⟩ => ⟨S_, .f32⟩
  | .hbm, ⟨23, _⟩ => ⟨S2160x128, .f32⟩
  | .hbm, ⟨24, _⟩ => ⟨S2160x128, .f32⟩
  | .hbm, ⟨25, _⟩ => ⟨S2160x128, .f32⟩
  | .hbm, ⟨26, _⟩ => ⟨S_, .f32⟩
  | .hbm, ⟨27, _⟩ => ⟨S2160x128, .f32⟩
  | .hbm, ⟨28, _⟩ => ⟨S2160x128, .f32⟩
  | .hbm, ⟨29, _⟩ => ⟨S2160x128, .f32⟩
  | .hbm, ⟨30, _⟩ => ⟨S_, .f32⟩
  | .hbm, ⟨31, _⟩ => ⟨S2160x128, .f32⟩
  | .hbm, ⟨32, _⟩ => ⟨S2160x128, .f32⟩
  | .hbm, ⟨33, _⟩ => ⟨S2160x128, .f32⟩
  | .hbm, ⟨34, _⟩ => ⟨S_, .f32⟩
  | .hbm, ⟨35, _⟩ => ⟨S2160x128, .f32⟩
  | .hbm, ⟨36, _⟩ => ⟨S2160x128, .f32⟩
  | _, _ => ⟨S2160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamVec.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamVecRefIdeal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GluBwd.lean ====
abbrev S4096x512 : Shape := ⟨2, ![4096, 512]⟩
abbrev S4096x1024 : Shape := ⟨2, ![4096, 1024]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x512, .f32⟩
  | .hbm, ⟨4, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluBwdRefIdeal.lean ====
abbrev S4096x512 : Shape := ⟨2, ![4096, 512]⟩
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Gate.lean ====
abbrev S4096x2176 : Shape := ⟨2, ![4096, 2176]⟩
abbrev S1x128 : Shape := ⟨2, ![1, 128]⟩
abbrev S4096x128 : Shape := ⟨2, ![4096, 128]⟩
abbrev S256x128 : Shape := ⟨2, ![256, 128]⟩
abbrev S8x128 : Shape := ⟨2, ![8, 128]⟩
abbrev S256x256 : Shape := ⟨2, ![256, 256]⟩
abbrev S128 : Shape := ⟨1, ![128]⟩

abbrev nBuf : Space → Nat
  | .hbm => 6
  | .vmem => 11
  | .smem => 0
  | _ => 0

abbrev bufTy : (tb : Table) → Fin (tcTables nBuf tb) → BufTy
  | .hbm, ⟨0, _⟩ => ⟨S4096x2176, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x128, .f32⟩
  | .local _ .vmem, ⟨10, _⟩ => ⟨S8x128, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let c0_i32 : BitVec 32 := 0#32
  ![v0.toNat, c16_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateRefIdeal.lean ====
abbrev S4096x2176 : Shape := ⟨2, ![4096, 2176]⟩
abbrev S1x128 : Shape := ⟨2, ![1, 128]⟩
abbrev S4096x128 : Shape := ⟨2, ![4096, 128]⟩
abbrev S_ : Shape := ⟨0, ![]⟩
abbrev S128 : Shape := ⟨1, ![128]⟩

abbrev nBuf : Space → Nat
  | .hbm => 68
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S_, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .i1⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S4096x128, .f32⟩
  | .hbm, ⟨24, _⟩ => ⟨S4096x128, .i1⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S_, .f32⟩
  | .hbm, ⟨29, _⟩ => ⟨S4096x128, .f32⟩
  | .hbm, ⟨30, _⟩ => ⟨S4096x128, .i1⟩
  | .hbm, ⟨31, _⟩ => ⟨S_, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x128, .f32⟩
  | .hbm, ⟨44, _⟩ => ⟨S4096x128, .i1⟩
  | .hbm, ⟨45, _⟩ => ⟨S_, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S_, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S_, .f32⟩
  | .hbm, ⟨56, _⟩ => ⟨S_, .f32⟩
  | .hbm, ⟨57, _⟩ => ⟨S4096x128, .f32⟩
  | .hbm, ⟨58, _⟩ => ⟨S4096x128, .f32⟩
  | .hbm, ⟨59, _⟩ => ⟨S_, .f32⟩
  | .hbm, ⟨60, _⟩ => ⟨S_, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S_, .f32⟩
  | .hbm, ⟨66, _⟩ => ⟨S128, .f32⟩
  | .hbm, ⟨67, _⟩ => ⟨S1x128, .f32⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_call2_call0_cst : Ref sig .tc := ⟨.hbm, 59, rfl⟩
abbrev main_call2_call0_v0 : Ref sig .tc := ⟨.hbm, 60, rfl⟩
abbrev main_v6 : Ref sig .tc := ⟨.hbm, 61, rfl⟩
abbrev main_call3_v0 : Ref sig .tc := ⟨.hbm, 62, rfl⟩
abbrev main_call3_v1 : Ref sig .tc := ⟨.hbm, 63, rfl⟩
abbrev main_v7 : Ref sig .tc := ⟨.hbm, 64, rfl⟩
abbrev main_cst : Ref sig .tc := ⟨.hbm, 65, rfl⟩
abbrev main_v8 : Ref sig .tc := ⟨.hbm, 66, rfl⟩
abbrev main_v9 : Ref sig .tc := ⟨.hbm, 67, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NormRes.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormResRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== PostBwd.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== ResNorm.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S8x128, .f32⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== PreNorm.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PoolScale.lean ====
abbrev S4096x512 : Shape := ⟨2, ![4096, 512]⟩
abbrev S1x512 : Shape := ⟨2, ![1, 512]⟩
abbrev S4096x1024 : Shape := ⟨2, ![4096, 1024]⟩
abbrev S1024x512 : Shape := ⟨2, ![1024, 512]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S4096x1024, .f32⟩
  | .hbm, ⟨3, _⟩ => ⟨S4096x512, .bf16⟩
  | .hbm, ⟨4, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PoolScaleRefIdeal.lean ====
abbrev S4096x512 : Shape := ⟨2, ![4096, 512]⟩
abbrev S1x512 : Shape := ⟨2, ![1, 512]⟩
abbrev S4096x1024 : Shape := ⟨2, ![4096, 1024]⟩
abbrev S_ : Shape := ⟨0, ![]⟩
abbrev S512 : Shape := ⟨1, ![512]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S4096x512, .f32⟩
  | .hbm, ⟨11, _⟩ => ⟨S4096x512, .f32⟩
  | .hbm, ⟨12, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== S5Out.lean ====
abbrev S4096x512 : Shape := ⟨2, ![4096, 512]⟩
abbrev S4096x2176 : Shape := ⟨2, ![4096, 2176]⟩
abbrev S1x512 : Shape := ⟨2, ![1, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x2176, .f32⟩
  | .hbm, ⟨2, _⟩ => ⟨S1x512, .f32⟩
  | .hbm, ⟨3, _⟩ => ⟨S4096x512, .f32⟩
  | .hbm, ⟨4, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== S5OutRefIdeal.lean ====
abbrev S4096x512 : Shape := ⟨2, ![4096, 512]⟩
abbrev S4096x2176 : Shape := ⟨2, ![4096, 2176]⟩
abbrev S1x512 : Shape := ⟨2, ![1, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2176, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== S5Du.lean ====
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== S5DuRefIdeal.lean ====
abbrev S4096x512 : Shape := ⟨2, ![4096, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateFwd.lean ====
abbrev S4096x2176 : Shape := ⟨2, ![4096, 2176]⟩
abbrev S1x128 : Shape := ⟨2, ![1, 128]⟩
abbrev S4096x128 : Shape := ⟨2, ![4096, 128]⟩
abbrev S256x128 : Shape := ⟨2, ![256, 128]⟩
abbrev S8x128 : Shape := ⟨2, ![8, 128]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2176, .f32⟩
  | .hbm, ⟨1, _⟩ => ⟨S1x128, .f32⟩
  | .hbm, ⟨2, _⟩ => ⟨S4096x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S8x128, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateFwdRefIdeal.lean ====
abbrev S4096x2176 : Shape := ⟨2, ![4096, 2176]⟩
abbrev S1x128 : Shape := ⟨2, ![1, 128]⟩
abbrev S4096x128 : Shape := ⟨2, ![4096, 128]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .i1⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S_, .f32⟩
  | .hbm, ⟨23, _⟩ => ⟨S4096x128, .f32⟩
  | .hbm, ⟨24, _⟩ => ⟨S_, .f32⟩
  | .hbm, ⟨25, _⟩ => ⟨S4096x128, .f32⟩
  | .hbm, ⟨26, _⟩ => ⟨S4096x128, .f32⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩

abbrev nD : Nat := 1
abbrev τ : Topo := Topo.v7x

variable {F : FTy → Type} [FloatOps F]
-- ==== Pool.lean ====
abbrev S4096x512 : Shape := ⟨2, ![4096, 512]⟩
abbrev S4x128x128 : Shape := ⟨3, ![4, 128, 128]⟩
abbrev S4x4 : Shape := ⟨2, ![4, 4]⟩
abbrev S_ : Shape := ⟨0, ![]⟩
abbrev S4x1x4x1 : Shape := ⟨4, ![4, 1, 4, 1]⟩
abbrev S4x128x1x128 : Shape := ⟨4, ![4, 128, 1, 128]⟩
abbrev S4x128x4x128 : Shape := ⟨4, ![4, 128, 4, 128]⟩
abbrev S512x512 : Shape := ⟨2, ![512, 512]⟩
abbrev S2048x512 : Shape := ⟨2, ![2048, 512]⟩

abbrev nBuf : Space → Nat
  | .hbm => 16
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4x128x128, .f32⟩
  | .hbm, ⟨2, _⟩ => ⟨S4x4, .i32⟩
  | .hbm, ⟨3, _⟩ => ⟨S4x4, .i32⟩
  | .hbm, ⟨4, _⟩ => ⟨S_, .i32⟩
  | .hbm, ⟨5, _⟩ => ⟨S4x4, .i32⟩
  | .hbm, ⟨6, _⟩ => ⟨S4x4, .i32⟩
  | .hbm, ⟨7, _⟩ => ⟨S4x4, .i1⟩
  | .hbm, ⟨8, _⟩ => ⟨S4x4, .f32⟩
  | .hbm, ⟨9, _⟩ => ⟨S4x1x4x1, .f32⟩
  | .hbm, ⟨10, _⟩ => ⟨S4x128x1x128, .f32⟩
  | .hbm, ⟨11, _⟩ => ⟨S4x128x4x128, .f32⟩
  | .hbm, ⟨12, _⟩ => ⟨S4x128x4x128, .f32⟩
  | .hbm, ⟨13, _⟩ => ⟨S4x128x4x128, .f32⟩
  | .hbm, ⟨14, _⟩ => ⟨S512x512, .f32⟩
  | .hbm, ⟨15, _⟩ => ⟨S4096x512, .f32⟩
  | .local _ .vmem, ⟨0, _⟩ => ⟨S2048x512, .bf16⟩
  | .local _ .vmem, ⟨1, _⟩ => ⟨S2048x512, .bf16⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolRefIdeal.lean ====
abbrev S4096x512 : Shape := ⟨2, ![4096, 512]⟩
abbrev S4x128x128 : Shape := ⟨3, ![4, 128, 128]⟩
abbrev S4096x4x128 : Shape := ⟨3, ![4096, 4, 128]⟩
abbrev S4x128x4096 : Shape := ⟨3, ![4, 128, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x128x128, .f32⟩
  | .hbm, ⟨2, _⟩ => ⟨S4096x512, .f32⟩
  | .hbm, ⟨3, _⟩ => ⟨S4096x4x128, .f32⟩
  | .hbm, ⟨4, _⟩ => ⟨S4x128x4096, .f32⟩
  | .hbm, ⟨5, _⟩ => ⟨S4096x4x128, .f32⟩
  | .hbm, ⟨6, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== PoolDx.lean ====
abbrev S4096x512 : Shape := ⟨2, ![4096, 512]⟩
abbrev S4x128x128 : Shape := ⟨3, ![4, 128, 128]⟩
abbrev S4x4 : Shape := ⟨2, ![4, 4]⟩
abbrev S_ : Shape := ⟨0, ![]⟩
abbrev S4x1x4x1 : Shape := ⟨4, ![4, 1, 4, 1]⟩
abbrev S4x128x1x128 : Shape := ⟨4, ![4, 128, 1, 128]⟩
abbrev S4x128x4x128 : Shape := ⟨4, ![4, 128, 4, 128]⟩
abbrev S512x512 : Shape := ⟨2, ![512, 512]⟩
abbrev S2048x512 : Shape := ⟨2, ![2048, 512]⟩

abbrev nBuf : Space → Nat
  | .hbm => 16
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4x128x128, .f32⟩
  | .hbm, ⟨2, _⟩ => ⟨S4x4, .i32⟩
  | .hbm, ⟨3, _⟩ => ⟨S4x4, .i32⟩
  | .hbm, ⟨4, _⟩ => ⟨S_, .i32⟩
  | .hbm, ⟨5, _⟩ => ⟨S4x4, .i32⟩
  | .hbm, ⟨6, _⟩ => ⟨S4x4, .i32⟩
  | .hbm, ⟨7, _⟩ => ⟨S4x4, .i1⟩
  | .hbm, ⟨8, _⟩ => ⟨S4x4, .f32⟩
  | .hbm, ⟨9, _⟩ => ⟨S4x1x4x1, .f32⟩
  | .hbm, ⟨10, _⟩ => ⟨S4x128x1x128, .f32⟩
  | .hbm, ⟨11, _⟩ => ⟨S4x128x4x128, .f32⟩
  | .hbm, ⟨12, _⟩ => ⟨S4x128x4x128, .f32⟩
  | .hbm, ⟨13, _⟩ => ⟨S4x128x4x128, .f32⟩
  | .hbm, ⟨14, _⟩ => ⟨S512x512, .f32⟩
  | .hbm, ⟨15, _⟩ => ⟨S4096x512, .f32⟩
  | .local _ .vmem, ⟨0, _⟩ => ⟨S2048x512, .bf16⟩
  | .local _ .vmem, ⟨1, _⟩ => ⟨S2048x512, .bf16⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolDxRefIdeal.lean ====
abbrev S4096x512 : Shape := ⟨2, ![4096, 512]⟩
abbrev S4x128x128 : Shape := ⟨3, ![4, 128, 128]⟩
abbrev S_ : Shape := ⟨0, ![]⟩
abbrev S4096x4x128 : Shape := ⟨3, ![4096, 4, 128]⟩
abbrev S4x128x4096 : Shape := ⟨3, ![4, 128, 4096]⟩
abbrev S4x4096x128 : Shape := ⟨3, ![4, 4096, 128]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x128x128, .f32⟩
  | .hbm, ⟨2, _⟩ => ⟨S_, .f32⟩
  | .hbm, ⟨3, _⟩ => ⟨S4096x512, .f32⟩
  | .hbm, ⟨4, _⟩ => ⟨S4096x4x128, .f32⟩
  | .hbm, ⟨5, _⟩ => ⟨S4x128x4096, .f32⟩
  | .hbm, ⟨6, _⟩ => ⟨S4096x4x128, .f32⟩
  | .hbm, ⟨7, _⟩ => ⟨S4096x512, .f32⟩
  | .hbm, ⟨8, _⟩ => ⟨S4096x512, .f32⟩
  | .hbm, ⟨9, _⟩ => ⟨S4096x4x128, .f32⟩
  | .hbm, ⟨10, _⟩ => ⟨S4x128x4096, .f32⟩
  | .hbm, ⟨11, _⟩ => ⟨S4x4096x128, .f32⟩
  | .hbm, ⟨12, _⟩ => ⟨S4096x4x128, .f32⟩
  | .hbm, ⟨13, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== PoolDw.lean ====
abbrev S4096x512 : Shape := ⟨2, ![4096, 512]⟩
abbrev S512x512 : Shape := ⟨2, ![512, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x512, .f32⟩
  | .local _ .vmem, ⟨0, _⟩ => ⟨S4096x512, .bf16⟩
  | .local _ .vmem, ⟨1, _⟩ => ⟨S4096x512, .bf16⟩
  | .local _ .vmem, ⟨2, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PoolDwRefIdeal.lean ====
abbrev S4096x512 : Shape := ⟨2, ![4096, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S512x512, .f32⟩
  | .hbm, ⟨8, _⟩ => ⟨S512x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.MlpSpec.lean ====
/- What the products of the channel mixer leave, forward and backward, in layer `l`. -/
module

public import Idealize.ShloMosaic.Lib.Pipeline.ValueKit
public import Idealize.ShloMosaic.Lib.Pointwise

@[expose] public section

set_option maxRecDepth 16384

noncomputable section

namespace Cert.Proof.Mlp

open Idealize.ShloMosaic

/-- The squared rectifier. -/
def sq (x : EReal) : EReal := max x 0 * max x 0

/-- The first product: the pre-activations `h · w1[l]`. -/
def up (l : Fin 2) (h : (⟨2, ![4096, 1024]⟩ : Shape).Idx → EReal) (w1 : (⟨3, ![2, 1024, 4096]⟩ : Shape).Idx → EReal)
    (i : (⟨2, ![4096, 4096]⟩ : Shape).Idx) : EReal :=
  ∑ k : Fin 1024, h (ix2 (i 0) k) * w1 (ix3 l k (i 1))

/-- The activations: the squared rectifier of the first product. -/
def act (l : Fin 2) (h : (⟨2, ![4096, 1024]⟩ : Shape).Idx → EReal) (w1 : (⟨3, ![2, 1024, 4096]⟩ : Shape).Idx → EReal)
    (i : (⟨2, ![4096, 4096]⟩ : Shape).Idx) : EReal := sq (up l h w1 i)

/-- The second product `s · w2[l]`. -/
def down (l : Fin 2) (s : (⟨2, ![4096, 4096]⟩ : Shape).Idx → EReal) (w2 : (⟨3, ![2, 4096, 1024]⟩ : Shape).Idx → EReal)
    (i : (⟨2, ![4096, 1024]⟩ : Shape).Idx) : EReal :=
  ∑ k : Fin 4096, s (ix2 (i 0) k) * w2 (ix3 l k (i 1))

/-- The gradient at the pre-activations: the cotangent through `w2[l]`, times the derivative of the squared rectifier. -/
def downDx (l : Fin 2) (dm : (⟨2, ![4096, 1024]⟩ : Shape).Idx → EReal)
    (w2 : (⟨3, ![2, 4096, 1024]⟩ : Shape).Idx → EReal) (a : (⟨2, ![4096, 4096]⟩ : Shape).Idx → EReal)
    (i : (⟨2, ![4096, 4096]⟩ : Shape).Idx) : EReal :=
  (∑ k : Fin 1024, dm (ix2 (i 0) k) * w2 (ix3 l (i 1) k)) * (Ideal.ofBits .f32 0x40000000#32 * max (a i) 0)

/-- The gradient at the mixer's input: the cotangent `da` through `w1[l]`. -/
def upDx (l : Fin 2) (da : (⟨2, ![4096, 4096]⟩ : Shape).Idx → EReal) (w1 : (⟨3, ![2, 1024, 4096]⟩ : Shape).Idx → EReal)
    (i : (⟨2, ![4096, 1024]⟩ : Shape).Idx) : EReal :=
  ∑ k : Fin 4096, da (ix2 (i 0) k) * w1 (ix3 l (i 1) k)

/-- The second weight's gradient, one group of 1024 rows per shard. -/
def dw2 (a : (⟨2, ![4096, 4096]⟩ : Shape).Idx → EReal) (dm : (⟨2, ![4096, 1024]⟩ : Shape).Idx → EReal)
    (d : Fin 4) (q : Fin 1024) (r : Fin 1024) : EReal :=
  ∑ k : Fin 4096, dm (ix2 k r) * sq (a (ix2 k ⟨1024 * d.val + q.val, by omega⟩))

/-- The shards of the second weight's gradient: layer `l`'s rows new, the others those of `prev`. -/
def downDw (l : Fin 2) (a : (⟨2, ![4096, 4096]⟩ : Shape).Idx → EReal) (dm : (⟨2, ![4096, 1024]⟩ : Shape).Idx → EReal)
    (prev : (⟨3, ![4, 2048, 1024]⟩ : Shape).Idx → EReal) (i : (⟨3, ![4, 2048, 1024]⟩ : Shape).Idx) : EReal :=
  if (i 1).val / 1024 = l.val then dw2 a dm (i 0) ⟨(i 1).val % 1024, by omega⟩ (i 2) else prev i

/-- The first weight's gradient, one group of 1024 columns per shard. -/
def dw1 (h : (⟨2, ![4096, 1024]⟩ : Shape).Idx → EReal) (da : (⟨2, ![4096, 4096]⟩ : Shape).Idx → EReal)
    (d : Fin 4) (r : Fin 1024) (q : Fin 1024) : EReal :=
  ∑ k : Fin 4096, da (ix2 k ⟨1024 * d.val + q.val, by omega⟩) * h (ix2 k r)

/-- The shards of the first weight's gradient: layer `l`'s rows new, the others those of `prev`. -/
def upDw (l : Fin 2) (h : (⟨2, ![4096, 1024]⟩ : Shape).Idx → EReal) (da : (⟨2, ![4096, 4096]⟩ : Shape).Idx → EReal)
    (prev : (⟨3, ![4, 2048, 1024]⟩ : Shape).Idx → EReal) (i : (⟨3, ![4, 2048, 1024]⟩ : Shape).Idx) : EReal :=
  if (i 1).val / 1024 = l.val then dw1 h da (i 0) ⟨(i 1).val % 1024, by omega⟩ (i 2) else prev i

/-- A sum over 4096 columns is the sum of its four groups of 1024. -/
theorem sum_four (f : Fin 4096 → EReal) :
    ∑ k, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  rw [show (∑ k, f k) = ∑ k : Fin (1024 + 1024 + 1024 + 1024), f (k.cast (by norm_num)) from rfl,
    Fin.sum_univ_add, Fin.sum_univ_add, Fin.sum_univ_add]
  rfl

end Cert.Proof.Mlp

end
-- ==== Proof.Up0Value.lean ====
/- `mlp0_up` read at `Ideal`: kernel and reference both leave the pre-activations and their squared rectifier. -/
module

public import proofs.«01_k».proof.Proof.Gen.Up0Ideal.Value
public import proofs.«01_k».proof.Proof.Gen.Up0RefIdeal.Run
public import proofs.«01_k».proof.Proof.MlpSpec
public import Idealize.ShloMosaic.Lib.Claim

@[expose] public section

set_option maxRecDepth 16384

noncomputable section

namespace Cert.Proof.Up0

open Idealize.ShloMosaic Idealize.ShloMosaic.TcCoe Idealize.SL.Sem
open Idealize.ShloMosaic.Pipeline (Dat)
open Cert.Proof.Mlp

section Kernel
open Cert.Up0Ideal Cert.Up0Ideal.Gen

/-- The blocks' places on the grid of 2 × 4 points. -/
theorem idx : ∀ t : Fin grid0.N, win0_0.index t = ![t.val / 4, 0] ∧ win0_1.index t = ![t.val % 4, 0, 0]
    ∧ win0_2.index t = ![t.val / 4, t.val % 4] ∧ win0_3.index t = ![t.val / 4, t.val % 4] := by decide +kernel

/-- One product of the first dimension's sum, at the points of either result. -/
theorem term (m : (ℓ : Loc nD τ sig) → Buf (Elt Ideal) ℓ) (c : Dev nD) (t : Fin cfg0.N) (y0 : Fin 2048) (y1 : Fin 1024) (k : Fin 1024) (i0 : Fin 4096) (i1 : Fin 4096)
    (h0 : i0.val = 2048 * (t.val / 4) + y0.val) (h1 : i1.val = 1024 * (t.val % 4) + y1.val) :
    iblk m c 0 t (ix2 y0 k) = m ((c : Thread nD τ).loc main_arg0) (ix2 i0 k)
    ∧ iblk m c 1 t (ix3 0 k y1) = m ((c : Thread nD τ).loc main_arg1) (ix3 0 k i1) := by
  obtain ⟨e0, e1, e2, e3⟩ := idx t
  have ht : t.val < 8 := lt_of_lt_of_eq t.isLt N_0
  constructor
  · blk_ext [iblk, V, e0, h0]
  · blk_simp [iblk]
    entry_read
    pointwise
    blk_ext [e1, h1]

/-- The kernel's result array 0. -/
theorem kernel_eq_up (m : (ℓ : Loc nD τ sig) → Buf (Elt Ideal) ℓ) (c : Dev nD) :
    (dats m 0 c).arrAt 2 cfg0.N = up 0 (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2, e3⟩ := idx t
  have ht : t.val < 8 := lt_of_lt_of_eq t.isLt N_0
  pointwise [k0_pay1, k0_pay2, up]
  refine @Finset.sum_congr _ EReal _ _ _ _ _ rfl fun k _ => ?_
  obtain ⟨a, b⟩ := term m c t y0 y1 k (((View.whole main_v3_0).slice (win0_2.rect t)).emb (ix2 y0 y1) 0)
    (((View.whole main_v3_0).slice (win0_2.rect t)).emb (ix2 y0 y1) 1) (by blk_simp [e2]; omega) (by blk_simp [e2]; omega)
  exact congrArg₂ (· * ·) a b

/-- The kernel's result array 1. -/
theorem kernel_eq_act (m : (ℓ : Loc nD τ sig) → Buf (Elt Ideal) ℓ) (c : Dev nD) :
    (dats m 0 c).arrAt 3 cfg0.N = act 0 (m ((c : Thread nD τ).loc main_arg0)) (m ((c : Thread nD τ).loc main_arg1)) := by
  refine (dats m 0 c).arrAt_eq_of_covers 3 _ (by decide +kernel) fun t hf y => ?_
  blk_simp
  rw [after0_3]
  frame_out
  idx_vars y
  obtain ⟨e0, e1, e2, e3⟩ := idx t
  have ht : t.val < 8 := lt_of_lt_of_eq t.isLt N_0
  pointwise [k0_pay1, k0_pay3, act, Mlp.sq, up]
  refine congrArg (fun x : EReal => max x 0 * max x 0) ?_
  refine @Finset.sum_congr _ EReal _ _ _ _ _ rfl fun k _ => ?_
  obtain ⟨a, b⟩ := term m c t y0 y1 k (((View.whole main_v3_1).slice (win0_3.rect t)).emb (ix2 y0 y1) 0)
    (((View.whole main_v3_1).slice (win0_3.rect t)).emb (ix2 y0 y1) 1) (by blk_simp [e3]; omega) (by blk_simp [e3]; omega)
  exact congrArg₂ (· * ·) a b

end Kernel

section Reference
open Cert.Up0RefIdeal Cert.Up0RefIdeal.Gen

/-- The reference's result. -/
theorem ref_eq_up (A0 : FVec Ideal S4096x1024 .bf16) (A1 : FVec Ideal S2x1024x4096 .f32) :
    truncf .bf16 (Host.dotGeneral dot_S4096x1024_S1024x4096_S4096x4096_1_0_0_1_n_n none (extf .f32 A0 bitsLt_bf16_f32) (shapeCast _ (extractStridedSlice S1x1024x4096 ![0, 0, 0] A1 slices_S2x1024x4096_S1x1024x4096_0_0_0) shapeCasts_S1x1024x4096_S1024x4096)) bitsLt_bf16_f32
      = up 0 A0 A1 := by
  funext i
  idx_vars i
  pointwise [up]

/-- The reference's result. -/
theorem ref_eq_act (A0 : FVec Ideal S4096x1024 .bf16) (A1 : FVec Ideal S2x1024x4096 .f32) :
    truncf .bf16 (mulf (maximumf (Host.dotGeneral dot_S4096x1024_S1024x4096_S4096x4096_1_0_0_1_n_n none (extf .f32 A0 bitsLt_bf16_f32) (shapeCast _ (extractStridedSlice S1x1024x4096 ![0, 0, 0] A1 slices_S2x1024x4096_S1x1024x4096_0_0_0) shapeCasts_S1x1024x4096_S1024x4096)) (broadcastInDim S4096x4096 ![] bcast_S_S4096x4096 (constant S_ .f32 0x00000000#32))) (maximumf (Host.dotGeneral dot_S4096x1024_S1024x4096_S4096x4096_1_0_0_1_n_n none (extf .f32 A0 bitsLt_bf16_f32) (shapeCast _ (extractStridedSlice S1x1024x4096 ![0, 0, 0] A1 slices_S2x1024x4096_S1x1024x4096_0_0_0) shapeCasts_S1x1024x4096_S1024x4096)) (broadcastInDim S4096x4096 ![] bcast_S_S4096x4096 (constant S_ .f32 0x00000000#32)))) bitsLt_bf16_f32
      = act 0 A0 A1 := by
  funext i
  idx_vars i
  pointwise [act, Mlp.sq, up]

end Reference

end Cert.Proof.Up0

end
-- ==== Proof.Down0Value.lean ====
/- `mlp0_down` read at `Ideal`: kernel and reference both leave the second product. -/
module

public import proofs.«01_k».proof.Proof.Gen.Down0Ideal.Value
public import proofs.«01_k».proof.Proof.Gen.Down0RefIdeal.Run
public import proofs.«01_k».proof.Proof.MlpSpec
public import Idealize.ShloMosaic.Lib.Claim

@[expose] public section

set_option maxRecDepth 16384

noncomputable section

namespace Cert.Proof.Down0

open Idealize.ShloMosaic Idealize.ShloMosaic.TcCoe Idealize.SL.Sem
open Idealize.ShloMosaic.Pipeline (Dat)
open Cert.Proof.Mlp

section Kernel
open Cert.Down0Ideal Cert.Down0Ideal.Gen

/-- The blocks' places on the grid of 4 × 2 points. -/
theorem idx : ∀ t : Fin grid0.N, win0_0.index t = ![t.val / 2, 0] ∧ win0_1.index t = ![0, 0, t.val % 2]
    ∧ win0_2.index t = ![t.val / 2, t.val % 2] := by decide +kernel

/-- The kernel's result array. -/
theorem kernel_eq (m : (ℓ : Loc nD τ sig) → Buf (Elt Ideal) ℓ) (c : Dev nD) :
    (dats m 0 c).arrAt 2 cfg0.N = down 0 (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 8 := lt_of_lt_of_eq t.isLt N_0
  pointwise [k0_pay1, down]
  refine @Finset.sum_congr _ EReal _ _ _ _ _ rfl fun k _ => ?_
  congr 1
  · blk_ext [iblk, V, e0, e2]
  · blk_simp [iblk]
    entry_read
    pointwise
    blk_ext [e1, e2]

end Kernel

section Reference
open Cert.Down0RefIdeal Cert.Down0RefIdeal.Gen

/-- The reference's result. -/
theorem ref_eq (A0 : FVec Ideal S4096x4096 .bf16) (A1 : FVec Ideal S2x4096x1024 .f32) :
    Host.dotGeneral dot_S4096x4096_S4096x1024_S4096x1024_1_0_0_1_n_n none (extf .f32 A0 bitsLt_bf16_f32) (shapeCast _ (extractStridedSlice S1x4096x1024 ![0, 0, 0] A1 slices_S2x4096x1024_S1x4096x1024_0_0_0) shapeCasts_S1x4096x1024_S4096x1024)
      = down 0 A0 A1 := by
  funext i
  idx_vars i
  pointwise [down]

end Reference

end Cert.Proof.Down0

end
-- ==== Proof.DownDx0Value.lean ====
/- `mlp0_down_dx` read at `Ideal`: kernel and reference both leave the gradient at the pre-activations. -/
module

public import proofs.«01_k».proof.Proof.Gen.DownDx0Ideal.Value
public import proofs.«01_k».proof.Proof.Gen.DownDx0RefIdeal.Run
public import proofs.«01_k».proof.Proof.MlpSpec
public import Idealize.ShloMosaic.Lib.Claim

@[expose] public section

set_option maxRecDepth 16384

noncomputable section

namespace Cert.Proof.DownDx0

open Idealize.ShloMosaic Idealize.ShloMosaic.TcCoe Idealize.SL.Sem
open Idealize.ShloMosaic.Pipeline (Dat)
open Cert.Proof.Mlp

section Kernel
open Cert.DownDx0Ideal Cert.DownDx0Ideal.Gen

/-- The blocks' places on the grid of 2 × 4 points. -/
theorem idx : ∀ t : Fin grid0.N, win0_0.index t = ![t.val / 4, 0] ∧ win0_1.index t = ![t.val % 4, 0, 0]
    ∧ win0_2.index t = ![t.val / 4, t.val % 4] ∧ win0_3.index t = ![t.val / 4, t.val % 4] := by decide +kernel

/-- The kernel's result array. -/
theorem kernel_eq (m : (ℓ : Loc nD τ sig) → Buf (Elt Ideal) ℓ) (c : Dev nD) :
    (dats m 0 c).arrAt 3 cfg0.N = downDx 0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  obtain ⟨e0, e1, e2, e3⟩ := idx t
  have ht : t.val < 8 := lt_of_lt_of_eq t.isLt N_0
  pointwise [k0_pay1, downDx]
  congr 1
  refine Finset.sum_congr rfl fun k _ => ?_
  congr 1
  · blk_ext [iblk, V, e0, e3]
  · blk_simp [iblk]
    entry_read
    pointwise
    blk_ext [e1, e3]

end Kernel

section Reference
open Cert.DownDx0RefIdeal Cert.DownDx0RefIdeal.Gen

/-- The reference's result. -/
theorem ref_eq (A0 : FVec Ideal S4096x1024 .bf16) (A1 : FVec Ideal S2x4096x1024 .f32) (A2 : FVec Ideal S4096x4096 .bf16) :
    truncf .bf16 (select (cmpf .ogt (extf .f32 A2 bitsLt_bf16_f32) (broadcastInDim S4096x4096 ![] bcast_S_S4096x4096 (constant S_ .f32 0x00000000#32))) (mulf (Host.dotGeneral dot_S4096x1024_S4096x1024_S4096x4096_1_1_0_0_n_n none (extf .f32 A0 bitsLt_bf16_f32) (shapeCast _ (extractStridedSlice S1x4096x1024 ![0, 0, 0] A1 slices_S2x4096x1024_S1x4096x1024_0_0_0) shapeCasts_S1x4096x1024_S4096x1024)) (mulf (broadcastInDim S4096x4096 ![] bcast_S_S4096x4096 (constant S_ .f32 0x40000000#32)) (maximumf (extf .f32 A2 bitsLt_bf16_f32) (broadcastInDim S4096x4096 ![] bcast_S_S4096x4096 (constant S_ .f32 0x00000000#32))))) (broadcastInDim S4096x4096 ![] bcast_S_S4096x4096 (constant S_ .f32 0x00000000#32))) bitsLt_bf16_f32
      = downDx 0 A0 A1 A2 := by
  funext i
  idx_vars i
  pointwise [downDx]
  split_ifs with h
  · rfl
  · rw [max_eq_right (not_lt.mp h), mul_zero, mul_zero]

end Reference

end Cert.Proof.DownDx0

end
-- ==== Proof.DownDw0Value.lean ====
/- `mlp0_down_dw` read at `Ideal`: kernel and reference both leave the second weight's gradient. -/
module

public import proofs.«01_k».proof.Proof.Gen.DownDw0Ideal.Value
public import proofs.«01_k».proof.Proof.Gen.DownDw0RefIdeal.Run
public import proofs.«01_k».proof.Proof.MlpSpec
public import Idealize.ShloMosaic.Lib.Claim

@[expose] public section

set_option maxRecDepth 16384

noncomputable section

namespace Cert.Proof.DownDw0

open Idealize.ShloMosaic Idealize.ShloMosaic.TcCoe Idealize.SL.Sem
open Idealize.ShloMosaic.Pipeline (Dat)
open Cert.Proof.Mlp

section Kernel
open Cert.DownDw0Ideal Cert.DownDw0Ideal.Gen

/-- The blocks' places on the grid of 4 × 2 points. -/
theorem idx : ∀ t : Fin grid0.N, win0_0.index t = ![0, t.val / 2] ∧ win0_1.index t = ![0, t.val % 2]
    ∧ win0_2.index t = ![t.val / 2, 0, t.val % 2] := by decide +kernel

/-- The kernel's result array. -/
theorem kernel_eq (m : (ℓ : Loc nD τ sig) → Buf (Elt Ideal) ℓ) (c : Dev nD) :
    (dats m 0 c).arrAt 2 cfg0.N = downDw 0 (m ((c : Thread nD τ).loc main_arg0)) (m ((c : Thread nD τ).loc main_arg1)) (m ((c : Thread nD τ).loc main_arg2)) := by
  have h := (dats m 0 c).arrAt_eq_of_coversWhere 2 (fun i : S4x2048x1024.Idx =>
      dw2 (m ((c : Thread nD τ).loc main_arg0)) (m ((c : Thread nD τ).loc main_arg1)) (i 0) ⟨(i 1).val % 1024, by omega⟩ (i 2))
    (fun β => β (1 : Fin 3) = 0) (P := fun i : S4x2048x1024.Idx => (i 1).val / 1024 = 0) (by decide +kernel) (fun t hf y => ?_)
    (fun j => by blk_simp [Pipeline.Window.cell_apply])
  · refine h.trans (funext fun i => ?_)
    unfold downDw
    split_ifs with h1 h2
    · rfl
    · exact absurd h1 h2
    · exact absurd ‹_› h1
    · rw [A_eq]
      entry_read
      rfl
  · blk_simp
    rw [after0_2]
    unfold outsAt0
    frame_out
    idx_vars y
    obtain ⟨e0, e1, e2⟩ := idx t
    have ht : t.val < 8 := lt_of_lt_of_eq t.isLt N_0
    pointwise [k0_pay1, dw2, Mlp.sq]
    refine @Finset.sum_congr _ EReal _ _ _ _ _ rfl fun k _ => ?_
    rw [mul_comm]
    congr 1
    · blk_ext [iblk, V, e1, e2]
    · blk_simp [iblk]
      entry_read
      pointwise
      refine congrArg (fun x : EReal => max x 0 * max x 0) ?_
      blk_ext [e0, e2]

end Kernel

section Reference
open Cert.DownDw0RefIdeal Cert.DownDw0RefIdeal.Gen

/-- The reference's result. -/
theorem ref_eq (A0 : FVec Ideal S4096x4096 .bf16) (A1 : FVec Ideal S4096x1024 .bf16) (A2 : FVec Ideal S4x2048x1024 .f32) :
    concatenate S4x2048x1024 1 [⟨S4x1024x1024, (shapeCast _ (transpose S4096x1024 [1, 0] (Host.dotGeneral dot_S4096x1024_S4096x4096_S1024x4096_0_0_1_1_n_n none (extf .f32 A1 bitsLt_bf16_f32) (mulf (maximumf (extf .f32 A0 bitsLt_bf16_f32) (broadcastInDim S4096x4096 ![] bcast_S_S4096x4096 (constant S_ .f32 0x00000000#32))) (maximumf (extf .f32 A0 bitsLt_bf16_f32) (broadcastInDim S4096x4096 ![] bcast_S_S4096x4096 (constant S_ .f32 0x00000000#32))))) transposes_S1024x4096_S4096x1024_1_0) shapeCasts_S4096x1024_S4x1024x1024)⟩, ⟨S4x1024x1024, (extractStridedSlice S4x1024x1024 ![0, 1024, 0] A2 slices_S4x2048x1024_S4x1024x1024_0_1024_0)⟩] concatenates_S4x1024x1024_S4x1024x1024_S4x2048x1024_d1
      = downDw 0 A0 A1 A2 := by
  funext i
  idx_vars i
  pointwise [downDw, dw2, Mlp.sq]
  by_cases h : i1.val < 1024
  · rw [dif_pos h, if_pos (show i1.val / 1024 = 0 by omega)]
    refine Finset.sum_congr rfl fun k _ => ?_
    have e : (⟨i0.val * 1024 + i1.val, by omega⟩ : Fin 4096) = ⟨1024 * i0.val + i1.val % 1024, by omega⟩ := Fin.ext (by simp only []; omega)
    rw [e]
  · rw [dif_neg h, if_neg (show ¬i1.val / 1024 = 0 by omega)]
    congr 2
    exact Fin.ext (by simp only []; omega)

end Reference

end Cert.Proof.DownDw0

end
-- ==== Proof.UpDx0Value.lean ====
/- `mlp0_up_dx` read at `Ideal`: kernel and reference both leave the gradient at the mixer's input. -/
module

public import proofs.«01_k».proof.Proof.Gen.UpDx0Ideal.Value
public import proofs.«01_k».proof.Proof.Gen.UpDx0RefIdeal.Run
public import proofs.«01_k».proof.Proof.MlpSpec
public import Idealize.ShloMosaic.Lib.Claim

@[expose] public section

set_option maxRecDepth 16384

noncomputable section

namespace Cert.Proof.UpDx0

open Idealize.ShloMosaic Idealize.ShloMosaic.TcCoe Idealize.SL.Sem
open Idealize.ShloMosaic.Pipeline (Dat)
open Cert.Proof.Mlp

section Kernel
open Cert.UpDx0Ideal Cert.UpDx0Ideal.Gen

/-- The blocks' places on the grid of 4 × 2 points. -/
theorem idx : ∀ t : Fin grid0.N, win0_0.index t = ![t.val / 2, 0] ∧ win0_1.index t = ![0, t.val % 2, 0]
    ∧ win0_2.index t = ![t.val / 2, t.val % 2] := by decide +kernel

/-- The cotangent's block at a point, at an index. -/
theorem read0 (m : (ℓ : Loc nD τ sig) → Buf (Elt Ideal) ℓ) (c : Dev nD) (t : Fin cfg0.N) (y0 : Fin 1024) (y1 : Fin 512)
    (k : Fin 4096) : iblk m c 0 t (ix2 y0 k)
      = m ((c : Thread nD τ).loc main_arg0) (ix2 (((View.whole main_v3).slice (win0_2.rect t)).emb (ix2 y0 y1) 0) k) := by
  obtain ⟨e0, e1, e2⟩ := idx t
  have ht : t.val < 8 := lt_of_lt_of_eq t.isLt N_0
  blk_ext [iblk, V, e0, e2]

/-- The weight's block at a point, at column `k` of the group `s`. -/
theorem read1 (m : (ℓ : Loc nD τ sig) → Buf (Elt Ideal) ℓ) (c : Dev nD) (t : Fin cfg0.N) (s : Fin 4) (y0 : Fin 1024)
    (y1 : Fin 512) (k : Fin 1024) : iblk m c 1 t (ix3 s y1 k)
      = m ((c : Thread nD τ).loc main_arg1) (ix3 0 (((View.whole main_v3).slice (win0_2.rect t)).emb (ix2 y0 y1) 1)
          ⟨1024 * s.val + k.val, by omega⟩) := by
  obtain ⟨e0, e1, e2⟩ := idx t
  have ht : t.val < 8 := lt_of_lt_of_eq t.isLt N_0
  blk_simp [iblk]
  entry_read
  pointwise
  blk_ext [e1, e2]

/-- The kernel's result array. -/
theorem kernel_eq (m : (ℓ : Loc nD τ sig) → Buf (Elt Ideal) ℓ) (c : Dev nD) :
    (dats m 0 c).arrAt 2 cfg0.N = upDx 0 (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 8 := lt_of_lt_of_eq t.isLt N_0
  rw [upDx, sum_four]
  pointwise [k0_pay1]
  refine congrArg₂ (· + ·) (congrArg₂ (· + ·) (congrArg₂ (· + ·) ?_ ?_) ?_) ?_
  all_goals
    refine Finset.sum_congr rfl fun k _ => congrArg₂ (· * ·) (read0 m c t y0 y1 _) ?_
  · exact (read1 m c t 0 y0 y1 k).trans (congrArg _ (congrArg (ix3 _ _) (Fin.ext (by simp))))
  · exact read1 m c t 1 y0 y1 k
  · exact read1 m c t 2 y0 y1 k
  · exact read1 m c t 3 y0 y1 k

end Kernel

section Reference
open Cert.UpDx0RefIdeal Cert.UpDx0RefIdeal.Gen

/-- The reference's result. -/
theorem ref_eq (A0 : FVec Ideal S4096x4096 .bf16) (A1 : FVec Ideal S2x1024x4096 .f32) :
    Host.dotGeneral dot_S4096x4096_S1024x4096_S4096x1024_1_1_0_0_n_n none (extf .f32 A0 bitsLt_bf16_f32) (shapeCast _ (extractStridedSlice S1x1024x4096 ![0, 0, 0] A1 slices_S2x1024x4096_S1x1024x4096_0_0_0) shapeCasts_S1x1024x4096_S1024x4096)
      = upDx 0 A0 A1 := by
  funext i
  idx_vars i
  pointwise [upDx]

end Reference

end Cert.Proof.UpDx0

end
-- ==== Proof.UpDw0Value.lean ====
/- `mlp0_up_dw` read at `Ideal`: kernel and reference both leave the first weight's gradient. -/
module

public import proofs.«01_k».proof.Proof.Gen.UpDw0Ideal.Value
public import proofs.«01_k».proof.Proof.Gen.UpDw0RefIdeal.Run
public import proofs.«01_k».proof.Proof.MlpSpec
public import Idealize.ShloMosaic.Lib.Claim

@[expose] public section

set_option maxRecDepth 16384

noncomputable section

namespace Cert.Proof.UpDw0

open Idealize.ShloMosaic Idealize.ShloMosaic.TcCoe Idealize.SL.Sem
open Idealize.ShloMosaic.Pipeline (Dat)
open Cert.Proof.Mlp

section Kernel
open Cert.UpDw0Ideal Cert.UpDw0Ideal.Gen

/-- The blocks' places on the grid of 4 × 2 points. -/
theorem idx : ∀ t : Fin grid0.N, win0_0.index t = ![0, 0] ∧ win0_1.index t = ![0, t.val]
    ∧ win0_2.index t = ![t.val / 2, 0, t.val % 2] := by decide +kernel

/-- The kernel's result array. -/
theorem kernel_eq (m : (ℓ : Loc nD τ sig) → Buf (Elt Ideal) ℓ) (c : Dev nD) :
    (dats m 0 c).arrAt 2 cfg0.N = upDw 0 (m ((c : Thread nD τ).loc main_arg0)) (m ((c : Thread nD τ).loc main_arg1)) (m ((c : Thread nD τ).loc main_arg2)) := by
  have h := (dats m 0 c).arrAt_eq_of_coversWhere 2 (fun i : S4x2048x1024.Idx =>
      dw1 (m ((c : Thread nD τ).loc main_arg0)) (m ((c : Thread nD τ).loc main_arg1)) (i 0) ⟨(i 1).val % 1024, by omega⟩ (i 2))
    (fun β => β (1 : Fin 3) = 0) (P := fun i : S4x2048x1024.Idx => (i 1).val / 1024 = 0) (by decide +kernel) (fun t hf y => ?_)
    (fun j => by blk_simp [Pipeline.Window.cell_apply])
  · refine h.trans (funext fun i => ?_)
    unfold upDw
    split_ifs with h1 h2
    · rfl
    · exact absurd h1 h2
    · exact absurd ‹_› h1
    · rw [A_eq]
      entry_read
      rfl
  · blk_simp
    rw [after0_2]
    unfold outsAt0
    frame_out
    idx_vars y
    obtain ⟨e0, e1, e2⟩ := idx t
    have ht : t.val < 8 := lt_of_lt_of_eq t.isLt N_0
    pointwise [k0_pay1, dw1]
    refine @Finset.sum_congr _ EReal _ _ _ _ _ rfl fun k _ => ?_
    rw [mul_comm]
    congr 1
    · blk_ext [iblk, V, e1, e2]
    · blk_ext [iblk, V, e0, e2]

end Kernel

section Reference
open Cert.UpDw0RefIdeal Cert.UpDw0RefIdeal.Gen

/-- The reference's result. -/
theorem ref_eq (A0 : FVec Ideal S4096x1024 .bf16) (A1 : FVec Ideal S4096x4096 .bf16) (A2 : FVec Ideal S4x2048x1024 .f32) :
    concatenate S4x2048x1024 1 [⟨S4x1024x1024, (transpose S4x1024x1024 [1, 0, 2] (shapeCast _ (transpose S1024x4096 [1, 0] (Host.dotGeneral dot_S4096x4096_S4096x1024_S4096x1024_0_0_1_1_n_n none (extf .f32 A1 bitsLt_bf16_f32) (extf .f32 A0 bitsLt_bf16_f32)) transposes_S4096x1024_S1024x4096_1_0) shapeCasts_S1024x4096_S1024x4x1024) transposes_S1024x4x1024_S4x1024x1024_1_0_2)⟩, ⟨S4x1024x1024, (extractStridedSlice S4x1024x1024 ![0, 1024, 0] A2 slices_S4x2048x1024_S4x1024x1024_0_1024_0)⟩] concatenates_S4x1024x1024_S4x1024x1024_S4x2048x1024_d1
      = upDw 0 A0 A1 A2 := by
  funext i
  idx_vars i
  pointwise [upDw, dw1]
  by_cases h : i1.val < 1024
  · rw [dif_pos h, if_pos (show i1.val / 1024 = 0 by omega)]
    refine Finset.sum_congr rfl fun k _ => ?_
    have e : (⟨i0.val * 1024 + i2.val, by omega⟩ : Fin 4096) = ⟨1024 * i0.val + i2.val, by omega⟩ := Fin.ext (by simp only []; omega)
    rw [e]
    congr 3
    exact Fin.ext (by simp only []; omega)
  · rw [dif_neg h, if_neg (show ¬i1.val / 1024 = 0 by omega)]
    congr 2
    exact Fin.ext (by simp only []; omega)

end Reference

end Cert.Proof.UpDw0

end
-- ==== Proof.Up1Value.lean ====
/- `mlp1_up` read at `Ideal`: kernel and reference both leave the pre-activations and their squared rectifier. -/
module

public import proofs.«01_k».proof.Proof.Gen.Up1Ideal.Value
public import proofs.«01_k».proof.Proof.Gen.Up1RefIdeal.Run
public import proofs.«01_k».proof.Proof.MlpSpec
public import Idealize.ShloMosaic.Lib.Claim

@[expose] public section

set_option maxRecDepth 16384

noncomputable section

namespace Cert.Proof.Up1

open Idealize.ShloMosaic Idealize.ShloMosaic.TcCoe Idealize.SL.Sem
open Idealize.ShloMosaic.Pipeline (Dat)
open Cert.Proof.Mlp

section Kernel
open Cert.Up1Ideal Cert.Up1Ideal.Gen

/-- The blocks' places on the grid of 2 × 4 points. -/
theorem idx : ∀ t : Fin grid0.N, win0_0.index t = ![t.val / 4, 0] ∧ win0_1.index t = ![t.val % 4, 1, 0]
    ∧ win0_2.index t = ![t.val / 4, t.val % 4] ∧ win0_3.index t = ![t.val / 4, t.val % 4] := by decide +kernel

/-- One product of the first dimension's sum, at the points of either result. -/
theorem term (m : (ℓ : Loc nD τ sig) → Buf (Elt Ideal) ℓ) (c : Dev nD) (t : Fin cfg0.N) (y0 : Fin 2048) (y1 : Fin 1024) (k : Fin 1024) (i0 : Fin 4096) (i1 : Fin 4096)
    (h0 : i0.val = 2048 * (t.val / 4) + y0.val) (h1 : i1.val = 1024 * (t.val % 4) + y1.val) :
    iblk m c 0 t (ix2 y0 k) = m ((c : Thread nD τ).loc main_arg0) (ix2 i0 k)
    ∧ iblk m c 1 t (ix3 0 k y1) = m ((c : Thread nD τ).loc main_arg1) (ix3 1 k i1) := by
  obtain ⟨e0, e1, e2, e3⟩ := idx t
  have ht : t.val < 8 := lt_of_lt_of_eq t.isLt N_0
  constructor
  · blk_ext [iblk, V, e0, h0]
  · blk_simp [iblk]
    entry_read
    pointwise
    blk_ext [e1, h1]

/-- The kernel's result array 0. -/
theorem kernel_eq_up (m : (ℓ : Loc nD τ sig) → Buf (Elt Ideal) ℓ) (c : Dev nD) :
    (dats m 0 c).arrAt 2 cfg0.N = up 1 (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2, e3⟩ := idx t
  have ht : t.val < 8 := lt_of_lt_of_eq t.isLt N_0
  pointwise [k0_pay1, k0_pay2, up]
  refine @Finset.sum_congr _ EReal _ _ _ _ _ rfl fun k _ => ?_
  obtain ⟨a, b⟩ := term m c t y0 y1 k (((View.whole main_v3_0).slice (win0_2.rect t)).emb (ix2 y0 y1) 0)
    (((View.whole main_v3_0).slice (win0_2.rect t)).emb (ix2 y0 y1) 1) (by blk_simp [e2]; omega) (by blk_simp [e2]; omega)
  exact congrArg₂ (· * ·) a b

/-- The kernel's result array 1. -/
theorem kernel_eq_act (m : (ℓ : Loc nD τ sig) → Buf (Elt Ideal) ℓ) (c : Dev nD) :
    (dats m 0 c).arrAt 3 cfg0.N = act 1 (m ((c : Thread nD τ).loc main_arg0)) (m ((c : Thread nD τ).loc main_arg1)) := by
  refine (dats m 0 c).arrAt_eq_of_covers 3 _ (by decide +kernel) fun t hf y => ?_
  blk_simp
  rw [after0_3]
  frame_out
  idx_vars y
  obtain ⟨e0, e1, e2, e3⟩ := idx t
  have ht : t.val < 8 := lt_of_lt_of_eq t.isLt N_0
  pointwise [k0_pay1, k0_pay3, act, Mlp.sq, up]
  refine congrArg (fun x : EReal => max x 0 * max x 0) ?_
  refine @Finset.sum_congr _ EReal _ _ _ _ _ rfl fun k _ => ?_
  obtain ⟨a, b⟩ := term m c t y0 y1 k (((View.whole main_v3_1).slice (win0_3.rect t)).emb (ix2 y0 y1) 0)
    (((View.whole main_v3_1).slice (win0_3.rect t)).emb (ix2 y0 y1) 1) (by blk_simp [e3]; omega) (by blk_simp [e3]; omega)
  exact congrArg₂ (· * ·) a b

end Kernel

section Reference
open Cert.Up1RefIdeal Cert.Up1RefIdeal.Gen

/-- The reference's result. -/
theorem ref_eq_up (A0 : FVec Ideal S4096x1024 .bf16) (A1 : FVec Ideal S2x1024x4096 .f32) :
    truncf .bf16 (Host.dotGeneral dot_S4096x1024_S1024x4096_S4096x4096_1_0_0_1_n_n none (extf .f32 A0 bitsLt_bf16_f32) (shapeCast _ (extractStridedSlice S1x1024x4096 ![1, 0, 0] A1 slices_S2x1024x4096_S1x1024x4096_1_0_0) shapeCasts_S1x1024x4096_S1024x4096)) bitsLt_bf16_f32
      = up 1 A0 A1 := by
  funext i
  idx_vars i
  pointwise [up]

/-- The reference's result. -/
theorem ref_eq_act (A0 : FVec Ideal S4096x1024 .bf16) (A1 : FVec Ideal S2x1024x4096 .f32) :
    truncf .bf16 (mulf (maximumf (Host.dotGeneral dot_S4096x1024_S1024x4096_S4096x4096_1_0_0_1_n_n none (extf .f32 A0 bitsLt_bf16_f32) (shapeCast _ (extractStridedSlice S1x1024x4096 ![1, 0, 0] A1 slices_S2x1024x4096_S1x1024x4096_1_0_0) shapeCasts_S1x1024x4096_S1024x4096)) (broadcastInDim S4096x4096 ![] bcast_S_S4096x4096 (constant S_ .f32 0x00000000#32))) (maximumf (Host.dotGeneral dot_S4096x1024_S1024x4096_S4096x4096_1_0_0_1_n_n none (extf .f32 A0 bitsLt_bf16_f32) (shapeCast _ (extractStridedSlice S1x1024x4096 ![1, 0, 0] A1 slices_S2x1024x4096_S1x1024x4096_1_0_0) shapeCasts_S1x1024x4096_S1024x4096)) (broadcastInDim S4096x4096 ![] bcast_S_S4096x4096 (constant S_ .f32 0x00000000#32)))) bitsLt_bf16_f32
      = act 1 A0 A1 := by
  funext i
  idx_vars i
  pointwise [act, Mlp.sq, up]

end Reference

end Cert.Proof.Up1

end
-- ==== Proof.Down1Value.lean ====
/- `mlp1_down` read at `Ideal`: kernel and reference both leave the second product. -/
module

public import proofs.«01_k».proof.Proof.Gen.Down1Ideal.Value
public import proofs.«01_k».proof.Proof.Gen.Down1RefIdeal.Run
public import proofs.«01_k».proof.Proof.MlpSpec
public import Idealize.ShloMosaic.Lib.Claim

@[expose] public section

set_option maxRecDepth 16384

noncomputable section

namespace Cert.Proof.Down1

open Idealize.ShloMosaic Idealize.ShloMosaic.TcCoe Idealize.SL.Sem
open Idealize.ShloMosaic.Pipeline (Dat)
open Cert.Proof.Mlp

section Kernel
open Cert.Down1Ideal Cert.Down1Ideal.Gen

/-- The blocks' places on the grid of 4 × 2 points. -/
theorem idx : ∀ t : Fin grid0.N, win0_0.index t = ![t.val / 2, 0] ∧ win0_1.index t = ![0, 1, t.val % 2]
    ∧ win0_2.index t = ![t.val / 2, t.val % 2] := by decide +kernel

/-- The kernel's result array. -/
theorem kernel_eq (m : (ℓ : Loc nD τ sig) → Buf (Elt Ideal) ℓ) (c : Dev nD) :
    (dats m 0 c).arrAt 2 cfg0.N = down 1 (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 8 := lt_of_lt_of_eq t.isLt N_0
  pointwise [k0_pay1, down]
  refine @Finset.sum_congr _ EReal _ _ _ _ _ rfl fun k _ => ?_
  congr 1
  · blk_ext [iblk, V, e0, e2]
  · blk_simp [iblk]
    entry_read
    pointwise
    blk_ext [e1, e2]

end Kernel

section Reference
open Cert.Down1RefIdeal Cert.Down1RefIdeal.Gen

/-- The reference's result. -/
theorem ref_eq (A0 : FVec Ideal S4096x4096 .bf16) (A1 : FVec Ideal S2x4096x1024 .f32) :
    Host.dotGeneral dot_S4096x4096_S4096x1024_S4096x1024_1_0_0_1_n_n none (extf .f32 A0 bitsLt_bf16_f32) (shapeCast _ (extractStridedSlice S1x4096x1024 ![1, 0, 0] A1 slices_S2x4096x1024_S1x4096x1024_1_0_0) shapeCasts_S1x4096x1024_S4096x1024)
      = down 1 A0 A1 := by
  funext i
  idx_vars i
  pointwise [down]

end Reference

end Cert.Proof.Down1

end
-- ==== Proof.DownDx1Value.lean ====
/- `mlp1_down_dx` read at `Ideal`: kernel and reference both leave the gradient at the pre-activations. -/
module

public import proofs.«01_k».proof.Proof.Gen.DownDx1Ideal.Value
public import proofs.«01_k».proof.Proof.Gen.DownDx1RefIdeal.Run
public import proofs.«01_k».proof.Proof.MlpSpec
public import Idealize.ShloMosaic.Lib.Claim

@[expose] public section

set_option maxRecDepth 16384

noncomputable section

namespace Cert.Proof.DownDx1

open Idealize.ShloMosaic Idealize.ShloMosaic.TcCoe Idealize.SL.Sem
open Idealize.ShloMosaic.Pipeline (Dat)
open Cert.Proof.Mlp

section Kernel
open Cert.DownDx1Ideal Cert.DownDx1Ideal.Gen

/-- The blocks' places on the grid of 2 × 4 points. -/
theorem idx : ∀ t : Fin grid0.N, win0_0.index t = ![t.val / 4, 0] ∧ win0_1.index t = ![t.val % 4, 1, 0]
    ∧ win0_2.index t = ![t.val / 4, t.val % 4] ∧ win0_3.index t = ![t.val / 4, t.val % 4] := by decide +kernel

/-- The kernel's result array. -/
theorem kernel_eq (m : (ℓ : Loc nD τ sig) → Buf (Elt Ideal) ℓ) (c : Dev nD) :
    (dats m 0 c).arrAt 3 cfg0.N = downDx 1 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  obtain ⟨e0, e1, e2, e3⟩ := idx t
  have ht : t.val < 8 := lt_of_lt_of_eq t.isLt N_0
  pointwise [k0_pay1, downDx]
  congr 1
  refine Finset.sum_congr rfl fun k _ => ?_
  congr 1
  · blk_ext [iblk, V, e0, e3]
  · blk_simp [iblk]
    entry_read
    pointwise
    blk_ext [e1, e3]

end Kernel

section Reference
open Cert.DownDx1RefIdeal Cert.DownDx1RefIdeal.Gen

/-- The reference's result. -/
theorem ref_eq (A0 : FVec Ideal S4096x1024 .bf16) (A1 : FVec Ideal S2x4096x1024 .f32) (A2 : FVec Ideal S4096x4096 .bf16) :
    truncf .bf16 (select (cmpf .ogt (extf .f32 A2 bitsLt_bf16_f32) (broadcastInDim S4096x4096 ![] bcast_S_S4096x4096 (constant S_ .f32 0x00000000#32))) (mulf (Host.dotGeneral dot_S4096x1024_S4096x1024_S4096x4096_1_1_0_0_n_n none (extf .f32 A0 bitsLt_bf16_f32) (shapeCast _ (extractStridedSlice S1x4096x1024 ![1, 0, 0] A1 slices_S2x4096x1024_S1x4096x1024_1_0_0) shapeCasts_S1x4096x1024_S4096x1024)) (mulf (broadcastInDim S4096x4096 ![] bcast_S_S4096x4096 (constant S_ .f32 0x40000000#32)) (maximumf (extf .f32 A2 bitsLt_bf16_f32) (broadcastInDim S4096x4096 ![] bcast_S_S4096x4096 (constant S_ .f32 0x00000000#32))))) (broadcastInDim S4096x4096 ![] bcast_S_S4096x4096 (constant S_ .f32 0x00000000#32))) bitsLt_bf16_f32
      = downDx 1 A0 A1 A2 := by
  funext i
  idx_vars i
  pointwise [downDx]
  split_ifs with h
  · rfl
  · rw [max_eq_right (not_lt.mp h), mul_zero, mul_zero]

end Reference

end Cert.Proof.DownDx1

end
-- ==== Proof.DownDw1Value.lean ====
/- `mlp1_down_dw` read at `Ideal`: kernel and reference both leave the second weight's gradient. -/
module

public import proofs.«01_k».proof.Proof.Gen.DownDw1Ideal.Value
public import proofs.«01_k».proof.Proof.Gen.DownDw1RefIdeal.Run
public import proofs.«01_k».proof.Proof.MlpSpec
public import Idealize.ShloMosaic.Lib.Claim

@[expose] public section

set_option maxRecDepth 16384

noncomputable section

namespace Cert.Proof.DownDw1

open Idealize.ShloMosaic Idealize.ShloMosaic.TcCoe Idealize.SL.Sem
open Idealize.ShloMosaic.Pipeline (Dat)
open Cert.Proof.Mlp

section Kernel
open Cert.DownDw1Ideal Cert.DownDw1Ideal.Gen

/-- The blocks' places on the grid of 4 × 2 points. -/
theorem idx : ∀ t : Fin grid0.N, win0_0.index t = ![0, t.val / 2] ∧ win0_1.index t = ![0, t.val % 2]
    ∧ win0_2.index t = ![t.val / 2, 1, t.val % 2] := by decide +kernel

/-- The kernel's result array. -/
theorem kernel_eq (m : (ℓ : Loc nD τ sig) → Buf (Elt Ideal) ℓ) (c : Dev nD) :
    (dats m 0 c).arrAt 2 cfg0.N = downDw 1 (m ((c : Thread nD τ).loc main_arg0)) (m ((c : Thread nD τ).loc main_arg1)) (m ((c : Thread nD τ).loc main_arg2)) := by
  have h := (dats m 0 c).arrAt_eq_of_coversWhere 2 (fun i : S4x2048x1024.Idx =>
      dw2 (m ((c : Thread nD τ).loc main_arg0)) (m ((c : Thread nD τ).loc main_arg1)) (i 0) ⟨(i 1).val % 1024, by omega⟩ (i 2))
    (fun β => β (1 : Fin 3) = 1) (P := fun i : S4x2048x1024.Idx => (i 1).val / 1024 = 1) (by decide +kernel) (fun t hf y => ?_)
    (fun j => by blk_simp [Pipeline.Window.cell_apply])
  · refine h.trans (funext fun i => ?_)
    unfold downDw
    split_ifs with h1 h2
    · rfl
    · exact absurd h1 h2
    · exact absurd ‹_› h1
    · rw [A_eq]
      entry_read
      rfl
  · blk_simp
    rw [after0_2]
    unfold outsAt0
    frame_out
    idx_vars y
    obtain ⟨e0, e1, e2⟩ := idx t
    have ht : t.val < 8 := lt_of_lt_of_eq t.isLt N_0
    pointwise [k0_pay1, dw2, Mlp.sq]
    refine @Finset.sum_congr _ EReal _ _ _ _ _ rfl fun k _ => ?_
    rw [mul_comm]
    congr 1
    · blk_ext [iblk, V, e1, e2]
    · blk_simp [iblk]
      entry_read
      pointwise
      refine congrArg (fun x : EReal => max x 0 * max x 0) ?_
      blk_ext [e0, e2]

end Kernel

section Reference
open Cert.DownDw1RefIdeal Cert.DownDw1RefIdeal.Gen

/-- The reference's result. -/
theorem ref_eq (A0 : FVec Ideal S4096x4096 .bf16) (A1 : FVec Ideal S4096x1024 .bf16) (A2 : FVec Ideal S4x2048x1024 .f32) :
    concatenate S4x2048x1024 1 [⟨S4x1024x1024, (extractStridedSlice S4x1024x1024 ![0, 0, 0] A2 slices_S4x2048x1024_S4x1024x1024_0_0_0)⟩, ⟨S4x1024x1024, (shapeCast _ (transpose S4096x1024 [1, 0] (Host.dotGeneral dot_S4096x1024_S4096x4096_S1024x4096_0_0_1_1_n_n none (extf .f32 A1 bitsLt_bf16_f32) (mulf (maximumf (extf .f32 A0 bitsLt_bf16_f32) (broadcastInDim S4096x4096 ![] bcast_S_S4096x4096 (constant S_ .f32 0x00000000#32))) (maximumf (extf .f32 A0 bitsLt_bf16_f32) (broadcastInDim S4096x4096 ![] bcast_S_S4096x4096 (constant S_ .f32 0x00000000#32))))) transposes_S1024x4096_S4096x1024_1_0) shapeCasts_S4096x1024_S4x1024x1024)⟩] concatenates_S4x1024x1024_S4x1024x1024_S4x2048x1024_d1
      = downDw 1 A0 A1 A2 := by
  funext i
  idx_vars i
  pointwise [downDw, dw2, Mlp.sq]
  by_cases h : i1.val < 1024
  · rw [dif_pos h, if_neg (show ¬i1.val / 1024 = 1 by omega)]
  · rw [dif_neg h, if_pos (show i1.val / 1024 = 1 by omega)]
    refine Finset.sum_congr rfl fun k _ => ?_
    have e : (⟨i0.val * 1024 + (i1.val - 1024), by omega⟩ : Fin 4096) = ⟨1024 * i0.val + i1.val % 1024, by omega⟩ := Fin.ext (by simp only []; omega)
    rw [e]

end Reference

end Cert.Proof.DownDw1

end
-- ==== Proof.UpDx1Value.lean ====
/- `mlp1_up_dx` read at `Ideal`: kernel and reference both leave the gradient at the mixer's input. -/
module

public import proofs.«01_k».proof.Proof.Gen.UpDx1Ideal.Value
public import proofs.«01_k».proof.Proof.Gen.UpDx1RefIdeal.Run
public import proofs.«01_k».proof.Proof.MlpSpec
public import Idealize.ShloMosaic.Lib.Claim

@[expose] public section

set_option maxRecDepth 16384

noncomputable section

namespace Cert.Proof.UpDx1

open Idealize.ShloMosaic Idealize.ShloMosaic.TcCoe Idealize.SL.Sem
open Idealize.ShloMosaic.Pipeline (Dat)
open Cert.Proof.Mlp

section Kernel
open Cert.UpDx1Ideal Cert.UpDx1Ideal.Gen

/-- The blocks' places on the grid of 4 × 2 points. -/
theorem idx : ∀ t : Fin grid0.N, win0_0.index t = ![t.val / 2, 0] ∧ win0_1.index t = ![0, 2 + t.val % 2, 0]
    ∧ win0_2.index t = ![t.val / 2, t.val % 2] := by decide +kernel

/-- The cotangent's block at a point, at an index. -/
theorem read0 (m : (ℓ : Loc nD τ sig) → Buf (Elt Ideal) ℓ) (c : Dev nD) (t : Fin cfg0.N) (y0 : Fin 1024) (y1 : Fin 512)
    (k : Fin 4096) : iblk m c 0 t (ix2 y0 k)
      = m ((c : Thread nD τ).loc main_arg0) (ix2 (((View.whole main_v3).slice (win0_2.rect t)).emb (ix2 y0 y1) 0) k) := by
  obtain ⟨e0, e1, e2⟩ := idx t
  have ht : t.val < 8 := lt_of_lt_of_eq t.isLt N_0
  blk_ext [iblk, V, e0, e2]

/-- The weight's block at a point, at column `k` of the group `s`. -/
theorem read1 (m : (ℓ : Loc nD τ sig) → Buf (Elt Ideal) ℓ) (c : Dev nD) (t : Fin cfg0.N) (s : Fin 4) (y0 : Fin 1024)
    (y1 : Fin 512) (k : Fin 1024) : iblk m c 1 t (ix3 s y1 k)
      = m ((c : Thread nD τ).loc main_arg1) (ix3 1 (((View.whole main_v3).slice (win0_2.rect t)).emb (ix2 y0 y1) 1)
          ⟨1024 * s.val + k.val, by omega⟩) := by
  obtain ⟨e0, e1, e2⟩ := idx t
  have ht : t.val < 8 := lt_of_lt_of_eq t.isLt N_0
  blk_simp [iblk]
  entry_read
  pointwise
  blk_ext [e1, e2]

/-- The kernel's result array. -/
theorem kernel_eq (m : (ℓ : Loc nD τ sig) → Buf (Elt Ideal) ℓ) (c : Dev nD) :
    (dats m 0 c).arrAt 2 cfg0.N = upDx 1 (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 8 := lt_of_lt_of_eq t.isLt N_0
  rw [upDx, sum_four]
  pointwise [k0_pay1]
  refine congrArg₂ (· + ·) (congrArg₂ (· + ·) (congrArg₂ (· + ·) ?_ ?_) ?_) ?_
  all_goals
    refine Finset.sum_congr rfl fun k _ => congrArg₂ (· * ·) (read0 m c t y0 y1 _) ?_
  · exact (read1 m c t 0 y0 y1 k).trans (congrArg _ (congrArg (ix3 _ _) (Fin.ext (by simp))))
  · exact read1 m c t 1 y0 y1 k
  · exact read1 m c t 2 y0 y1 k
  · exact read1 m c t 3 y0 y1 k

end Kernel

section Reference
open Cert.UpDx1RefIdeal Cert.UpDx1RefIdeal.Gen

/-- The reference's result. -/
theorem ref_eq (A0 : FVec Ideal S4096x4096 .bf16) (A1 : FVec Ideal S2x1024x4096 .f32) :
    Host.dotGeneral dot_S4096x4096_S1024x4096_S4096x1024_1_1_0_0_n_n none (extf .f32 A0 bitsLt_bf16_f32) (shapeCast _ (extractStridedSlice S1x1024x4096 ![1, 0, 0] A1 slices_S2x1024x4096_S1x1024x4096_1_0_0) shapeCasts_S1x1024x4096_S1024x4096)
      = upDx 1 A0 A1 := by
  funext i
  idx_vars i
  pointwise [upDx]

end Reference

end Cert.Proof.UpDx1

end
-- ==== Proof.UpDw1Value.lean ====
/- `mlp1_up_dw` read at `Ideal`: kernel and reference both leave the first weight's gradient. -/
module

public import proofs.«01_k».proof.Proof.Gen.UpDw1Ideal.Value
public import proofs.«01_k».proof.Proof.Gen.UpDw1RefIdeal.Run
public import proofs.«01_k».proof.Proof.MlpSpec
public import Idealize.ShloMosaic.Lib.Claim

@[expose] public section

set_option maxRecDepth 16384

noncomputable section

namespace Cert.Proof.UpDw1

open Idealize.ShloMosaic Idealize.ShloMosaic.TcCoe Idealize.SL.Sem
open Idealize.ShloMosaic.Pipeline (Dat)
open Cert.Proof.Mlp

section Kernel
open Cert.UpDw1Ideal Cert.UpDw1Ideal.Gen

/-- The blocks' places on the grid of 4 × 2 points. -/
theorem idx : ∀ t : Fin grid0.N, win0_0.index t = ![0, 0] ∧ win0_1.index t = ![0, t.val]
    ∧ win0_2.index t = ![t.val / 2, 1, t.val % 2] := by decide +kernel

/-- The kernel's result array. -/
theorem kernel_eq (m : (ℓ : Loc nD τ sig) → Buf (Elt Ideal) ℓ) (c : Dev nD) :
    (dats m 0 c).arrAt 2 cfg0.N = upDw 1 (m ((c : Thread nD τ).loc main_arg0)) (m ((c : Thread nD τ).loc main_arg1)) (m ((c : Thread nD τ).loc main_arg2)) := by
  have h := (dats m 0 c).arrAt_eq_of_coversWhere 2 (fun i : S4x2048x1024.Idx =>
      dw1 (m ((c : Thread nD τ).loc main_arg0)) (m ((c : Thread nD τ).loc main_arg1)) (i 0) ⟨(i 1).val % 1024, by omega⟩ (i 2))
    (fun β => β (1 : Fin 3) = 1) (P := fun i : S4x2048x1024.Idx => (i 1).val / 1024 = 1) (by decide +kernel) (fun t hf y => ?_)
    (fun j => by blk_simp [Pipeline.Window.cell_apply])
  · refine h.trans (funext fun i => ?_)
    unfold upDw
    split_ifs with h1 h2
    · rfl
    · exact absurd h1 h2
    · exact absurd ‹_› h1
    · rw [A_eq]
      entry_read
      rfl
  · blk_simp
    rw [after0_2]
    unfold outsAt0
    frame_out
    idx_vars y
    obtain ⟨e0, e1, e2⟩ := idx t
    have ht : t.val < 8 := lt_of_lt_of_eq t.isLt N_0
    pointwise [k0_pay1, dw1]
    refine @Finset.sum_congr _ EReal _ _ _ _ _ rfl fun k _ => ?_
    rw [mul_comm]
    congr 1
    · blk_ext [iblk, V, e1, e2]
    · blk_ext [iblk, V, e0, e2]

end Kernel

section Reference
open Cert.UpDw1RefIdeal Cert.UpDw1RefIdeal.Gen

/-- The reference's result. -/
theorem ref_eq (A0 : FVec Ideal S4096x1024 .bf16) (A1 : FVec Ideal S4096x4096 .bf16) (A2 : FVec Ideal S4x2048x1024 .f32) :
    concatenate S4x2048x1024 1 [⟨S4x1024x1024, (extractStridedSlice S4x1024x1024 ![0, 0, 0] A2 slices_S4x2048x1024_S4x1024x1024_0_0_0)⟩, ⟨S4x1024x1024, (transpose S4x1024x1024 [1, 0, 2] (shapeCast _ (transpose S1024x4096 [1, 0] (Host.dotGeneral dot_S4096x4096_S4096x1024_S4096x1024_0_0_1_1_n_n none (extf .f32 A1 bitsLt_bf16_f32) (extf .f32 A0 bitsLt_bf16_f32)) transposes_S4096x1024_S1024x4096_1_0) shapeCasts_S1024x4096_S1024x4x1024) transposes_S1024x4x1024_S4x1024x1024_1_0_2)⟩] concatenates_S4x1024x1024_S4x1024x1024_S4x2048x1024_d1
      = upDw 1 A0 A1 A2 := by
  funext i
  idx_vars i
  pointwise [upDw, dw1]
  by_cases h : i1.val < 1024
  · rw [dif_pos h, if_neg (show ¬i1.val / 1024 = 1 by omega)]
  · rw [dif_neg h, if_pos (show i1.val / 1024 = 1 by omega)]
    refine Finset.sum_congr rfl fun k _ => ?_
    have e : (⟨i0.val * 1024 + i2.val, by omega⟩ : Fin 4096) = ⟨1024 * i0.val + i2.val, by omega⟩ := Fin.ext (by simp only []; omega)
    rw [e]
    congr 3
    exact Fin.ext (by simp only []; omega)

end Reference

end Cert.Proof.UpDw1

end
-- ==== Proof.MlpClaims.lean ====
/- The value claims of the channel mixer's products: the kernel's run and the reference's leave the same arrays. -/
module

public import proofs.«01_k».proof.Defs
public import proofs.«01_k».proof.Proof.Up0Value
public import proofs.«01_k».proof.Proof.Down0Value
public import proofs.«01_k».proof.Proof.DownDx0Value
public import proofs.«01_k».proof.Proof.DownDw0Value
public import proofs.«01_k».proof.Proof.UpDx0Value
public import proofs.«01_k».proof.Proof.UpDw0Value
public import proofs.«01_k».proof.Proof.Up1Value
public import proofs.«01_k».proof.Proof.Down1Value
public import proofs.«01_k».proof.Proof.DownDx1Value
public import proofs.«01_k».proof.Proof.DownDw1Value
public import proofs.«01_k».proof.Proof.UpDx1Value
public import proofs.«01_k».proof.Proof.UpDw1Value

@[expose] public section

noncomputable section

namespace Cert.Proof

open Idealize.ShloMosaic Idealize.ShloMosaic.TcCoe Idealize.SL.Sem

/-- `mlp0_up`. -/
theorem algebraic_Up0 : Cert.algebraic_Up0Ideal_Up0RefIdeal (hUp0Ideal := Cert.Up0Ideal.Gen.facts) (hUp0RefIdeal := Cert.Up0RefIdeal.Gen.facts) :=
  fun m g m' g' _ hA => ⟨fun c => Mlp.up 0 (m ((c : Thread Cert.Up0Ideal.nD Cert.Up0Ideal.τ).loc Cert.Up0Ideal.main_arg0)) (m ((c : Thread Cert.Up0Ideal.nD Cert.Up0Ideal.τ).loc Cert.Up0Ideal.main_arg1)),
    fun c => Mlp.act 0 (m ((c : Thread Cert.Up0Ideal.nD Cert.Up0Ideal.τ).loc Cert.Up0Ideal.main_arg0)) (m ((c : Thread Cert.Up0Ideal.nD Cert.Up0Ideal.τ).loc Cert.Up0Ideal.main_arg1)),
    (θ_run _ _ _).mono (fun _ h c => ⟨(h c).1.trans (Up0.kernel_eq_up m c), (h c).2.1.trans (Up0.kernel_eq_act m c), (h c).2.2⟩) (Cert.Up0Ideal.Value.run_blocks m g),
    (θ_run _ _ _).mono (fun _ h c => ⟨by
      refine (h c).1.trans ?_
      rw [(hA c).1, (hA c).2]
      exact Up0.ref_eq_up _ _, by
      refine (h c).2.1.trans ?_
      rw [(hA c).1, (hA c).2]
      exact Up0.ref_eq_act _ _, (h c).2.2⟩) (Cert.Up0RefIdeal.Value.run m' g')⟩

/-- `mlp0_down`. -/
theorem algebraic_Down0 : Cert.algebraic_Down0Ideal_Down0RefIdeal (hDown0Ideal := Cert.Down0Ideal.Gen.facts) (hDown0RefIdeal := Cert.Down0RefIdeal.Gen.facts) :=
  fun m g m' g' _ hA => ⟨fun c => Mlp.down 0 (m ((c : Thread Cert.Down0Ideal.nD Cert.Down0Ideal.τ).loc Cert.Down0Ideal.main_arg0)) (m ((c : Thread Cert.Down0Ideal.nD Cert.Down0Ideal.τ).loc Cert.Down0Ideal.main_arg1)),
    (θ_run _ _ _).mono (fun _ h c => ⟨(h c).1.trans (Down0.kernel_eq m c), (h c).2⟩) (Cert.Down0Ideal.Value.run_blocks m g),
    (θ_run _ _ _).mono (fun _ h c => ⟨by
      refine (h c).1.trans ?_
      rw [(hA c).1, (hA c).2]
      exact Down0.ref_eq _ _, (h c).2⟩) (Cert.Down0RefIdeal.Value.run m' g')⟩

/-- `mlp0_down_dx`. -/
theorem algebraic_DownDx0 : Cert.algebraic_DownDx0Ideal_DownDx0RefIdeal (hDownDx0Ideal := Cert.DownDx0Ideal.Gen.facts) (hDownDx0RefIdeal := Cert.DownDx0RefIdeal.Gen.facts) :=
  fun m g m' g' _ hA => ⟨fun c => Mlp.downDx 0 (m ((c : Thread Cert.DownDx0Ideal.nD Cert.DownDx0Ideal.τ).loc Cert.DownDx0Ideal.main_arg0)) (m ((c : Thread Cert.DownDx0Ideal.nD Cert.DownDx0Ideal.τ).loc Cert.DownDx0Ideal.main_arg1)) (m ((c : Thread Cert.DownDx0Ideal.nD Cert.DownDx0Ideal.τ).loc Cert.DownDx0Ideal.main_arg2)),
    (θ_run _ _ _).mono (fun _ h c => ⟨(h c).1.trans (DownDx0.kernel_eq m c), (h c).2⟩) (Cert.DownDx0Ideal.Value.run_blocks m g),
    (θ_run _ _ _).mono (fun _ h c => ⟨by
      refine (h c).1.trans ?_
      rw [(hA c).1, (hA c).2.1, (hA c).2.2]
      exact DownDx0.ref_eq _ _ _, (h c).2⟩) (Cert.DownDx0RefIdeal.Value.run m' g')⟩

/-- `mlp0_down_dw`. -/
theorem algebraic_DownDw0 : Cert.algebraic_DownDw0Ideal_DownDw0RefIdeal (hDownDw0Ideal := Cert.DownDw0Ideal.Gen.facts) (hDownDw0RefIdeal := Cert.DownDw0RefIdeal.Gen.facts) :=
  fun m g m' g' _ hA => ⟨fun c => Mlp.downDw 0 (m ((c : Thread Cert.DownDw0Ideal.nD Cert.DownDw0Ideal.τ).loc Cert.DownDw0Ideal.main_arg0)) (m ((c : Thread Cert.DownDw0Ideal.nD Cert.DownDw0Ideal.τ).loc Cert.DownDw0Ideal.main_arg1)) (m ((c : Thread Cert.DownDw0Ideal.nD Cert.DownDw0Ideal.τ).loc Cert.DownDw0Ideal.main_arg2)),
    (θ_run _ _ _).mono (fun _ h c => ⟨(h c).1.trans (DownDw0.kernel_eq m c), (h c).2⟩) (Cert.DownDw0Ideal.Value.run_blocks m g),
    (θ_run _ _ _).mono (fun _ h c => ⟨by
      refine (h c).1.trans ?_
      rw [(hA c).1, (hA c).2.1, (hA c).2.2]
      exact DownDw0.ref_eq _ _ _, (h c).2⟩) (Cert.DownDw0RefIdeal.Value.run m' g')⟩

/-- `mlp0_up_dx`. -/
theorem algebraic_UpDx0 : Cert.algebraic_UpDx0Ideal_UpDx0RefIdeal (hUpDx0Ideal := Cert.UpDx0Ideal.Gen.facts) (hUpDx0RefIdeal := Cert.UpDx0RefIdeal.Gen.facts) :=
  fun m g m' g' _ hA => ⟨fun c => Mlp.upDx 0 (m ((c : Thread Cert.UpDx0Ideal.nD Cert.UpDx0Ideal.τ).loc Cert.UpDx0Ideal.main_arg0)) (m ((c : Thread Cert.UpDx0Ideal.nD Cert.UpDx0Ideal.τ).loc Cert.UpDx0Ideal.main_arg1)),
    (θ_run _ _ _).mono (fun _ h c => ⟨(h c).1.trans (UpDx0.kernel_eq m c), (h c).2⟩) (Cert.UpDx0Ideal.Value.run_blocks m g),
    (θ_run _ _ _).mono (fun _ h c => ⟨by
      refine (h c).1.trans ?_
      rw [(hA c).1, (hA c).2]
      exact UpDx0.ref_eq _ _, (h c).2⟩) (Cert.UpDx0RefIdeal.Value.run m' g')⟩

/-- `mlp0_up_dw`. -/
theorem algebraic_UpDw0 : Cert.algebraic_UpDw0Ideal_UpDw0RefIdeal (hUpDw0Ideal := Cert.UpDw0Ideal.Gen.facts) (hUpDw0RefIdeal := Cert.UpDw0RefIdeal.Gen.facts) :=
  fun m g m' g' _ hA => ⟨fun c => Mlp.upDw 0 (m ((c : Thread Cert.UpDw0Ideal.nD Cert.UpDw0Ideal.τ).loc Cert.UpDw0Ideal.main_arg0)) (m ((c : Thread Cert.UpDw0Ideal.nD Cert.UpDw0Ideal.τ).loc Cert.UpDw0Ideal.main_arg1)) (m ((c : Thread Cert.UpDw0Ideal.nD Cert.UpDw0Ideal.τ).loc Cert.UpDw0Ideal.main_arg2)),
    (θ_run _ _ _).mono (fun _ h c => ⟨(h c).1.trans (UpDw0.kernel_eq m c), (h c).2⟩) (Cert.UpDw0Ideal.Value.run_blocks m g),
    (θ_run _ _ _).mono (fun _ h c => ⟨by
      refine (h c).1.trans ?_
      rw [(hA c).1, (hA c).2.1, (hA c).2.2]
      exact UpDw0.ref_eq _ _ _, (h c).2⟩) (Cert.UpDw0RefIdeal.Value.run m' g')⟩

/-- `mlp1_up`. -/
theorem algebraic_Up1 : Cert.algebraic_Up1Ideal_Up1RefIdeal (hUp1Ideal := Cert.Up1Ideal.Gen.facts) (hUp1RefIdeal := Cert.Up1RefIdeal.Gen.facts) :=
  fun m g m' g' _ hA => ⟨fun c => Mlp.up 1 (m ((c : Thread Cert.Up1Ideal.nD Cert.Up1Ideal.τ).loc Cert.Up1Ideal.main_arg0)) (m ((c : Thread Cert.Up1Ideal.nD Cert.Up1Ideal.τ).loc Cert.Up1Ideal.main_arg1)),
    fun c => Mlp.act 1 (m ((c : Thread Cert.Up1Ideal.nD Cert.Up1Ideal.τ).loc Cert.Up1Ideal.main_arg0)) (m ((c : Thread Cert.Up1Ideal.nD Cert.Up1Ideal.τ).loc Cert.Up1Ideal.main_arg1)),
    (θ_run _ _ _).mono (fun _ h c => ⟨(h c).1.trans (Up1.kernel_eq_up m c), (h c).2.1.trans (Up1.kernel_eq_act m c), (h c).2.2⟩) (Cert.Up1Ideal.Value.run_blocks m g),
    (θ_run _ _ _).mono (fun _ h c => ⟨by
      refine (h c).1.trans ?_
      rw [(hA c).1, (hA c).2]
      exact Up1.ref_eq_up _ _, by
      refine (h c).2.1.trans ?_
      rw [(hA c).1, (hA c).2]
      exact Up1.ref_eq_act _ _, (h c).2.2⟩) (Cert.Up1RefIdeal.Value.run m' g')⟩

/-- `mlp1_down`. -/
theorem algebraic_Down1 : Cert.algebraic_Down1Ideal_Down1RefIdeal (hDown1Ideal := Cert.Down1Ideal.Gen.facts) (hDown1RefIdeal := Cert.Down1RefIdeal.Gen.facts) :=
  fun m g m' g' _ hA => ⟨fun c => Mlp.down 1 (m ((c : Thread Cert.Down1Ideal.nD Cert.Down1Ideal.τ).loc Cert.Down1Ideal.main_arg0)) (m ((c : Thread Cert.Down1Ideal.nD Cert.Down1Ideal.τ).loc Cert.Down1Ideal.main_arg1)),
    (θ_run _ _ _).mono (fun _ h c => ⟨(h c).1.trans (Down1.kernel_eq m c), (h c).2⟩) (Cert.Down1Ideal.Value.run_blocks m g),
    (θ_run _ _ _).mono (fun _ h c => ⟨by
      refine (h c).1.trans ?_
      rw [(hA c).1, (hA c).2]
      exact Down1.ref_eq _ _, (h c).2⟩) (Cert.Down1RefIdeal.Value.run m' g')⟩

/-- `mlp1_down_dx`. -/
theorem algebraic_DownDx1 : Cert.algebraic_DownDx1Ideal_DownDx1RefIdeal (hDownDx1Ideal := Cert.DownDx1Ideal.Gen.facts) (hDownDx1RefIdeal := Cert.DownDx1RefIdeal.Gen.facts) :=
  fun m g m' g' _ hA => ⟨fun c => Mlp.downDx 1 (m ((c : Thread Cert.DownDx1Ideal.nD Cert.DownDx1Ideal.τ).loc Cert.DownDx1Ideal.main_arg0)) (m ((c : Thread Cert.DownDx1Ideal.nD Cert.DownDx1Ideal.τ).loc Cert.DownDx1Ideal.main_arg1)) (m ((c : Thread Cert.DownDx1Ideal.nD Cert.DownDx1Ideal.τ).loc Cert.DownDx1Ideal.main_arg2)),
    (θ_run _ _ _).mono (fun _ h c => ⟨(h c).1.trans (DownDx1.kernel_eq m c), (h c).2⟩) (Cert.DownDx1Ideal.Value.run_blocks m g),
    (θ_run _ _ _).mono (fun _ h c => ⟨by
      refine (h c).1.trans ?_
      rw [(hA c).1, (hA c).2.1, (hA c).2.2]
      exact DownDx1.ref_eq _ _ _, (h c).2⟩) (Cert.DownDx1RefIdeal.Value.run m' g')⟩

/-- `mlp1_down_dw`. -/
theorem algebraic_DownDw1 : Cert.algebraic_DownDw1Ideal_DownDw1RefIdeal (hDownDw1Ideal := Cert.DownDw1Ideal.Gen.facts) (hDownDw1RefIdeal := Cert.DownDw1RefIdeal.Gen.facts) :=
  fun m g m' g' _ hA => ⟨fun c => Mlp.downDw 1 (m ((c : Thread Cert.DownDw1Ideal.nD Cert.DownDw1Ideal.τ).loc Cert.DownDw1Ideal.main_arg0)) (m ((c : Thread Cert.DownDw1Ideal.nD Cert.DownDw1Ideal.τ).loc Cert.DownDw1Ideal.main_arg1)) (m ((c : Thread Cert.DownDw1Ideal.nD Cert.DownDw1Ideal.τ).loc Cert.DownDw1Ideal.main_arg2)),
    (θ_run _ _ _).mono (fun _ h c => ⟨(h c).1.trans (DownDw1.kernel_eq m c), (h c).2⟩) (Cert.DownDw1Ideal.Value.run_blocks m g),
    (θ_run _ _ _).mono (fun _ h c => ⟨by
      refine (h c).1.trans ?_
      rw [(hA c).1, (hA c).2.1, (hA c).2.2]
      exact DownDw1.ref_eq _ _ _, (h c).2⟩) (Cert.DownDw1RefIdeal.Value.run m' g')⟩

/-- `mlp1_up_dx`. -/
theorem algebraic_UpDx1 : Cert.algebraic_UpDx1Ideal_UpDx1RefIdeal (hUpDx1Ideal := Cert.UpDx1Ideal.Gen.facts) (hUpDx1RefIdeal := Cert.UpDx1RefIdeal.Gen.facts) :=
  fun m g m' g' _ hA => ⟨fun c => Mlp.upDx 1 (m ((c : Thread Cert.UpDx1Ideal.nD Cert.UpDx1Ideal.τ).loc Cert.UpDx1Ideal.main_arg0)) (m ((c : Thread Cert.UpDx1Ideal.nD Cert.UpDx1Ideal.τ).loc Cert.UpDx1Ideal.main_arg1)),
    (θ_run _ _ _).mono (fun _ h c => ⟨(h c).1.trans (UpDx1.kernel_eq m c), (h c).2⟩) (Cert.UpDx1Ideal.Value.run_blocks m g),
    (θ_run _ _ _).mono (fun _ h c => ⟨by
      refine (h c).1.trans ?_
      rw [(hA c).1, (hA c).2]
      exact UpDx1.ref_eq _ _, (h c).2⟩) (Cert.UpDx1RefIdeal.Value.run m' g')⟩

/-- `mlp1_up_dw`. -/
theorem algebraic_UpDw1 : Cert.algebraic_UpDw1Ideal_UpDw1RefIdeal (hUpDw1Ideal := Cert.UpDw1Ideal.Gen.facts) (hUpDw1RefIdeal := Cert.UpDw1RefIdeal.Gen.facts) :=
  fun m g m' g' _ hA => ⟨fun c => Mlp.upDw 1 (m ((c : Thread Cert.UpDw1Ideal.nD Cert.UpDw1Ideal.τ).loc Cert.UpDw1Ideal.main_arg0)) (m ((c : Thread Cert.UpDw1Ideal.nD Cert.UpDw1Ideal.τ).loc Cert.UpDw1Ideal.main_arg1)) (m ((c : Thread Cert.UpDw1Ideal.nD Cert.UpDw1Ideal.τ).loc Cert.UpDw1Ideal.main_arg2)),
    (θ_run _ _ _).mono (fun _ h c => ⟨(h c).1.trans (UpDw1.kernel_eq m c), (h c).2⟩) (Cert.UpDw1Ideal.Value.run_blocks m g),
    (θ_run _ _ _).mono (fun _ h c => ⟨by
      refine (h c).1.trans ?_
      rw [(hA c).1, (hA c).2.1, (hA c).2.2]
      exact UpDw1.ref_eq _ _ _, (h c).2⟩) (Cert.UpDw1RefIdeal.Value.run m' g')⟩

end Cert.Proof

end
-- ==== Proof.ProjSpec.lean ====
/- What the mixers' projections and the S5 gate's product leave, forward and backward. -/
module

public import Idealize.ShloMosaic.Lib.Pipeline.ValueKit
public import Idealize.ShloMosaic.Lib.Pointwise

@[expose] public section

set_option maxRecDepth 16384

noncomputable section

namespace Cert.Proof.Proj

open Idealize.ShloMosaic

variable {M K N : Nat}

/-- The product `x · w`. -/
def mm (x : (⟨2, ![M, K]⟩ : Shape).Idx → EReal) (w : (⟨2, ![K, N]⟩ : Shape).Idx → EReal)
    (i : (⟨2, ![M, N]⟩ : Shape).Idx) : EReal := ∑ k : Fin K, x (ix2 (i 0) k) * w (ix2 k (i 1))

/-- The gradient of `x · w` at `x`: the cotangent times the transpose of `w`. -/
def mmDx (ct : (⟨2, ![M, N]⟩ : Shape).Idx → EReal) (w : (⟨2, ![K, N]⟩ : Shape).Idx → EReal)
    (i : (⟨2, ![M, K]⟩ : Shape).Idx) : EReal := ∑ k : Fin N, ct (ix2 (i 0) k) * w (ix2 (i 1) k)

/-- The gradient of `x · w` at `w`: the transpose of `x` times the cotangent. -/
def mmDw (x : (⟨2, ![M, K]⟩ : Shape).Idx → EReal) (ct : (⟨2, ![M, N]⟩ : Shape).Idx → EReal)
    (i : (⟨2, ![K, N]⟩ : Shape).Idx) : EReal := ∑ k : Fin M, x (ix2 k (i 0)) * ct (ix2 k (i 1))

/-- The even input projection, its 2056 columns followed by 120 of zeros. -/
def inE (x : (⟨2, ![4096, 1024]⟩ : Shape).Idx → EReal) (w : (⟨2, ![1024, 2056]⟩ : Shape).Idx → EReal)
    (i : (⟨2, ![4096, 2176]⟩ : Shape).Idx) : EReal :=
  if h : (i 1).val < 2056 then ∑ k : Fin 1024, x (ix2 (i 0) k) * w (ix2 k ⟨(i 1).val, h⟩) else 0

/-- The even input projection's gradient at its input: the padding's columns of the cotangent do not count. -/
def inEDx (ct : (⟨2, ![4096, 2176]⟩ : Shape).Idx → EReal) (w : (⟨2, ![1024, 2056]⟩ : Shape).Idx → EReal)
    (i : (⟨2, ![4096, 1024]⟩ : Shape).Idx) : EReal :=
  ∑ k : Fin 2056, ct (ix2 (i 0) ⟨k.val, by omega⟩) * w (ix2 (i 1) k)

/-- Column `j` of the kernel's order u, v, pool in `w_in_odd`'s order pool, u, v. -/
def odd (j : Fin 1536) : Fin 1536 := if h : j.val < 1024 then ⟨512 + j.val, by omega⟩ else ⟨j.val - 1024, by omega⟩

/-- The odd input projection, its columns in the order u, v, pool. -/
def inO (x : (⟨2, ![4096, 1024]⟩ : Shape).Idx → EReal) (w : (⟨2, ![1024, 1536]⟩ : Shape).Idx → EReal)
    (i : (⟨2, ![4096, 1536]⟩ : Shape).Idx) : EReal := ∑ k : Fin 1024, x (ix2 (i 0) k) * w (ix2 k (odd (i 1)))

/-- The odd input projection's gradient at its input, the cotangent's columns in the order u, v, pool. -/
def inODx (ct : (⟨2, ![4096, 1536]⟩ : Shape).Idx → EReal) (w : (⟨2, ![1024, 1536]⟩ : Shape).Idx → EReal)
    (i : (⟨2, ![4096, 1024]⟩ : Shape).Idx) : EReal :=
  (∑ k : Fin 1024, ct (ix2 (i 0) ⟨k.val, by omega⟩) * w (ix2 (i 1) ⟨512 + k.val, by omega⟩))
    + ∑ k : Fin 512, ct (ix2 (i 0) ⟨1024 + k.val, by omega⟩) * w (ix2 (i 1) ⟨k.val, by omega⟩)

/-- The even weight, its 2056 columns followed by 120 of zeros. -/
def padW (w : (⟨2, ![1024, 2056]⟩ : Shape).Idx → EReal) (x : (⟨2, ![1024, 2176]⟩ : Shape).Idx) : EReal :=
  if h : (x 1).val < 2056 then w (ix2 (x 0) ⟨(x 1).val, h⟩) else 0

/-- The integer zero as a float. -/
theorem sitofp_zero {f : FTy} : (FloatOps.sitofp (F := Ideal) f (0#32) : EReal) = 0 := by
  show ((((0#32 : BitVec 32).toInt : ℤ) : ℝ) : EReal) = 0
  simp

/-- A sum over the padded columns whose last 120 terms vanish. -/
theorem sum_pad (f : Fin 2176 → EReal) (h : ∀ k : Fin 2176, ¬k.val < 2056 → f k = 0) :
    ∑ k, f k = ∑ k : Fin 2056, f ⟨k.val, by omega⟩ := by
  rw [show (∑ k, f k) = ∑ k : Fin (2056 + 120), f (k.cast (by norm_num)) from rfl, Fin.sum_univ_add]
  rw [show (∑ k : Fin 120, f ((Fin.natAdd 2056 k).cast (by norm_num))) = 0 from
    Finset.sum_eq_zero fun k _ => h _ (by simp), add_zero]
  rfl

/-- A sum over the columns u, v, pool: the first 1024 and the last 512. -/
theorem sum_uvp (f : Fin 1536 → EReal) :
    ∑ k, f k = (∑ k : Fin 1024, f ⟨k.val, by omega⟩) + ∑ k : Fin 512, f ⟨1024 + k.val, by omega⟩ := by
  rw [show (∑ k, f k) = ∑ k : Fin (1024 + 512), f (k.cast (by norm_num)) from rfl, Fin.sum_univ_add]
  rfl

/-- A sum over the columns pool, u, v: the first 512 and the last 1024. -/
theorem sum_puv (f : Fin 1536 → EReal) :
    ∑ k, f k = (∑ k : Fin 512, f ⟨k.val, by omega⟩) + ∑ k : Fin 1024, f ⟨512 + k.val, by omega⟩ := by
  rw [show (∑ k, f k) = ∑ k : Fin (512 + 1024), f (k.cast (by norm_num)) from rfl, Fin.sum_univ_add]
  rfl

/-- A sum over 4096 rows is the sum of its two halves. -/
theorem sum_two (f : Fin 4096 → EReal) :
    ∑ k, f k = (∑ k : Fin 2048, f ⟨k.val, by omega⟩) + ∑ k : Fin 2048, f ⟨2048 + k.val, by omega⟩ := by
  rw [show (∑ k, f k) = ∑ k : Fin (2048 + 2048), f (k.cast (by norm_num)) from rfl, Fin.sum_univ_add]
  rfl

end Cert.Proof.Proj

end
-- ==== Proof.InEValue.lean ====
/- `l0_in_proj` read at `Ideal`: kernel and reference both leave the even input projection. -/
module

public import proofs.«01_k».proof.Proof.Gen.InEIdeal.Value
public import proofs.«01_k».proof.Proof.Gen.InERefIdeal.Run
public import proofs.«01_k».proof.Proof.ProjSpec
public import Idealize.ShloMosaic.Lib.Claim

@[expose] public section

set_option maxRecDepth 16384

noncomputable section

namespace Cert.Proof.InE

open Idealize.ShloMosaic Idealize.ShloMosaic.TcCoe Idealize.SL.Sem
open Idealize.ShloMosaic.Pipeline (Dat)
open Cert.Proof.Proj

section Kernel
open Cert.InEIdeal Cert.InEIdeal.Gen

/-- The blocks' places on the grid of 4 points. -/
theorem idx : ∀ t : Fin grid0.N, win0_0.index t = ![t.val, 0] ∧ win0_1.index t = ![0, 0]
    ∧ win0_2.index t = ![t.val, 0] := by decide +kernel

/-- The padded weight at an index. -/
theorem pad_apply (W : FVec Ideal S1024x2056 .f32) (x0 : Fin 1024) (x1 : Fin 2176) :
    pad S1024x2176 ![0, 0] ![0, 120] ![0, 0] (truncf .bf16 W bitsLt_bf16_f32)
          (sitofp (F := Ideal) .bf16 (constantI S_ 32 0#32)) pads_S1024x2056_S1024x2176_000_01200 h_S_ (ix2 x0 x1)
      = if h : x1.val < 2056 then W (ix2 x0 ⟨x1.val, h⟩) else 0 := by
  pointwise
  by_cases h : x1.val < 2056
  · rw [dif_pos h, dif_pos h]
  · rw [dif_neg h, dif_neg h]
    exact sitofp_zero

/-- The weight that the region is entered with, at an index. -/
theorem entry (m : (ℓ : Loc nD τ sig) → Buf (Elt Ideal) ℓ) (c : Dev nD) (x : S1024x2176.Idx) :
    (V m c main_v1 : S1024x2176.Idx → EReal) x
      = padW (m ((c : Thread nD τ).loc main_arg1)) x := by
  obtain ⟨x0, x1, rfl⟩ : ∃ (x0 : Fin 1024) (x1 : Fin 2176), x = ix2 x0 x1 := ⟨x 0, x 1, (ix2_eta x).symm⟩
  exact pad_apply _ x0 x1

/-- The kernel's result array. -/
theorem kernel_eq (m : (ℓ : Loc nD τ sig) → Buf (Elt Ideal) ℓ) (c : Dev nD) :
    (dats m 0 c).arrAt 2 cfg0.N = inE (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 4 := lt_of_lt_of_eq t.isLt N_0
  have e : (((View.whole main_v2).slice (win0_2.rect t)).emb (ix2 y0 y1) 1).val = y1.val := by blk_simp [e2]
  pointwise [k0_pay1, inE]
  by_cases h : y1.val < 2056
  · rw [dif_pos (e ▸ h)]
    refine @Finset.sum_congr _ EReal _ _ _ _ _ rfl fun k _ => ?_
    congr 1
    · blk_ext [iblk, V, e0, e2]
    · blk_simp [iblk]
      refine (entry m c _).trans ?_
      unfold padW
      rw [dif_pos (show (((View.whole main_v1).slice (win0_1.rect t)).emb (ix2 k y1) 1).val < 2056 by blk_simp [e1]; omega)]
      blk_ext [e1, e2]
  · rw [dif_neg (e ▸ h)]
    refine @Finset.sum_eq_zero _ EReal _ _ _ fun k _ => ?_
    refine (congrArg _ ?_).trans (mul_zero _)
    blk_simp [iblk]
    refine (entry m c _).trans ?_
    unfold padW
    rw [dif_neg (show ¬(((View.whole main_v1).slice (win0_1.rect t)).emb (ix2 k y1) 1).val < 2056 by blk_simp [e1]; omega)]

end Kernel

section Reference
open Cert.InERefIdeal Cert.InERefIdeal.Gen

/-- The reference's result. -/
theorem ref_eq (A0 : FVec Ideal S4096x1024 .bf16) (A1 : FVec Ideal S1024x2056 .f32) :
    pad S4096x2176 ![0, 0] ![0, 120] ![0, 0] (Host.dotGeneral dot_S4096x1024_S1024x2056_S4096x2056_1_0_0_1_n_n none (extf .f32 A0 bitsLt_bf16_f32) A1) (sitofp .f32 (constantI S_ 32 0#32)) pads_S4096x2056_S4096x2176_000_01200 h_S_
      = inE A0 A1 := by
  funext i
  idx_vars i
  pointwise [inE]
  by_cases h : i1.val < 2056
  · rw [dif_pos h, dif_pos h]
  · rw [dif_neg h, dif_neg h]
    exact sitofp_zero

end Reference

end Cert.Proof.InE

end
-- ==== Proof.InEDxValue.lean ====
/- `l0_in_proj_dx` read at `Ideal`: kernel and reference both leave the even input projection's gradient at its input. -/
module

public import proofs.«01_k».proof.Proof.Gen.InEDxIdeal.Value
public import proofs.«01_k».proof.Proof.Gen.InEDxRefIdeal.Run
public import proofs.«01_k».proof.Proof.ProjSpec
public import Idealize.ShloMosaic.Lib.Claim

@[expose] public section

set_option maxRecDepth 16384

noncomputable section

namespace Cert.Proof.InEDx

open Idealize.ShloMosaic Idealize.ShloMosaic.TcCoe Idealize.SL.Sem
open Idealize.ShloMosaic.Pipeline (Dat)
open Cert.Proof.Proj

section Kernel
open Cert.InEDxIdeal Cert.InEDxIdeal.Gen

/-- The blocks' places on the grid of 4 points. -/
theorem idx : ∀ t : Fin grid0.N, win0_0.index t = ![t.val / 2, 0] ∧ win0_1.index t = ![t.val % 2, 0]
    ∧ win0_2.index t = ![t.val / 2, t.val % 2] := by decide +kernel

/-- The padded weight at an index. -/
theorem pad_apply (W : FVec Ideal S1024x2056 .f32) (x0 : Fin 1024) (x1 : Fin 2176) :
    pad S1024x2176 ![0, 0] ![0, 120] ![0, 0] (truncf .bf16 W bitsLt_bf16_f32)
          (sitofp (F := Ideal) .bf16 (constantI S_ 32 0#32)) pads_S1024x2056_S1024x2176_000_01200 h_S_ (ix2 x0 x1)
      = if h : x1.val < 2056 then W (ix2 x0 ⟨x1.val, h⟩) else 0 := by
  pointwise
  by_cases h : x1.val < 2056
  · rw [dif_pos h, dif_pos h]
  · rw [dif_neg h, dif_neg h]
    exact sitofp_zero

/-- The weight that the region is entered with, at an index. -/
theorem entry (m : (ℓ : Loc nD τ sig) → Buf (Elt Ideal) ℓ) (c : Dev nD) (x : S1024x2176.Idx) :
    (V m c main_v1 : S1024x2176.Idx → EReal) x
      = padW (m ((c : Thread nD τ).loc main_arg1)) x := by
  obtain ⟨x0, x1, rfl⟩ : ∃ (x0 : Fin 1024) (x1 : Fin 2176), x = ix2 x0 x1 := ⟨x 0, x 1, (ix2_eta x).symm⟩
  exact pad_apply _ x0 x1

/-- The kernel's result array. -/
theorem kernel_eq (m : (ℓ : Loc nD τ sig) → Buf (Elt Ideal) ℓ) (c : Dev nD) :
    (dats m 0 c).arrAt 2 cfg0.N = inEDx (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 4 := lt_of_lt_of_eq t.isLt N_0
  unfold inEDx
  pointwise [k0_pay1]
  refine (sum_pad _ fun k hk => ?_).trans (@Finset.sum_congr _ EReal _ _ _ _ _ rfl fun k _ => ?_)
  · refine (congrArg _ ?_).trans (mul_zero _)
    blk_simp [iblk]
    refine (entry m c _).trans ?_
    unfold padW
    rw [dif_neg (show ¬(((View.whole main_v1).slice (win0_1.rect t)).emb (ix2 y1 k) 1).val < 2056 by blk_simp [e1]; omega)]
  · congr 1
    · blk_ext [iblk, V, e0, e2]
    · blk_simp [iblk]
      refine (entry m c _).trans ?_
      unfold padW
      rw [dif_pos (show (((View.whole main_v1).slice (win0_1.rect t)).emb (ix2 y1 ⟨k.val, by omega⟩) 1).val < 2056 by blk_simp [e1]; dsimp only; omega)]
      blk_ext [e1, e2]

end Kernel

section Reference
open Cert.InEDxRefIdeal Cert.InEDxRefIdeal.Gen

/-- The reference's result. -/
theorem ref_eq (A0 : FVec Ideal S4096x2176 .bf16) (A1 : FVec Ideal S1024x2056 .f32) :
    Host.dotGeneral dot_S4096x2056_S1024x2056_S4096x1024_1_1_0_0_n_n none (extf .f32 (extractStridedSlice S4096x2056 ![0, 0] A0 slices_S4096x2176_S4096x2056_0_0) bitsLt_bf16_f32) A1
      = inEDx A0 A1 := by
  funext i
  idx_vars i
  pointwise [inEDx]

end Reference

end Cert.Proof.InEDx

end
-- ==== Proof.InOValue.lean ====
/- `l1_in_proj` read at `Ideal`: kernel and reference both leave the odd input projection. -/
module

public import proofs.«01_k».proof.Proof.Gen.InOIdeal.Value
public import proofs.«01_k».proof.Proof.Gen.InORefIdeal.Run
public import proofs.«01_k».proof.Proof.ProjSpec
public import Idealize.ShloMosaic.Lib.Claim

@[expose] public section

set_option maxRecDepth 16384

noncomputable section

namespace Cert.Proof.InO

open Idealize.ShloMosaic Idealize.ShloMosaic.TcCoe Idealize.SL.Sem
open Idealize.ShloMosaic.Pipeline (Dat)
open Cert.Proof.Proj

section Kernel
open Cert.InOIdeal Cert.InOIdeal.Gen

/-- The blocks' places on the grid of 6 points. -/
theorem idx : ∀ t : Fin grid0.N, win0_0.index t = ![t.val / 3, 0] ∧ win0_1.index t = ![0, t.val % 3]
    ∧ win0_2.index t = ![t.val / 3, t.val % 3] := by decide +kernel

/-- The kernel's result array. -/
theorem kernel_eq (m : (ℓ : Loc nD τ sig) → Buf (Elt Ideal) ℓ) (c : Dev nD) :
    (dats m 0 c).arrAt 2 cfg0.N = inO (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 6 := lt_of_lt_of_eq t.isLt N_0
  pointwise [k0_pay1, inO]
  refine @Finset.sum_congr _ EReal _ _ _ _ _ rfl fun k _ => ?_
  congr 1
  · blk_ext [iblk, V, e0, e2]
  · have e : (((View.whole main_v4).slice (win0_2.rect t)).emb (ix2 y0 y1) 1).val
        = (((View.whole main_v3).slice (win0_1.rect t)).emb (ix2 k y1) 1).val := by blk_simp [e1, e2]
    have e' : (((View.whole main_v3).slice (win0_1.rect t)).emb (ix2 k y1) 0).val = k.val := by blk_simp [e1]
    blk_simp [iblk]
    entry_read
    pointwise
    unfold odd
    by_cases h : (((View.whole main_v3).slice (win0_1.rect t)).emb (ix2 k y1) 1).val < 1024
    · rw [dif_pos h, dif_pos (e ▸ h)]
      exact congrArg _ (congrArg₂ ix2 (Fin.ext e') (Fin.ext (congrArg (512 + ·) e.symm)))
    · rw [dif_neg h, dif_neg (e ▸ h)]
      exact congrArg _ (congrArg₂ ix2 (Fin.ext e') (Fin.ext (congrArg (· - 1024) e.symm)))

end Kernel

section Reference
open Cert.InORefIdeal Cert.InORefIdeal.Gen

/-- The reference's result. -/
theorem ref_eq (A0 : FVec Ideal S4096x1024 .bf16) (A1 : FVec Ideal S1024x1536 .f32) :
    concatenate S4096x1536 1 [⟨S4096x1024, (extractStridedSlice S4096x1024 ![0, 512] (Host.dotGeneral dot_S4096x1024_S1024x1536_S4096x1536_1_0_0_1_n_n none (extf .f32 A0 bitsLt_bf16_f32) A1) slices_S4096x1536_S4096x1024_0_512)⟩, ⟨S4096x512, (extractStridedSlice S4096x512 ![0, 0] (Host.dotGeneral dot_S4096x1024_S1024x1536_S4096x1536_1_0_0_1_n_n none (extf .f32 A0 bitsLt_bf16_f32) A1) slices_S4096x1536_S4096x512_0_0)⟩] concatenates_S4096x1024_S4096x512_S4096x1536_d1
      = inO A0 A1 := by
  funext i
  idx_vars i
  pointwise [inO, odd]
  by_cases h : i1.val < 1024
  · simp only [dif_pos h]
  · simp only [dif_neg h]

end Reference

end Cert.Proof.InO

end
-- ==== Proof.InODxValue.lean ====
/- `l1_in_proj_dx` read at `Ideal`: kernel and reference both leave the odd input projection's gradient at its input. -/
module

public import proofs.«01_k».proof.Proof.Gen.InODxIdeal.Value
public import proofs.«01_k».proof.Proof.Gen.InODxRefIdeal.Run
public import proofs.«01_k».proof.Proof.ProjSpec
public import Idealize.ShloMosaic.Lib.Claim

@[expose] public section

set_option maxRecDepth 16384

noncomputable section

namespace Cert.Proof.InODx

open Idealize.ShloMosaic Idealize.ShloMosaic.TcCoe Idealize.SL.Sem
open Idealize.ShloMosaic.Pipeline (Dat)
open Cert.Proof.Proj

section Kernel
open Cert.InODxIdeal Cert.InODxIdeal.Gen

/-- The blocks' places on the grid of 2 points. -/
theorem idx : ∀ t : Fin grid0.N, win0_0.index t = ![t.val, 0] ∧ win0_1.index t = ![0, 0]
    ∧ win0_2.index t = ![t.val, 0] := by decide +kernel

/-- The kernel's result array. -/
theorem kernel_eq (m : (ℓ : Loc nD τ sig) → Buf (Elt Ideal) ℓ) (c : Dev nD) :
    (dats m 0 c).arrAt 2 cfg0.N = inODx (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 2 := lt_of_lt_of_eq t.isLt N_0
  unfold inODx
  pointwise [k0_pay1]
  refine (sum_uvp _).trans ?_
  congr 1
  all_goals
    refine @Finset.sum_congr _ EReal _ _ _ _ _ rfl fun k _ => ?_
    congr 1
  · blk_ext [iblk, V, e0, e2]
  · blk_simp [iblk]
    entry_read
    pointwise
    rw [dif_pos (show (((View.whole main_v3).slice (win0_1.rect t)).emb (ix2 y1 ⟨k.val, by omega⟩) 1).val < 1024 by blk_simp [e1]; dsimp only; omega)]
    blk_ext [e1, e2]
  · blk_ext [iblk, V, e0, e2]
  · blk_simp [iblk]
    entry_read
    pointwise
    rw [dif_neg (show ¬(((View.whole main_v3).slice (win0_1.rect t)).emb (ix2 y1 ⟨1024 + k.val, by omega⟩) 1).val < 1024 by blk_simp [e1]; dsimp only; omega)]
    blk_ext [e1, e2]

end Kernel

section Reference
open Cert.InODxRefIdeal Cert.InODxRefIdeal.Gen

/-- The reference's result. -/
theorem ref_eq (A0 : FVec Ideal S4096x1536 .bf16) (A1 : FVec Ideal S1024x1536 .f32) :
    Host.dotGeneral dot_S4096x1536_S1024x1536_S4096x1024_1_1_0_0_n_n none (extf .f32 (concatenate S4096x1536 1 [⟨S4096x512, (extractStridedSlice S4096x512 ![0, 1024] A0 slices_S4096x1536_S4096x512_0_1024)⟩, ⟨S4096x1024, (extractStridedSlice S4096x1024 ![0, 0] A0 slices_S4096x1536_S4096x1024_0_0)⟩] concatenates_S4096x512_S4096x1024_S4096x1536_d1) bitsLt_bf16_f32) A1
      = inODx A0 A1 := by
  funext i
  idx_vars i
  unfold inODx
  pointwise
  exact add_comm _ _

end Reference

end Cert.Proof.InODx

end
-- ==== Proof.InODwValue.lean ====
/- `l1_in_proj_dw` read at `Ideal`: kernel and reference both leave the odd input projection's gradient at its weight. -/
module

public import proofs.«01_k».proof.Proof.Gen.InODwIdeal.Value
public import proofs.«01_k».proof.Proof.Gen.InODwRefIdeal.Run
public import proofs.«01_k».proof.Proof.ProjSpec
public import Idealize.ShloMosaic.Lib.Claim

@[expose] public section

set_option maxRecDepth 16384

noncomputable section

namespace Cert.Proof.InODw

open Idealize.ShloMosaic Idealize.ShloMosaic.TcCoe Idealize.SL.Sem
open Idealize.ShloMosaic.Pipeline (Dat)
open Cert.Proof.Proj

section Kernel
open Cert.InODwIdeal Cert.InODwIdeal.Gen

/-- The blocks' places on the grid of 3 points. -/
theorem idx : ∀ t : Fin grid0.N, win0_0.index t = ![0, 0] ∧ win0_1.index t = ![0, t.val]
    ∧ win0_2.index t = ![0, t.val] := by decide +kernel

/-- The kernel's result array. -/
theorem kernel_eq (m : (ℓ : Loc nD τ sig) → Buf (Elt Ideal) ℓ) (c : Dev nD) :
    (dats m 0 c).arrAt 2 cfg0.N = mmDw (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 3 := lt_of_lt_of_eq t.isLt N_0
  pointwise [k0_pay1, mmDw]
  refine @Finset.sum_congr _ EReal _ _ _ _ _ rfl fun k _ => ?_
  congr 1
  · blk_ext [iblk, V, e0, e2]
  · blk_ext [iblk, V, e1, e2]

end Kernel

section Reference
open Cert.InODwRefIdeal Cert.InODwRefIdeal.Gen

/-- The reference's result. -/
theorem ref_eq (A0 : FVec Ideal S4096x1024 .bf16) (A1 : FVec Ideal S4096x1536 .bf16) :
    transpose S1024x1536 [1, 0] (Host.dotGeneral dot_S4096x1536_S4096x1024_S1536x1024_0_0_1_1_n_n none (extf .f32 A1 bitsLt_bf16_f32) (extf .f32 A0 bitsLt_bf16_f32)) transposes_S1536x1024_S1024x1536_1_0
      = mmDw A0 A1 := by
  funext i
  idx_vars i
  pointwise [mmDw]
  refine Finset.sum_congr rfl fun k _ => ?_
  rw [mul_comm]

end Reference

end Cert.Proof.InODw

end
-- ==== Proof.InEDwValue.lean ====
/- `l0_in_proj_dw` read at `Ideal`: kernel and reference both leave the even input projection's gradient at its weight. -/
module

public import proofs.«01_k».proof.Proof.Gen.InEDwIdeal.Value
public import proofs.«01_k».proof.Proof.Gen.InEDwRefIdeal.Run
public import proofs.«01_k».proof.Proof.ProjSpec
public import Idealize.ShloMosaic.Lib.Claim
public import Idealize.ShloMosaic.Lib.Pipeline.ReadBack

@[expose] public section

set_option maxRecDepth 16384

noncomputable section

namespace Cert.Proof.InEDw

open Idealize.ShloMosaic Idealize.ShloMosaic.TcCoe Idealize.SL.Sem
open Idealize.ShloMosaic.Pipeline (Dat)
open Cert.Proof.Proj

section Kernel
open Cert.InEDwIdeal Cert.InEDwIdeal.Gen

/-- The blocks' places on the grid of 4 points. -/
theorem idx : ∀ t : Fin grid0.N, win0_0.index t = ![t.val % 2, t.val / 2] ∧ win0_1.index t = ![t.val % 2, 0]
    ∧ win0_2.index t = ![t.val / 2, 0] := by decide +kernel

/-- The kernel's result array. -/
theorem kernel_eq (m : (ℓ : Loc nD τ sig) → Buf (Elt Ideal) ℓ) (c : Dev nD) :
    (dats m 0 c).arrAt 2 cfg0.N = mmDw (m ((c : Thread nD τ).loc main_arg0)) (m ((c : Thread nD τ).loc main_arg1)) := by
  refine (dats m 0 c).arrAt_eq_of_covers 2 _ (by decide +kernel) fun t hf y => ?_
  blk_simp
  have h2 : t.val % 2 = 1 := (by decide +kernel : ∀ t : Fin grid0.N, win0_2.flush t = true → t.val % 2 = 1) t hf
  have hp : t.val - 1 < cfg0.N := (Nat.sub_le _ _).trans_lt t.isLt
  rw [after0_2, outsAt0_B m c t (by omega) h2]
  dsimp only
  rw [outsAt0_A m c ⟨t.val - 1, hp⟩ (show (t.val - 1) % 2 = 0 by omega) (show ¬(t.val - 1) % 2 = 1 by omega)]
  dsimp only
  unfold out0_B_2 sout0_A_0
  frame_out
  idx_vars y
  obtain ⟨e0, e1, e2⟩ := idx t
  obtain ⟨d0, d1, d2⟩ := idx ⟨t.val - 1, hp⟩
  have ht : t.val < 4 := lt_of_lt_of_eq t.isLt N_0
  unfold mmDw
  refine Eq.trans ?_ (sum_two _).symm
  rw [read_unread_whole]
  pointwise [k0_pay1, k0_pay2, k0_pay4]
  congr 1
  all_goals
    refine @Finset.sum_congr _ EReal _ _ _ _ _ rfl fun k _ => ?_
    congr 1
  · blk_ext [iblk, V, d0, e2]
  · blk_ext [iblk, V, d1, e2]
  · blk_ext [iblk, V, e0, e2]
  · blk_ext [iblk, V, e1, e2]

end Kernel

section Reference
open Cert.InEDwRefIdeal Cert.InEDwRefIdeal.Gen

/-- The reference's result. -/
theorem ref_eq (A0 : FVec Ideal S4096x1024 .bf16) (A1 : FVec Ideal S4096x2176 .bf16) :
    transpose S1024x2176 [1, 0] (Host.dotGeneral dot_S4096x2176_S4096x1024_S2176x1024_0_0_1_1_n_n none (extf .f32 A1 bitsLt_bf16_f32) (extf .f32 A0 bitsLt_bf16_f32)) transposes_S2176x1024_S1024x2176_1_0
      = mmDw A0 A1 := by
  funext i
  idx_vars i
  pointwise [mmDw]
  refine Finset.sum_congr rfl fun k _ => ?_
  rw [mul_comm]

end Reference

end Cert.Proof.InEDw

end
-- ==== Proof.OutValue.lean ====
/- `out_proj` read at `Ideal`: kernel and reference both leave the output projection. -/
module

public import proofs.«01_k».proof.Proof.Gen.OutIdeal.Value
public import proofs.«01_k».proof.Proof.Gen.OutRefIdeal.Run
public import proofs.«01_k».proof.Proof.ProjSpec
public import Idealize.ShloMosaic.Lib.Claim

@[expose] public section

set_option maxRecDepth 16384

noncomputable section

namespace Cert.Proof.Out

open Idealize.ShloMosaic Idealize.ShloMosaic.TcCoe Idealize.SL.Sem
open Idealize.ShloMosaic.Pipeline (Dat)
open Cert.Proof.Proj

section Kernel
open Cert.OutIdeal Cert.OutIdeal.Gen

/-- The blocks' places on the grid of 2 points. -/
theorem idx : ∀ t : Fin grid0.N, win0_0.index t = ![t.val, 0] ∧ win0_1.index t = ![0, 0]
    ∧ win0_2.index t = ![t.val, 0] := by decide +kernel

/-- The kernel's result array. -/
theorem kernel_eq (m : (ℓ : Loc nD τ sig) → Buf (Elt Ideal) ℓ) (c : Dev nD) :
    (dats m 0 c).arrAt 2 cfg0.N = mm (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 2 := lt_of_lt_of_eq t.isLt N_0
  pointwise [k0_pay1, mm]
  refine @Finset.sum_congr _ EReal _ _ _ _ _ rfl fun k _ => ?_
  congr 1
  · blk_ext [iblk, V, e0, e2]
  · blk_simp [iblk]
    entry_read
    pointwise
    blk_ext [e1, e2]

end Kernel

section Reference
open Cert.OutRefIdeal Cert.OutRefIdeal.Gen

/-- The reference's result. -/
theorem ref_eq (A0 : FVec Ideal S4096x1024 .f32) (A1 : FVec Ideal S1024x1024 .f32) :
    Host.dotGeneral dot_S4096x1024_S1024x1024_S4096x1024_1_0_0_1_n_n none A0 A1
      = mm A0 A1 := by
  funext i
  idx_vars i
  pointwise [mm]

end Reference

end Cert.Proof.Out

end
-- ==== Proof.OutDxValue.lean ====
/- `out_proj_dx` read at `Ideal`: kernel and reference both leave the output projection's gradient at its input. -/
module

public import proofs.«01_k».proof.Proof.Gen.OutDxIdeal.Value
public import proofs.«01_k».proof.Proof.Gen.OutDxRefIdeal.Run
public import proofs.«01_k».proof.Proof.ProjSpec
public import Idealize.ShloMosaic.Lib.Claim

@[expose] public section

set_option maxRecDepth 16384

noncomputable section

namespace Cert.Proof.OutDx

open Idealize.ShloMosaic Idealize.ShloMosaic.TcCoe Idealize.SL.Sem
open Idealize.ShloMosaic.Pipeline (Dat)
open Cert.Proof.Proj

section Kernel
open Cert.OutDxIdeal Cert.OutDxIdeal.Gen

/-- The blocks' places on the grid of 2 points. -/
theorem idx : ∀ t : Fin grid0.N, win0_0.index t = ![t.val, 0] ∧ win0_1.index t = ![0, 0]
    ∧ win0_2.index t = ![t.val, 0] := by decide +kernel

/-- The kernel's result array. -/
theorem kernel_eq (m : (ℓ : Loc nD τ sig) → Buf (Elt Ideal) ℓ) (c : Dev nD) :
    (dats m 0 c).arrAt 2 cfg0.N = mmDx (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 2 := lt_of_lt_of_eq t.isLt N_0
  pointwise [k0_pay1, mmDx]
  refine @Finset.sum_congr _ EReal _ _ _ _ _ rfl fun k _ => ?_
  congr 1
  · blk_ext [iblk, V, e0, e2]
  · blk_simp [iblk]
    entry_read
    pointwise
    blk_ext [e1, e2]

end Kernel

section Reference
open Cert.OutDxRefIdeal Cert.OutDxRefIdeal.Gen

/-- The reference's result. -/
theorem ref_eq (A0 : FVec Ideal S4096x1024 .bf16) (A1 : FVec Ideal S1024x1024 .f32) :
    Host.dotGeneral dot_S4096x1024_S1024x1024_S4096x1024_1_1_0_0_n_n none (extf .f32 A0 bitsLt_bf16_f32) A1
      = mmDx A0 A1 := by
  funext i
  idx_vars i
  pointwise [mmDx]

end Reference

end Cert.Proof.OutDx

end
-- ==== Proof.OutDwValue.lean ====
/- `out_proj_dw` read at `Ideal`: kernel and reference both leave the output projection's gradient at its weight. -/
module

public import proofs.«01_k».proof.Proof.Gen.OutDwIdeal.Value
public import proofs.«01_k».proof.Proof.Gen.OutDwRefIdeal.Run
public import proofs.«01_k».proof.Proof.ProjSpec
public import Idealize.ShloMosaic.Lib.Claim

@[expose] public section

set_option maxRecDepth 16384

noncomputable section

namespace Cert.Proof.OutDw

open Idealize.ShloMosaic Idealize.ShloMosaic.TcCoe Idealize.SL.Sem
open Idealize.ShloMosaic.Pipeline (Dat)
open Cert.Proof.Proj

section Kernel
open Cert.OutDwIdeal Cert.OutDwIdeal.Gen

/-- The blocks' places on the grid of 2 points. -/
theorem idx : ∀ t : Fin grid0.N, win0_0.index t = ![0, t.val] ∧ win0_1.index t = ![0, 0]
    ∧ win0_2.index t = ![t.val, 0] := by decide +kernel

/-- The kernel's result array. -/
theorem kernel_eq (m : (ℓ : Loc nD τ sig) → Buf (Elt Ideal) ℓ) (c : Dev nD) :
    (dats m 0 c).arrAt 2 cfg0.N = mmDw (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 2 := lt_of_lt_of_eq t.isLt N_0
  pointwise [k0_pay1, mmDw]
  refine @Finset.sum_congr _ EReal _ _ _ _ _ rfl fun k _ => ?_
  congr 1
  · blk_ext [iblk, V, e0, e2]
  · blk_ext [iblk, V, e1, e2]

end Kernel

section Reference
open Cert.OutDwRefIdeal Cert.OutDwRefIdeal.Gen

/-- The reference's result. -/
theorem ref_eq (A0 : FVec Ideal S4096x1024 .f32) (A1 : FVec Ideal S4096x1024 .bf16) :
    transpose S1024x1024 [1, 0] (Host.dotGeneral dot_S4096x1024_S4096x1024_S1024x1024_0_0_1_1_n_n none (extf .f32 A1 bitsLt_bf16_f32) A0) transposes_S1024x1024_S1024x1024_1_0
      = mmDw A0 A1 := by
  funext i
  idx_vars i
  pointwise [mmDw]
  refine Finset.sum_congr rfl fun k _ => ?_
  rw [mul_comm]

end Reference

end Cert.Proof.OutDw

end
-- ==== Proof.GluValue.lean ====
/- `s5_glu_proj` read at `Ideal`: kernel and reference both leave the S5 gate's product. -/
module

public import proofs.«01_k».proof.Proof.Gen.GluIdeal.Value
public import proofs.«01_k».proof.Proof.Gen.GluRefIdeal.Run
public import proofs.«01_k».proof.Proof.ProjSpec
public import Idealize.ShloMosaic.Lib.Claim

@[expose] public section

set_option maxRecDepth 16384

noncomputable section

namespace Cert.Proof.Glu

open Idealize.ShloMosaic Idealize.ShloMosaic.TcCoe Idealize.SL.Sem
open Idealize.ShloMosaic.Pipeline (Dat)
open Cert.Proof.Proj

section Kernel
open Cert.GluIdeal Cert.GluIdeal.Gen

/-- The blocks' places on the grid of 2 points. -/
theorem idx : ∀ t : Fin grid0.N, win0_0.index t = ![t.val, 0] ∧ win0_1.index t = ![0, 0]
    ∧ win0_2.index t = ![t.val, 0] := by decide +kernel

/-- The kernel's result array. -/
theorem kernel_eq (m : (ℓ : Loc nD τ sig) → Buf (Elt Ideal) ℓ) (c : Dev nD) :
    (dats m 0 c).arrAt 2 cfg0.N = mm (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 2 := lt_of_lt_of_eq t.isLt N_0
  pointwise [k0_pay1, mm]
  refine @Finset.sum_congr _ EReal _ _ _ _ _ rfl fun k _ => ?_
  congr 1
  · blk_ext [iblk, V, e0, e2]
  · blk_simp [iblk]
    entry_read
    pointwise
    blk_ext [e1, e2]

end Kernel

section Reference
open Cert.GluRefIdeal Cert.GluRefIdeal.Gen

/-- The reference's result. -/
theorem ref_eq (A0 : FVec Ideal S4096x512 .f32) (A1 : FVec Ideal S512x512 .f32) :
    Host.dotGeneral dot_S4096x512_S512x512_S4096x512_1_0_0_1_n_n none A0 A1
      = mm A0 A1 := by
  funext i
  idx_vars i
  pointwise [mm]

end Reference

end Cert.Proof.Glu

end
-- ==== Proof.GluDxValue.lean ====
/- `s5_glu_proj_dx` read at `Ideal`: kernel and reference both leave the S5 gate's product's gradient at its input. -/
module

public import proofs.«01_k».proof.Proof.Gen.GluDxIdeal.Value
public import proofs.«01_k».proof.Proof.Gen.GluDxRefIdeal.Run
public import proofs.«01_k».proof.Proof.ProjSpec
public import Idealize.ShloMosaic.Lib.Claim

@[expose] public section

set_option maxRecDepth 16384

noncomputable section

namespace Cert.Proof.GluDx

open Idealize.ShloMosaic Idealize.ShloMosaic.TcCoe Idealize.SL.Sem
open Idealize.ShloMosaic.Pipeline (Dat)
open Cert.Proof.Proj

section Kernel
open Cert.GluDxIdeal Cert.GluDxIdeal.Gen

/-- The blocks' places on the grid of 2 points. -/
theorem idx : ∀ t : Fin grid0.N, win0_0.index t = ![t.val, 0] ∧ win0_1.index t = ![0, 0]
    ∧ win0_2.index t = ![t.val, 0] := by decide +kernel

/-- The kernel's result array. -/
theorem kernel_eq (m : (ℓ : Loc nD τ sig) → Buf (Elt Ideal) ℓ) (c : Dev nD) :
    (dats m 0 c).arrAt 2 cfg0.N = mmDx (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 2 := lt_of_lt_of_eq t.isLt N_0
  pointwise [k0_pay1, mmDx]
  refine @Finset.sum_congr _ EReal _ _ _ _ _ rfl fun k _ => ?_
  congr 1
  · blk_ext [iblk, V, e0, e2]
  · blk_simp [iblk]
    entry_read
    pointwise
    blk_ext [e1, e2]

end Kernel

section Reference
open Cert.GluDxRefIdeal Cert.GluDxRefIdeal.Gen

/-- The reference's result. -/
theorem ref_eq (A0 : FVec Ideal S4096x512 .bf16) (A1 : FVec Ideal S512x512 .f32) :
    Host.dotGeneral dot_S4096x512_S512x512_S4096x512_1_1_0_0_n_n none (extf .f32 A0 bitsLt_bf16_f32) A1
      = mmDx A0 A1 := by
  funext i
  idx_vars i
  pointwise [mmDx]

end Reference

end Cert.Proof.GluDx

end
-- ==== Proof.GluDwValue.lean ====
/- `s5_glu_proj_dw` read at `Ideal`: kernel and reference both leave the S5 gate's product's gradient at its weight. -/
module

public import proofs.«01_k».proof.Proof.Gen.GluDwIdeal.Value
public import proofs.«01_k».proof.Proof.Gen.GluDwRefIdeal.Run
public import proofs.«01_k».proof.Proof.ProjSpec
public import Idealize.ShloMosaic.Lib.Claim

@[expose] public section

set_option maxRecDepth 16384

noncomputable section

namespace Cert.Proof.GluDw

open Idealize.ShloMosaic Idealize.ShloMosaic.TcCoe Idealize.SL.Sem
open Idealize.ShloMosaic.Pipeline (Dat)
open Cert.Proof.Proj

section Kernel
open Cert.GluDwIdeal Cert.GluDwIdeal.Gen

/-- The blocks' places on the grid of 1 points. -/
theorem idx : ∀ t : Fin grid0.N, win0_0.index t = ![0, 0] ∧ win0_1.index t = ![0, 0]
    ∧ win0_2.index t = ![0, 0] := by decide +kernel

/-- The kernel's result array. -/
theorem kernel_eq (m : (ℓ : Loc nD τ sig) → Buf (Elt Ideal) ℓ) (c : Dev nD) :
    (dats m 0 c).arrAt 2 cfg0.N = mmDw (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 1 := lt_of_lt_of_eq t.isLt N_0
  pointwise [k0_pay1, mmDw]
  refine @Finset.sum_congr _ EReal _ _ _ _ _ rfl fun k _ => ?_
  congr 1
  · blk_ext [iblk, V, e0, e2]
  · blk_ext [iblk, V, e1, e2]

end Kernel

section Reference
open Cert.GluDwRefIdeal Cert.GluDwRefIdeal.Gen

/-- The reference's result. -/
theorem ref_eq (A0 : FVec Ideal S4096x512 .f32) (A1 : FVec Ideal S4096x512 .bf16) :
    transpose S512x512 [1, 0] (Host.dotGeneral dot_S4096x512_S4096x512_S512x512_0_0_1_1_n_n none (extf .f32 A1 bitsLt_bf16_f32) A0) transposes_S512x512_S512x512_1_0
      = mmDw A0 A1 := by
  funext i
  idx_vars i
  pointwise [mmDw]
  refine Finset.sum_congr rfl fun k _ => ?_
  rw [mul_comm]

end Reference

end Cert.Proof.GluDw

end
-- ==== Proof.ProjClaims.lean ====
/- The value claims of the projections and of the S5 gate's product: the kernel's run and the reference's leave the same arrays. -/
module

public import proofs.«01_k».proof.Defs
public import proofs.«01_k».proof.Proof.InEValue
public import proofs.«01_k».proof.Proof.InEDxValue
public import proofs.«01_k».proof.Proof.InOValue
public import proofs.«01_k».proof.Proof.InODxValue
public import proofs.«01_k».proof.Proof.InODwValue
public import proofs.«01_k».proof.Proof.InEDwValue
public import proofs.«01_k».proof.Proof.OutValue
public import proofs.«01_k».proof.Proof.OutDxValue
public import proofs.«01_k».proof.Proof.OutDwValue
public import proofs.«01_k».proof.Proof.GluValue
public import proofs.«01_k».proof.Proof.GluDxValue
public import proofs.«01_k».proof.Proof.GluDwValue

@[expose] public section

noncomputable section

namespace Cert.Proof

open Idealize.ShloMosaic Idealize.ShloMosaic.TcCoe Idealize.SL.Sem

/-- `l0_in_proj`. -/
theorem algebraic_InE : Cert.algebraic_InEIdeal_InERefIdeal (hInEIdeal := Cert.InEIdeal.Gen.facts) (hInERefIdeal := Cert.InERefIdeal.Gen.facts) :=
  fun m g m' g' _ hA => ⟨fun c => Proj.inE (m ((c : Thread Cert.InEIdeal.nD Cert.InEIdeal.τ).loc Cert.InEIdeal.main_arg0)) (m ((c : Thread Cert.InEIdeal.nD Cert.InEIdeal.τ).loc Cert.InEIdeal.main_arg1)),
    (θ_run _ _ _).mono (fun _ h c => ⟨(h c).1.trans (InE.kernel_eq m c), (h c).2⟩) (Cert.InEIdeal.Value.run_blocks m g),
    (θ_run _ _ _).mono (fun _ h c => ⟨by
      refine (h c).1.trans ?_
      rw [(hA c).1, (hA c).2]
      exact InE.ref_eq _ _, (h c).2⟩) (Cert.InERefIdeal.Value.run m' g')⟩

/-- `l0_in_proj_dx`. -/
theorem algebraic_InEDx : Cert.algebraic_InEDxIdeal_InEDxRefIdeal (hInEDxIdeal := Cert.InEDxIdeal.Gen.facts) (hInEDxRefIdeal := Cert.InEDxRefIdeal.Gen.facts) :=
  fun m g m' g' _ hA => ⟨fun c => Proj.inEDx (m ((c : Thread Cert.InEDxIdeal.nD Cert.InEDxIdeal.τ).loc Cert.InEDxIdeal.main_arg0)) (m ((c : Thread Cert.InEDxIdeal.nD Cert.InEDxIdeal.τ).loc Cert.InEDxIdeal.main_arg1)),
    (θ_run _ _ _).mono (fun _ h c => ⟨(h c).1.trans (InEDx.kernel_eq m c), (h c).2⟩) (Cert.InEDxIdeal.Value.run_blocks m g),
    (θ_run _ _ _).mono (fun _ h c => ⟨by
      refine (h c).1.trans ?_
      rw [(hA c).1, (hA c).2]
      exact InEDx.ref_eq _ _, (h c).2⟩) (Cert.InEDxRefIdeal.Value.run m' g')⟩

/-- `l1_in_proj`. -/
theorem algebraic_InO : Cert.algebraic_InOIdeal_InORefIdeal (hInOIdeal := Cert.InOIdeal.Gen.facts) (hInORefIdeal := Cert.InORefIdeal.Gen.facts) :=
  fun m g m' g' _ hA => ⟨fun c => Proj.inO (m ((c : Thread Cert.InOIdeal.nD Cert.InOIdeal.τ).loc Cert.InOIdeal.main_arg0)) (m ((c : Thread Cert.InOIdeal.nD Cert.InOIdeal.τ).loc Cert.InOIdeal.main_arg1)),
    (θ_run _ _ _).mono (fun _ h c => ⟨(h c).1.trans (InO.kernel_eq m c), (h c).2⟩) (Cert.InOIdeal.Value.run_blocks m g),
    (θ_run _ _ _).mono (fun _ h c => ⟨by
      refine (h c).1.trans ?_
      rw [(hA c).1, (hA c).2]
      exact InO.ref_eq _ _, (h c).2⟩) (Cert.InORefIdeal.Value.run m' g')⟩

/-- `l1_in_proj_dx`. -/
theorem algebraic_InODx : Cert.algebraic_InODxIdeal_InODxRefIdeal (hInODxIdeal := Cert.InODxIdeal.Gen.facts) (hInODxRefIdeal := Cert.InODxRefIdeal.Gen.facts) :=
  fun m g m' g' _ hA => ⟨fun c => Proj.inODx (m ((c : Thread Cert.InODxIdeal.nD Cert.InODxIdeal.τ).loc Cert.InODxIdeal.main_arg0)) (m ((c : Thread Cert.InODxIdeal.nD Cert.InODxIdeal.τ).loc Cert.InODxIdeal.main_arg1)),
    (θ_run _ _ _).mono (fun _ h c => ⟨(h c).1.trans (InODx.kernel_eq m c), (h c).2⟩) (Cert.InODxIdeal.Value.run_blocks m g),
    (θ_run _ _ _).mono (fun _ h c => ⟨by
      refine (h c).1.trans ?_
      rw [(hA c).1, (hA c).2]
      exact InODx.ref_eq _ _, (h c).2⟩) (Cert.InODxRefIdeal.Value.run m' g')⟩

/-- `l1_in_proj_dw`. -/
theorem algebraic_InODw : Cert.algebraic_InODwIdeal_InODwRefIdeal (hInODwIdeal := Cert.InODwIdeal.Gen.facts) (hInODwRefIdeal := Cert.InODwRefIdeal.Gen.facts) :=
  fun m g m' g' _ hA => ⟨fun c => Proj.mmDw (m ((c : Thread Cert.InODwIdeal.nD Cert.InODwIdeal.τ).loc Cert.InODwIdeal.main_arg0)) (m ((c : Thread Cert.InODwIdeal.nD Cert.InODwIdeal.τ).loc Cert.InODwIdeal.main_arg1)),
    (θ_run _ _ _).mono (fun _ h c => ⟨(h c).1.trans (InODw.kernel_eq m c), (h c).2⟩) (Cert.InODwIdeal.Value.run_blocks m g),
    (θ_run _ _ _).mono (fun _ h c => ⟨by
      refine (h c).1.trans ?_
      rw [(hA c).1, (hA c).2]
      exact InODw.ref_eq _ _, (h c).2⟩) (Cert.InODwRefIdeal.Value.run m' g')⟩

/-- `l0_in_proj_dw`. -/
theorem algebraic_InEDw : Cert.algebraic_InEDwIdeal_InEDwRefIdeal (hInEDwIdeal := Cert.InEDwIdeal.Gen.facts) (hInEDwRefIdeal := Cert.InEDwRefIdeal.Gen.facts) :=
  fun m g m' g' _ hA => ⟨fun c => Proj.mmDw (m ((c : Thread Cert.InEDwIdeal.nD Cert.InEDwIdeal.τ).loc Cert.InEDwIdeal.main_arg0)) (m ((c : Thread Cert.InEDwIdeal.nD Cert.InEDwIdeal.τ).loc Cert.InEDwIdeal.main_arg1)),
    (θ_run _ _ _).mono (fun _ h c => ⟨(h c).1.trans (InEDw.kernel_eq m c), (h c).2⟩) (Cert.InEDwIdeal.Value.run_blocks m g),
    (θ_run _ _ _).mono (fun _ h c => ⟨by
      refine (h c).1.trans ?_
      rw [(hA c).1, (hA c).2]
      exact InEDw.ref_eq _ _, (h c).2⟩) (Cert.InEDwRefIdeal.Value.run m' g')⟩

/-- `out_proj`. -/
theorem algebraic_Out : Cert.algebraic_OutIdeal_OutRefIdeal (hOutIdeal := Cert.OutIdeal.Gen.facts) (hOutRefIdeal := Cert.OutRefIdeal.Gen.facts) :=
  fun m g m' g' _ hA => ⟨fun c => Proj.mm (m ((c : Thread Cert.OutIdeal.nD Cert.OutIdeal.τ).loc Cert.OutIdeal.main_arg0)) (m ((c : Thread Cert.OutIdeal.nD Cert.OutIdeal.τ).loc Cert.OutIdeal.main_arg1)),
    (θ_run _ _ _).mono (fun _ h c => ⟨(h c).1.trans (Out.kernel_eq m c), (h c).2⟩) (Cert.OutIdeal.Value.run_blocks m g),
    (θ_run _ _ _).mono (fun _ h c => ⟨by
      refine (h c).1.trans ?_
      rw [(hA c).1, (hA c).2]
      exact Out.ref_eq _ _, (h c).2⟩) (Cert.OutRefIdeal.Value.run m' g')⟩

/-- `out_proj_dx`. -/
theorem algebraic_OutDx : Cert.algebraic_OutDxIdeal_OutDxRefIdeal (hOutDxIdeal := Cert.OutDxIdeal.Gen.facts) (hOutDxRefIdeal := Cert.OutDxRefIdeal.Gen.facts) :=
  fun m g m' g' _ hA => ⟨fun c => Proj.mmDx (m ((c : Thread Cert.OutDxIdeal.nD Cert.OutDxIdeal.τ).loc Cert.OutDxIdeal.main_arg0)) (m ((c : Thread Cert.OutDxIdeal.nD Cert.OutDxIdeal.τ).loc Cert.OutDxIdeal.main_arg1)),
    (θ_run _ _ _).mono (fun _ h c => ⟨(h c).1.trans (OutDx.kernel_eq m c), (h c).2⟩) (Cert.OutDxIdeal.Value.run_blocks m g),
    (θ_run _ _ _).mono (fun _ h c => ⟨by
      refine (h c).1.trans ?_
      rw [(hA c).1, (hA c).2]
      exact OutDx.ref_eq _ _, (h c).2⟩) (Cert.OutDxRefIdeal.Value.run m' g')⟩

/-- `out_proj_dw`. -/
theorem algebraic_OutDw : Cert.algebraic_OutDwIdeal_OutDwRefIdeal (hOutDwIdeal := Cert.OutDwIdeal.Gen.facts) (hOutDwRefIdeal := Cert.OutDwRefIdeal.Gen.facts) :=
  fun m g m' g' _ hA => ⟨fun c => Proj.mmDw (m ((c : Thread Cert.OutDwIdeal.nD Cert.OutDwIdeal.τ).loc Cert.OutDwIdeal.main_arg0)) (m ((c : Thread Cert.OutDwIdeal.nD Cert.OutDwIdeal.τ).loc Cert.OutDwIdeal.main_arg1)),
    (θ_run _ _ _).mono (fun _ h c => ⟨(h c).1.trans (OutDw.kernel_eq m c), (h c).2⟩) (Cert.OutDwIdeal.Value.run_blocks m g),
    (θ_run _ _ _).mono (fun _ h c => ⟨by
      refine (h c).1.trans ?_
      rw [(hA c).1, (hA c).2]
      exact OutDw.ref_eq _ _, (h c).2⟩) (Cert.OutDwRefIdeal.Value.run m' g')⟩

/-- `s5_glu_proj`. -/
theorem algebraic_Glu : Cert.algebraic_GluIdeal_GluRefIdeal (hGluIdeal := Cert.GluIdeal.Gen.facts) (hGluRefIdeal := Cert.GluRefIdeal.Gen.facts) :=
  fun m g m' g' _ hA => ⟨fun c => Proj.mm (m ((c : Thread Cert.GluIdeal.nD Cert.GluIdeal.τ).loc Cert.GluIdeal.main_arg0)) (m ((c : Thread Cert.GluIdeal.nD Cert.GluIdeal.τ).loc Cert.GluIdeal.main_arg1)),
    (θ_run _ _ _).mono (fun _ h c => ⟨(h c).1.trans (Glu.kernel_eq m c), (h c).2⟩) (Cert.GluIdeal.Value.run_blocks m g),
    (θ_run _ _ _).mono (fun _ h c => ⟨by
      refine (h c).1.trans ?_
      rw [(hA c).1, (hA c).2]
      exact Glu.ref_eq _ _, (h c).2⟩) (Cert.GluRefIdeal.Value.run m' g')⟩

/-- `s5_glu_proj_dx`. -/
theorem algebraic_GluDx : Cert.algebraic_GluDxIdeal_GluDxRefIdeal (hGluDxIdeal := Cert.GluDxIdeal.Gen.facts) (hGluDxRefIdeal := Cert.GluDxRefIdeal.Gen.facts) :=
  fun m g m' g' _ hA => ⟨fun c => Proj.mmDx (m ((c : Thread Cert.GluDxIdeal.nD Cert.GluDxIdeal.τ).loc Cert.GluDxIdeal.main_arg0)) (m ((c : Thread Cert.GluDxIdeal.nD Cert.GluDxIdeal.τ).loc Cert.GluDxIdeal.main_arg1)),
    (θ_run _ _ _).mono (fun _ h c => ⟨(h c).1.trans (GluDx.kernel_eq m c), (h c).2⟩) (Cert.GluDxIdeal.Value.run_blocks m g),
    (θ_run _ _ _).mono (fun _ h c => ⟨by
      refine (h c).1.trans ?_
      rw [(hA c).1, (hA c).2]
      exact GluDx.ref_eq _ _, (h c).2⟩) (Cert.GluDxRefIdeal.Value.run m' g')⟩

/-- `s5_glu_proj_dw`. -/
theorem algebraic_GluDw : Cert.algebraic_GluDwIdeal_GluDwRefIdeal (hGluDwIdeal := Cert.GluDwIdeal.Gen.facts) (hGluDwRefIdeal := Cert.GluDwRefIdeal.Gen.facts) :=
  fun m g m' g' _ hA => ⟨fun c => Proj.mmDw (m ((c : Thread Cert.GluDwIdeal.nD Cert.GluDwIdeal.τ).loc Cert.GluDwIdeal.main_arg0)) (m ((c : Thread Cert.GluDwIdeal.nD Cert.GluDwIdeal.τ).loc Cert.GluDwIdeal.main_arg1)),
    (θ_run _ _ _).mono (fun _ h c => ⟨(h c).1.trans (GluDw.kernel_eq m c), (h c).2⟩) (Cert.GluDwIdeal.Value.run_blocks m g),
    (θ_run _ _ _).mono (fun _ h c => ⟨by
      refine (h c).1.trans ?_
      rw [(hA c).1, (hA c).2]
      exact GluDw.ref_eq _ _, (h c).2⟩) (Cert.GluDwRefIdeal.Value.run m' g')⟩

end Cert.Proof

end
-- ==== Proof.AdamSpec.lean ====
/- AdamW's step of one array at `Ideal`: the moments and the change of the weight, entry by entry. The constants are
   the rationals of their float words: β₁, 1 − β₁, β₂, 1 − β₂, 1 − β₁¹⁰, 1 − β₂¹⁰, ε, the decay and minus the rate. -/
module

public import Idealize.ShloMosaic.Lib.Pipeline.ValueKit
public import Idealize.ShloMosaic.Lib.Pointwise

@[expose] public section

noncomputable section

namespace Cert.Proof.Adam

open Idealize.ShloMosaic

variable {S : Shape}

/-- A float word's rational. -/
abbrev word (b : BitVec 32) : EReal := Scalar.ofBits (F := Ideal) .f32 b

/-- The first moment after the step: `β₁·m + (1 − β₁)·g`. -/
def newM (g m : S.Idx → EReal) : S.Idx → EReal := fun i => word 0x3F666666#32 * m i + word 0x3DCCCCCD#32 * g i

/-- The second moment after the step: `β₂·v + (1 − β₂)·g²`. -/
def newV (g v : S.Idx → EReal) : S.Idx → EReal := fun i => word 0x3F7FBE77#32 * v i + word 0x3A83126F#32 * (g i * g i)

/-- The weight's change: `−rate·(m̂ / (√v̂ + ε) + decay·w)`, with `m̂ = m / (1 − β₁¹⁰)` and `v̂ = v / (1 − β₂¹⁰)`. -/
def delta (w g m v : S.Idx → EReal) : S.Idx → EReal := fun i =>
  word 0xBA83126F#32 * (Ideal.div (Ideal.div (newM g m i) (word 0x3F26BD02#32))
    (Ideal.sqrt (Ideal.div (newV g v i) (word 0x3C231ACC#32)) + word 0x322BCC77#32) + word 0x3C23D70A#32 * w i)

end Cert.Proof.Adam

end
-- ==== Proof.AdamMlpValue.lean ====
/- AdamW's step of an MLP matrix, read at `Ideal`: kernel and reference both leave `Adam.delta`, `Adam.newM`, `Adam.newV`. -/
module

public import proofs.«01_k».proof.Proof.Gen.AdamMlpIdeal.Value
public import proofs.«01_k».proof.Proof.Gen.AdamMlpRefIdeal.Run
public import proofs.«01_k».proof.Proof.AdamSpec
public import Idealize.ShloMosaic.Lib.Claim

@[expose] public section

set_option maxRecDepth 16384

noncomputable section

namespace Cert.Proof.AdamMlp

open Idealize.ShloMosaic Idealize.ShloMosaic.TcCoe Idealize.SL.Sem
open Cert.Proof.Adam

section Kernel
open Cert.AdamMlpIdeal Cert.AdamMlpIdeal.Gen

variable (w g m v : FVec Ideal S2048x1024 .f32)

/-- The kernel's weight change. -/
theorem kernel_delta : Value.G4 (F := Ideal) g m v w = delta w g m v := rfl

/-- The kernel's first moment. -/
theorem kernel_m : Value.G5 (F := Ideal) g m = newM g m := rfl

/-- The kernel's second moment. -/
theorem kernel_v : Value.G6 (F := Ideal) g v = newV g v := rfl

end Kernel

section Reference
open Cert.AdamMlpRefIdeal Cert.AdamMlpRefIdeal.Gen

variable (w g m v : FVec Ideal S2048x1024 .f32)

/-- The reference's first moment. -/
theorem ref_m :
    addf (mulf (broadcastInDim S2048x1024 ![] bcast_S_S2048x1024 (constant S_ .f32 0x3F666666#32)) m)
      (mulf (broadcastInDim S2048x1024 ![] bcast_S_S2048x1024 (constant S_ .f32 0x3DCCCCCD#32)) g) = newM g m := by
  funext i
  idx_vars i
  pointwise [newM]

/-- The reference's second moment. -/
theorem ref_v :
    addf (mulf (broadcastInDim S2048x1024 ![] bcast_S_S2048x1024 (constant S_ .f32 0x3F7FBE77#32)) v)
      (mulf (broadcastInDim S2048x1024 ![] bcast_S_S2048x1024 (constant S_ .f32 0x3A83126F#32)) (mulf g g)) = newV g v := by
  funext i
  idx_vars i
  pointwise [newV]

/-- The reference's weight change. -/
theorem ref_delta :
    mulf (broadcastInDim S2048x1024 ![] bcast_S_S2048x1024 (constant S_ .f32 0xBA83126F#32))
      (addf (Host.divf (Host.divf (addf (mulf (broadcastInDim S2048x1024 ![] bcast_S_S2048x1024 (constant S_ .f32 0x3F666666#32)) m)
            (mulf (broadcastInDim S2048x1024 ![] bcast_S_S2048x1024 (constant S_ .f32 0x3DCCCCCD#32)) g))
          (broadcastInDim S2048x1024 ![] bcast_S_S2048x1024 (constant S_ .f32 0x3F26BD02#32)))
        (addf (Host.sqrt (Host.divf (addf (mulf (broadcastInDim S2048x1024 ![] bcast_S_S2048x1024 (constant S_ .f32 0x3F7FBE77#32)) v)
            (mulf (broadcastInDim S2048x1024 ![] bcast_S_S2048x1024 (constant S_ .f32 0x3A83126F#32)) (mulf g g)))
          (broadcastInDim S2048x1024 ![] bcast_S_S2048x1024 (constant S_ .f32 0x3C231ACC#32))))
          (broadcastInDim S2048x1024 ![] bcast_S_S2048x1024 (constant S_ .f32 0x322BCC77#32))))
        (mulf (broadcastInDim S2048x1024 ![] bcast_S_S2048x1024 (constant S_ .f32 0x3C23D70A#32)) w)) = delta w g m v := by
  rw [ref_m, ref_v]
  funext i
  idx_vars i
  pointwise [delta]

end Reference

end Cert.Proof.AdamMlp

end
-- ==== Proof.AdamInEValue.lean ====
/- AdamW's step of the even blocks' input matrix, read at `Ideal`: kernel and reference both leave `Adam.delta`, `Adam.newM`, `Adam.newV`. -/
module

public import proofs.«01_k».proof.Proof.Gen.AdamInEIdeal.Value
public import proofs.«01_k».proof.Proof.Gen.AdamInERefIdeal.Run
public import proofs.«01_k».proof.Proof.AdamSpec
public import Idealize.ShloMosaic.Lib.Claim

@[expose] public section

set_option maxRecDepth 16384

noncomputable section

namespace Cert.Proof.AdamInE

open Idealize.ShloMosaic Idealize.ShloMosaic.TcCoe Idealize.SL.Sem
open Cert.Proof.Adam

section Kernel
open Cert.AdamInEIdeal Cert.AdamInEIdeal.Gen

variable (w g m v : FVec Ideal S1024x514 .f32)

/-- The kernel's weight change. -/
theorem kernel_delta : Value.G4 (F := Ideal) g m v w = delta w g m v := rfl

/-- The kernel's first moment. -/
theorem kernel_m : Value.G5 (F := Ideal) g m = newM g m := rfl

/-- The kernel's second moment. -/
theorem kernel_v : Value.G6 (F := Ideal) g v = newV g v := rfl

end Kernel

section Reference
open Cert.AdamInERefIdeal Cert.AdamInERefIdeal.Gen

variable (w g m v : FVec Ideal S1024x514 .f32)

/-- The reference's first moment. -/
theorem ref_m :
    addf (mulf (broadcastInDim S1024x514 ![] bcast_S_S1024x514 (constant S_ .f32 0x3F666666#32)) m)
      (mulf (broadcastInDim S1024x514 ![] bcast_S_S1024x514 (constant S_ .f32 0x3DCCCCCD#32)) g) = newM g m := by
  funext i
  idx_vars i
  pointwise [newM]

/-- The reference's second moment. -/
theorem ref_v :
    addf (mulf (broadcastInDim S1024x514 ![] bcast_S_S1024x514 (constant S_ .f32 0x3F7FBE77#32)) v)
      (mulf (broadcastInDim S1024x514 ![] bcast_S_S1024x514 (constant S_ .f32 0x3A83126F#32)) (mulf g g)) = newV g v := by
  funext i
  idx_vars i
  pointwise [newV]

/-- The reference's weight change. -/
theorem ref_delta :
    mulf (broadcastInDim S1024x514 ![] bcast_S_S1024x514 (constant S_ .f32 0xBA83126F#32))
      (addf (Host.divf (Host.divf (addf (mulf (broadcastInDim S1024x514 ![] bcast_S_S1024x514 (constant S_ .f32 0x3F666666#32)) m)
            (mulf (broadcastInDim S1024x514 ![] bcast_S_S1024x514 (constant S_ .f32 0x3DCCCCCD#32)) g))
          (broadcastInDim S1024x514 ![] bcast_S_S1024x514 (constant S_ .f32 0x3F26BD02#32)))
        (addf (Host.sqrt (Host.divf (addf (mulf (broadcastInDim S1024x514 ![] bcast_S_S1024x514 (constant S_ .f32 0x3F7FBE77#32)) v)
            (mulf (broadcastInDim S1024x514 ![] bcast_S_S1024x514 (constant S_ .f32 0x3A83126F#32)) (mulf g g)))
          (broadcastInDim S1024x514 ![] bcast_S_S1024x514 (constant S_ .f32 0x3C231ACC#32))))
          (broadcastInDim S1024x514 ![] bcast_S_S1024x514 (constant S_ .f32 0x322BCC77#32))))
        (mulf (broadcastInDim S1024x514 ![] bcast_S_S1024x514 (constant S_ .f32 0x3C23D70A#32)) w)) = delta w g m v := by
  rw [ref_m, ref_v]
  funext i
  idx_vars i
  pointwise [delta]

end Reference

end Cert.Proof.AdamInE

end
-- ==== Proof.AdamInOValue.lean ====
/- AdamW's step of the odd blocks' input matrix, read at `Ideal`: kernel and reference both leave `Adam.delta`, `Adam.newM`, `Adam.newV`. -/
module

public import proofs.«01_k».proof.Proof.Gen.AdamInOIdeal.Value
public import proofs.«01_k».proof.Proof.Gen.AdamInORefIdeal.Run
public import proofs.«01_k».proof.Proof.AdamSpec
public import Idealize.ShloMosaic.Lib.Claim

@[expose] public section

set_option maxRecDepth 16384

noncomputable section

namespace Cert.Proof.AdamInO

open Idealize.ShloMosaic Idealize.ShloMosaic.TcCoe Idealize.SL.Sem
open Cert.Proof.Adam

section Kernel
open Cert.AdamInOIdeal Cert.AdamInOIdeal.Gen

variable (w g m v : FVec Ideal S1024x384 .f32)

/-- The kernel's weight change. -/
theorem kernel_delta : Value.G4 (F := Ideal) g m v w = delta w g m v := rfl

/-- The kernel's first moment. -/
theorem kernel_m : Value.G5 (F := Ideal) g m = newM g m := rfl

/-- The kernel's second moment. -/
theorem kernel_v : Value.G6 (F := Ideal) g v = newV g v := rfl

end Kernel

section Reference
open Cert.AdamInORefIdeal Cert.AdamInORefIdeal.Gen

variable (w g m v : FVec Ideal S1024x384 .f32)

/-- The reference's first moment. -/
theorem ref_m :
    addf (mulf (broadcastInDim S1024x384 ![] bcast_S_S1024x384 (constant S_ .f32 0x3F666666#32)) m)
      (mulf (broadcastInDim S1024x384 ![] bcast_S_S1024x384 (constant S_ .f32 0x3DCCCCCD#32)) g) = newM g m := by
  funext i
  idx_vars i
  pointwise [newM]

/-- The reference's second moment. -/
theorem ref_v :
    addf (mulf (broadcastInDim S1024x384 ![] bcast_S_S1024x384 (constant S_ .f32 0x3F7FBE77#32)) v)
      (mulf (broadcastInDim S1024x384 ![] bcast_S_S1024x384 (constant S_ .f32 0x3A83126F#32)) (mulf g g)) = newV g v := by
  funext i
  idx_vars i
  pointwise [newV]

/-- The reference's weight change. -/
theorem ref_delta :
    mulf (broadcastInDim S1024x384 ![] bcast_S_S1024x384 (constant S_ .f32 0xBA83126F#32))
      (addf (Host.divf (Host.divf (addf (mulf (broadcastInDim S1024x384 ![] bcast_S_S1024x384 (constant S_ .f32 0x3F666666#32)) m)
            (mulf (broadcastInDim S1024x384 ![] bcast_S_S1024x384 (constant S_ .f32 0x3DCCCCCD#32)) g))
          (broadcastInDim S1024x384 ![] bcast_S_S1024x384 (constant S_ .f32 0x3F26BD02#32)))
        (addf (Host.sqrt (Host.divf (addf (mulf (broadcastInDim S1024x384 ![] bcast_S_S1024x384 (constant S_ .f32 0x3F7FBE77#32)) v)
            (mulf (broadcastInDim S1024x384 ![] bcast_S_S1024x384 (constant S_ .f32 0x3A83126F#32)) (mulf g g)))
          (broadcastInDim S1024x384 ![] bcast_S_S1024x384 (constant S_ .f32 0x3C231ACC#32))))
          (broadcastInDim S1024x384 ![] bcast_S_S1024x384 (constant S_ .f32 0x322BCC77#32))))
        (mulf (broadcastInDim S1024x384 ![] bcast_S_S1024x384 (constant S_ .f32 0x3C23D70A#32)) w)) = delta w g m v := by
  rw [ref_m, ref_v]
  funext i
  idx_vars i
  pointwise [delta]

end Reference

end Cert.Proof.AdamInO

end
-- ==== Proof.AdamOutValue.lean ====
/- AdamW's step of an output matrix, read at `Ideal`: kernel and reference both leave `Adam.delta`, `Adam.newM`, `Adam.newV`. -/
module

public import proofs.«01_k».proof.Proof.Gen.AdamOutIdeal.Value
public import proofs.«01_k».proof.Proof.Gen.AdamOutRefIdeal.Run
public import proofs.«01_k».proof.Proof.AdamSpec
public import Idealize.ShloMosaic.Lib.Claim

@[expose] public section

set_option maxRecDepth 16384

noncomputable section

namespace Cert.Proof.AdamOut

open Idealize.ShloMosaic Idealize.ShloMosaic.TcCoe Idealize.SL.Sem
open Cert.Proof.Adam

section Kernel
open Cert.AdamOutIdeal Cert.AdamOutIdeal.Gen

variable (w g m v : FVec Ideal S256x1024 .f32)

/-- The kernel's weight change. -/
theorem kernel_delta : Value.G4 (F := Ideal) g m v w = delta w g m v := rfl

/-- The kernel's first moment. -/
theorem kernel_m : Value.G5 (F := Ideal) g m = newM g m := rfl

/-- The kernel's second moment. -/
theorem kernel_v : Value.G6 (F := Ideal) g v = newV g v := rfl

end Kernel

section Reference
open Cert.AdamOutRefIdeal Cert.AdamOutRefIdeal.Gen

variable (w g m v : FVec Ideal S256x1024 .f32)

/-- The reference's first moment. -/
theorem ref_m :
    addf (mulf (broadcastInDim S256x1024 ![] bcast_S_S256x1024 (constant S_ .f32 0x3F666666#32)) m)
      (mulf (broadcastInDim S256x1024 ![] bcast_S_S256x1024 (constant S_ .f32 0x3DCCCCCD#32)) g) = newM g m := by
  funext i
  idx_vars i
  pointwise [newM]

/-- The reference's second moment. -/
theorem ref_v :
    addf (mulf (broadcastInDim S256x1024 ![] bcast_S_S256x1024 (constant S_ .f32 0x3F7FBE77#32)) v)
      (mulf (broadcastInDim S256x1024 ![] bcast_S_S256x1024 (constant S_ .f32 0x3A83126F#32)) (mulf g g)) = newV g v := by
  funext i
  idx_vars i
  pointwise [newV]

/-- The reference's weight change. -/
theorem ref_delta :
    mulf (broadcastInDim S256x1024 ![] bcast_S_S256x1024 (constant S_ .f32 0xBA83126F#32))
      (addf (Host.divf (Host.divf (addf (mulf (broadcastInDim S256x1024 ![] bcast_S_S256x1024 (constant S_ .f32 0x3F666666#32)) m)
            (mulf (broadcastInDim S256x1024 ![] bcast_S_S256x1024 (constant S_ .f32 0x3DCCCCCD#32)) g))
          (broadcastInDim S256x1024 ![] bcast_S_S256x1024 (constant S_ .f32 0x3F26BD02#32)))
        (addf (Host.sqrt (Host.divf (addf (mulf (broadcastInDim S256x1024 ![] bcast_S_S256x1024 (constant S_ .f32 0x3F7FBE77#32)) v)
            (mulf (broadcastInDim S256x1024 ![] bcast_S_S256x1024 (constant S_ .f32 0x3A83126F#32)) (mulf g g)))
          (broadcastInDim S256x1024 ![] bcast_S_S256x1024 (constant S_ .f32 0x3C231ACC#32))))
          (broadcastInDim S256x1024 ![] bcast_S_S256x1024 (constant S_ .f32 0x322BCC77#32))))
        (mulf (broadcastInDim S256x1024 ![] bcast_S_S256x1024 (constant S_ .f32 0x3C23D70A#32)) w)) = delta w g m v := by
  rw [ref_m, ref_v]
  funext i
  idx_vars i
  pointwise [delta]

end Reference

end Cert.Proof.AdamOut

end
-- ==== Proof.AdamGluValue.lean ====
/- AdamW's step of the S5 gate's matrix, read at `Ideal`: kernel and reference both leave `Adam.delta`, `Adam.newM`, `Adam.newV`. -/
module

public import proofs.«01_k».proof.Proof.Gen.AdamGluIdeal.Value
public import proofs.«01_k».proof.Proof.Gen.AdamGluRefIdeal.Run
public import proofs.«01_k».proof.Proof.AdamSpec
public import Idealize.ShloMosaic.Lib.Claim

@[expose] public section

set_option maxRecDepth 16384

noncomputable section

namespace Cert.Proof.AdamGlu

open Idealize.ShloMosaic Idealize.ShloMosaic.TcCoe Idealize.SL.Sem
open Cert.Proof.Adam

section Kernel
open Cert.AdamGluIdeal Cert.AdamGluIdeal.Gen

variable (w g m v : FVec Ideal S128x512 .f32)

/-- The kernel's weight change. -/
theorem kernel_delta : Value.G4 (F := Ideal) g m v w = delta w g m v := rfl

/-- The kernel's first moment. -/
theorem kernel_m : Value.G5 (F := Ideal) g m = newM g m := rfl

/-- The kernel's second moment. -/
theorem kernel_v : Value.G6 (F := Ideal) g v = newV g v := rfl

end Kernel

section Reference
open Cert.AdamGluRefIdeal Cert.AdamGluRefIdeal.Gen

variable (w g m v : FVec Ideal S128x512 .f32)

/-- The reference's first moment. -/
theorem ref_m :
    addf (mulf (broadcastInDim S128x512 ![] bcast_S_S128x512 (constant S_ .f32 0x3F666666#32)) m)
      (mulf (broadcastInDim S128x512 ![] bcast_S_S128x512 (constant S_ .f32 0x3DCCCCCD#32)) g) = newM g m := by
  funext i
  idx_vars i
  pointwise [newM]

/-- The reference's second moment. -/
theorem ref_v :
    addf (mulf (broadcastInDim S128x512 ![] bcast_S_S128x512 (constant S_ .f32 0x3F7FBE77#32)) v)
      (mulf (broadcastInDim S128x512 ![] bcast_S_S128x512 (constant S_ .f32 0x3A83126F#32)) (mulf g g)) = newV g v := by
  funext i
  idx_vars i
  pointwise [newV]

/-- The reference's weight change. -/
theorem ref_delta :
    mulf (broadcastInDim S128x512 ![] bcast_S_S128x512 (constant S_ .f32 0xBA83126F#32))
      (addf (Host.divf (Host.divf (addf (mulf (broadcastInDim S128x512 ![] bcast_S_S128x512 (constant S_ .f32 0x3F666666#32)) m)
            (mulf (broadcastInDim S128x512 ![] bcast_S_S128x512 (constant S_ .f32 0x3DCCCCCD#32)) g))
          (broadcastInDim S128x512 ![] bcast_S_S128x512 (constant S_ .f32 0x3F26BD02#32)))
        (addf (Host.sqrt (Host.divf (addf (mulf (broadcastInDim S128x512 ![] bcast_S_S128x512 (constant S_ .f32 0x3F7FBE77#32)) v)
            (mulf (broadcastInDim S128x512 ![] bcast_S_S128x512 (constant S_ .f32 0x3A83126F#32)) (mulf g g)))
          (broadcastInDim S128x512 ![] bcast_S_S128x512 (constant S_ .f32 0x3C231ACC#32))))
          (broadcastInDim S128x512 ![] bcast_S_S128x512 (constant S_ .f32 0x322BCC77#32))))
        (mulf (broadcastInDim S128x512 ![] bcast_S_S128x512 (constant S_ .f32 0x3C23D70A#32)) w)) = delta w g m v := by
  rw [ref_m, ref_v]
  funext i
  idx_vars i
  pointwise [delta]

end Reference

end Cert.Proof.AdamGlu

end
-- ==== Proof.AdamSmallValue.lean ====
/- AdamW's step of the packed small weights, read at `Ideal`: kernel and reference both leave `Adam.delta`, `Adam.newM`, `Adam.newV`. -/
module

public import proofs.«01_k».proof.Proof.Gen.AdamSmallIdeal.Value
public import proofs.«01_k».proof.Proof.Gen.AdamSmallRefIdeal.Run
public import proofs.«01_k».proof.Proof.AdamSpec
public import Idealize.ShloMosaic.Lib.Claim

@[expose] public section

set_option maxRecDepth 16384

noncomputable section

namespace Cert.Proof.AdamSmall

open Idealize.ShloMosaic Idealize.ShloMosaic.TcCoe Idealize.SL.Sem
open Cert.Proof.Adam

section Kernel
open Cert.AdamSmallIdeal Cert.AdamSmallIdeal.Gen

variable (w g m v : FVec Ideal S2160x128 .f32)

/-- The kernel's weight change. -/
theorem kernel_delta : Value.G4 (F := Ideal) g m v w = delta w g m v := rfl

/-- The kernel's first moment. -/
theorem kernel_m : Value.G5 (F := Ideal) g m = newM g m := rfl

/-- The kernel's second moment. -/
theorem kernel_v : Value.G6 (F := Ideal) g v = newV g v := rfl

end Kernel

section Reference
open Cert.AdamSmallRefIdeal Cert.AdamSmallRefIdeal.Gen

variable (w g m v : FVec Ideal S2160x128 .f32)

/-- The reference's first moment. -/
theorem ref_m :
    addf (mulf (broadcastInDim S2160x128 ![] bcast_S_S2160x128 (constant S_ .f32 0x3F666666#32)) m)
      (mulf (broadcastInDim S2160x128 ![] bcast_S_S2160x128 (constant S_ .f32 0x3DCCCCCD#32)) g) = newM g m := by
  funext i
  idx_vars i
  pointwise [newM]

/-- The reference's second moment. -/
theorem ref_v :
    addf (mulf (broadcastInDim S2160x128 ![] bcast_S_S2160x128 (constant S_ .f32 0x3F7FBE77#32)) v)
      (mulf (broadcastInDim S2160x128 ![] bcast_S_S2160x128 (constant S_ .f32 0x3A83126F#32)) (mulf g g)) = newV g v := by
  funext i
  idx_vars i
  pointwise [newV]

/-- The reference's weight change. -/
theorem ref_delta :
    mulf (broadcastInDim S2160x128 ![] bcast_S_S2160x128 (constant S_ .f32 0xBA83126F#32))
      (addf (Host.divf (Host.divf (addf (mulf (broadcastInDim S2160x128 ![] bcast_S_S2160x128 (constant S_ .f32 0x3F666666#32)) m)
            (mulf (broadcastInDim S2160x128 ![] bcast_S_S2160x128 (constant S_ .f32 0x3DCCCCCD#32)) g))
          (broadcastInDim S2160x128 ![] bcast_S_S2160x128 (constant S_ .f32 0x3F26BD02#32)))
        (addf (Host.sqrt (Host.divf (addf (mulf (broadcastInDim S2160x128 ![] bcast_S_S2160x128 (constant S_ .f32 0x3F7FBE77#32)) v)
            (mulf (broadcastInDim S2160x128 ![] bcast_S_S2160x128 (constant S_ .f32 0x3A83126F#32)) (mulf g g)))
          (broadcastInDim S2160x128 ![] bcast_S_S2160x128 (constant S_ .f32 0x3C231ACC#32))))
          (broadcastInDim S2160x128 ![] bcast_S_S2160x128 (constant S_ .f32 0x322BCC77#32))))
        (mulf (broadcastInDim S2160x128 ![] bcast_S_S2160x128 (constant S_ .f32 0x3C23D70A#32)) w)) = delta w g m v := by
  rw [ref_m, ref_v]
  funext i
  idx_vars i
  pointwise [delta]

end Reference

end Cert.Proof.AdamSmall

end
-- ==== Proof.AdamVecValue.lean ====
/- AdamW's step of the sharded vectors, read at `Ideal`: kernel and reference both leave `Adam.delta`, `Adam.newM`, `Adam.newV`. -/
module

public import proofs.«01_k».proof.Proof.Gen.AdamVecIdeal.Value
public import proofs.«01_k».proof.Proof.Gen.AdamVecRefIdeal.Run
public import proofs.«01_k».proof.Proof.AdamSpec
public import Idealize.ShloMosaic.Lib.Claim

@[expose] public section

set_option maxRecDepth 16384

noncomputable section

namespace Cert.Proof.AdamVec

open Idealize.ShloMosaic Idealize.ShloMosaic.TcCoe Idealize.SL.Sem
open Cert.Proof.Adam

section Kernel
open Cert.AdamVecIdeal Cert.AdamVecIdeal.Gen

variable (w g m v : FVec Ideal S3x128 .f32)

/-- The kernel's weight change. -/
theorem kernel_delta : Value.G4 (F := Ideal) g m v w = delta w g m v := rfl

/-- The kernel's first moment. -/
theorem kernel_m : Value.G5 (F := Ideal) g m = newM g m := rfl

/-- The kernel's second moment. -/
theorem kernel_v : Value.G6 (F := Ideal) g v = newV g v := rfl

end Kernel

section Reference
open Cert.AdamVecRefIdeal Cert.AdamVecRefIdeal.Gen

variable (w g m v : FVec Ideal S3x128 .f32)

/-- The reference's first moment. -/
theorem ref_m :
    addf (mulf (broadcastInDim S3x128 ![] bcast_S_S3x128 (constant S_ .f32 0x3F666666#32)) m)
      (mulf (broadcastInDim S3x128 ![] bcast_S_S3x128 (constant S_ .f32 0x3DCCCCCD#32)) g) = newM g m := by
  funext i
  idx_vars i
  pointwise [newM]

/-- The reference's second moment. -/
theorem ref_v :
    addf (mulf (broadcastInDim S3x128 ![] bcast_S_S3x128 (constant S_ .f32 0x3F7FBE77#32)) v)
      (mulf (broadcastInDim S3x128 ![] bcast_S_S3x128 (constant S_ .f32 0x3A83126F#32)) (mulf g g)) = newV g v := by
  funext i
  idx_vars i
  pointwise [newV]

/-- The reference's weight change. -/
theorem ref_delta :
    mulf (broadcastInDim S3x128 ![] bcast_S_S3x128 (constant S_ .f32 0xBA83126F#32))
      (addf (Host.divf (Host.divf (addf (mulf (broadcastInDim S3x128 ![] bcast_S_S3x128 (constant S_ .f32 0x3F666666#32)) m)
            (mulf (broadcastInDim S3x128 ![] bcast_S_S3x128 (constant S_ .f32 0x3DCCCCCD#32)) g))
          (broadcastInDim S3x128 ![] bcast_S_S3x128 (constant S_ .f32 0x3F26BD02#32)))
        (addf (Host.sqrt (Host.divf (addf (mulf (broadcastInDim S3x128 ![] bcast_S_S3x128 (constant S_ .f32 0x3F7FBE77#32)) v)
            (mulf (broadcastInDim S3x128 ![] bcast_S_S3x128 (constant S_ .f32 0x3A83126F#32)) (mulf g g)))
          (broadcastInDim S3x128 ![] bcast_S_S3x128 (constant S_ .f32 0x3C231ACC#32))))
          (broadcastInDim S3x128 ![] bcast_S_S3x128 (constant S_ .f32 0x322BCC77#32))))
        (mulf (broadcastInDim S3x128 ![] bcast_S_S3x128 (constant S_ .f32 0x3C23D70A#32)) w)) = delta w g m v := by
  rw [ref_m, ref_v]
  funext i
  idx_vars i
  pointwise [delta]

end Reference

end Cert.Proof.AdamVec

end
-- ==== Proof.AdamClaims.lean ====
/- The value claims of the optimiser's steps: the kernel's run and the reference's leave the same three arrays. -/
module

public import proofs.«01_k».proof.Defs
public import proofs.«01_k».proof.Proof.AdamMlpValue
public import proofs.«01_k».proof.Proof.AdamInEValue
public import proofs.«01_k».proof.Proof.AdamInOValue
public import proofs.«01_k».proof.Proof.AdamOutValue
public import proofs.«01_k».proof.Proof.AdamGluValue
public import proofs.«01_k».proof.Proof.AdamSmallValue
public import proofs.«01_k».proof.Proof.AdamVecValue

@[expose] public section

set_option maxRecDepth 16384

noncomputable section

namespace Cert.Proof

open Idealize.ShloMosaic Idealize.ShloMosaic.TcCoe Idealize.SL.Sem

/-- AdamW's step of an MLP matrix. -/
theorem algebraic_AdamMlp : Cert.algebraic_AdamMlpIdeal_AdamMlpRefIdeal (hAdamMlpIdeal := Cert.AdamMlpIdeal.Gen.facts) (hAdamMlpRefIdeal := Cert.AdamMlpRefIdeal.Gen.facts) :=
  fun m g m' g' _ hA => ⟨fun c => Adam.delta (m ((c : Thread Cert.AdamMlpIdeal.nD Cert.AdamMlpIdeal.τ).loc Cert.AdamMlpIdeal.main_arg0)) (m ((c : Thread Cert.AdamMlpIdeal.nD Cert.AdamMlpIdeal.τ).loc Cert.AdamMlpIdeal.main_arg1)) (m ((c : Thread Cert.AdamMlpIdeal.nD Cert.AdamMlpIdeal.τ).loc Cert.AdamMlpIdeal.main_arg2)) (m ((c : Thread Cert.AdamMlpIdeal.nD Cert.AdamMlpIdeal.τ).loc Cert.AdamMlpIdeal.main_arg3)),
    fun c => Adam.newM (m ((c : Thread Cert.AdamMlpIdeal.nD Cert.AdamMlpIdeal.τ).loc Cert.AdamMlpIdeal.main_arg1)) (m ((c : Thread Cert.AdamMlpIdeal.nD Cert.AdamMlpIdeal.τ).loc Cert.AdamMlpIdeal.main_arg2)),
    fun c => Adam.newV (m ((c : Thread Cert.AdamMlpIdeal.nD Cert.AdamMlpIdeal.τ).loc Cert.AdamMlpIdeal.main_arg1)) (m ((c : Thread Cert.AdamMlpIdeal.nD Cert.AdamMlpIdeal.τ).loc Cert.AdamMlpIdeal.main_arg3)),
    (θ_run _ _ _).mono (fun _ h c => ⟨(h c).1.trans (AdamMlp.kernel_delta _ _ _ _), (h c).2.1.trans (AdamMlp.kernel_m _ _),
      (h c).2.2.1.trans (AdamMlp.kernel_v _ _), (h c).2.2.2⟩) (Cert.AdamMlpIdeal.Value.run m g),
    (θ_run _ _ _).mono (fun _ h c => ⟨by
      refine (h c).1.trans ?_
      rw [(hA c).1, (hA c).2.1, (hA c).2.2.1, (hA c).2.2.2]
      exact AdamMlp.ref_delta _ _ _ _, by
      refine (h c).2.1.trans ?_
      rw [(hA c).2.1, (hA c).2.2.1]
      exact AdamMlp.ref_m _ _, by
      refine (h c).2.2.1.trans ?_
      rw [(hA c).2.1, (hA c).2.2.2]
      exact AdamMlp.ref_v _ _, (h c).2.2.2⟩) (Cert.AdamMlpRefIdeal.Value.run m' g')⟩

/-- AdamW's step of the even blocks' input matrix. -/
theorem algebraic_AdamInE : Cert.algebraic_AdamInEIdeal_AdamInERefIdeal (hAdamInEIdeal := Cert.AdamInEIdeal.Gen.facts) (hAdamInERefIdeal := Cert.AdamInERefIdeal.Gen.facts) :=
  fun m g m' g' _ hA => ⟨fun c => Adam.delta (m ((c : Thread Cert.AdamInEIdeal.nD Cert.AdamInEIdeal.τ).loc Cert.AdamInEIdeal.main_arg0)) (m ((c : Thread Cert.AdamInEIdeal.nD Cert.AdamInEIdeal.τ).loc Cert.AdamInEIdeal.main_arg1)) (m ((c : Thread Cert.AdamInEIdeal.nD Cert.AdamInEIdeal.τ).loc Cert.AdamInEIdeal.main_arg2)) (m ((c : Thread Cert.AdamInEIdeal.nD Cert.AdamInEIdeal.τ).loc Cert.AdamInEIdeal.main_arg3)),
    fun c => Adam.newM (m ((c : Thread Cert.AdamInEIdeal.nD Cert.AdamInEIdeal.τ).loc Cert.AdamInEIdeal.main_arg1)) (m ((c : Thread Cert.AdamInEIdeal.nD Cert.AdamInEIdeal.τ).loc Cert.AdamInEIdeal.main_arg2)),
    fun c => Adam.newV (m ((c : Thread Cert.AdamInEIdeal.nD Cert.AdamInEIdeal.τ).loc Cert.AdamInEIdeal.main_arg1)) (m ((c : Thread Cert.AdamInEIdeal.nD Cert.AdamInEIdeal.τ).loc Cert.AdamInEIdeal.main_arg3)),
    (θ_run _ _ _).mono (fun _ h c => ⟨(h c).1.trans (AdamInE.kernel_delta _ _ _ _), (h c).2.1.trans (AdamInE.kernel_m _ _),
      (h c).2.2.1.trans (AdamInE.kernel_v _ _), (h c).2.2.2⟩) (Cert.AdamInEIdeal.Value.run m g),
    (θ_run _ _ _).mono (fun _ h c => ⟨by
      refine (h c).1.trans ?_
      rw [(hA c).1, (hA c).2.1, (hA c).2.2.1, (hA c).2.2.2]
      exact AdamInE.ref_delta _ _ _ _, by
      refine (h c).2.1.trans ?_
      rw [(hA c).2.1, (hA c).2.2.1]
      exact AdamInE.ref_m _ _, by
      refine (h c).2.2.1.trans ?_
      rw [(hA c).2.1, (hA c).2.2.2]
      exact AdamInE.ref_v _ _, (h c).2.2.2⟩) (Cert.AdamInERefIdeal.Value.run m' g')⟩

/-- AdamW's step of the odd blocks' input matrix. -/
theorem algebraic_AdamInO : Cert.algebraic_AdamInOIdeal_AdamInORefIdeal (hAdamInOIdeal := Cert.AdamInOIdeal.Gen.facts) (hAdamInORefIdeal := Cert.AdamInORefIdeal.Gen.facts) :=
  fun m g m' g' _ hA => ⟨fun c => Adam.delta (m ((c : Thread Cert.AdamInOIdeal.nD Cert.AdamInOIdeal.τ).loc Cert.AdamInOIdeal.main_arg0)) (m ((c : Thread Cert.AdamInOIdeal.nD Cert.AdamInOIdeal.τ).loc Cert.AdamInOIdeal.main_arg1)) (m ((c : Thread Cert.AdamInOIdeal.nD Cert.AdamInOIdeal.τ).loc Cert.AdamInOIdeal.main_arg2)) (m ((c : Thread Cert.AdamInOIdeal.nD Cert.AdamInOIdeal.τ).loc Cert.AdamInOIdeal.main_arg3)),
    fun c => Adam.newM (m ((c : Thread Cert.AdamInOIdeal.nD Cert.AdamInOIdeal.τ).loc Cert.AdamInOIdeal.main_arg1)) (m ((c : Thread Cert.AdamInOIdeal.nD Cert.AdamInOIdeal.τ).loc Cert.AdamInOIdeal.main_arg2)),
    fun c => Adam.newV (m ((c : Thread Cert.AdamInOIdeal.nD Cert.AdamInOIdeal.τ).loc Cert.AdamInOIdeal.main_arg1)) (m ((c : Thread Cert.AdamInOIdeal.nD Cert.AdamInOIdeal.τ).loc Cert.AdamInOIdeal.main_arg3)),
    (θ_run _ _ _).mono (fun _ h c => ⟨(h c).1.trans (AdamInO.kernel_delta _ _ _ _), (h c).2.1.trans (AdamInO.kernel_m _ _),
      (h c).2.2.1.trans (AdamInO.kernel_v _ _), (h c).2.2.2⟩) (Cert.AdamInOIdeal.Value.run m g),
    (θ_run _ _ _).mono (fun _ h c => ⟨by
      refine (h c).1.trans ?_
      rw [(hA c).1, (hA c).2.1, (hA c).2.2.1, (hA c).2.2.2]
      exact AdamInO.ref_delta _ _ _ _, by
      refine (h c).2.1.trans ?_
      rw [(hA c).2.1, (hA c).2.2.1]
      exact AdamInO.ref_m _ _, by
      refine (h c).2.2.1.trans ?_
      rw [(hA c).2.1, (hA c).2.2.2]
      exact AdamInO.ref_v _ _, (h c).2.2.2⟩) (Cert.AdamInORefIdeal.Value.run m' g')⟩

/-- AdamW's step of an output matrix. -/
theorem algebraic_AdamOut : Cert.algebraic_AdamOutIdeal_AdamOutRefIdeal (hAdamOutIdeal := Cert.AdamOutIdeal.Gen.facts) (hAdamOutRefIdeal := Cert.AdamOutRefIdeal.Gen.facts) :=
  fun m g m' g' _ hA => ⟨fun c => Adam.delta (m ((c : Thread Cert.AdamOutIdeal.nD Cert.AdamOutIdeal.τ).loc Cert.AdamOutIdeal.main_arg0)) (m ((c : Thread Cert.AdamOutIdeal.nD Cert.AdamOutIdeal.τ).loc Cert.AdamOutIdeal.main_arg1)) (m ((c : Thread Cert.AdamOutIdeal.nD Cert.AdamOutIdeal.τ).loc Cert.AdamOutIdeal.main_arg2)) (m ((c : Thread Cert.AdamOutIdeal.nD Cert.AdamOutIdeal.τ).loc Cert.AdamOutIdeal.main_arg3)),
    fun c => Adam.newM (m ((c : Thread Cert.AdamOutIdeal.nD Cert.AdamOutIdeal.τ).loc Cert.AdamOutIdeal.main_arg1)) (m ((c : Thread Cert.AdamOutIdeal.nD Cert.AdamOutIdeal.τ).loc Cert.AdamOutIdeal.main_arg2)),
    fun c => Adam.newV (m ((c : Thread Cert.AdamOutIdeal.nD Cert.AdamOutIdeal.τ).loc Cert.AdamOutIdeal.main_arg1)) (m ((c : Thread Cert.AdamOutIdeal.nD Cert.AdamOutIdeal.τ).loc Cert.AdamOutIdeal.main_arg3)),
    (θ_run _ _ _).mono (fun _ h c => ⟨(h c).1.trans (AdamOut.kernel_delta _ _ _ _), (h c).2.1.trans (AdamOut.kernel_m _ _),
      (h c).2.2.1.trans (AdamOut.kernel_v _ _), (h c).2.2.2⟩) (Cert.AdamOutIdeal.Value.run m g),
    (θ_run _ _ _).mono (fun _ h c => ⟨by
      refine (h c).1.trans ?_
      rw [(hA c).1, (hA c).2.1, (hA c).2.2.1, (hA c).2.2.2]
      exact AdamOut.ref_delta _ _ _ _, by
      refine (h c).2.1.trans ?_
      rw [(hA c).2.1, (hA c).2.2.1]
      exact AdamOut.ref_m _ _, by
      refine (h c).2.2.1.trans ?_
      rw [(hA c).2.1, (hA c).2.2.2]
      exact AdamOut.ref_v _ _, (h c).2.2.2⟩) (Cert.AdamOutRefIdeal.Value.run m' g')⟩

/-- AdamW's step of the S5 gate's matrix. -/
theorem algebraic_AdamGlu : Cert.algebraic_AdamGluIdeal_AdamGluRefIdeal (hAdamGluIdeal := Cert.AdamGluIdeal.Gen.facts) (hAdamGluRefIdeal := Cert.AdamGluRefIdeal.Gen.facts) :=
  fun m g m' g' _ hA => ⟨fun c => Adam.delta (m ((c : Thread Cert.AdamGluIdeal.nD Cert.AdamGluIdeal.τ).loc Cert.AdamGluIdeal.main_arg0)) (m ((c : Thread Cert.AdamGluIdeal.nD Cert.AdamGluIdeal.τ).loc Cert.AdamGluIdeal.main_arg1)) (m ((c : Thread Cert.AdamGluIdeal.nD Cert.AdamGluIdeal.τ).loc Cert.AdamGluIdeal.main_arg2)) (m ((c : Thread Cert.AdamGluIdeal.nD Cert.AdamGluIdeal.τ).loc Cert.AdamGluIdeal.main_arg3)),
    fun c => Adam.newM (m ((c : Thread Cert.AdamGluIdeal.nD Cert.AdamGluIdeal.τ).loc Cert.AdamGluIdeal.main_arg1)) (m ((c : Thread Cert.AdamGluIdeal.nD Cert.AdamGluIdeal.τ).loc Cert.AdamGluIdeal.main_arg2)),
    fun c => Adam.newV (m ((c : Thread Cert.AdamGluIdeal.nD Cert.AdamGluIdeal.τ).loc Cert.AdamGluIdeal.main_arg1)) (m ((c : Thread Cert.AdamGluIdeal.nD Cert.AdamGluIdeal.τ).loc Cert.AdamGluIdeal.main_arg3)),
    (θ_run _ _ _).mono (fun _ h c => ⟨(h c).1.trans (AdamGlu.kernel_delta _ _ _ _), (h c).2.1.trans (AdamGlu.kernel_m _ _),
      (h c).2.2.1.trans (AdamGlu.kernel_v _ _), (h c).2.2.2⟩) (Cert.AdamGluIdeal.Value.run m g),
    (θ_run _ _ _).mono (fun _ h c => ⟨by
      refine (h c).1.trans ?_
      rw [(hA c).1, (hA c).2.1, (hA c).2.2.1, (hA c).2.2.2]
      exact AdamGlu.ref_delta _ _ _ _, by
      refine (h c).2.1.trans ?_
      rw [(hA c).2.1, (hA c).2.2.1]
      exact AdamGlu.ref_m _ _, by
      refine (h c).2.2.1.trans ?_
      rw [(hA c).2.1, (hA c).2.2.2]
      exact AdamGlu.ref_v _ _, (h c).2.2.2⟩) (Cert.AdamGluRefIdeal.Value.run m' g')⟩

/-- AdamW's step of the packed small weights. -/
theorem algebraic_AdamSmall : Cert.algebraic_AdamSmallIdeal_AdamSmallRefIdeal (hAdamSmallIdeal := Cert.AdamSmallIdeal.Gen.facts) (hAdamSmallRefIdeal := Cert.AdamSmallRefIdeal.Gen.facts) :=
  fun m g m' g' _ hA => ⟨fun c => Adam.delta (m ((c : Thread Cert.AdamSmallIdeal.nD Cert.AdamSmallIdeal.τ).loc Cert.AdamSmallIdeal.main_arg0)) (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg2)) (m ((c : Thread Cert.AdamSmallIdeal.nD Cert.AdamSmallIdeal.τ).loc Cert.AdamSmallIdeal.main_arg3)),
    fun c => Adam.newM (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg2)),
    fun c => Adam.newV (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg3)),
    (θ_run _ _ _).mono (fun _ h c => ⟨(h c).1.trans (AdamSmall.kernel_delta _ _ _ _), (h c).2.1.trans (AdamSmall.kernel_m _ _),
      (h c).2.2.1.trans (AdamSmall.kernel_v _ _), (h c).2.2.2⟩) (Cert.AdamSmallIdeal.Value.run m g),
    (θ_run _ _ _).mono (fun _ h c => ⟨by
      refine (h c).1.trans ?_
      rw [(hA c).1, (hA c).2.1, (hA c).2.2.1, (hA c).2.2.2]
      exact AdamSmall.ref_delta _ _ _ _, by
      refine (h c).2.1.trans ?_
      rw [(hA c).2.1, (hA c).2.2.1]
      exact AdamSmall.ref_m _ _, by
      refine (h c).2.2.1.trans ?_
      rw [(hA c).2.1, (hA c).2.2.2]
      exact AdamSmall.ref_v _ _, (h c).2.2.2⟩) (Cert.AdamSmallRefIdeal.Value.run m' g')⟩

/-- AdamW's step of the sharded vectors. -/
theorem algebraic_AdamVec : Cert.algebraic_AdamVecIdeal_AdamVecRefIdeal (hAdamVecIdeal := Cert.AdamVecIdeal.Gen.facts) (hAdamVecRefIdeal := Cert.AdamVecRefIdeal.Gen.facts) :=
  fun m g m' g' _ hA => ⟨fun c => Adam.delta (m ((c : Thread Cert.AdamVecIdeal.nD Cert.AdamVecIdeal.τ).loc Cert.AdamVecIdeal.main_arg0)) (m ((c : Thread Cert.AdamVecIdeal.nD Cert.AdamVecIdeal.τ).loc Cert.AdamVecIdeal.main_arg1)) (m ((c : Thread Cert.AdamVecIdeal.nD Cert.AdamVecIdeal.τ).loc Cert.AdamVecIdeal.main_arg2)) (m ((c : Thread Cert.AdamVecIdeal.nD Cert.AdamVecIdeal.τ).loc Cert.AdamVecIdeal.main_arg3)),
    fun c => Adam.newM (m ((c : Thread Cert.AdamVecIdeal.nD Cert.AdamVecIdeal.τ).loc Cert.AdamVecIdeal.main_arg1)) (m ((c : Thread Cert.AdamVecIdeal.nD Cert.AdamVecIdeal.τ).loc Cert.AdamVecIdeal.main_arg2)),
    fun c => Adam.newV (m ((c : Thread Cert.AdamVecIdeal.nD Cert.AdamVecIdeal.τ).loc Cert.AdamVecIdeal.main_arg1)) (m ((c : Thread Cert.AdamVecIdeal.nD Cert.AdamVecIdeal.τ).loc Cert.AdamVecIdeal.main_arg3)),
    (θ_run _ _ _).mono (fun _ h c => ⟨(h c).1.trans (AdamVec.kernel_delta _ _ _ _), (h c).2.1.trans (AdamVec.kernel_m _ _),
      (h c).2.2.1.trans (AdamVec.kernel_v _ _), (h c).2.2.2⟩) (Cert.AdamVecIdeal.Value.run m g),
    (θ_run _ _ _).mono (fun _ h c => ⟨by
      refine (h c).1.trans ?_
      rw [(hA c).1, (hA c).2.1, (hA c).2.2.1, (hA c).2.2.2]
      exact AdamVec.ref_delta _ _ _ _, by
      refine (h c).2.1.trans ?_
      rw [(hA c).2.1, (hA c).2.2.1]
      exact AdamVec.ref_m _ _, by
      refine (h c).2.2.1.trans ?_
      rw [(hA c).2.1, (hA c).2.2.2]
      exact AdamVec.ref_v _ _, (h c).2.2.2⟩) (Cert.AdamVecRefIdeal.Value.run m' g')⟩

end Cert.Proof

end
-- ==== Proof.GluBwdClaims.lean ====
/- The backward call of the gated linear unit, read at `Ideal`: the gradient of the gated activation and of the gate's
   preactivation, where the reference writes the logistic function out. -/
module

public import proofs.«01_k».proof.Defs
public import proofs.«01_k».proof.Proof.Gen.GluBwdIdeal.Value
public import proofs.«01_k».proof.Proof.Gen.GluBwdRefIdeal.Run
public import Idealize.ShloMosaic.Lib.Pointwise
public import Idealize.ShloMosaic.Lib.Claim

@[expose] public section

set_option maxRecDepth 16384

noncomputable section

namespace Cert.Proof.GluBwd

open Idealize.ShloMosaic Idealize.ShloMosaic.TcCoe Idealize.SL.Sem

section Spec

open Cert.GluBwdIdeal

variable (Y PR : S4096x512.Idx → EReal) (D : S4096x1024.Idx → EReal)

/-- What flows into the gated activation at row `k` and column `l`: the first half of the columns. -/
def dyAt (k : Fin 4096) (l : Fin 512) : EReal := D (ix2 k ⟨l.val, by omega⟩)

/-- The gradient of the activation before the gate. -/
def dyg : S4096x512.Idx → EReal := fun i => dyAt D (i 0) (i 1) * Ideal.logistic (PR i)

/-- The gradient of the gate's preactivation. -/
def dgl : S4096x512.Idx → EReal := fun i =>
  Y i * dyAt D (i 0) (i 1) * (Ideal.logistic (PR i) * (1 - Ideal.logistic (PR i)))

end Spec

section Kernel

open Cert.GluBwdIdeal

/-- The column the kernel reads is column `l` of the first half. -/
theorem inIdx (k : Fin 4096) (l : Fin 512) : Value.inIdx3_1 (ix2 k l) = ix2 k ⟨l.val, by omega⟩ := by
  funext a
  match a with
  | ⟨0, _⟩ => rfl
  | ⟨1, _⟩ => rfl

variable (Y PR : FVec Ideal S4096x512 .f32) (D : FVec Ideal S4096x1024 .f32)

/-- The kernel's gradient of the activation. -/
theorem kernel_dyg : Value.G3 (F := Ideal) PR D = dyg PR D := by
  funext i
  idx_vars i
  pointwise [Value.G3, dyg, dyAt]
  rw [inIdx]

/-- The kernel's gradient of the preactivation. -/
theorem kernel_dgl : Value.G4 (F := Ideal) PR D Y = dgl Y PR D := by
  funext i
  idx_vars i
  pointwise [Value.G4, dgl, dyAt]
  rw [show Value.inIdx4_1 (ix2 i0 i1) = ix2 i0 ⟨i1.val, by omega⟩ from inIdx i0 i1, mul_assoc (_ * _), mul_comm (D _)]

end Kernel

section Reference

open Cert.GluBwdRefIdeal Cert.GluBwdRefIdeal.Gen

variable (Y PR : FVec Ideal S4096x512 .f32) (D : FVec Ideal S4096x1024 .f32)

/-- The reference's gradient of the activation. -/
theorem ref_dyg : mulf (extractStridedSlice S4096x512 ![0, 0] D slices_S4096x1024_S4096x512_0_0)
    (Host.divf (broadcastInDim S4096x512 ![] bcast_S_S4096x512 (constant S_ .f32 0x3F800000#32))
      (addf (broadcastInDim S4096x512 ![] bcast_S_S4096x512 (constant S_ .f32 0x3F800000#32)) (Host.exp (Host.negf PR))))
    = dyg PR D := by
  funext i
  idx_vars i
  pointwise [dyg, dyAt, Ideal.logistic, Ideal.ofBits_one_f32]

/-- The reference's gradient of the preactivation. -/
theorem ref_dgl : truncf .bf16 (mulf (mulf Y (extractStridedSlice S4096x512 ![0, 0] D slices_S4096x1024_S4096x512_0_0))
    (mulf (Host.divf (broadcastInDim S4096x512 ![] bcast_S_S4096x512 (constant S_ .f32 0x3F800000#32))
      (addf (broadcastInDim S4096x512 ![] bcast_S_S4096x512 (constant S_ .f32 0x3F800000#32)) (Host.exp (Host.negf PR))))
      (subf (broadcastInDim S4096x512 ![] bcast_S_S4096x512 (constant S_ .f32 0x3F800000#32))
        (Host.divf (broadcastInDim S4096x512 ![] bcast_S_S4096x512 (constant S_ .f32 0x3F800000#32))
      (addf (broadcastInDim S4096x512 ![] bcast_S_S4096x512 (constant S_ .f32 0x3F800000#32)) (Host.exp (Host.negf PR)))))))
    bitsLt_bf16_f32
    = dgl Y PR D := by
  funext i
  idx_vars i
  pointwise [dgl, dyAt, Ideal.logistic, Ideal.ofBits_one_f32]

end Reference

end Cert.Proof.GluBwd

namespace Cert.Proof

open Idealize.ShloMosaic Idealize.ShloMosaic.TcCoe Idealize.SL.Sem

/-- The backward call of the gated linear unit. -/
theorem algebraic_GluBwd : Cert.algebraic_GluBwdIdeal_GluBwdRefIdeal (hGluBwdIdeal := Cert.GluBwdIdeal.Gen.facts) (hGluBwdRefIdeal := Cert.GluBwdRefIdeal.Gen.facts) :=
  fun m g m' g' _ hA => ⟨fun c => GluBwd.dyg (m ((c : Thread Cert.GluBwdIdeal.nD Cert.GluBwdIdeal.τ).loc Cert.GluBwdIdeal.main_arg1)) (m ((c : Thread Cert.GluBwdIdeal.nD Cert.GluBwdIdeal.τ).loc Cert.GluBwdIdeal.main_arg2)),
    fun c => GluBwd.dgl (m ((c : Thread Cert.GluBwdIdeal.nD Cert.GluBwdIdeal.τ).loc Cert.GluBwdIdeal.main_arg0)) (m ((c : Thread Cert.GluBwdIdeal.nD Cert.GluBwdIdeal.τ).loc Cert.GluBwdIdeal.main_arg1)) (m ((c : Thread Cert.GluBwdIdeal.nD Cert.GluBwdIdeal.τ).loc Cert.GluBwdIdeal.main_arg2)),
    (θ_run _ _ _).mono (fun _ h c => ⟨(h c).1.trans (GluBwd.kernel_dyg _ _), (h c).2.1.trans (GluBwd.kernel_dgl _ _ _), (h c).2.2⟩)
      (Cert.GluBwdIdeal.Value.run m g),
    (θ_run _ _ _).mono (fun _ h c => ⟨by
      refine (h c).1.trans ?_
      rw [(hA c).2.1, (hA c).2.2]
      exact GluBwd.ref_dyg _ _, by
      refine (h c).2.1.trans ?_
      rw [(hA c).1, (hA c).2.1, (hA c).2.2]
      exact GluBwd.ref_dgl _ _ _, (h c).2.2⟩) (Cert.GluBwdRefIdeal.Value.run m' g')⟩

end Cert.Proof

end
-- ==== Proof.WindowSum.lean ====
/- The host's window sum at `Ideal`, read as a sum: a window that reaches from an index to the array's end adds up
   the entries from that index on (the adjoint of a running sum). -/
module

public import Idealize.ShloMosaic.Lib.Pipeline.ValueKit
public import Idealize.ShloMosaic.Lib.Pointwise

@[expose] public section

noncomputable section

namespace Cert.Proof.WindowSum

open Idealize.ShloMosaic

/-- Adding up a list from the left is its sum. -/
theorem foldl_add {α : Type} (l : List α) (g : α → EReal) (r : EReal) :
    l.foldl (fun r n => r + g n) r = r + (l.map g).sum := by
  induction l generalizing r with
  | nil => simp
  | cons a l ih => rw [List.foldl_cons, ih, List.map_cons, List.sum_cons, add_assoc]

/-- A window sum from zero: the sum over the window's positions of the operand, zero outside of it. -/
theorem eq_sum {s t u : Shape} (window strides lo hi : Fin s.rank → Nat) (x : FVec Ideal s .f32) (init : u.Idx → Ideal .f32)
    (h : s.ReduceWindows window strides lo hi t) (hu : 0 < u.numel) (h0 : init (Shape.Idx.first hu) = (0 : EReal)) (j : t.Idx) :
    (Host.reduceWindowAdd window strides lo hi x init h hu j : EReal)
      = ∑ q : (⟨s.rank, window⟩ : Shape).Idx,
        (if hin : ∀ a, lo a ≤ (j (a.cast h.1.symm)).val * strides a + (q a).val
            ∧ (j (a.cast h.1.symm)).val * strides a + (q a).val - lo a < s.size a
          then (x (fun a => ⟨(j (a.cast h.1.symm)).val * strides a + (q a).val - lo a, (hin a).2⟩) : EReal) else 0) := by
  rw [← Equiv.sum_comp (⟨s.rank, window⟩ : Shape).rowMajor.symm, Fin.sum_univ_def, ← zero_add (List.sum _), ← foldl_add]
  show List.foldl _ _ _ = _
  rw [h0]
  refine congrArg (fun g => List.foldl g (0 : EReal) _) ?_
  funext r n
  refine congrArg (fun z : EReal => r + z) ?_
  dsimp only
  split_ifs <;> rfl

/-- The sum of a function of the numbers from `a` up to `b`. -/
abbrev sumIco (f : ℕ → EReal) (a b : ℕ) : EReal := ∑ n ∈ Finset.Ico a b, f n

/-- A sum over the positions of a block of `N` numbers that starts at `a`. -/
theorem sum_fin (f : ℕ → EReal) (a N : ℕ) : ∑ k : Fin N, f (a + k.val) = sumIco f a (a + N) := by
  rw [sumIco, Finset.sum_Ico_eq_sum_range, Nat.add_sub_cancel_left, Finset.sum_range]

/-- A sum over a block, of the positions from `r` on alone. -/
theorem sum_fin_from (f : ℕ → EReal) (a N r : ℕ) (hr : r ≤ N) :
    (∑ k : Fin N, if r ≤ k.val then f (a + k.val) else 0) = sumIco f (a + r) (a + N) := by
  rw [sumIco, Finset.sum_Ico_eq_sum_range, ← Finset.sum_range (f := fun k => if r ≤ k then f (a + k) else 0),
    show a + N - (a + r) = N - r by omega]
  rw [← Finset.sum_range_add_sum_Ico _ hr, Finset.sum_eq_zero, zero_add, Finset.sum_Ico_eq_sum_range]
  · refine Finset.sum_congr rfl fun k _ => ?_
    rw [if_pos (show r ≤ r + k by omega), ← add_assoc]
  · intro k hk
    rw [if_neg (show ¬r ≤ k by have := Finset.mem_range.1 hk; omega)]

/-- Two neighbouring ranges make one. -/
theorem sumIco_add (f : ℕ → EReal) {a b c : ℕ} (h : a ≤ b) (h' : b ≤ c) : sumIco f a b + sumIco f b c = sumIco f a c :=
  Finset.sum_Ico_consecutive f h h'

/-- A sum over the positions from `i` of which those below `N` count: the numbers from `i` up to `N`. -/
theorem sum_fin_to (f : ℕ → EReal) (i N : ℕ) :
    (∑ k : Fin N, if i + k.val < N then f (i + k.val) else 0) = sumIco f i N := by
  rw [← Finset.sum_range (f := fun k => if i + k < N then f (i + k) else 0), sumIco, Finset.sum_Ico_eq_sum_range,
    ← Finset.sum_range_add_sum_Ico _ (Nat.sub_le N i)]
  refine (congrArg₂ (· + ·) (Finset.sum_congr rfl fun k hk => ?_) (Finset.sum_eq_zero fun k hk => ?_)).trans (add_zero _)
  · rw [if_pos (show i + k < N by have := Finset.mem_range.1 hk; omega)]
  · rw [if_neg (show ¬i + k < N by have := Finset.mem_Ico.1 hk; omega)]

end Cert.Proof.WindowSum

end
-- ==== Proof.LogSigmoid.lean ====
/- The slope of `log_sigmoid` as its derivative is written with running maxima, on all extended reals. -/
module

public import Idealize.ShloMosaic.Lib.Pointwise

@[expose] public section

noncomputable section

namespace Cert.Proof.LogSigmoid

open Idealize.ShloMosaic

/-- `log (1 + eᵘ)` as it is written, with the comparisons that guard it. -/
abbrev soft (u : EReal) : EReal := max u 0 + Ideal.log1p (Ideal.exp (-max u (-u)))

/-- The infinity's float word. -/
theorem top_word : Ideal.ofBits .f32 2139095040#32 = ⊤ := by
  simp [Ideal.ofBits, Ideal.ieee]

/-- `log (1 + eᵘ)` of a real. -/
theorem soft_coe (r : ℝ) : soft (r : EReal) = ((Real.log (1 + Real.exp r) : ℝ) : EReal) := by
  have hp : ∀ x : ℝ, ¬1 + Real.exp x ≤ 0 := fun x => not_le.2 (by positivity)
  have key : ∀ x : ℝ, Ideal.log1p (Ideal.exp (x : EReal)) = ((Real.log (1 + Real.exp x) : ℝ) : EReal) := fun x => by
    rw [Ideal.exp_coe, Ideal.log1p, ← EReal.coe_one, ← EReal.coe_add, Ideal.log_coe, if_neg (hp x)]
  unfold soft
  rw [← EReal.coe_neg, ← EReal.coe_zero]
  rcases le_total 0 r with h | h
  · rw [max_eq_left (EReal.coe_le_coe_iff.2 h), max_eq_left (EReal.coe_le_coe_iff.2 (by linarith)), ← EReal.coe_neg, key, ← EReal.coe_add]
    congr 1
    nth_rewrite 1 [← Real.log_exp r]
    rw [← Real.log_mul (Real.exp_pos r).ne' (by positivity), mul_add, ← Real.exp_add]
    simp [add_comm]
  · rw [max_eq_right (EReal.coe_le_coe_iff.2 h), max_eq_right (EReal.coe_le_coe_iff.2 (by linarith)), ← EReal.coe_neg, neg_neg, key, ← EReal.coe_add,
      zero_add]

theorem log_one : Ideal.log 1 = 0 := by
  rw [← EReal.coe_one, Ideal.log_coe, if_neg (by norm_num), Real.log_one, EReal.coe_zero]

theorem exp_zero : Ideal.exp 0 = 1 := by
  rw [← EReal.coe_zero, Ideal.exp_coe, Real.exp_zero, EReal.coe_one]

/-- The derivative of `log (1 + eᵘ)` as it is written is the logistic function, at infinities too. -/
theorem slope_eq (u : EReal) :
    Ideal.exp ((if u = Ideal.ofBits .f32 2139095040#32 then 0 else u)
      - (if (if u ≠ u then u else soft u) = Ideal.ofBits .f32 2139095040#32 then 0 else (if u ≠ u then u else soft u)))
      = Ideal.logistic u := by
  rw [if_neg (not_not.2 rfl : ¬u ≠ u), top_word]
  induction u using EReal.rec with
  | bot => simp [soft, Ideal.log1p]
  | top => simp [soft, Ideal.log1p, log_one, exp_zero]
  | coe r =>
    rw [soft_coe, if_neg (EReal.coe_ne_top _), if_neg (EReal.coe_ne_top _), ← EReal.coe_sub, Ideal.exp_coe, Ideal.logistic_coe,
      Real.exp_sub, Real.exp_log (by positivity), Real.exp_neg]
    congr 1
    have := Real.exp_pos r
    field_simp
    ring

end Cert.Proof.LogSigmoid

end
-- ==== Proof.GateValue.lean ====
/- `fox_gate_bwd` read at `Ideal`: kernel and reference both leave the forget gate's gradient. -/
module

public import proofs.«01_k».proof.Proof.Gen.GateIdeal.Value
public import proofs.«01_k».proof.Proof.Gen.GateRefIdeal.Run
public import proofs.«01_k».proof.Proof.ProjSpec
public import proofs.«01_k».proof.Proof.WindowSum
public import proofs.«01_k».proof.Proof.LogSigmoid
public import Idealize.ShloMosaic.Lib.Pipeline.ReadBack
public import Idealize.ShloMosaic.Lib.Claim

@[expose] public section

set_option maxRecDepth 16384

noncomputable section

namespace Cert.Proof.Gate

open Idealize.ShloMosaic Idealize.ShloMosaic.TcCoe Idealize.SL.Sem
open Idealize.ShloMosaic.Pipeline (Dat)
open Cert.Proof.WindowSum

section Spec
open Cert.GateIdeal

variable (Z : S4096x2176.Idx → EReal) (B : S1x128.Idx → EReal) (P Q : S4096x128.Idx → EReal)

/-- What flows back into the running sum at position `n` of lane `l`: the keys' part and the queries'. -/
def ct (l : Fin 128) (n : ℕ) : EReal := if h : n < 4096 then P (ix2 ⟨n, h⟩ l) + Q (ix2 ⟨n, h⟩ l) else 0

/-- The slope of the log forget gate at position `n` of lane `l`. -/
def slope (l : Fin 128) (n : ℕ) : EReal :=
  if h : n < 4096 then Ideal.logistic (-(Z (ix2 ⟨n, h⟩ ⟨2048 + l.val, by omega⟩) + B (ix2 0 l))) else 0

/-- The gate's gradient at position `n` of lane `l`: what flows back from `n` on, times the slope there. -/
def grad (l : Fin 128) (n : ℕ) : EReal := sumIco (ct P Q l) n 4096 * slope Z B l n

/-- The gradient of the gate's preactivation. -/
def dfl : S4096x128.Idx → EReal := fun i => grad Z B P Q (i 1) (i 0).val

/-- The gradient of the gate's bias. -/
def dbf : S1x128.Idx → EReal := fun i => sumIco (grad Z B P Q (i 1)) 0 4096

end Spec

section Kernel
open Cert.GateIdeal Cert.GateIdeal.Gen

/-- The blocks' places on the grid of 16 points, from the array's end to its start. -/
theorem idx : ∀ t : Fin grid0.N, win0_0.index t = ![15 - t.val, 16] ∧ win0_1.index t = ![0, 0]
    ∧ win0_2.index t = ![15 - t.val, 0] ∧ win0_3.index t = ![15 - t.val, 0] ∧ win0_4.index t = ![15 - t.val, 0]
    ∧ win0_5.index t = ![0, 0] := by decide +kernel

variable (m : (ℓ : Loc nD τ sig) → Buf (Elt Ideal) ℓ) (c : Dev nD)

/-- The comparison of a column's number with a row's. -/
theorem sge : ∀ r k : Fin 256, IntOp.cmpi .sge (BitVec.ofNat 32 k.val) (BitVec.ofNat 32 r.val) = if r.val ≤ k.val then 1#1 else 0#1 := by
  intro r k
  have small : ∀ n : Fin 256, (BitVec.ofNat 32 n.val).toInt = n.val := fun n => by
    have h : (BitVec.ofNat 32 n.val).toNat = n.val := by rw [BitVec.toNat_ofNat]; omega
    rw [BitVec.toInt_eq_toNat_of_lt (by omega), h]
  have hr := small r
  have hk := small k
  by_cases h : r.val ≤ k.val <;> simp [IntOp.cmpi, BitVec.sle, hr, hk, h]

/-- The triangular product: what flows back from row `r` of the block on, on top of what flows back from later blocks. -/
theorem pay3 (v8 v9 : FVec Ideal S256x128 .f32) (v12 : FVec Ideal S1x128 .f32) (r : Fin 256) (l : Fin 128) :
    (k0_pay3 (F := Ideal) v8 v9 v12 (ix2 r l) : EReal)
      = (∑ k : Fin 256, if r.val ≤ k.val then (v8 (ix2 k l) + v9 (ix2 k l) : EReal) else 0) + v12 (ix2 0 l) := by
  pointwise [k0_pay3]
  refine congrArg₂ (· + ·) (@Finset.sum_congr _ EReal _ _ _ _ _ rfl fun k _ => ?_) rfl
  rw [sge]
  split_ifs
  · exact (congrArg (· * _) (show ((((BitVec.setWidth 32 1#1).toInt : ℤ) : ℝ) : EReal) = 1 by simp)).trans (one_mul _)
  · exact (congrArg (· * _) Proj.sitofp_zero).trans (zero_mul _)

/-- The carried row is the block's first. -/
theorem pay4 (v8 v9 : FVec Ideal S256x128 .f32) (v12 : FVec Ideal S1x128 .f32) (l : Fin 128) :
    k0_pay4 (F := Ideal) v8 v9 v12 (ix2 0 l) = k0_pay3 (F := Ideal) v8 v9 v12 (ix2 0 l) := by
  pointwise [k0_pay4]

/-- The gradient is that, times the slope. -/
theorem pay5 (v8 v9 : FVec Ideal S256x128 .f32) (v12 : FVec Ideal S1x128 .f32) (v19 : FVec Ideal S256x128 .f32)
    (v20 : FVec Ideal S1x128 .f32) (r : Fin 256) (l : Fin 128) :
    (k0_pay5 (F := Ideal) v8 v9 v12 v19 v20 (ix2 r l) : EReal)
      = (k0_pay3 (F := Ideal) v8 v9 v12 (ix2 r l) : EReal) * Ideal.logistic (-(v19 (ix2 r l) + v20 (ix2 0 l) : EReal)) := by
  pointwise [k0_pay5]
  rw [zero_sub]

/-- The bias's gradient takes the block's rows in. -/
theorem pay6 (v8 v9 : FVec Ideal S256x128 .f32) (v12 : FVec Ideal S1x128 .f32) (v19 : FVec Ideal S256x128 .f32)
    (v20 v28 : FVec Ideal S1x128 .f32) (l : Fin 128) :
    (k0_pay6 (F := Ideal) v8 v9 v12 v19 v20 v28 (ix2 0 l) : EReal)
      = v28 (ix2 0 l) + ∑ r : Fin 256, (k0_pay5 (F := Ideal) v8 v9 v12 v19 v20 (ix2 r l) : EReal) := by
  pointwise [k0_pay6]

/-- Where a block starts. -/
abbrev base (t : Fin cfg0.N) : ℕ := (15 - t.val) * 256

abbrev Z := m ((c : Thread nD τ).loc main_arg0)
abbrev B := m ((c : Thread nD τ).loc main_arg1)
abbrev P := m ((c : Thread nD τ).loc main_arg2)
abbrev Q := m ((c : Thread nD τ).loc main_arg3)

/-- The point's blocks. -/
abbrev X (t : Fin cfg0.N) : FVec Ideal S256x128 .f32 := iblk m c 0 t
abbrev Y (t : Fin cfg0.N) : FVec Ideal S1x128 .f32 := iblk m c 1 t
abbrev K (t : Fin cfg0.N) : FVec Ideal S256x128 .f32 := iblk m c 2 t
abbrev L (t : Fin cfg0.N) : FVec Ideal S256x128 .f32 := iblk m c 3 t

theorem lt16 (t : Fin cfg0.N) : t.val < 16 := lt_of_lt_of_eq t.isLt N_0

/-- A block of what flows back. -/
theorem ct_blk (t : Fin cfg0.N) (k : Fin 256) (l : Fin 128) :
    (K m c t (ix2 k l) + L m c t (ix2 k l) : EReal) = ct (P m c) (Q m c) l (base t + k.val) := by
  have ht := lt16 t
  obtain ⟨e0, e1, e2, e3, e4, e5⟩ := idx t
  rw [ct, dif_pos (show base t + k.val < 4096 by unfold base; omega)]
  refine congrArg₂ (· + ·) ?_ ?_
  · blk_ext [K, iblk, V, e2, base]
  · blk_ext [L, iblk, V, e3, base]

/-- A block of the slope. -/
theorem slope_blk (t : Fin cfg0.N) (k : Fin 256) (l : Fin 128) :
    Ideal.logistic (-(X m c t (ix2 k l) + Y m c t (ix2 0 l) : EReal)) = slope (Z m c) (B m c) l (base t + k.val) := by
  have ht := lt16 t
  obtain ⟨e0, e1, e2, e3, e4, e5⟩ := idx t
  rw [slope, dif_pos (show base t + k.val < 4096 by unfold base; omega)]
  refine congrArg (fun z : EReal => Ideal.logistic (-z)) (congrArg₂ (· + ·) ?_ ?_)
  · blk_ext [X, iblk, V, e0, base]
  · blk_ext [Y, iblk, V, e1]

/-- The sums a point forms from the row `v` carried over, if that holds what flows back from the block's end on. -/
theorem pay3_eq (t : Fin cfg0.N) (v : FVec Ideal S1x128 .f32) (hv : ∀ l, v (ix2 0 l) = sumIco (ct (P m c) (Q m c) l) (base t + 256) 4096)
    (r : Fin 256) (l : Fin 128) :
    k0_pay3 (F := Ideal) (K m c t) (L m c t) v (ix2 r l) = sumIco (ct (P m c) (Q m c) l) (base t + r.val) 4096 := by
  rw [pay3, hv]
  have ht := lt16 t
  refine Eq.trans ?_ (sumIco_add _ (b := base t + 256) (by omega) (by unfold base; omega))
  refine congrArg (· + _) ((@Finset.sum_congr _ EReal _ _ _ _ _ rfl fun k _ => ?_).trans (sum_fin_from _ _ _ _ (by omega)))
  rw [ct_blk]

theorem pay5_eq (t : Fin cfg0.N) (v : FVec Ideal S1x128 .f32) (hv : ∀ l, v (ix2 0 l) = sumIco (ct (P m c) (Q m c) l) (base t + 256) 4096)
    (r : Fin 256) (l : Fin 128) :
    k0_pay5 (F := Ideal) (K m c t) (L m c t) v (X m c t) (Y m c t) (ix2 r l)
      = grad (Z m c) (B m c) (P m c) (Q m c) l (base t + r.val) := by
  rw [pay5, pay3_eq m c t v hv, slope_blk]
  rfl

theorem pay6_eq (t : Fin cfg0.N) (v w : FVec Ideal S1x128 .f32) (hv : ∀ l, v (ix2 0 l) = sumIco (ct (P m c) (Q m c) l) (base t + 256) 4096)
    (hw : ∀ l, w (ix2 0 l) = sumIco (grad (Z m c) (B m c) (P m c) (Q m c) l) (base t + 256) 4096) (l : Fin 128) :
    k0_pay6 (F := Ideal) (K m c t) (L m c t) v (X m c t) (Y m c t) w (ix2 0 l)
      = sumIco (grad (Z m c) (B m c) (P m c) (Q m c) l) (base t) 4096 := by
  rw [pay6, hw, add_comm]
  have ht := lt16 t
  refine Eq.trans ?_ (sumIco_add _ (b := base t + 256) (by omega) (by unfold base; omega))
  refine congrArg (· + _) ((@Finset.sum_congr _ EReal _ _ _ _ _ rfl fun k _ => ?_).trans (sum_fin _ _ _))
  exact pay5_eq m c t v hv k l

/-- The scratch's first row. -/
theorem row0 (l : Fin 128) : (Rect.unit (s := S8x128) ![0, 0] ![1, 128] inb_S8x128_S1x128_0_0).emb (ix2 0 l) = ix2 0 l := by
  funext a
  apply Fin.ext
  match a with
  | ⟨0, _⟩ => rfl
  | ⟨1, _⟩ => show 0 + 1 * l.val = l.val; omega

/-- Loading the scratch's first row. -/
theorem ld_row (w : FVec Ideal S8x128 .f32) (l : Fin 128) :
    (View.ld (Val := Elt Ideal) (e' := .f32) w (Rect.unit (s := S8x128) ![0, 0] ![1, 128] inb_S8x128_S1x128_0_0) : FVec Ideal S1x128 .f32) (ix2 0 l)
      = w (ix2 0 l) := congrArg w (row0 l)

/-- An empty sum is what a point without later blocks finds. -/
theorem none_later (t : Fin cfg0.N) (h0 : t.val % 16 = 0) (f : ℕ → EReal) : sumIco f (base t + 256) 4096 = 0 := by
  have ht := lt16 t
  rw [sumIco, Finset.Ico_eq_empty (by unfold base; omega), Finset.sum_empty]

theorem fill1 (i : S8x128.Idx) : (k0_pay1 (F := Ideal) i : EReal) = 0 := by
  idx_vars i
  pointwise [k0_pay1]
theorem fill2 (i : S1x128.Idx) : (k0_pay2 (F := Ideal) i : EReal) = 0 := by
  idx_vars i
  pointwise [k0_pay2]

/-- The row that the first point reads after it has cleared the scratch. -/
theorem first (t : Fin cfg0.N) (h0 : t.val % 16 = 0) (f : ℕ → EReal) (l : Fin 128) :
    (View.ld (Val := Elt Ideal) (e' := .f32) (k0_pay1 (F := Ideal)) (Rect.unit (s := S8x128) ![0, 0] ![1, 128] inb_S8x128_S1x128_0_0) : FVec Ideal S1x128 .f32) (ix2 0 l)
      = sumIco f (base t + 256) 4096 := by
  rw [ld_row, fill1, none_later t h0]

/-- What the first point leaves: the carried row, the gradient's block and the bias's gradient so far. -/
theorem left_A (t : Fin cfg0.N) (h0 : t.val % 16 = 0) (l : Fin 128) :
    (outsAt0 m c t.val t.isLt).2.2 (ix2 0 l) = sumIco (ct (P m c) (Q m c) l) (base t) 4096
    ∧ (outsAt0 m c t.val t.isLt).2.1 (ix2 0 l) = sumIco (grad (Z m c) (B m c) (P m c) (Q m c) l) (base t) 4096
    ∧ ∀ r, (outsAt0 m c t.val t.isLt).1 (ix2 r l) = grad (Z m c) (B m c) (P m c) (Q m c) l (base t + r.val) := by
  rw [outsAt0_A m c t h0]
  dsimp only
  unfold sout0_A_0 out0_A_4 out0_A_5
  frame_out
  rw [View.readCov_fill _ _ _ _ _ (by intro a; fin_cases a <;> rfl)]
  refine ⟨?_, pay6_eq m c t _ _ (fun l => first t h0 _ l) (fun l => (fill2 _).trans (none_later t h0 _).symm) l,
    fun r => pay5_eq m c t _ (fun l => first t h0 _ l) r l⟩
  refine (congrArg _ (row0 l).symm).trans ((View.canon_cons_emb _ _ _ _).trans ((pay4 _ _ _ l).trans ?_))
  exact pay3_eq m c t _ (fun l => first t h0 _ l) 0 l

/-- What a later point leaves, on top of what the point before has left. -/
theorem left_B (t : Fin cfg0.N) (h0 : ¬t.val % 16 = 0) (hp : t.val - 1 < cfg0.N)
    (hs : ∀ l, (outsAt0 m c (t.val - 1) hp).2.2 (ix2 0 l) = sumIco (ct (P m c) (Q m c) l) (base t + 256) 4096)
    (hd : ∀ l, (outsAt0 m c (t.val - 1) hp).2.1 (ix2 0 l) = sumIco (grad (Z m c) (B m c) (P m c) (Q m c) l) (base t + 256) 4096) (l : Fin 128) :
    (outsAt0 m c t.val t.isLt).2.2 (ix2 0 l) = sumIco (ct (P m c) (Q m c) l) (base t) 4096
    ∧ (outsAt0 m c t.val t.isLt).2.1 (ix2 0 l) = sumIco (grad (Z m c) (B m c) (P m c) (Q m c) l) (base t) 4096
    ∧ ∀ r, (outsAt0 m c t.val t.isLt).1 (ix2 r l) = grad (Z m c) (B m c) (P m c) (Q m c) l (base t + r.val) := by
  rw [outsAt0_B m c t h0]
  dsimp only
  unfold sout0_B_0 out0_B_4 out0_B_5
  frame_out
  rw [read_unread_whole]
  refine ⟨?_, pay6_eq m c t _ _ (fun l => (ld_row _ l).trans (hs l)) hd l,
    fun r => pay5_eq m c t _ (fun l => (ld_row _ l).trans (hs l)) r l⟩
  refine (congrArg _ (row0 l).symm).trans ((View.read_writes_cons_emb _ _ _ _ _ _).trans ((pay4 _ _ _ l).trans ?_))
  exact pay3_eq m c t _ (fun l => (ld_row _ l).trans (hs l)) 0 l

/-- What every point leaves. -/
theorem left (n : ℕ) : ∀ (t : Fin cfg0.N), t.val = n → ∀ l : Fin 128,
    (outsAt0 m c t.val t.isLt).2.2 (ix2 0 l) = sumIco (ct (P m c) (Q m c) l) (base t) 4096
    ∧ (outsAt0 m c t.val t.isLt).2.1 (ix2 0 l) = sumIco (grad (Z m c) (B m c) (P m c) (Q m c) l) (base t) 4096
    ∧ ∀ r, (outsAt0 m c t.val t.isLt).1 (ix2 r l) = grad (Z m c) (B m c) (P m c) (Q m c) l (base t + r.val) := by
  induction n with
  | zero => exact fun t ht l => left_A m c t (by omega) l
  | succ n ih =>
    intro t ht l
    have h16 := lt16 t
    have hp : t.val - 1 < cfg0.N := (Nat.sub_le _ _).trans_lt t.isLt
    have hb : base ⟨t.val - 1, hp⟩ = base t + 256 := by unfold base; dsimp only; omega
    refine left_B m c t (by omega) hp (fun l => ?_) (fun l => ?_) l
    · rw [← hb]; exact (ih ⟨t.val - 1, hp⟩ (by dsimp only; omega) l).1
    · rw [← hb]; exact (ih ⟨t.val - 1, hp⟩ (by dsimp only; omega) l).2.1

/-- The kernel's gradient of the preactivation. -/
theorem kernel_dfl : (dats m 0 c).arrAt 4 cfg0.N = dfl (Z m c) (B m c) (P m c) (Q m c) := by
  refine (dats m 0 c).arrAt_eq_of_covers 4 _ (by decide +kernel) fun t hf y => ?_
  blk_simp
  rw [after0_4]
  idx_vars y
  obtain ⟨e0, e1, e2, e3, e4, e5⟩ := idx t
  unfold dfl
  refine ((left m c t.val t rfl y1).2.2 y0).trans (congrArg₂ (grad _ _ _ _) (Fin.ext ?_) ?_)
  · blk_simp [e4]
  · blk_simp [e4, base]

/-- The kernel's gradient of the bias. -/
theorem kernel_dbf : (dats m 0 c).arrAt 5 cfg0.N = dbf (Z m c) (B m c) (P m c) (Q m c) := by
  refine (dats m 0 c).arrAt_eq_of_covers 5 _ (by decide +kernel) fun t hf y => ?_
  have h15 : t.val = 15 := (by decide +kernel : ∀ t : Fin grid0.N, win0_5.flush t = true → t.val = 15) t hf
  blk_simp
  rw [after0_5]
  idx_vars y
  obtain ⟨e0, e1, e2, e3, e4, e5⟩ := idx t
  obtain rfl : y0 = 0 := Subsingleton.elim _ _
  unfold dbf
  refine (left m c t.val t rfl y1).2.1.trans ?_
  rw [show base t = 0 by unfold base; omega]
  refine congrArg (fun l => sumIco (grad _ _ _ _ l) 0 4096) (Fin.ext ?_)
  blk_simp [e5]

end Kernel

section Reference
open Cert.GateRefIdeal Cert.GateRefIdeal.Gen

/-- The window's positions are the numbers along the first axis. -/
def col : Fin 4096 ≃ (⟨2, ![4096, 1]⟩ : Shape).Idx where
  toFun k := ix2 k 0
  invFun q := q 0
  left_inv _ := rfl
  right_inv q := by
    funext a
    match a with
    | ⟨0, _⟩ => rfl
    | ⟨1, _⟩ => exact Subsingleton.elim (α := Fin 1) _ _

/-- Entry `n` of lane `l`, zero past the end. -/
def at_ (x : FVec Ideal S4096x128 .f32) (l : Fin 128) (n : ℕ) : EReal := if h : n < 4096 then x (ix2 ⟨n, h⟩ l) else 0

/-- The adjoint of the running sum: the entries from an index on, added up. -/
theorem window (x : FVec Ideal S4096x128 .f32) :
    Host.reduceWindowAdd ![4096, 1] ![1, 1] ![0, 0] ![4095, 0] x (broadcastInDim S_ ![] bcast_S_S_ (constant S_ .f32 0x00000000#32))
        reduceWindows_S4096x128_S4096x128_w4096s1p0_4095_w1s1p0_0 h_S_
      = fun i => sumIco (at_ x (i 1)) (i 0).val 4096 := by
  funext i
  refine (eq_sum _ _ _ _ _ _ _ _ Ideal.ofBits_zero_f32 i).trans ?_
  rw [← sum_fin_to, ← Equiv.sum_comp col]
  idx_vars i
  refine @Finset.sum_congr _ EReal _ _ _ _ _ rfl fun k _ => ?_
  by_cases hk : i0.val + k.val < 4096
  · refine Eq.trans ?_ (if_pos hk).symm
    rw [dif_pos]
    · unfold at_
      rw [dif_pos hk]
      refine congrArg x ?_
      funext a
      apply Fin.ext
      match a with
      | ⟨0, _⟩ => show i0.val * 1 + k.val - 0 = i0.val + k.val; omega
      | ⟨1, _⟩ => show i1.val * 1 + 0 - 0 = i1.val; omega
    · intro a
      match a with
      | ⟨0, _⟩ => exact ⟨Nat.zero_le _, show i0.val * 1 + k.val - 0 < 4096 by omega⟩
      | ⟨1, _⟩ => exact ⟨Nat.zero_le _, show i1.val * 1 + 0 - 0 < 128 by omega⟩
  · refine Eq.trans (dif_neg fun h => ?_) (if_neg hk).symm
    have : i0.val * 1 + k.val - 0 < 4096 := (h 0).2
    omega

/-- What flows back, as it is written. -/
theorem at_add (P Q : FVec Ideal S4096x128 .f32) (l : Fin 128) : at_ (addf P Q) l = ct P Q l := by
  funext n
  unfold at_ ct
  split_ifs
  · rfl
  · rfl

/-- The reference's gradient of the preactivation. -/
theorem ref_dfl (m : (ℓ : Loc nD τ sig) → Buf (Elt Ideal) ℓ) (c : Dev nD) :
    Value.res_main_v7 m c = dfl (m ((c : Thread nD τ).loc main_arg0)) (m ((c : Thread nD τ).loc main_arg1))
      (m ((c : Thread nD τ).loc main_arg2)) (m ((c : Thread nD τ).loc main_arg3)) := by
  unfold Value.res_main_v7
  rw [window]
  funext i
  idx_vars i
  pointwise [dfl, grad]
  rw [EReal.neg_mul, neg_neg, at_add]
  refine congrArg (fun z : EReal => sumIco _ _ _ * z) ((LogSigmoid.slope_eq _).trans ?_)
  rw [slope, dif_pos i0.isLt]

/-- The reference's gradient of the bias. -/
theorem ref_dbf (m : (ℓ : Loc nD τ sig) → Buf (Elt Ideal) ℓ) (c : Dev nD) :
    Value.res_main_v9 m c = dbf (m ((c : Thread nD τ).loc main_arg0)) (m ((c : Thread nD τ).loc main_arg1))
      (m ((c : Thread nD τ).loc main_arg2)) (m ((c : Thread nD τ).loc main_arg3)) := by
  have e : Value.res_main_v9 m c = (shapeCast S1x128 (Host.reduceAdd (F := Ideal) (φ := .f32) (Value.res_main_v7 m c)
    (constant S_ .f32 0x00000000#32) reducesTo_S4096x128_S128_d0 h_S_ : FVec Ideal S128 .f32) shapeCasts_S128_S1x128 : FVec Ideal S1x128 .f32) := rfl
  rw [e, ref_dfl]
  funext i
  idx_vars i
  pointwise [dbf, dfl]
  have hs := sum_fin (grad (m ((c : Thread nD τ).loc main_arg0)) (m ((c : Thread nD τ).loc main_arg1))
    (m ((c : Thread nD τ).loc main_arg2)) (m ((c : Thread nD τ).loc main_arg3)) i1) 0 4096
  simp only [Nat.zero_add] at hs
  exact hs

end Reference

end Cert.Proof.Gate

end
-- ==== Proof.GateClaims.lean ====
/- The value claim of the forget gate's backward call. -/
module

public import proofs.«01_k».proof.Defs
public import proofs.«01_k».proof.Proof.GateValue

@[expose] public section

set_option maxRecDepth 16384

noncomputable section

namespace Cert.Proof

open Idealize.ShloMosaic Idealize.ShloMosaic.TcCoe Idealize.SL.Sem

/-- The forget gate's backward call. -/
theorem algebraic_Gate : Cert.algebraic_GateIdeal_GateRefIdeal (hGateIdeal := Cert.GateIdeal.Gen.facts) (hGateRefIdeal := Cert.GateRefIdeal.Gen.facts) :=
  fun m g m' g' _ hA => ⟨fun c => Gate.dfl (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg2)) (m ((c : Thread Cert.GateIdeal.nD Cert.GateIdeal.τ).loc Cert.GateIdeal.main_arg3)),
    fun c => Gate.dbf (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg2)) (m ((c : Thread Cert.GateIdeal.nD Cert.GateIdeal.τ).loc Cert.GateIdeal.main_arg3)),
    (θ_run _ _ _).mono (fun _ h c => ⟨(h c).1.trans (Gate.kernel_dfl m c), (h c).2.1.trans (Gate.kernel_dbf m c), (h c).2.2⟩)
      (Cert.GateIdeal.Value.run_blocks m g),
    (θ_run _ _ _).mono (fun _ h c => ⟨by
      refine (h c).1.trans ((Gate.ref_dfl m' c).trans ?_)
      rw [(hA c).1, (hA c).2.1, (hA c).2.2.1, (hA c).2.2.2], by
      refine (h c).2.1.trans ((Gate.ref_dbf m' c).trans ?_)
      rw [(hA c).1, (hA c).2.1, (hA c).2.2.1, (hA c).2.2.2], (h c).2.2⟩) (Cert.GateRefIdeal.Value.run m' g')⟩

end Cert.Proof

end
-- ==== Proof.RmsSpec.lean ====
/- The gradient of the root-mean-square norm, on extended reals, as the kernel sums it and as the chain rule writes it. -/
module

public import Idealize.ShloMosaic.Lib.Pointwise

@[expose] public section

noncomputable section

namespace Cert.Proof.Rms

open Idealize.ShloMosaic

/-- The width of a row. -/
abbrev N : EReal := Ideal.ofBits .f32 0x44800000#32
/-- The number added to the mean square. -/
abbrev eps : EReal := Ideal.ofBits .f32 0x358637BD#32
/-- Minus a half. -/
abbrev half : EReal := Ideal.ofBits .f32 0xBF000000#32

variable (x g d : Fin 1024 → EReal)

/-- A row's mean square and the number added to it. -/
def ms : EReal := Ideal.div (∑ j, x j * x j) N + eps

/-- The row's scale. -/
def inv : EReal := Ideal.rsqrt (ms x)

/-- The scaled row. -/
def hat (l : Fin 1024) : EReal := x l * inv x

/-- The gradient at the row, as the kernel forms it. -/
def grad (l : Fin 1024) : EReal := inv x * (d l * g l - hat x l * Ideal.div (∑ j, d j * g j * hat x j) N)

/-- What flows back to the sum of squares, by the chain rule through the scale. -/
def back : EReal := Ideal.div ((∑ j, x j * (d j * g j)) * (half * Ideal.div (inv x) (ms x))) N

/-- The gradient at the row by the chain rule: through the product, and through both factors of the square. -/
def chain (l : Fin 1024) : EReal := d l * g l * inv x + x l * back x g d + back x g d * x l

theorem N_eq : N = ((1024 : ℝ) : EReal) := by
  simp [Ideal.ofBits, Ideal.ieee]
  rw [← EReal.coe_mul]
  norm_num

theorem half_eq : half = ((-(1 / 2) : ℝ) : EReal) := by
  simp [Ideal.ofBits, Ideal.ieee]
  rw [← EReal.coe_mul]
  norm_num

/-- The number added to the mean square is a positive real. -/
theorem eps_eq : ∃ e : ℝ, 0 < e ∧ eps = (e : EReal) := by
  refine ⟨_, ?_, by simp [Ideal.ofBits, Ideal.ieee]; rfl⟩
  positivity

/-- A real factor that is not negative goes out of a sum. -/
theorem sum_mul (f : Fin 1024 → EReal) (r : ℝ) (hr : 0 ≤ r) : ∑ j, f j * (r : EReal) = (∑ j, f j) * (r : EReal) := by
  induction (Finset.univ : Finset (Fin 1024)) using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- A row's mean square and the number added to it is a positive real, or infinite. -/
theorem ms_pos : ms x = ⊤ ∨ ∃ v : ℝ, 0 < v ∧ ms x = (v : EReal) := by
  obtain ⟨e, he, hE⟩ := eps_eq
  have h0 : (0 : EReal) ≤ ∑ j, x j * x j := Finset.sum_nonneg fun j _ => by
    rcases le_total 0 (x j) with h | h
    · exact mul_nonneg h h
    · rw [← neg_mul_neg]
      exact mul_nonneg (EReal.neg_nonneg.2 h) (EReal.neg_nonneg.2 h)
  unfold ms
  rw [N_eq, Ideal.div_coe (by norm_num), hE]
  generalize ∑ j, x j * x j = s at h0
  induction s using EReal.rec with
  | bot => simp at h0
  | top => exact .inl (by rw [EReal.top_mul_coe_of_pos (by norm_num), EReal.top_add_coe])
  | coe a =>
    have : 0 ≤ a := EReal.coe_nonneg.1 h0
    exact .inr ⟨a * (1 / 1024) + e, by positivity, by rw [EReal.coe_add, EReal.coe_mul]⟩

/-- Both are the same, at infinities too. -/
theorem chain_eq (l : Fin 1024) : chain x g d l = grad x g d l := by
  rcases ms_pos x with h | ⟨v, hv, h⟩
  · have hi : inv x = 0 := by unfold inv; rw [h]; rfl
    have hb : back x g d = 0 := by
      unfold back
      rw [hi, h, show Ideal.div 0 ⊤ = 0 by simp [Ideal.div], mul_zero, mul_zero, N_eq, Ideal.div_coe (by norm_num), zero_mul]
    unfold chain grad
    rw [hi, hb, mul_zero, mul_zero, zero_mul, zero_mul, add_zero, add_zero]
  · have hr : (Real.sqrt v)⁻¹ * (1 / v) = (Real.sqrt v)⁻¹ * (Real.sqrt v)⁻¹ * (Real.sqrt v)⁻¹ := by
      have h2 : Real.sqrt v * Real.sqrt v = v := Real.mul_self_sqrt hv.le
      rw [mul_assoc, ← mul_inv, h2, one_div]
    have hi : inv x = (((Real.sqrt v)⁻¹ : ℝ) : EReal) := by
      unfold inv
      rw [h]
      exact (if_neg (not_lt.2 hv.le)).trans (if_neg hv.ne')
    have h0 : 0 ≤ (Real.sqrt v)⁻¹ := by positivity
    have hb : back x g d = -((∑ j, x j * (d j * g j)) * (((Real.sqrt v)⁻¹ * (Real.sqrt v)⁻¹ * (Real.sqrt v)⁻¹ * (1 / 2048) : ℝ) : EReal)) := by
      unfold back
      rw [hi, h, half_eq, Ideal.div_coe hv.ne', N_eq, Ideal.div_coe (by norm_num), ← EReal.coe_mul, hr, ← EReal.coe_mul, mul_assoc, ← EReal.coe_mul,
        ← mul_neg, ← EReal.coe_neg]
      congr 2
      ring
    unfold chain grad hat
    rw [hb, hi, N_eq, Ideal.div_coe (by norm_num)]
    generalize (Real.sqrt v)⁻¹ = r at h0
    have hs : ∑ j, d j * g j * (x j * (r : EReal)) = (∑ j, x j * (d j * g j)) * (r : EReal) := by
      rw [← sum_mul _ _ h0]
      exact Finset.sum_congr rfl fun j _ => by ac_rfl
    rw [hs, sub_eq_add_neg, EReal.left_distrib_of_nonneg_of_ne_top (EReal.coe_nonneg.2 h0) (EReal.coe_ne_top r), add_assoc]
    generalize ∑ j, x j * (d j * g j) = A
    refine congrArg₂ (· + ·) (mul_comm _ _) ?_
    have hk : (0 : EReal) ≤ ((r * r * r * (1 / 2048) : ℝ) : EReal) := EReal.coe_nonneg.2 (by positivity)
    have e1 : x l * -(A * ((r * r * r * (1 / 2048) : ℝ) : EReal)) = -(x l * A) * ((r * r * r * (1 / 2048) : ℝ) : EReal) := by
      rw [mul_neg, neg_mul, ← mul_assoc (x l)]
    rw [mul_comm _ (x l), e1, ← EReal.left_distrib_of_nonneg hk hk, ← EReal.coe_add, mul_neg, neg_mul]
    refine congrArg (-·) ?_
    rw [show x l * (r : EReal) * (A * (r : EReal) * ((1 / 1024 : ℝ) : EReal)) = x l * A * ((r : EReal) * (r : EReal) * ((1 / 1024 : ℝ) : EReal)) by ac_rfl,
      mul_left_comm, ← EReal.coe_mul, ← EReal.coe_mul, ← EReal.coe_mul]
    congr 2
    ring

end Cert.Proof.Rms

end
-- ==== Proof.RmsValue.lean ====
/- `l0_pre_norm_bwd` read at `Ideal`: kernel and reference both leave the norm's gradient, at the step's input and at the gain. -/
module

public import proofs.«01_k».proof.Proof.Gen.RmsIdeal.Value
public import proofs.«01_k».proof.Proof.Gen.RmsRefIdeal.Run
public import proofs.«01_k».proof.Proof.RmsSpec
public import proofs.«01_k».proof.Proof.WindowSum
public import Idealize.ShloMosaic.Lib.Pipeline.ReadBack
public import Idealize.ShloMosaic.Lib.Claim

@[expose] public section

set_option maxRecDepth 16384

noncomputable section

namespace Cert.Proof.Rms

open Idealize.ShloMosaic Idealize.ShloMosaic.TcCoe Idealize.SL.Sem
open Idealize.ShloMosaic.Pipeline (Dat)
open Cert.Proof.WindowSum

section Spec
open Cert.RmsIdeal

variable (X : S4096x1024.Idx → EReal) (G : S1x1024.Idx → EReal) (D R : S4096x1024.Idx → EReal)

/-- Row `k`. -/
abbrev row (A : S4096x1024.Idx → EReal) (k : Fin 4096) : Fin 1024 → EReal := fun j => A (ix2 k j)

/-- The gradient through the norm. -/
def core : S4096x1024.Idx → EReal := fun i => grad (row X (i 0)) (fun j => G (ix2 0 j)) (row D (i 0)) (i 1)

/-- The gradient at the step's input: through the norm, and past it. -/
def dx : S4096x1024.Idx → EReal := fun i => grad (row X (i 0)) (fun j => G (ix2 0 j)) (row D (i 0)) (i 1) + R i

/-- What row `n` adds to the gain's gradient at `l`. -/
def part (l : Fin 1024) (n : ℕ) : EReal := if h : n < 4096 then D (ix2 ⟨n, h⟩ l) * hat (row X ⟨n, h⟩) l else 0

/-- The gradient at the gain. -/
def dg : S1x1024.Idx → EReal := fun i => sumIco (part X D (i 1)) 0 4096

end Spec

section Kernel
open Cert.RmsIdeal Cert.RmsIdeal.Gen

/-- The blocks' places on the grid of 4 points. -/
theorem idx : ∀ t : Fin grid0.N, win0_0.index t = ![t.val, 0] ∧ win0_1.index t = ![0, 0]
    ∧ win0_2.index t = ![t.val, 0] ∧ win0_3.index t = ![t.val, 0] ∧ win0_4.index t = ![t.val, 0]
    ∧ win0_5.index t = ![0, 0] := by decide +kernel

variable (m : (ℓ : Loc nD τ sig) → Buf (Elt Ideal) ℓ) (c : Dev nD)

theorem pay3 (v0 : FVec Ideal S1024x1024 .f32) (v1 : FVec Ideal S1x1024 .f32) (v2 v28 : FVec Ideal S1024x1024 .f32) (r l : Fin 1024) :
    (k0_pay3 (F := Ideal) v0 v1 v2 v28 (ix2 r l) : EReal)
      = grad (fun j => v0 (ix2 r j)) (fun j => v1 (ix2 0 j)) (fun j => v2 (ix2 r j)) l + v28 (ix2 r l) := by
  pointwise [k0_pay3, k0_pay2, k0_pay1, grad, hat, inv, ms]

theorem pay5 (v0 v2 : FVec Ideal S1024x1024 .f32) (v34 : FVec Ideal S1x1024 .f32) (l : Fin 1024) :
    (k0_pay5 (F := Ideal) v0 v2 v34 (ix2 0 l) : EReal)
      = v34 (ix2 0 l) + ∑ r : Fin 1024, (v2 (ix2 r l) * hat (fun j => v0 (ix2 r j)) l : EReal) := by
  pointwise [k0_pay5, k0_pay2, k0_pay1, hat, inv, ms]

theorem fill (i : S1x1024.Idx) : (k0_pay4 (F := Ideal) i : EReal) = 0 := by
  idx_vars i
  pointwise [k0_pay4]

abbrev X := m ((c : Thread nD τ).loc main_arg0)
abbrev G := m ((c : Thread nD τ).loc main_arg1)
abbrev D := m ((c : Thread nD τ).loc main_arg2)
abbrev R := m ((c : Thread nD τ).loc main_arg3)

/-- The point's blocks. -/
abbrev bX (t : Fin cfg0.N) : FVec Ideal S1024x1024 .f32 := iblk m c 0 t
abbrev bG (t : Fin cfg0.N) : FVec Ideal S1x1024 .f32 := iblk m c 1 t
abbrev bD (t : Fin cfg0.N) : FVec Ideal S1024x1024 .f32 := iblk m c 2 t
abbrev bR (t : Fin cfg0.N) : FVec Ideal S1024x1024 .f32 := iblk m c 3 t

theorem lt4 (t : Fin cfg0.N) : t.val < 4 := lt_of_lt_of_eq t.isLt N_0

/-- Row `r` of a point's block in the array. -/
abbrev at_ (t : Fin cfg0.N) (r : Fin 1024) : Fin 4096 := ⟨1024 * t.val + r.val, by have := lt4 t; omega⟩

theorem blkX (t : Fin cfg0.N) (r l : Fin 1024) : bX m c t (ix2 r l) = X m c (ix2 (at_ t r) l) := by
  obtain ⟨e0, e1, e2, e3, e4, e5⟩ := idx t
  blk_ext [bX, iblk, V, e0]
theorem blkG (t : Fin cfg0.N) (l : Fin 1024) : bG m c t (ix2 0 l) = G m c (ix2 0 l) := by
  obtain ⟨e0, e1, e2, e3, e4, e5⟩ := idx t
  blk_ext [bG, iblk, V, e1]
theorem blkD (t : Fin cfg0.N) (r l : Fin 1024) : bD m c t (ix2 r l) = D m c (ix2 (at_ t r) l) := by
  obtain ⟨e0, e1, e2, e3, e4, e5⟩ := idx t
  blk_ext [bD, iblk, V, e2]
theorem blkR (t : Fin cfg0.N) (r l : Fin 1024) : bR m c t (ix2 r l) = R m c (ix2 (at_ t r) l) := by
  obtain ⟨e0, e1, e2, e3, e4, e5⟩ := idx t
  blk_ext [bR, iblk, V, e3]

/-- A point's block of the gradient at the input. -/
theorem pay3_eq (t : Fin cfg0.N) (r l : Fin 1024) :
    k0_pay3 (F := Ideal) (bX m c t) (bG m c t) (bD m c t) (bR m c t) (ix2 r l) = dx (X m c) (G m c) (D m c) (R m c) (ix2 (at_ t r) l) := by
  rw [pay3, blkR]
  simp only [blkX, blkG, blkD]
  rfl

/-- A point takes its rows in. -/
theorem pay5_eq (t : Fin cfg0.N) (v : FVec Ideal S1x1024 .f32) (l : Fin 1024)
    (hv : v (ix2 0 l) = sumIco (part (X m c) (D m c) l) 0 (1024 * t.val)) :
    k0_pay5 (F := Ideal) (bX m c t) (bD m c t) v (ix2 0 l) = sumIco (part (X m c) (D m c) l) 0 (1024 * t.val + 1024) := by
  rw [pay5, hv]
  refine Eq.trans ?_ (sumIco_add _ (b := 1024 * t.val) (by omega) (by omega))
  refine congrArg (_ + ·) ((@Finset.sum_congr _ EReal _ _ _ _ _ rfl fun k _ => ?_).trans (sum_fin _ _ _))
  have := lt4 t
  rw [part, dif_pos (show 1024 * t.val + k.val < 4096 by omega)]
  simp only [blkX, blkD]

/-- What the first point leaves. -/
theorem left_A (t : Fin cfg0.N) (h0 : t.val % 4 = 0) (l : Fin 1024) :
    (outsAt0 m c t.val t.isLt).2 (ix2 0 l) = sumIco (part (X m c) (D m c) l) 0 (1024 * t.val + 1024)
    ∧ ∀ r, (outsAt0 m c t.val t.isLt).1 (ix2 r l) = dx (X m c) (G m c) (D m c) (R m c) (ix2 (at_ t r) l) := by
  rw [outsAt0_A m c t h0]
  dsimp only
  unfold out0_A_4 out0_A_5
  frame_out
  refine ⟨pay5_eq m c t _ l ((fill _).trans ?_), fun r => pay3_eq m c t r l⟩
  have := lt4 t
  rw [sumIco, Finset.Ico_eq_empty (by omega), Finset.sum_empty]

/-- What a later point leaves, on top of what the point before has left. -/
theorem left_B (t : Fin cfg0.N) (h0 : ¬t.val % 4 = 0) (hp : t.val - 1 < cfg0.N) (l : Fin 1024)
    (hs : (outsAt0 m c (t.val - 1) hp).2 (ix2 0 l) = sumIco (part (X m c) (D m c) l) 0 (1024 * t.val)) :
    (outsAt0 m c t.val t.isLt).2 (ix2 0 l) = sumIco (part (X m c) (D m c) l) 0 (1024 * t.val + 1024)
    ∧ ∀ r, (outsAt0 m c t.val t.isLt).1 (ix2 r l) = dx (X m c) (G m c) (D m c) (R m c) (ix2 (at_ t r) l) := by
  rw [outsAt0_B m c t h0]
  dsimp only
  unfold out0_B_4 out0_B_5
  frame_out
  exact ⟨pay5_eq m c t _ l hs, fun r => pay3_eq m c t r l⟩

/-- What every point leaves. -/
theorem left (n : ℕ) : ∀ (t : Fin cfg0.N), t.val = n → ∀ l : Fin 1024,
    (outsAt0 m c t.val t.isLt).2 (ix2 0 l) = sumIco (part (X m c) (D m c) l) 0 (1024 * t.val + 1024)
    ∧ ∀ r, (outsAt0 m c t.val t.isLt).1 (ix2 r l) = dx (X m c) (G m c) (D m c) (R m c) (ix2 (at_ t r) l) := by
  induction n with
  | zero => exact fun t ht l => left_A m c t (by omega) l
  | succ n ih =>
    intro t ht l
    have h4 := lt4 t
    have hp : t.val - 1 < cfg0.N := (Nat.sub_le _ _).trans_lt t.isLt
    refine left_B m c t (by omega) hp l ?_
    rw [show 1024 * t.val = 1024 * (⟨t.val - 1, hp⟩ : Fin cfg0.N).val + 1024 by dsimp only; omega]
    exact (ih ⟨t.val - 1, hp⟩ (by dsimp only; omega) l).1

/-- The kernel's gradient at the step's input. -/
theorem kernel_dx : (dats m 0 c).arrAt 4 cfg0.N = dx (X m c) (G m c) (D m c) (R m c) := by
  refine (dats m 0 c).arrAt_eq_of_covers 4 _ (by decide +kernel) fun t hf y => ?_
  blk_simp
  rw [after0_4]
  idx_vars y
  obtain ⟨e0, e1, e2, e3, e4, e5⟩ := idx t
  refine ((left m c t.val t rfl y1).2 y0).trans (congrArg (dx _ _ _ _) ?_)
  blk_ext [e4]

/-- The kernel's gradient at the gain. -/
theorem kernel_dg : (dats m 0 c).arrAt 5 cfg0.N = dg (X m c) (D m c) := by
  refine (dats m 0 c).arrAt_eq_of_covers 5 _ (by decide +kernel) fun t hf y => ?_
  have h3 : t.val = 3 := (by decide +kernel : ∀ t : Fin grid0.N, win0_5.flush t = true → t.val = 3) t hf
  blk_simp
  rw [after0_5]
  idx_vars y
  obtain ⟨e0, e1, e2, e3, e4, e5⟩ := idx t
  obtain rfl : y0 = 0 := Subsingleton.elim _ _
  unfold dg
  refine (left m c t.val t rfl y1).1.trans ?_
  rw [show 1024 * t.val + 1024 = 4096 by omega]
  refine congrArg (fun l => sumIco (part _ _ l) 0 4096) (Fin.ext ?_)
  blk_simp [e5]

end Kernel

section Reference
open Cert.RmsRefIdeal Cert.RmsRefIdeal.Gen

variable (X : FVec Ideal S4096x1024 .f32) (G : FVec Ideal S1x1024 .f32) (D R : FVec Ideal S4096x1024 .f32)

/-- The mean squares' column and the scales', as the reference writes them. -/
def col : FVec Ideal S4096x1 .f32 := addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

theorem col_eq (k : Fin 4096) (z : Fin 1) : (col X (ix2 k z) : EReal) = ms (row X k) := by
  pointwise [col, ms]

/-- The column that flows back to the sums of squares, as the reference writes it. -/
def bcol : FVec Ideal S4096 .f32 := Host.reduceAdd (Host.divf (mulf (shapeCast _ (Host.reduceAdd (mulf X (mulf D (broadcastInDim S4096x1024 ![0, 1] bcast_S1x1024_S4096x1024_0_1 G))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (col X)) (col X)))) (broadcastInDim S4096x1 ![] bcast_S_S4096x1 (constant S_ .f32 0x44800000#32))) (constant S_ .f32 0x00000000#32) reducesTo_S4096x1_S4096_d1 h_S_

theorem bcol_eq (k : Fin 4096) : (bcol X G D (ix1 k) : EReal) = back (row X k) (fun j => G (ix2 0 j)) (row D k) := by
  pointwise [bcol, back, inv, col_eq]
  exact Fin.sum_univ_one (M := EReal) _

/-- The reference's gradient through the norm. -/
def rcore : FVec Ideal S4096x1024 .f32 := addf (addf (mulf (mulf D (broadcastInDim S4096x1024 ![0, 1] bcast_S1x1024_S4096x1024_0_1 G)) (broadcastInDim S4096x1024 ![0, 1] bcast_S4096x1_S4096x1024_0_1 (Host.rsqrt (col X)))) (mulf X (broadcastInDim S4096x1024 ![0] bcast_S4096_S4096x1024_0 (bcol X G D)))) (mulf (broadcastInDim S4096x1024 ![0] bcast_S4096_S4096x1024_0 (bcol X G D)) X)

theorem rcore_eq : rcore X G D = core X G D := by
  funext i
  idx_vars i
  pointwise [rcore, core, col_eq, bcol_eq]
  exact chain_eq (row X i0) (fun j => G (ix2 0 j)) (row D i0) i1

/-- The reference's gradient at the step's input. -/
theorem rdx_eq : addf (rcore X G D) R = dx X G D R := by
  rw [rcore_eq]
  rfl

/-- The reference's gradient at the gain. -/
def rdg : FVec Ideal S1x1024 .f32 := shapeCast _ (Host.reduceAdd (mulf (mulf X (broadcastInDim S4096x1024 ![0, 1] bcast_S4096x1_S4096x1024_0_1 (Host.rsqrt (col X)))) D) (constant S_ .f32 0x00000000#32) reducesTo_S4096x1024_S1024_d0 h_S_) shapeCasts_S1024_S1x1024

theorem rdg_eq : rdg X D = dg X D := by
  funext i
  idx_vars i
  pointwise [rdg, dg, col_eq]
  refine (@Finset.sum_congr _ EReal _ _ _ _ _ rfl fun k _ => ?_).trans ((sum_fin (part X D i1) 0 4096).trans (by rw [zero_add]))
  rw [zero_add, part, dif_pos k.isLt, mul_comm]
  rfl

end Reference

end Cert.Proof.Rms

end
-- ==== Proof.RmsClaims.lean ====
/- The value claim of the first norm's backward call. -/
module

public import proofs.«01_k».proof.Defs
public import proofs.«01_k».proof.Proof.RmsValue

@[expose] public section

set_option maxRecDepth 16384

noncomputable section

namespace Cert.Proof

open Idealize.ShloMosaic Idealize.ShloMosaic.TcCoe Idealize.SL.Sem

/-- The first norm's backward call. -/
theorem algebraic_Rms : Cert.algebraic_RmsIdeal_RmsRefIdeal (hRmsIdeal := Cert.RmsIdeal.Gen.facts) (hRmsRefIdeal := Cert.RmsRefIdeal.Gen.facts) :=
  fun m g m' g' _ hA => ⟨fun c => Rms.dx (m ((c : Thread Cert.RmsIdeal.nD Cert.RmsIdeal.τ).loc Cert.RmsIdeal.main_arg0)) (m ((c : Thread Cert.RmsIdeal.nD Cert.RmsIdeal.τ).loc Cert.RmsIdeal.main_arg1)) (m ((c : Thread Cert.RmsIdeal.nD Cert.RmsIdeal.τ).loc Cert.RmsIdeal.main_arg2)) (m ((c : Thread Cert.RmsIdeal.nD Cert.RmsIdeal.τ).loc Cert.RmsIdeal.main_arg3)),
    fun c => Rms.dg (m ((c : Thread Cert.RmsIdeal.nD Cert.RmsIdeal.τ).loc Cert.RmsIdeal.main_arg0)) (m ((c : Thread Cert.RmsIdeal.nD Cert.RmsIdeal.τ).loc Cert.RmsIdeal.main_arg2)),
    (θ_run _ _ _).mono (fun _ h c => ⟨(h c).1.trans (Rms.kernel_dx m c), (h c).2.1.trans (Rms.kernel_dg m c), (h c).2.2⟩)
      (Cert.RmsIdeal.Value.run_blocks m g),
    (θ_run _ _ _).mono (fun _ h c => ⟨by
      refine (h c).1.trans ((Rms.rdx_eq _ _ _ _).trans ?_)
      rw [(hA c).1, (hA c).2.1, (hA c).2.2.1, (hA c).2.2.2], by
      refine (h c).2.1.trans ((Rms.rdg_eq _ _).trans ?_)
      rw [(hA c).1, (hA c).2.2.1], (h c).2.2⟩) (Cert.RmsRefIdeal.Value.run m' g')⟩

end Cert.Proof

end
-- ==== Proof.NormResValue.lean ====
/- `norm_res_bwd` read at `Ideal`: back through a norm, past it, and through the norm before; both gains' gradients. -/
module

public import proofs.«01_k».proof.Proof.Gen.NormResIdeal.Value
public import proofs.«01_k».proof.Proof.Gen.NormResRefIdeal.Run
public import proofs.«01_k».proof.Proof.RmsValue

@[expose] public section

set_option maxRecDepth 16384

noncomputable section

namespace Cert.Proof.NormRes

open Idealize.ShloMosaic Idealize.ShloMosaic.TcCoe Idealize.SL.Sem
open Idealize.ShloMosaic.Pipeline (Dat)
open Cert.Proof.WindowSum
open Cert.Proof.Rms (row grad hat ms core dx dg part rcore rcore_eq rdx_eq rdg rdg_eq)

section Kernel
open Cert.NormResIdeal Cert.NormResIdeal.Gen

/-- The blocks' places on the grid of 8 points. -/
theorem idx : ∀ t : Fin grid0.N, win0_0.index t = ![t.val, 0] ∧ win0_1.index t = ![0, 0]
    ∧ win0_2.index t = ![t.val, 0] ∧ win0_3.index t = ![t.val, 0] ∧ win0_4.index t = ![t.val, 0]
    ∧ win0_5.index t = ![0, 0] ∧ win0_6.index t = ![t.val, 0] ∧ win0_7.index t = ![t.val, 0]
    ∧ win0_8.index t = ![0, 0] ∧ win0_9.index t = ![0, 0] := by decide +kernel

variable (m : (ℓ : Loc nD τ sig) → Buf (Elt Ideal) ℓ) (c : Dev nD)

/-- 1024, as the kernel's words carry it. -/
abbrev n1024 : Ideal .f32 := Scalar.ofBits (F := Ideal) .f32 0x44800000#32

theorem pay11 (v0 : FVec Ideal S512x1024 .f32) (v1 : FVec Ideal S1x1024 .f32) (v2 v28 : FVec Ideal S512x1024 .f32) (r : Fin 512) (l : Fin 1024) :
    (k0_pay11 (F := Ideal) v0 v1 v2 v28 (ix2 r l) : EReal)
      = grad (fun j => v0 (ix2 r j)) (fun j => v1 (ix2 0 j)) (fun j => v2 (ix2 r j)) l + v28 (ix2 r l) := by
  pointwise [k0_pay11, k0_pay9, k0_pay8, grad, hat, Rms.inv, ms]

theorem pay3 (v29 v31 : FVec Ideal S512x1024 .f32) (v32 : FVec Ideal S1x1024 .f32) (r : Fin 512) (l : Fin 1024) :
    (k0_pay3 (F := Ideal) v29 v31 v32 (k0_pay12 v31) n1024 (ix2 r l) : EReal)
      = grad (fun j => v31 (ix2 r j)) (fun j => v32 (ix2 0 j)) (fun j => v29 (ix2 r j)) l := by
  pointwise [k0_pay3, k0_pay2, k0_pay1, k0_pay12, grad, hat, Rms.inv, ms]

theorem pay6 (v0 v2 : FVec Ideal S512x1024 .f32) (v63 : FVec Ideal S1x1024 .f32) (l : Fin 1024) :
    (k0_pay6 (F := Ideal) (k0_pay10 v0 v2) v63 (ix2 0 l) : EReal)
      = v63 (ix2 0 l) + ∑ r : Fin 512, (v2 (ix2 r l) * hat (fun j => v0 (ix2 r j)) l : EReal) := by
  pointwise [k0_pay6, k0_pay10, k0_pay9, k0_pay8, hat, Rms.inv, ms]

theorem pay7 (v29 v31 : FVec Ideal S512x1024 .f32) (v67 : FVec Ideal S1x1024 .f32) (l : Fin 1024) :
    (k0_pay7 (F := Ideal) v29 v31 (k0_pay12 v31) n1024 v67 (ix2 0 l) : EReal)
      = v67 (ix2 0 l) + ∑ r : Fin 512, (v29 (ix2 r l) * hat (fun j => v31 (ix2 r j)) l : EReal) := by
  pointwise [k0_pay7, k0_pay2, k0_pay1, k0_pay12, hat, Rms.inv, ms]

theorem fill4 (i : S1x1024.Idx) : (k0_pay4 (F := Ideal) i : EReal) = 0 := by
  idx_vars i
  pointwise [k0_pay4]

theorem fill5 (i : S1x1024.Idx) : (k0_pay5 (F := Ideal) i : EReal) = 0 := by
  idx_vars i
  pointwise [k0_pay5]

abbrev X := m ((c : Thread nD τ).loc main_arg0)
abbrev G := m ((c : Thread nD τ).loc main_arg1)
abbrev D := m ((c : Thread nD τ).loc main_arg2)
abbrev R := m ((c : Thread nD τ).loc main_arg3)
abbrev Y := m ((c : Thread nD τ).loc main_arg4)
abbrev H := m ((c : Thread nD τ).loc main_arg5)

/-- The point's blocks. -/
abbrev bX (t : Fin cfg0.N) : FVec Ideal S512x1024 .f32 := iblk m c 0 t
abbrev bG (t : Fin cfg0.N) : FVec Ideal S1x1024 .f32 := iblk m c 1 t
abbrev bD (t : Fin cfg0.N) : FVec Ideal S512x1024 .f32 := iblk m c 2 t
abbrev bR (t : Fin cfg0.N) : FVec Ideal S512x1024 .f32 := iblk m c 3 t
abbrev bY (t : Fin cfg0.N) : FVec Ideal S512x1024 .f32 := iblk m c 4 t
abbrev bH (t : Fin cfg0.N) : FVec Ideal S1x1024 .f32 := iblk m c 5 t

/-- The gradient past the first norm, whole and in the point's block. -/
abbrev E : S4096x1024.Idx → EReal := dx (X m c) (G m c) (D m c) (R m c)
abbrev bE (t : Fin cfg0.N) : FVec Ideal S512x1024 .f32 := k0_pay11 (bX m c t) (bG m c t) (bD m c t) (bR m c t)

theorem lt8 (t : Fin cfg0.N) : t.val < 8 := lt_of_lt_of_eq t.isLt N_0

/-- Row `r` of a point's block in the array. -/
abbrev at_ (t : Fin cfg0.N) (r : Fin 512) : Fin 4096 := ⟨512 * t.val + r.val, by have := lt8 t; omega⟩

theorem blkX (t : Fin cfg0.N) (r : Fin 512) (l : Fin 1024) : bX m c t (ix2 r l) = X m c (ix2 (at_ t r) l) := by
  obtain ⟨e0, e1, e2, e3, e4, e5, e6, e7, e8, e9⟩ := idx t
  blk_ext [bX, iblk, V, e0]
theorem blkG (t : Fin cfg0.N) (l : Fin 1024) : bG m c t (ix2 0 l) = G m c (ix2 0 l) := by
  obtain ⟨e0, e1, e2, e3, e4, e5, e6, e7, e8, e9⟩ := idx t
  blk_ext [bG, iblk, V, e1]
theorem blkD (t : Fin cfg0.N) (r : Fin 512) (l : Fin 1024) : bD m c t (ix2 r l) = D m c (ix2 (at_ t r) l) := by
  obtain ⟨e0, e1, e2, e3, e4, e5, e6, e7, e8, e9⟩ := idx t
  blk_ext [bD, iblk, V, e2]
theorem blkR (t : Fin cfg0.N) (r : Fin 512) (l : Fin 1024) : bR m c t (ix2 r l) = R m c (ix2 (at_ t r) l) := by
  obtain ⟨e0, e1, e2, e3, e4, e5, e6, e7, e8, e9⟩ := idx t
  blk_ext [bR, iblk, V, e3]
theorem blkY (t : Fin cfg0.N) (r : Fin 512) (l : Fin 1024) : bY m c t (ix2 r l) = Y m c (ix2 (at_ t r) l) := by
  obtain ⟨e0, e1, e2, e3, e4, e5, e6, e7, e8, e9⟩ := idx t
  blk_ext [bY, iblk, V, e4]
theorem blkH (t : Fin cfg0.N) (l : Fin 1024) : bH m c t (ix2 0 l) = H m c (ix2 0 l) := by
  obtain ⟨e0, e1, e2, e3, e4, e5, e6, e7, e8, e9⟩ := idx t
  blk_ext [bH, iblk, V, e5]

/-- A point's block of the gradient past the first norm. -/
theorem blkE (t : Fin cfg0.N) (r : Fin 512) (l : Fin 1024) : bE m c t (ix2 r l) = E m c (ix2 (at_ t r) l) := by
  rw [bE, pay11, blkR]
  simp only [blkX, blkG, blkD]
  rfl

/-- A point's block of the gradient through both norms. -/
theorem pay3_eq (t : Fin cfg0.N) (r : Fin 512) (l : Fin 1024) :
    k0_pay3 (F := Ideal) (bE m c t) (bY m c t) (bH m c t) (k0_pay12 (bY m c t)) n1024 (ix2 r l) = core (Y m c) (H m c) (E m c) (ix2 (at_ t r) l) := by
  rw [pay3]
  simp only [blkE, blkY, blkH]
  rfl

/-- A point takes its rows in. -/
theorem pay6_eq (t : Fin cfg0.N) (v : FVec Ideal S1x1024 .f32) (l : Fin 1024)
    (hv : v (ix2 0 l) = sumIco (part (X m c) (D m c) l) 0 (512 * t.val)) :
    k0_pay6 (F := Ideal) (k0_pay10 (bX m c t) (bD m c t)) v (ix2 0 l) = sumIco (part (X m c) (D m c) l) 0 (512 * t.val + 512) := by
  rw [pay6, hv]
  refine Eq.trans ?_ (sumIco_add _ (b := 512 * t.val) (by omega) (by omega))
  refine congrArg (_ + ·) ((@Finset.sum_congr _ EReal _ _ _ _ _ rfl fun k _ => ?_).trans (sum_fin _ _ _))
  have := lt8 t
  rw [part, dif_pos (show 512 * t.val + k.val < 4096 by omega)]
  simp only [blkX, blkD]

theorem pay7_eq (t : Fin cfg0.N) (v : FVec Ideal S1x1024 .f32) (l : Fin 1024)
    (hv : v (ix2 0 l) = sumIco (part (Y m c) (E m c) l) 0 (512 * t.val)) :
    k0_pay7 (F := Ideal) (bE m c t) (bY m c t) (k0_pay12 (bY m c t)) n1024 v (ix2 0 l) = sumIco (part (Y m c) (E m c) l) 0 (512 * t.val + 512) := by
  rw [pay7, hv]
  refine Eq.trans ?_ (sumIco_add _ (b := 512 * t.val) (by omega) (by omega))
  refine congrArg (_ + ·) ((@Finset.sum_congr _ EReal _ _ _ _ _ rfl fun k _ => ?_).trans (sum_fin _ _ _))
  have := lt8 t
  rw [part, dif_pos (show 512 * t.val + k.val < 4096 by omega)]
  simp only [blkE, blkY]

/-- What point `n` leaves: both gains' sums over the rows so far, and the rows' two gradients. -/
def Left (t : Fin cfg0.N) (l : Fin 1024) : Prop :=
  (outsAt0 m c t.val t.isLt).2.2.1 (ix2 0 l) = sumIco (part (X m c) (D m c) l) 0 (512 * t.val + 512)
    ∧ (outsAt0 m c t.val t.isLt).2.2.2 (ix2 0 l) = sumIco (part (Y m c) (E m c) l) 0 (512 * t.val + 512)
    ∧ ∀ r, (outsAt0 m c t.val t.isLt).1 (ix2 r l) = E m c (ix2 (at_ t r) l)
      ∧ (outsAt0 m c t.val t.isLt).2.1 (ix2 r l) = core (Y m c) (H m c) (E m c) (ix2 (at_ t r) l)

/-- What the first point leaves. -/
theorem left_A (t : Fin cfg0.N) (h0 : t.val % 8 = 0) (l : Fin 1024) : Left m c t l := by
  unfold Left
  rw [outsAt0_A m c t h0]
  dsimp only
  unfold out0_A_6 out0_A_7 out0_A_8 out0_A_9
  frame_out
  have := lt8 t
  refine ⟨pay6_eq m c t _ l ((fill4 _).trans ?_), pay7_eq m c t _ l ((fill5 _).trans ?_), fun r => ⟨blkE m c t r l, pay3_eq m c t r l⟩⟩ <;>
    rw [sumIco, Finset.Ico_eq_empty (by omega), Finset.sum_empty]

/-- What a later point leaves, on top of what the point before has left. -/
theorem left_B (t : Fin cfg0.N) (h0 : ¬t.val % 8 = 0) (hp : t.val - 1 < cfg0.N) (l : Fin 1024)
    (h : Left m c ⟨t.val - 1, hp⟩ l) : Left m c t l := by
  have e : 512 * (⟨t.val - 1, hp⟩ : Fin cfg0.N).val + 512 = 512 * t.val := by dsimp only; omega
  unfold Left at h
  rw [e] at h
  unfold Left
  rw [outsAt0_B m c t h0]
  dsimp only
  unfold out0_B_6 out0_B_7 out0_B_8 out0_B_9
  frame_out
  exact ⟨pay6_eq m c t _ l h.1, pay7_eq m c t _ l h.2.1, fun r => ⟨blkE m c t r l, pay3_eq m c t r l⟩⟩

/-- What every point leaves. -/
theorem left (n : ℕ) : ∀ (t : Fin cfg0.N), t.val = n → ∀ l : Fin 1024, Left m c t l := by
  induction n with
  | zero => exact fun t ht l => left_A m c t (by omega) l
  | succ n ih =>
    intro t ht l
    have h8 := lt8 t
    have hp : t.val - 1 < cfg0.N := (Nat.sub_le _ _).trans_lt t.isLt
    exact left_B m c t (by omega) hp l (ih ⟨t.val - 1, hp⟩ (by dsimp only; omega) l)

/-- The kernel's gradient past the first norm. -/
theorem kernel_dx : (dats m 0 c).arrAt 6 cfg0.N = E m c := by
  refine (dats m 0 c).arrAt_eq_of_covers 6 _ (by decide +kernel) fun t hf y => ?_
  blk_simp
  rw [after0_6]
  idx_vars y
  obtain ⟨e0, e1, e2, e3, e4, e5, e6, e7, e8, e9⟩ := idx t
  refine ((left m c t.val t rfl y1).2.2 y0).1.trans (congrArg (dx _ _ _ _) ?_)
  blk_ext [e6]

/-- The kernel's gradient through both norms. -/
theorem kernel_dy : (dats m 0 c).arrAt 7 cfg0.N = core (Y m c) (H m c) (E m c) := by
  refine (dats m 0 c).arrAt_eq_of_covers 7 _ (by decide +kernel) fun t hf y => ?_
  blk_simp
  rw [after0_7]
  idx_vars y
  obtain ⟨e0, e1, e2, e3, e4, e5, e6, e7, e8, e9⟩ := idx t
  refine ((left m c t.val t rfl y1).2.2 y0).2.trans (congrArg (core _ _ _) ?_)
  blk_ext [e7]

/-- The kernel's gradient at the first norm's gain. -/
theorem kernel_dgp : (dats m 0 c).arrAt 8 cfg0.N = dg (X m c) (D m c) := by
  refine (dats m 0 c).arrAt_eq_of_covers 8 _ (by decide +kernel) fun t hf y => ?_
  have h7 : t.val = 7 := (by decide +kernel : ∀ t : Fin grid0.N, win0_8.flush t = true → t.val = 7) t hf
  blk_simp
  rw [after0_8]
  idx_vars y
  obtain ⟨e0, e1, e2, e3, e4, e5, e6, e7, e8, e9⟩ := idx t
  obtain rfl : y0 = 0 := Subsingleton.elim _ _
  unfold dg
  refine (left m c t.val t rfl y1).1.trans ?_
  rw [show 512 * t.val + 512 = 4096 by omega]
  refine congrArg (fun l => sumIco (part _ _ l) 0 4096) (Fin.ext ?_)
  blk_simp [e8]

/-- The kernel's gradient at the second norm's gain. -/
theorem kernel_dgy : (dats m 0 c).arrAt 9 cfg0.N = dg (Y m c) (E m c) := by
  refine (dats m 0 c).arrAt_eq_of_covers 9 _ (by decide +kernel) fun t hf y => ?_
  have h7 : t.val = 7 := (by decide +kernel : ∀ t : Fin grid0.N, win0_9.flush t = true → t.val = 7) t hf
  blk_simp
  rw [after0_9]
  idx_vars y
  obtain ⟨e0, e1, e2, e3, e4, e5, e6, e7, e8, e9⟩ := idx t
  obtain rfl : y0 = 0 := Subsingleton.elim _ _
  unfold dg
  refine (left m c t.val t rfl y1).2.1.trans ?_
  rw [show 512 * t.val + 512 = 4096 by omega]
  refine congrArg (fun l => sumIco (part _ _ l) 0 4096) (Fin.ext ?_)
  blk_simp [e9]

end Kernel

section Reference
open Cert.NormResRefIdeal Cert.NormResRefIdeal.Gen

variable (m : (ℓ : Loc nD τ sig) → Buf (Elt Ideal) ℓ) (c : Dev nD)

/-- The reference's gradient past the first norm. -/
abbrev RE : S4096x1024.Idx → EReal := dx (m ((c : Thread nD τ).loc main_arg0)) (m ((c : Thread nD τ).loc main_arg1)) (m ((c : Thread nD τ).loc main_arg2)) (m ((c : Thread nD τ).loc main_arg3))

/-- The reference's gradient through both norms. -/
theorem ref_dy : Cert.NormResRefIdeal.Value.res_main_v69 m c = core (m ((c : Thread nD τ).loc main_arg4)) (m ((c : Thread nD τ).loc main_arg5)) (RE m c) := by
  refine Eq.trans (b := rcore (m ((c : Thread nD τ).loc main_arg4)) (m ((c : Thread nD τ).loc main_arg5)) (addf (rcore (m ((c : Thread nD τ).loc main_arg0)) (m ((c : Thread nD τ).loc main_arg1)) (m ((c : Thread nD τ).loc main_arg2))) (m ((c : Thread nD τ).loc main_arg3)))) rfl ?_
  rw [rdx_eq, rcore_eq]

/-- The reference's gradient at the second norm's gain. -/
theorem ref_dgy : Cert.NormResRefIdeal.Value.res_main_v52 m c = dg (m ((c : Thread nD τ).loc main_arg4)) (RE m c) := by
  refine Eq.trans (b := rdg (m ((c : Thread nD τ).loc main_arg4)) (addf (rcore (m ((c : Thread nD τ).loc main_arg0)) (m ((c : Thread nD τ).loc main_arg1)) (m ((c : Thread nD τ).loc main_arg2))) (m ((c : Thread nD τ).loc main_arg3)))) rfl ?_
  rw [rdx_eq, rdg_eq]

end Reference

end Cert.Proof.NormRes

end
-- ==== Proof.PostBwdValue.lean ====
/- `mlp1_post_norm_bwd` read at `Ideal`: the last norm's gradient, at what it normalises and at the gain. -/
module

public import proofs.«01_k».proof.Proof.Gen.PostBwdIdeal.Value
public import proofs.«01_k».proof.Proof.RmsValue

@[expose] public section

set_option maxRecDepth 16384

noncomputable section

namespace Cert.Proof.PostBwd

open Idealize.ShloMosaic Idealize.ShloMosaic.TcCoe Idealize.SL.Sem
open Idealize.ShloMosaic.Pipeline (Dat)
open Cert.Proof.WindowSum
open Cert.Proof.Rms (row grad hat ms core dg part)

open Cert.PostBwdIdeal Cert.PostBwdIdeal.Gen

/-- The blocks' places on the grid of 4 points. -/
theorem idx : ∀ t : Fin grid0.N, win0_0.index t = ![t.val, 0] ∧ win0_1.index t = ![0, 0]
    ∧ win0_2.index t = ![t.val, 0] ∧ win0_3.index t = ![t.val, 0] ∧ win0_4.index t = ![0, 0] := by decide +kernel

variable (m : (ℓ : Loc nD τ sig) → Buf (Elt Ideal) ℓ) (c : Dev nD)

theorem pay3 (v0 : FVec Ideal S1024x1024 .f32) (v1 : FVec Ideal S1x1024 .f32) (v2 : FVec Ideal S1024x1024 .f32) (r l : Fin 1024) :
    (k0_pay3 (F := Ideal) v0 v1 v2 (ix2 r l) : EReal)
      = grad (fun j => v0 (ix2 r j)) (fun j => v1 (ix2 0 j)) (fun j => v2 (ix2 r j)) l := by
  pointwise [k0_pay3, k0_pay2, k0_pay1, grad, hat, Rms.inv, ms]

theorem pay5 (v0 v2 : FVec Ideal S1024x1024 .f32) (v34 : FVec Ideal S1x1024 .f32) (l : Fin 1024) :
    (k0_pay5 (F := Ideal) v0 v2 v34 (ix2 0 l) : EReal)
      = v34 (ix2 0 l) + ∑ r : Fin 1024, (v2 (ix2 r l) * hat (fun j => v0 (ix2 r j)) l : EReal) := by
  pointwise [k0_pay5, k0_pay2, k0_pay1, hat, Rms.inv, ms]

theorem fill (i : S1x1024.Idx) : (k0_pay4 (F := Ideal) i : EReal) = 0 := by
  idx_vars i
  pointwise [k0_pay4]

abbrev X := m ((c : Thread nD τ).loc main_arg0)
abbrev G := m ((c : Thread nD τ).loc main_arg1)
abbrev D := m ((c : Thread nD τ).loc main_arg2)

/-- The point's blocks. -/
abbrev bX (t : Fin cfg0.N) : FVec Ideal S1024x1024 .f32 := iblk m c 0 t
abbrev bG (t : Fin cfg0.N) : FVec Ideal S1x1024 .f32 := iblk m c 1 t
abbrev bD (t : Fin cfg0.N) : FVec Ideal S1024x1024 .f32 := iblk m c 2 t

theorem lt4 (t : Fin cfg0.N) : t.val < 4 := lt_of_lt_of_eq t.isLt N_0

/-- Row `r` of a point's block in the array. -/
abbrev at_ (t : Fin cfg0.N) (r : Fin 1024) : Fin 4096 := ⟨1024 * t.val + r.val, by have := lt4 t; omega⟩

theorem blkX (t : Fin cfg0.N) (r l : Fin 1024) : bX m c t (ix2 r l) = X m c (ix2 (at_ t r) l) := by
  obtain ⟨e0, e1, e2, e3, e4⟩ := idx t
  blk_ext [bX, iblk, V, e0]
theorem blkG (t : Fin cfg0.N) (l : Fin 1024) : bG m c t (ix2 0 l) = G m c (ix2 0 l) := by
  obtain ⟨e0, e1, e2, e3, e4⟩ := idx t
  blk_ext [bG, iblk, V, e1]
theorem blkD (t : Fin cfg0.N) (r l : Fin 1024) : bD m c t (ix2 r l) = D m c (ix2 (at_ t r) l) := by
  obtain ⟨e0, e1, e2, e3, e4⟩ := idx t
  blk_ext [bD, iblk, V, e2]

/-- A point's block of the gradient at what is normalised. -/
theorem pay3_eq (t : Fin cfg0.N) (r l : Fin 1024) :
    k0_pay3 (F := Ideal) (bX m c t) (bG m c t) (bD m c t) (ix2 r l) = core (X m c) (G m c) (D m c) (ix2 (at_ t r) l) := by
  rw [pay3]
  simp only [blkX, blkG, blkD]
  rfl

/-- A point takes its rows in. -/
theorem pay5_eq (t : Fin cfg0.N) (v : FVec Ideal S1x1024 .f32) (l : Fin 1024)
    (hv : v (ix2 0 l) = sumIco (part (X m c) (D m c) l) 0 (1024 * t.val)) :
    k0_pay5 (F := Ideal) (bX m c t) (bD m c t) v (ix2 0 l) = sumIco (part (X m c) (D m c) l) 0 (1024 * t.val + 1024) := by
  rw [pay5, hv]
  refine Eq.trans ?_ (sumIco_add _ (b := 1024 * t.val) (by omega) (by omega))
  refine congrArg (_ + ·) ((@Finset.sum_congr _ EReal _ _ _ _ _ rfl fun k _ => ?_).trans (sum_fin _ _ _))
  have := lt4 t
  rw [part, dif_pos (show 1024 * t.val + k.val < 4096 by omega)]
  simp only [blkX, blkD]

/-- What the first point leaves. -/
theorem left_A (t : Fin cfg0.N) (h0 : t.val % 4 = 0) (l : Fin 1024) :
    (outsAt0 m c t.val t.isLt).2 (ix2 0 l) = sumIco (part (X m c) (D m c) l) 0 (1024 * t.val + 1024)
    ∧ ∀ r, (outsAt0 m c t.val t.isLt).1 (ix2 r l) = core (X m c) (G m c) (D m c) (ix2 (at_ t r) l) := by
  rw [outsAt0_A m c t h0]
  dsimp only
  unfold out0_A_3 out0_A_4
  frame_out
  refine ⟨pay5_eq m c t _ l ((fill _).trans ?_), fun r => pay3_eq m c t r l⟩
  have := lt4 t
  rw [sumIco, Finset.Ico_eq_empty (by omega), Finset.sum_empty]

/-- What a later point leaves, on top of what the point before has left. -/
theorem left_B (t : Fin cfg0.N) (h0 : ¬t.val % 4 = 0) (hp : t.val - 1 < cfg0.N) (l : Fin 1024)
    (hs : (outsAt0 m c (t.val - 1) hp).2 (ix2 0 l) = sumIco (part (X m c) (D m c) l) 0 (1024 * t.val)) :
    (outsAt0 m c t.val t.isLt).2 (ix2 0 l) = sumIco (part (X m c) (D m c) l) 0 (1024 * t.val + 1024)
    ∧ ∀ r, (outsAt0 m c t.val t.isLt).1 (ix2 r l) = core (X m c) (G m c) (D m c) (ix2 (at_ t r) l) := by
  rw [outsAt0_B m c t h0]
  dsimp only
  unfold out0_B_3 out0_B_4
  frame_out
  exact ⟨pay5_eq m c t _ l hs, fun r => pay3_eq m c t r l⟩

/-- What every point leaves. -/
theorem left (n : ℕ) : ∀ (t : Fin cfg0.N), t.val = n → ∀ l : Fin 1024,
    (outsAt0 m c t.val t.isLt).2 (ix2 0 l) = sumIco (part (X m c) (D m c) l) 0 (1024 * t.val + 1024)
    ∧ ∀ r, (outsAt0 m c t.val t.isLt).1 (ix2 r l) = core (X m c) (G m c) (D m c) (ix2 (at_ t r) l) := by
  induction n with
  | zero => exact fun t ht l => left_A m c t (by omega) l
  | succ n ih =>
    intro t ht l
    have h4 := lt4 t
    have hp : t.val - 1 < cfg0.N := (Nat.sub_le _ _).trans_lt t.isLt
    refine left_B m c t (by omega) hp l ?_
    rw [show 1024 * t.val = 1024 * (⟨t.val - 1, hp⟩ : Fin cfg0.N).val + 1024 by dsimp only; omega]
    exact (ih ⟨t.val - 1, hp⟩ (by dsimp only; omega) l).1

/-- The kernel's gradient at what it normalises. -/
theorem kernel_dx : (dats m 0 c).arrAt 3 cfg0.N = core (X m c) (G m c) (D m c) := by
  refine (dats m 0 c).arrAt_eq_of_covers 3 _ (by decide +kernel) fun t hf y => ?_
  blk_simp
  rw [after0_3]
  idx_vars y
  obtain ⟨e0, e1, e2, e3, e4⟩ := idx t
  refine ((left m c t.val t rfl y1).2 y0).trans (congrArg (core _ _ _) ?_)
  blk_ext [e3]

/-- The kernel's gradient at the gain. -/
theorem kernel_dg : (dats m 0 c).arrAt 4 cfg0.N = dg (X m c) (D m c) := by
  refine (dats m 0 c).arrAt_eq_of_covers 4 _ (by decide +kernel) fun t hf y => ?_
  have h3 : t.val = 3 := (by decide +kernel : ∀ t : Fin grid0.N, win0_4.flush t = true → t.val = 3) t hf
  blk_simp
  rw [after0_4]
  idx_vars y
  obtain ⟨e0, e1, e2, e3, e4⟩ := idx t
  obtain rfl : y0 = 0 := Subsingleton.elim _ _
  unfold dg
  refine (left m c t.val t rfl y1).1.trans ?_
  rw [show 1024 * t.val + 1024 = 4096 by omega]
  refine congrArg (fun l => sumIco (part _ _ l) 0 4096) (Fin.ext ?_)
  blk_simp [e4]

end Cert.Proof.PostBwd

end
-- ==== Proof.ResNormValue.lean ====
/- `res_norm_fwd` read at `Ideal`: the residual's next value and its norm. -/
module

public import proofs.«01_k».proof.Proof.Gen.ResNormIdeal.Value
public import proofs.«01_k».proof.Proof.RmsValue

@[expose] public section

set_option maxRecDepth 16384

noncomputable section

namespace Cert.Proof.ResNorm

open Idealize.ShloMosaic Idealize.ShloMosaic.TcCoe Idealize.SL.Sem
open Idealize.ShloMosaic.Pipeline (Dat)
open Cert.Proof.Rms (row hat ms col col_eq)
section Spec
open Cert.ResNormIdeal

variable (X Y : S4096x1024.Idx → EReal) (G H : S1x1024.Idx → EReal)

/-- The residual's next value. -/
def next : S4096x1024.Idx → EReal := fun i => X i + hat (row Y (i 0)) (i 1) * G (ix2 0 (i 1))

/-- Its norm. -/
def normed : S4096x1024.Idx → EReal := fun i => hat (row (next X Y G) (i 0)) (i 1) * H (ix2 0 (i 1))
end Spec

section Kernel
open Cert.ResNormIdeal Cert.ResNormIdeal.Gen

/-- The blocks' places on the grid of 4 points. -/
theorem idx : ∀ t : Fin grid0.N, win0_0.index t = ![t.val, 0] ∧ win0_1.index t = ![t.val, 0]
    ∧ win0_2.index t = ![0, 0] ∧ win0_3.index t = ![0, 0] ∧ win0_4.index t = ![t.val, 0]
    ∧ win0_5.index t = ![t.val, 0] := by decide +kernel

variable (m : (ℓ : Loc nD τ sig) → Buf (Elt Ideal) ℓ) (c : Dev nD)

theorem pay1 (v0 v1 : FVec Ideal S1024x1024 .f32) (v12 : FVec Ideal S1x1024 .f32) (r l : Fin 1024) :
    (k0_pay1 (F := Ideal) v0 v1 v12 (ix2 r l) : EReal) = v0 (ix2 r l) + hat (fun j => v1 (ix2 r j)) l * v12 (ix2 0 l) := by
  pointwise [k0_pay1, hat, Rms.inv, ms]

theorem pay2 (v0 v1 : FVec Ideal S1024x1024 .f32) (v12 v27 : FVec Ideal S1x1024 .f32) (r l : Fin 1024) :
    (k0_pay2 (F := Ideal) v0 v1 v12 v27 (ix2 r l) : EReal) = hat (fun j => k0_pay1 (F := Ideal) v0 v1 v12 (ix2 r j)) l * v27 (ix2 0 l) := by
  pointwise [k0_pay2, hat, Rms.inv, ms]

abbrev X := m ((c : Thread nD τ).loc main_arg0)
abbrev Y := m ((c : Thread nD τ).loc main_arg1)
abbrev G := m ((c : Thread nD τ).loc main_arg2)
abbrev H := m ((c : Thread nD τ).loc main_arg3)

/-- The point's blocks. -/
abbrev bX (t : Fin cfg0.N) : FVec Ideal S1024x1024 .f32 := iblk m c 0 t
abbrev bY (t : Fin cfg0.N) : FVec Ideal S1024x1024 .f32 := iblk m c 1 t
abbrev bG (t : Fin cfg0.N) : FVec Ideal S1x1024 .f32 := iblk m c 2 t
abbrev bH (t : Fin cfg0.N) : FVec Ideal S1x1024 .f32 := iblk m c 3 t

theorem lt4 (t : Fin cfg0.N) : t.val < 4 := lt_of_lt_of_eq t.isLt N_0

/-- Row `r` of a point's block in the array. -/
abbrev at_ (t : Fin cfg0.N) (r : Fin 1024) : Fin 4096 := ⟨1024 * t.val + r.val, by have := lt4 t; omega⟩

theorem blkX (t : Fin cfg0.N) (r l : Fin 1024) : bX m c t (ix2 r l) = X m c (ix2 (at_ t r) l) := by
  obtain ⟨e0, e1, e2, e3, e4, e5⟩ := idx t
  blk_ext [bX, iblk, V, e0]
theorem blkY (t : Fin cfg0.N) (r l : Fin 1024) : bY m c t (ix2 r l) = Y m c (ix2 (at_ t r) l) := by
  obtain ⟨e0, e1, e2, e3, e4, e5⟩ := idx t
  blk_ext [bY, iblk, V, e1]
theorem blkG (t : Fin cfg0.N) (l : Fin 1024) : bG m c t (ix2 0 l) = G m c (ix2 0 l) := by
  obtain ⟨e0, e1, e2, e3, e4, e5⟩ := idx t
  blk_ext [bG, iblk, V, e2]
theorem blkH (t : Fin cfg0.N) (l : Fin 1024) : bH m c t (ix2 0 l) = H m c (ix2 0 l) := by
  obtain ⟨e0, e1, e2, e3, e4, e5⟩ := idx t
  blk_ext [bH, iblk, V, e3]

theorem pay1_eq (t : Fin cfg0.N) (r l : Fin 1024) :
    k0_pay1 (F := Ideal) (bX m c t) (bY m c t) (bG m c t) (ix2 r l) = next (X m c) (Y m c) (G m c) (ix2 (at_ t r) l) := by
  rw [pay1, blkX, blkG]
  simp only [blkY]
  rfl

theorem pay2_eq (t : Fin cfg0.N) (r l : Fin 1024) :
    k0_pay2 (F := Ideal) (bX m c t) (bY m c t) (bG m c t) (bH m c t) (ix2 r l) = normed (X m c) (Y m c) (G m c) (H m c) (ix2 (at_ t r) l) := by
  rw [pay2, blkH]
  simp only [pay1_eq]
  rfl

theorem kernel_next : (dats m 0 c).arrAt 4 cfg0.N = next (X m c) (Y m c) (G m c) := by
  refine (dats m 0 c).arrAt_eq_of_covers 4 _ (by decide +kernel) fun t hf y => ?_
  blk_simp
  rw [after0_4]
  frame_out
  idx_vars y
  obtain ⟨e0, e1, e2, e3, e4, e5⟩ := idx t
  refine (pay1_eq m c t y0 y1).trans (congrArg (next _ _ _) ?_)
  blk_ext [e4]

theorem kernel_normed : (dats m 0 c).arrAt 5 cfg0.N = normed (X m c) (Y m c) (G m c) (H m c) := by
  refine (dats m 0 c).arrAt_eq_of_covers 5 _ (by decide +kernel) fun t hf y => ?_
  blk_simp
  rw [after0_5]
  frame_out
  idx_vars y
  obtain ⟨e0, e1, e2, e3, e4, e5⟩ := idx t
  refine (pay2_eq m c t y0 y1).trans (congrArg (normed _ _ _ _) ?_)
  blk_ext [e5]

end Kernel

section Reference
open Cert.RmsRefIdeal Cert.RmsRefIdeal.Gen

variable (X Y : FVec Ideal S4096x1024 .f32) (G H : FVec Ideal S1x1024 .f32)

/-- The norm as the reference writes it. -/
def rnorm : FVec Ideal S4096x1024 .f32 := mulf (mulf Y (broadcastInDim S4096x1024 ![0, 1] bcast_S4096x1_S4096x1024_0_1 (Host.rsqrt (col Y)))) (broadcastInDim S4096x1024 ![0, 1] bcast_S1x1024_S4096x1024_0_1 G)

theorem rnorm_eq (i : S4096x1024.Idx) : (rnorm Y G i : EReal) = hat (row Y (i 0)) (i 1) * G (ix2 0 (i 1)) := by
  idx_vars i
  pointwise [rnorm, hat, Rms.inv, col_eq]

theorem rnext_eq : addf X (rnorm Y G) = next X Y G := by
  funext i
  exact congrArg (X i + ·) (rnorm_eq Y G i)

theorem rnormed_eq : rnorm (addf X (rnorm Y G)) H = normed X Y G H := by
  rw [rnext_eq]
  funext i
  exact rnorm_eq _ _ i

end Reference

end Cert.Proof.ResNorm

end
-- ==== Proof.LossValue.lean ====
/- `mlp1_post_norm_loss` read at `Ideal`: the loss, and its gradient at the prediction. -/
module

public import proofs.«01_k».proof.Proof.Gen.LossIdeal.Value
public import proofs.«01_k».proof.Proof.Gen.LossRefIdeal.Run
public import proofs.«01_k».proof.Proof.ResNormValue

@[expose] public section

set_option maxRecDepth 16384

noncomputable section

namespace Cert.Proof.Loss

open Idealize.ShloMosaic Idealize.ShloMosaic.TcCoe Idealize.SL.Sem
open Idealize.ShloMosaic.Pipeline (Dat)
open Cert.Proof.WindowSum
open Cert.Proof.Rms (row hat ms)
open Cert.Proof.ResNorm (next rnorm rnext_eq)

/-- ½. -/
def half : EReal := Ideal.ofBits .f32 0x3F000000#32
/-- 1/1024. -/
def inv1024 : EReal := Ideal.ofBits .f32 0x3A800000#32

theorem half_eq : half = ((1 / 2 : ℝ) : EReal) := by
  unfold half
  simp [Ideal.ofBits, Ideal.ieee]
  rw [← EReal.coe_mul]
  norm_num
theorem inv1024_eq : inv1024 = ((1 / 1024 : ℝ) : EReal) := by
  unfold inv1024
  simp [Ideal.ofBits, Ideal.ieee]
  rw [← EReal.coe_mul]
  norm_num
theorem two_eq : Ideal.ofBits .f32 0x40000000#32 = ((2 : ℝ) : EReal) := by
  simp [Ideal.ofBits, Ideal.ieee]
  rw [← EReal.coe_mul]
  norm_num

section Spec
open Cert.LossIdeal
variable (X Y : S4096x1024.Idx → EReal) (G : S1x1024.Idx → EReal) (T : S4096x1024.Idx → EReal)

/-- The prediction's error. -/
def err : S4096x1024.Idx → EReal := fun i => next X Y G i - T i

/-- The loss's gradient at the prediction. -/
def derr : S4096x1024.Idx → EReal := fun i => err X Y G T i * inv1024

/-- Row `n`'s mean squared error. -/
def part (n : ℕ) : EReal :=
  if h : n < 4096 then Ideal.div (∑ l : Fin 1024, err X Y G T (ix2 ⟨n, h⟩ l) * err X Y G T (ix2 ⟨n, h⟩ l)) Rms.N else 0

/-- The loss, in every entry of its block. -/
def loss : S8x128.Idx → EReal := fun _ => half * sumIco (part X Y G T) 0 4096
end Spec

section Kernel
open Cert.LossIdeal Cert.LossIdeal.Gen

/-- The blocks' places on the grid of 4 points. -/
theorem idx : ∀ t : Fin grid0.N, win0_0.index t = ![t.val, 0] ∧ win0_1.index t = ![t.val, 0]
    ∧ win0_2.index t = ![0, 0] ∧ win0_3.index t = ![t.val, 0] ∧ win0_4.index t = ![0, 0]
    ∧ win0_5.index t = ![t.val, 0] := by decide +kernel

variable (m : (ℓ : Loc nD τ sig) → Buf (Elt Ideal) ℓ) (c : Dev nD)

theorem pay2 (v0 v1 : FVec Ideal S1024x1024 .f32) (v12 : FVec Ideal S1x1024 .f32) (v16 : FVec Ideal S1024x1024 .f32) (r l : Fin 1024) :
    (k0_pay2 (F := Ideal) v0 v1 v12 v16 (ix2 r l) : EReal) = v0 (ix2 r l) + hat (fun j => v1 (ix2 r j)) l * v12 (ix2 0 l) - v16 (ix2 r l) := by
  pointwise [k0_pay2, hat, Rms.inv, ms]

theorem pay3 (v0 v1 : FVec Ideal S1024x1024 .f32) (v12 : FVec Ideal S1x1024 .f32) (v16 : FVec Ideal S1024x1024 .f32) (r l : Fin 1024) :
    (k0_pay3 (F := Ideal) v0 v1 v12 v16 (ix2 r l) : EReal) = k0_pay2 (F := Ideal) v0 v1 v12 v16 (ix2 r l) * inv1024 := by
  pointwise [k0_pay3, inv1024]

theorem pay6 (v0 v1 : FVec Ideal S1024x1024 .f32) (v12 : FVec Ideal S1x1024 .f32) (v16 : FVec Ideal S1024x1024 .f32) :
    (k0_pay6 (F := Ideal) v0 v1 v12 v16 : EReal) = ∑ r : Fin 1024, Ideal.div
      (∑ l : Fin 1024, k0_pay2 (F := Ideal) v0 v1 v12 v16 (ix2 r l) * k0_pay2 (F := Ideal) v0 v1 v12 v16 (ix2 r l) : EReal) Rms.N := by
  pointwise [k0_pay6, Rms.N]
  exact Finset.sum_congr rfl fun k _ => Fin.sum_univ_one (M := EReal) _

theorem pay1 (v24 : FVec Ideal S8x128 .f32) (v34 cst : EReal) (i : S8x128.Idx) :
    (k0_pay1 (F := Ideal) (k0_pay5 (F := Ideal) v24) v34 cst i : EReal) = v24 i + cst * v34 := by
  idx_vars i
  pointwise [k0_pay1, k0_pay5]

theorem fill (i : S8x128.Idx) : (k0_pay4 (F := Ideal) i : EReal) = 0 := by
  idx_vars i
  pointwise [k0_pay4]

abbrev X := m ((c : Thread nD τ).loc main_arg0)
abbrev Y := m ((c : Thread nD τ).loc main_arg1)
abbrev G := m ((c : Thread nD τ).loc main_arg2)
abbrev T := m ((c : Thread nD τ).loc main_arg3)

/-- The point's blocks. -/
abbrev bX (t : Fin cfg0.N) : FVec Ideal S1024x1024 .f32 := iblk m c 0 t
abbrev bY (t : Fin cfg0.N) : FVec Ideal S1024x1024 .f32 := iblk m c 1 t
abbrev bG (t : Fin cfg0.N) : FVec Ideal S1x1024 .f32 := iblk m c 2 t
abbrev bT (t : Fin cfg0.N) : FVec Ideal S1024x1024 .f32 := iblk m c 3 t

theorem lt4 (t : Fin cfg0.N) : t.val < 4 := lt_of_lt_of_eq t.isLt N_0

/-- Row `r` of a point's block in the array. -/
abbrev at_ (t : Fin cfg0.N) (r : Fin 1024) : Fin 4096 := ⟨1024 * t.val + r.val, by have := lt4 t; omega⟩

theorem blkX (t : Fin cfg0.N) (r l : Fin 1024) : bX m c t (ix2 r l) = X m c (ix2 (at_ t r) l) := by
  obtain ⟨e0, e1, e2, e3, e4, e5⟩ := idx t
  blk_ext [bX, iblk, V, e0]
theorem blkY (t : Fin cfg0.N) (r l : Fin 1024) : bY m c t (ix2 r l) = Y m c (ix2 (at_ t r) l) := by
  obtain ⟨e0, e1, e2, e3, e4, e5⟩ := idx t
  blk_ext [bY, iblk, V, e1]
theorem blkG (t : Fin cfg0.N) (l : Fin 1024) : bG m c t (ix2 0 l) = G m c (ix2 0 l) := by
  obtain ⟨e0, e1, e2, e3, e4, e5⟩ := idx t
  blk_ext [bG, iblk, V, e2]
theorem blkT (t : Fin cfg0.N) (r l : Fin 1024) : bT m c t (ix2 r l) = T m c (ix2 (at_ t r) l) := by
  obtain ⟨e0, e1, e2, e3, e4, e5⟩ := idx t
  blk_ext [bT, iblk, V, e3]

theorem pay2_eq (t : Fin cfg0.N) (r l : Fin 1024) :
    k0_pay2 (F := Ideal) (bX m c t) (bY m c t) (bG m c t) (bT m c t) (ix2 r l) = err (X m c) (Y m c) (G m c) (T m c) (ix2 (at_ t r) l) := by
  rw [pay2, blkX, blkG, blkT]
  simp only [blkY]
  rfl

/-- A point's block of the gradient. -/
theorem pay3_eq (t : Fin cfg0.N) (r l : Fin 1024) :
    k0_pay3 (F := Ideal) (bX m c t) (bY m c t) (bG m c t) (bT m c t) (ix2 r l) = derr (X m c) (Y m c) (G m c) (T m c) (ix2 (at_ t r) l) := by
  rw [pay3, pay2_eq]
  rfl

/-- A point's sum. -/
theorem pay6_eq (t : Fin cfg0.N) :
    k0_pay6 (F := Ideal) (bX m c t) (bY m c t) (bG m c t) (bT m c t) = sumIco (part (X m c) (Y m c) (G m c) (T m c)) (1024 * t.val) (1024 * t.val + 1024) := by
  rw [pay6]
  refine (@Finset.sum_congr _ EReal _ _ _ _ _ rfl fun k _ => ?_).trans (sum_fin _ _ _)
  have := lt4 t
  rw [part, dif_pos (show 1024 * t.val + k.val < 4096 by omega)]
  simp only [pay2_eq]

/-- A point takes its rows in. -/
theorem pay1_eq (t : Fin cfg0.N) (v : FVec Ideal S8x128 .f32) (i : S8x128.Idx)
    (hv : v i = half * sumIco (part (X m c) (Y m c) (G m c) (T m c)) 0 (1024 * t.val)) :
    k0_pay1 (F := Ideal) (k0_pay5 (F := Ideal) v) (k0_pay6 (F := Ideal) (bX m c t) (bY m c t) (bG m c t) (bT m c t)) half i = half * sumIco (part (X m c) (Y m c) (G m c) (T m c)) 0 (1024 * t.val + 1024) := by
  rw [pay1, hv, pay6_eq, half_eq, ← sumIco_add _ (Nat.zero_le (1024 * t.val)) (Nat.le_add_right _ 1024)]
  exact (EReal.left_distrib_of_nonneg_of_ne_top (EReal.coe_nonneg.mpr (show (0 : ℝ) ≤ 1 / 2 by norm_num)) (EReal.coe_ne_top _) _ _).symm

/-- What the first point leaves. -/
theorem left_A (t : Fin cfg0.N) (h0 : t.val % 4 = 0) (i : S8x128.Idx) :
    (outsAt0 m c t.val t.isLt).1 i = half * sumIco (part (X m c) (Y m c) (G m c) (T m c)) 0 (1024 * t.val + 1024)
    ∧ ∀ r l, (outsAt0 m c t.val t.isLt).2 (ix2 r l) = derr (X m c) (Y m c) (G m c) (T m c) (ix2 (at_ t r) l) := by
  rw [outsAt0_A m c t h0]
  dsimp only
  unfold out0_A_4 out0_A_5
  frame_out
  refine ⟨pay1_eq m c t _ i ((fill _).trans ?_), fun r l => pay3_eq m c t r l⟩
  have := lt4 t
  rw [sumIco, Finset.Ico_eq_empty (by omega), Finset.sum_empty, mul_zero]

/-- What a later point leaves, on top of what the point before has left. -/
theorem left_B (t : Fin cfg0.N) (h0 : ¬t.val % 4 = 0) (hp : t.val - 1 < cfg0.N) (i : S8x128.Idx)
    (hs : (outsAt0 m c (t.val - 1) hp).1 i = half * sumIco (part (X m c) (Y m c) (G m c) (T m c)) 0 (1024 * t.val)) :
    (outsAt0 m c t.val t.isLt).1 i = half * sumIco (part (X m c) (Y m c) (G m c) (T m c)) 0 (1024 * t.val + 1024)
    ∧ ∀ r l, (outsAt0 m c t.val t.isLt).2 (ix2 r l) = derr (X m c) (Y m c) (G m c) (T m c) (ix2 (at_ t r) l) := by
  rw [outsAt0_B m c t h0]
  dsimp only
  unfold out0_B_4 out0_B_5
  frame_out
  exact ⟨pay1_eq m c t _ i hs, fun r l => pay3_eq m c t r l⟩

/-- What every point leaves. -/
theorem left (n : ℕ) : ∀ (t : Fin cfg0.N), t.val = n → ∀ i : S8x128.Idx,
    (outsAt0 m c t.val t.isLt).1 i = half * sumIco (part (X m c) (Y m c) (G m c) (T m c)) 0 (1024 * t.val + 1024)
    ∧ ∀ r l, (outsAt0 m c t.val t.isLt).2 (ix2 r l) = derr (X m c) (Y m c) (G m c) (T m c) (ix2 (at_ t r) l) := by
  induction n with
  | zero => exact fun t ht i => left_A m c t (by omega) i
  | succ n ih =>
    intro t ht i
    have h4 := lt4 t
    have hp : t.val - 1 < cfg0.N := (Nat.sub_le _ _).trans_lt t.isLt
    refine left_B m c t (by omega) hp i ?_
    rw [show 1024 * t.val = 1024 * (⟨t.val - 1, hp⟩ : Fin cfg0.N).val + 1024 by dsimp only; omega]
    exact (ih ⟨t.val - 1, hp⟩ (by dsimp only; omega) i).1

/-- The kernel's gradient at the prediction. -/
theorem kernel_derr : (dats m 0 c).arrAt 5 cfg0.N = derr (X m c) (Y m c) (G m c) (T m c) := by
  refine (dats m 0 c).arrAt_eq_of_covers 5 _ (by decide +kernel) fun t hf y => ?_
  blk_simp
  rw [after0_5]
  idx_vars y
  obtain ⟨e0, e1, e2, e3, e4, e5⟩ := idx t
  refine ((left m c t.val t rfl (ix2 0 0)).2 y0 y1).trans (congrArg (derr _ _ _ _) ?_)
  blk_ext [e5]

/-- The kernel's loss. -/
theorem kernel_loss : (dats m 0 c).arrAt 4 cfg0.N = loss (X m c) (Y m c) (G m c) (T m c) := by
  refine (dats m 0 c).arrAt_eq_of_covers 4 _ (by decide +kernel) fun t hf y => ?_
  have h3 : t.val = 3 := (by decide +kernel : ∀ t : Fin grid0.N, win0_4.flush t = true → t.val = 3) t hf
  blk_simp
  rw [after0_4]
  refine (left m c t.val t rfl y).1.trans ?_
  rw [show 1024 * t.val + 1024 = 4096 by omega]
  rfl

end Kernel

section Reference
open Cert.LossRefIdeal Cert.LossRefIdeal.Gen

variable (X Y : FVec Ideal S4096x1024 .f32) (G : FVec Ideal S1x1024 .f32) (T : FVec Ideal S4096x1024 .f32)

/-- The reference's error. -/
theorem rerr_eq : subf (addf X (rnorm Y G)) T = err X Y G T := by
  rw [rnext_eq]
  rfl

/-- The reference's loss, of the error `e`. -/
def rloss (e : FVec Ideal S4096x1024 .f32) : FVec Ideal S8x128 .f32 := broadcastInDim S8x128 ![] bcast_S_S8x128 (mulf (constant S_ .f32 0x3F000000#32) (Host.reduceAdd (Host.divf (Host.reduceAdd (mulf e e) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

theorem rloss_eq : rloss (err X Y G T) = loss X Y G T := by
  funext i
  idx_vars i
  pointwise [rloss, loss]
  refine congrArg (half * ·) (Eq.trans ?_ ((sum_fin (part X Y G T) 0 4096).trans (by rw [zero_add])))
  refine @Finset.sum_congr _ EReal _ _ _ _ _ rfl fun k _ => ?_
  rw [part, dif_pos (show 0 + k.val < 4096 by omega)]
  simp only [Nat.zero_add]

/-- The reference's gradient, of the error `e`. -/
def rderr (e : FVec Ideal S4096x1024 .f32) : FVec Ideal S4096x1024 .f32 := mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) e)

theorem rderr_eq : rderr (err X Y G T) = derr X Y G T := by
  funext i
  idx_vars i
  pointwise [rderr, derr]
  rw [show Ideal.ofBits .f32 0x3F000000#32 = ((1 / 2 : ℝ) : EReal) from half_eq, show Ideal.ofBits .f32 0x44800000#32 = ((1024 : ℝ) : EReal) from Rms.N_eq,
    inv1024_eq, two_eq, Ideal.div_coe (by norm_num)]
  rw [← mul_assoc, mul_comm (err X Y G T _), ← EReal.coe_mul]
  norm_num [← EReal.coe_mul]

end Reference

end Cert.Proof.Loss

end
-- ==== Proof.NormsClaims.lean ====
/- The value claims of the norms between the blocks, forward and backward, and of the loss. -/
module

public import proofs.«01_k».proof.Defs
public import proofs.«01_k».proof.Proof.NormResValue
public import proofs.«01_k».proof.Proof.PostBwdValue
public import proofs.«01_k».proof.Proof.LossValue

@[expose] public section

set_option maxRecDepth 16384

noncomputable section

namespace Cert.Proof

open Idealize.ShloMosaic Idealize.ShloMosaic.TcCoe Idealize.SL.Sem

/-- Back through a norm, past it, and through the norm before. -/
theorem algebraic_NormRes : Cert.algebraic_NormResIdeal_NormResRefIdeal (hNormResIdeal := Cert.NormResIdeal.Gen.facts) (hNormResRefIdeal := Cert.NormResRefIdeal.Gen.facts) :=
  fun m g m' g' _ hA => ⟨fun c => Rms.dx (m ((c : Thread Cert.NormResIdeal.nD Cert.NormResIdeal.τ).loc Cert.NormResIdeal.main_arg0)) (m ((c : Thread Cert.NormResIdeal.nD Cert.NormResIdeal.τ).loc Cert.NormResIdeal.main_arg1)) (m ((c : Thread Cert.NormResIdeal.nD Cert.NormResIdeal.τ).loc Cert.NormResIdeal.main_arg2)) (m ((c : Thread Cert.NormResIdeal.nD Cert.NormResIdeal.τ).loc Cert.NormResIdeal.main_arg3)),
    fun c => Rms.core (m ((c : Thread Cert.NormResIdeal.nD Cert.NormResIdeal.τ).loc Cert.NormResIdeal.main_arg4)) (m ((c : Thread Cert.NormResIdeal.nD Cert.NormResIdeal.τ).loc Cert.NormResIdeal.main_arg5)) (Rms.dx (m ((c : Thread Cert.NormResIdeal.nD Cert.NormResIdeal.τ).loc Cert.NormResIdeal.main_arg0)) (m ((c : Thread Cert.NormResIdeal.nD Cert.NormResIdeal.τ).loc Cert.NormResIdeal.main_arg1)) (m ((c : Thread Cert.NormResIdeal.nD Cert.NormResIdeal.τ).loc Cert.NormResIdeal.main_arg2)) (m ((c : Thread Cert.NormResIdeal.nD Cert.NormResIdeal.τ).loc Cert.NormResIdeal.main_arg3))),
    fun c => Rms.dg (m ((c : Thread Cert.NormResIdeal.nD Cert.NormResIdeal.τ).loc Cert.NormResIdeal.main_arg0)) (m ((c : Thread Cert.NormResIdeal.nD Cert.NormResIdeal.τ).loc Cert.NormResIdeal.main_arg2)),
    fun c => Rms.dg (m ((c : Thread Cert.NormResIdeal.nD Cert.NormResIdeal.τ).loc Cert.NormResIdeal.main_arg4)) (Rms.dx (m ((c : Thread Cert.NormResIdeal.nD Cert.NormResIdeal.τ).loc Cert.NormResIdeal.main_arg0)) (m ((c : Thread Cert.NormResIdeal.nD Cert.NormResIdeal.τ).loc Cert.NormResIdeal.main_arg1)) (m ((c : Thread Cert.NormResIdeal.nD Cert.NormResIdeal.τ).loc Cert.NormResIdeal.main_arg2)) (m ((c : Thread Cert.NormResIdeal.nD Cert.NormResIdeal.τ).loc Cert.NormResIdeal.main_arg3))),
    (θ_run _ _ _).mono (fun _ h c => ⟨(h c).1.trans (NormRes.kernel_dx m c), (h c).2.1.trans (NormRes.kernel_dy m c), (h c).2.2.1.trans (NormRes.kernel_dgp m c), (h c).2.2.2.1.trans (NormRes.kernel_dgy m c), (h c).2.2.2.2⟩)
      (Cert.NormResIdeal.Value.run_blocks m g),
    (θ_run _ _ _).mono (fun _ h c => ⟨by
      refine (h c).1.trans ((Rms.rdx_eq _ _ _ _).trans ?_)
      rw [(hA c).1, (hA c).2.1, (hA c).2.2.1, (hA c).2.2.2.1], by
      refine (h c).2.1.trans ((NormRes.ref_dy m' c).trans ?_)
      rw [NormRes.RE, (hA c).1, (hA c).2.1, (hA c).2.2.1, (hA c).2.2.2.1, (hA c).2.2.2.2.1, (hA c).2.2.2.2.2], by
      refine (h c).2.2.1.trans ((Rms.rdg_eq _ _).trans ?_)
      rw [(hA c).1, (hA c).2.2.1], by
      refine (h c).2.2.2.1.trans ((NormRes.ref_dgy m' c).trans ?_)
      rw [NormRes.RE, (hA c).1, (hA c).2.1, (hA c).2.2.1, (hA c).2.2.2.1, (hA c).2.2.2.2.1], (h c).2.2.2.2⟩) (Cert.NormResRefIdeal.Value.run m' g')⟩

/-- Back through the last norm. -/
theorem algebraic_PostBwd : Cert.algebraic_PostBwdIdeal_PostBwdRefIdeal (hPostBwdIdeal := Cert.PostBwdIdeal.Gen.facts) (hPostBwdRefIdeal := Cert.PostBwdRefIdeal.Gen.facts) :=
  fun m g m' g' _ hA => ⟨fun c => Rms.core (m ((c : Thread Cert.PostBwdIdeal.nD Cert.PostBwdIdeal.τ).loc Cert.PostBwdIdeal.main_arg0)) (m ((c : Thread Cert.PostBwdIdeal.nD Cert.PostBwdIdeal.τ).loc Cert.PostBwdIdeal.main_arg1)) (m ((c : Thread Cert.PostBwdIdeal.nD Cert.PostBwdIdeal.τ).loc Cert.PostBwdIdeal.main_arg2)),
    fun c => Rms.dg (m ((c : Thread Cert.PostBwdIdeal.nD Cert.PostBwdIdeal.τ).loc Cert.PostBwdIdeal.main_arg0)) (m ((c : Thread Cert.PostBwdIdeal.nD Cert.PostBwdIdeal.τ).loc Cert.PostBwdIdeal.main_arg2)),
    (θ_run _ _ _).mono (fun _ h c => ⟨(h c).1.trans (PostBwd.kernel_dx m c), (h c).2.1.trans (PostBwd.kernel_dg m c), (h c).2.2⟩)
      (Cert.PostBwdIdeal.Value.run_blocks m g),
    (θ_run _ _ _).mono (fun _ h c => ⟨by
      refine (h c).1.trans ((Rms.rcore_eq _ _ _).trans ?_)
      rw [(hA c).1, (hA c).2.1, (hA c).2.2], by
      refine (h c).2.1.trans ((Rms.rdg_eq _ _).trans ?_)
      rw [(hA c).1, (hA c).2.2], (h c).2.2⟩) (Cert.PostBwdRefIdeal.Value.run m' g')⟩

/-- The residual's next value and its norm. -/
theorem algebraic_ResNorm : Cert.algebraic_ResNormIdeal_ResNormRefIdeal (hResNormIdeal := Cert.ResNormIdeal.Gen.facts) (hResNormRefIdeal := Cert.ResNormRefIdeal.Gen.facts) :=
  fun m g m' g' _ hA => ⟨fun c => ResNorm.next (m ((c : Thread Cert.ResNormIdeal.nD Cert.ResNormIdeal.τ).loc Cert.ResNormIdeal.main_arg0)) (m ((c : Thread Cert.ResNormIdeal.nD Cert.ResNormIdeal.τ).loc Cert.ResNormIdeal.main_arg1)) (m ((c : Thread Cert.ResNormIdeal.nD Cert.ResNormIdeal.τ).loc Cert.ResNormIdeal.main_arg2)),
    fun c => ResNorm.normed (m ((c : Thread Cert.ResNormIdeal.nD Cert.ResNormIdeal.τ).loc Cert.ResNormIdeal.main_arg0)) (m ((c : Thread Cert.ResNormIdeal.nD Cert.ResNormIdeal.τ).loc Cert.ResNormIdeal.main_arg1)) (m ((c : Thread Cert.ResNormIdeal.nD Cert.ResNormIdeal.τ).loc Cert.ResNormIdeal.main_arg2)) (m ((c : Thread Cert.ResNormIdeal.nD Cert.ResNormIdeal.τ).loc Cert.ResNormIdeal.main_arg3)),
    (θ_run _ _ _).mono (fun _ h c => ⟨(h c).1.trans (ResNorm.kernel_next m c), (h c).2.1.trans (ResNorm.kernel_normed m c), (h c).2.2⟩)
      (Cert.ResNormIdeal.Value.run_blocks m g),
    (θ_run _ _ _).mono (fun _ h c => ⟨by
      refine (h c).1.trans ((ResNorm.rnext_eq _ _ _).trans ?_)
      rw [(hA c).1, (hA c).2.1, (hA c).2.2.1], by
      refine (h c).2.1.trans ((ResNorm.rnormed_eq _ _ _ _).trans ?_)
      rw [(hA c).1, (hA c).2.1, (hA c).2.2.1, (hA c).2.2.2], (h c).2.2⟩) (Cert.ResNormRefIdeal.Value.run m' g')⟩

/-- The loss and its gradient at the prediction. -/
theorem algebraic_Loss : Cert.algebraic_LossIdeal_LossRefIdeal (hLossIdeal := Cert.LossIdeal.Gen.facts) (hLossRefIdeal := Cert.LossRefIdeal.Gen.facts) :=
  fun m g m' g' _ hA => ⟨fun c => Loss.loss (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)) (m ((c : Thread Cert.LossIdeal.nD Cert.LossIdeal.τ).loc Cert.LossIdeal.main_arg3)),
    fun c => Loss.derr (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)) (m ((c : Thread Cert.LossIdeal.nD Cert.LossIdeal.τ).loc Cert.LossIdeal.main_arg3)),
    (θ_run _ _ _).mono (fun _ h c => ⟨(h c).1.trans (Loss.kernel_loss m c), (h c).2.1.trans (Loss.kernel_derr m c), (h c).2.2⟩)
      (Cert.LossIdeal.Value.run_blocks m g),
    (θ_run _ _ _).mono (fun _ h c => ⟨by
      refine (h c).1.trans (((congrArg Loss.rloss (Loss.rerr_eq _ _ _ _)).trans (Loss.rloss_eq _ _ _ _)).trans ?_)
      rw [(hA c).1, (hA c).2.1, (hA c).2.2.1, (hA c).2.2.2], by
      refine (h c).2.1.trans (((congrArg Loss.rderr (Loss.rerr_eq _ _ _ _)).trans (Loss.rderr_eq _ _ _ _)).trans ?_)
      rw [(hA c).1, (hA c).2.1, (hA c).2.2.1, (hA c).2.2.2], (h c).2.2⟩) (Cert.LossRefIdeal.Value.run m' g')⟩

end Cert.Proof

end
-- ==== Proof.PreNormValue.lean ====
/- `l0_pre_norm` read at `Ideal`: the step's input, normed. -/
module

public import proofs.«01_k».proof.Proof.Gen.PreNormIdeal.Value
public import proofs.«01_k».proof.Proof.Gen.PreNormRefIdeal.Run
public import proofs.«01_k».proof.Proof.ResNormValue
public import Idealize.ShloMosaic.Lib.Claim

@[expose] public section

set_option maxRecDepth 16384

noncomputable section

namespace Cert.Proof.PreNorm

open Idealize.ShloMosaic Idealize.ShloMosaic.TcCoe Idealize.SL.Sem
open Idealize.ShloMosaic.Pipeline (Dat)
open Cert.Proof.Rms (row hat ms)
open Cert.Proof.ResNorm (rnorm rnorm_eq)

section Kernel
open Cert.PreNormIdeal Cert.PreNormIdeal.Gen

/-- The norm of the rows, with its gain. -/
def normed (X : S4096x1024.Idx → EReal) (G : S1x1024.Idx → EReal) : S4096x1024.Idx → EReal :=
  fun i => hat (row X (i 0)) (i 1) * G (ix2 0 (i 1))

/-- The blocks' places on the grid of 4 points. -/
theorem idx : ∀ t : Fin grid0.N, win0_0.index t = ![t.val, 0] ∧ win0_1.index t = ![0, 0]
    ∧ win0_2.index t = ![t.val, 0] := by decide +kernel

variable (m : (ℓ : Loc nD τ sig) → Buf (Elt Ideal) ℓ) (c : Dev nD)

theorem pay1 (v0 : FVec Ideal S1024x1024 .f32) (v11 : FVec Ideal S1x1024 .f32) (r l : Fin 1024) :
    (k0_pay1 (F := Ideal) v0 v11 (ix2 r l) : EReal) = hat (fun j => v0 (ix2 r j)) l * v11 (ix2 0 l) := by
  pointwise [k0_pay1, hat, Rms.inv, ms]

abbrev X := m ((c : Thread nD τ).loc main_arg0)
abbrev G := m ((c : Thread nD τ).loc main_arg1)

/-- The point's blocks. -/
abbrev bX (t : Fin cfg0.N) : FVec Ideal S1024x1024 .f32 := iblk m c 0 t
abbrev bG (t : Fin cfg0.N) : FVec Ideal S1x1024 .f32 := iblk m c 1 t

theorem lt4 (t : Fin cfg0.N) : t.val < 4 := lt_of_lt_of_eq t.isLt N_0

/-- Row `r` of a point's block in the array. -/
abbrev at_ (t : Fin cfg0.N) (r : Fin 1024) : Fin 4096 := ⟨1024 * t.val + r.val, by have := lt4 t; omega⟩

theorem blkX (t : Fin cfg0.N) (r l : Fin 1024) : bX m c t (ix2 r l) = X m c (ix2 (at_ t r) l) := by
  obtain ⟨e0, e1, e2⟩ := idx t
  blk_ext [bX, iblk, V, e0]
theorem blkG (t : Fin cfg0.N) (l : Fin 1024) : bG m c t (ix2 0 l) = G m c (ix2 0 l) := by
  obtain ⟨e0, e1, e2⟩ := idx t
  blk_ext [bG, iblk, V, e1]

theorem pay1_eq (t : Fin cfg0.N) (r l : Fin 1024) :
    k0_pay1 (F := Ideal) (bX m c t) (bG m c t) (ix2 r l) = normed (X m c) (G m c) (ix2 (at_ t r) l) := by
  rw [pay1, blkG]
  simp only [blkX]
  rfl

/-- The kernel's result array. -/
theorem kernel_eq : (dats m 0 c).arrAt 2 cfg0.N = normed (X m c) (G m c) := by
  refine (dats m 0 c).arrAt_eq_of_covers 2 _ (by decide +kernel) fun t hf y => ?_
  blk_simp
  rw [after0_2]
  frame_out
  idx_vars y
  obtain ⟨e0, e1, e2⟩ := idx t
  refine (pay1_eq m c t y0 y1).trans (congrArg (normed _ _) ?_)
  blk_ext [e2]

end Kernel

section Reference
open Cert.PreNormRefIdeal Cert.PreNormRefIdeal.Gen

/-- The reference's norm. -/
theorem ref_eq (X : FVec Ideal S4096x1024 .f32) (G : FVec Ideal S1x1024 .f32) : rnorm X G = normed X G := by
  funext i
  exact rnorm_eq X G i

end Reference

end Cert.Proof.PreNorm

end
-- ==== Proof.PoolScaleValue.lean ====
/- `pool_scale_bwd` read at `Ideal`: the gradients at the pooling's product and at its scale. -/
module

public import proofs.«01_k».proof.Proof.Gen.PoolScaleIdeal.Value
public import proofs.«01_k».proof.Proof.Gen.PoolScaleRefIdeal.Run
public import proofs.«01_k».proof.Proof.WindowSum
public import Idealize.ShloMosaic.Lib.Pipeline.ReadBack
public import Idealize.ShloMosaic.Lib.Claim

@[expose] public section

set_option maxRecDepth 16384

noncomputable section

namespace Cert.Proof.PoolScale

open Idealize.ShloMosaic Idealize.ShloMosaic.TcCoe Idealize.SL.Sem
open Idealize.ShloMosaic.Pipeline (Dat)
open Cert.Proof.WindowSum

section Spec
open Cert.PoolScaleIdeal

variable (A : S4096x512.Idx → EReal) (S : S1x512.Idx → EReal) (D : S4096x1024.Idx → EReal)

/-- What flows back to the pooled half of the columns. -/
def back : S4096x512.Idx → EReal := fun i => D (ix2 (i 0) ⟨(i 1).val, (i 1).isLt.trans (by decide)⟩)

/-- The gradient at the scaled array. -/
def da : S4096x512.Idx → EReal := fun i => back D i * S (ix2 0 (i 1))

/-- Row `n`'s part of the scale's gradient. -/
def part (l : Fin 512) (n : ℕ) : EReal := if h : n < 4096 then back D (ix2 ⟨n, h⟩ l) * A (ix2 ⟨n, h⟩ l) else 0

/-- The gradient at the scale. -/
def ds : S1x512.Idx → EReal := fun i => sumIco (part A D (i 1)) 0 4096

end Spec

section Kernel
open Cert.PoolScaleIdeal Cert.PoolScaleIdeal.Gen

/-- The blocks' places on the grid of 4 points. -/
theorem idx : ∀ t : Fin grid0.N, win0_0.index t = ![t.val, 0] ∧ win0_1.index t = ![0, 0]
    ∧ win0_2.index t = ![t.val, 0] ∧ win0_3.index t = ![t.val, 0] ∧ win0_4.index t = ![0, 0] := by decide +kernel

variable (m : (ℓ : Loc nD τ sig) → Buf (Elt Ideal) ℓ) (c : Dev nD)

theorem pay1 (v0 : FVec Ideal S1024x512 .f32) (v1 : FVec Ideal S1x512 .f32) (r : Fin 1024) (l : Fin 512) :
    (k0_pay1 (F := Ideal) v0 v1 (ix2 r l) : EReal) = v0 (ix2 r l) * v1 (ix2 0 l) := by
  pointwise [k0_pay1]

theorem pay3 (v0 : FVec Ideal S1024x512 .f32) (v9 : FVec Ideal S1x512 .f32) (v11 : FVec Ideal S1024x512 .f32) (l : Fin 512) :
    (k0_pay3 (F := Ideal) v0 v9 v11 (ix2 0 l) : EReal) = v9 (ix2 0 l) + ∑ r : Fin 1024, (v0 (ix2 r l) * v11 (ix2 r l) : EReal) := by
  pointwise [k0_pay3]

theorem fill (i : S1x512.Idx) : (k0_pay2 (F := Ideal) i : EReal) = 0 := by
  idx_vars i
  pointwise [k0_pay2]

abbrev A := m ((c : Thread nD τ).loc main_arg0)
abbrev S := m ((c : Thread nD τ).loc main_arg1)
abbrev D := m ((c : Thread nD τ).loc main_arg2)

/-- The point's blocks. -/
abbrev bA (t : Fin cfg0.N) : FVec Ideal S1024x512 .f32 := iblk m c 0 t
abbrev bS (t : Fin cfg0.N) : FVec Ideal S1x512 .f32 := iblk m c 1 t
abbrev bD (t : Fin cfg0.N) : FVec Ideal S1024x512 .f32 := iblk m c 2 t

theorem lt4 (t : Fin cfg0.N) : t.val < 4 := lt_of_lt_of_eq t.isLt N_0

/-- Row `r` of a point's block in the array. -/
abbrev at_ (t : Fin cfg0.N) (r : Fin 1024) : Fin 4096 := ⟨1024 * t.val + r.val, by have := lt4 t; omega⟩

theorem blkA (t : Fin cfg0.N) (r : Fin 1024) (l : Fin 512) : bA m c t (ix2 r l) = A m c (ix2 (at_ t r) l) := by
  obtain ⟨e0, e1, e2, e3, e4⟩ := idx t
  blk_ext [bA, iblk, V, e0]
theorem blkS (t : Fin cfg0.N) (l : Fin 512) : bS m c t (ix2 0 l) = S m c (ix2 0 l) := by
  obtain ⟨e0, e1, e2, e3, e4⟩ := idx t
  blk_ext [bS, iblk, V, e1]
theorem blkD (t : Fin cfg0.N) (r : Fin 1024) (l : Fin 512) : bD m c t (ix2 r l) = back (D m c) (ix2 (at_ t r) l) := by
  obtain ⟨e0, e1, e2, e3, e4⟩ := idx t
  unfold back
  blk_ext [bD, iblk, V, e2]

theorem pay1_eq (t : Fin cfg0.N) (r : Fin 1024) (l : Fin 512) :
    k0_pay1 (F := Ideal) (bD m c t) (bS m c t) (ix2 r l) = da (S m c) (D m c) (ix2 (at_ t r) l) := by
  rw [pay1, blkD, blkS]
  rfl

/-- A point takes its rows in. -/
theorem pay3_eq (t : Fin cfg0.N) (v : FVec Ideal S1x512 .f32) (l : Fin 512)
    (hv : v (ix2 0 l) = sumIco (part (A m c) (D m c) l) 0 (1024 * t.val)) :
    k0_pay3 (F := Ideal) (bD m c t) v (bA m c t) (ix2 0 l) = sumIco (part (A m c) (D m c) l) 0 (1024 * t.val + 1024) := by
  rw [pay3, hv]
  refine Eq.trans ?_ (sumIco_add _ (b := 1024 * t.val) (by omega) (by omega))
  refine congrArg (_ + ·) ((@Finset.sum_congr _ EReal _ _ _ _ _ rfl fun k _ => ?_).trans (sum_fin _ _ _))
  have := lt4 t
  rw [part, dif_pos (show 1024 * t.val + k.val < 4096 by omega), blkA, blkD]

/-- What point `n` leaves: the scale's gradient over the rows so far, and the rows' gradient. -/
def Left (t : Fin cfg0.N) (l : Fin 512) : Prop :=
  (outsAt0 m c t.val t.isLt).2 (ix2 0 l) = sumIco (part (A m c) (D m c) l) 0 (1024 * t.val + 1024)
    ∧ ∀ r, (outsAt0 m c t.val t.isLt).1 (ix2 r l) = da (S m c) (D m c) (ix2 (at_ t r) l)

theorem left_A (t : Fin cfg0.N) (h0 : t.val % 4 = 0) (l : Fin 512) : Left m c t l := by
  unfold Left
  rw [outsAt0_A m c t h0]
  dsimp only
  unfold out0_A_3 out0_A_4
  frame_out
  refine ⟨pay3_eq m c t _ l ((fill _).trans ?_), fun r => pay1_eq m c t r l⟩
  have := lt4 t
  rw [sumIco, Finset.Ico_eq_empty (by omega), Finset.sum_empty]

theorem left_B (t : Fin cfg0.N) (h0 : ¬t.val % 4 = 0) (hp : t.val - 1 < cfg0.N) (l : Fin 512)
    (h : Left m c ⟨t.val - 1, hp⟩ l) : Left m c t l := by
  have e : 1024 * (⟨t.val - 1, hp⟩ : Fin cfg0.N).val + 1024 = 1024 * t.val := by dsimp only; omega
  unfold Left at h
  rw [e] at h
  unfold Left
  rw [outsAt0_B m c t h0]
  dsimp only
  unfold out0_B_3 out0_B_4
  frame_out
  exact ⟨pay3_eq m c t _ l h.1, fun r => pay1_eq m c t r l⟩

theorem left (n : ℕ) : ∀ (t : Fin cfg0.N), t.val = n → ∀ l : Fin 512, Left m c t l := by
  induction n with
  | zero => exact fun t ht l => left_A m c t (by omega) l
  | succ n ih =>
    intro t ht l
    have h4 := lt4 t
    have hp : t.val - 1 < cfg0.N := (Nat.sub_le _ _).trans_lt t.isLt
    exact left_B m c t (by omega) hp l (ih ⟨t.val - 1, hp⟩ (by dsimp only; omega) l)

/-- The kernel's gradient at the scaled array. -/
theorem kernel_da : (dats m 0 c).arrAt 3 cfg0.N = da (S m c) (D m c) := by
  refine (dats m 0 c).arrAt_eq_of_covers 3 _ (by decide +kernel) fun t hf y => ?_
  blk_simp
  rw [after0_3]
  idx_vars y
  obtain ⟨e0, e1, e2, e3, e4⟩ := idx t
  refine ((left m c t.val t rfl y1).2 y0).trans (congrArg (da _ _) ?_)
  blk_ext [e3]

/-- The kernel's gradient at the scale. -/
theorem kernel_ds : (dats m 0 c).arrAt 4 cfg0.N = ds (A m c) (D m c) := by
  refine (dats m 0 c).arrAt_eq_of_covers 4 _ (by decide +kernel) fun t hf y => ?_
  have h3 : t.val = 3 := (by decide +kernel : ∀ t : Fin grid0.N, win0_4.flush t = true → t.val = 3) t hf
  blk_simp
  rw [after0_4]
  idx_vars y
  obtain ⟨e0, e1, e2, e3, e4⟩ := idx t
  obtain rfl : y0 = 0 := Subsingleton.elim _ _
  unfold ds
  refine (left m c t.val t rfl y1).1.trans ?_
  rw [show 1024 * t.val + 1024 = 4096 by omega]
  refine congrArg (fun l => sumIco (part _ _ l) 0 4096) (Fin.ext ?_)
  blk_simp [e4]

end Kernel

section Reference
open Cert.PoolScaleRefIdeal Cert.PoolScaleRefIdeal.Gen

variable (A : FVec Ideal S4096x512 .f32) (S : FVec Ideal S1x512 .f32) (D : FVec Ideal S4096x1024 .f32)

/-- What flows back, as the reference takes it. -/
def rback : FVec Ideal S4096x512 .f32 := extractStridedSlice S4096x512 ![0, 0] D slices_S4096x1024_S4096x512_0_0

theorem rback_eq : rback D = back D := by
  funext i
  idx_vars i
  pointwise [rback, back]
  first | done | rfl | skip

/-- The reference's gradient at the scaled array. -/
theorem rda_eq : mulf (rback D) (broadcastInDim S4096x512 ![0, 1] bcast_S1x512_S4096x512_0_1 S) = da S D := by
  rw [rback_eq]
  funext i
  idx_vars i
  pointwise [da]

/-- The reference's gradient at the scale. -/
def rds : FVec Ideal S1x512 .f32 := shapeCast _ (Host.reduceAdd (mulf A (rback D)) (constant S_ .f32 0x00000000#32) reducesTo_S4096x512_S512_d0 h_S_) shapeCasts_S512_S1x512

theorem rds_eq : rds A D = ds A D := by
  funext i
  idx_vars i
  pointwise [rds, ds]
  refine Eq.trans ?_ ((sum_fin (part A D _) 0 4096).trans (by rw [zero_add]))
  refine @Finset.sum_congr _ EReal _ _ _ _ _ rfl fun k _ => ?_
  rw [part, dif_pos (show 0 + k.val < 4096 by omega), mul_comm, ← rback_eq]
  simp only [Nat.zero_add]

end Reference

end Cert.Proof.PoolScale

end
-- ==== Proof.S5OutValue.lean ====
/- `s5_out` read at `Ideal`: the S5 block's output with its skip, and that through the GELU. -/
module

public import proofs.«01_k».proof.Proof.Gen.S5OutIdeal.Value
public import proofs.«01_k».proof.Proof.Gen.S5OutRefIdeal.Run
public import proofs.«01_k».proof.Proof.WindowSum
public import Idealize.ShloMosaic.Lib.Claim

@[expose] public section

set_option maxRecDepth 16384

noncomputable section

namespace Cert.Proof.S5Out

open Idealize.ShloMosaic Idealize.ShloMosaic.TcCoe Idealize.SL.Sem
open Idealize.ShloMosaic.Pipeline (Dat)

section Spec
open Cert.S5OutIdeal

variable (Y : S4096x512.Idx → EReal) (Z : S4096x2176.Idx → EReal) (D : S1x512.Idx → EReal)

/-- The output with its skip. -/
def skip : S4096x512.Idx → EReal := fun i => Y i + D (ix2 0 (i 1)) * Z (ix2 (i 0) ⟨(i 1).val, (i 1).isLt.trans (by decide)⟩)

/-- The GELU in its form with the hyperbolic tangent. -/
def gelu (x : EReal) : EReal := x * (Ideal.ofBits .f32 0x3F000000#32 * (Ideal.ofBits .f32 0x3F800000#32
  + Ideal.tanh (Ideal.ofBits .f32 0x3F4C422A#32 * (x + Ideal.ofBits .f32 0x3D372713#32 * (x * (x * x))))))

/-- The output through the GELU. -/
def act : S4096x512.Idx → EReal := fun i => gelu (skip Y Z D i)

end Spec

section Kernel
open Cert.S5OutIdeal Cert.S5OutIdeal.Gen

/-- The blocks' places on the grid of 4 points. -/
theorem idx : ∀ t : Fin grid0.N, win0_0.index t = ![t.val, 0] ∧ win0_1.index t = ![t.val, 0]
    ∧ win0_2.index t = ![0, 0] ∧ win0_3.index t = ![t.val, 0] ∧ win0_4.index t = ![t.val, 0] := by decide +kernel

variable (m : (ℓ : Loc nD τ sig) → Buf (Elt Ideal) ℓ) (c : Dev nD)

theorem pay1 (v0 : FVec Ideal S1024x512 .f32) (v1 : FVec Ideal S1x512 .f32) (v2 : FVec Ideal S1024x512 .f32) (r : Fin 1024) (l : Fin 512) :
    (k0_pay1 (F := Ideal) v0 v1 v2 (ix2 r l) : EReal) = v0 (ix2 r l) + v1 (ix2 0 l) * v2 (ix2 r l) := by
  pointwise [k0_pay1]

theorem pay2 (v0 : FVec Ideal S1024x512 .f32) (v1 : FVec Ideal S1x512 .f32) (v2 : FVec Ideal S1024x512 .f32) (r : Fin 1024) (l : Fin 512) :
    (k0_pay2 (F := Ideal) v0 v1 v2 (ix2 r l) : EReal) = gelu (k0_pay1 (F := Ideal) v0 v1 v2 (ix2 r l)) := by
  pointwise [k0_pay2, gelu]

abbrev Y := m ((c : Thread nD τ).loc main_arg0)
abbrev Z := m ((c : Thread nD τ).loc main_arg1)
abbrev D := m ((c : Thread nD τ).loc main_arg2)

/-- The point's blocks. -/
abbrev bY (t : Fin cfg0.N) : FVec Ideal S1024x512 .f32 := iblk m c 0 t
abbrev bZ (t : Fin cfg0.N) : FVec Ideal S1024x512 .f32 := X0_1 m c t
abbrev bD (t : Fin cfg0.N) : FVec Ideal S1x512 .f32 := iblk m c 2 t

theorem lt4 (t : Fin cfg0.N) : t.val < 4 := lt_of_lt_of_eq t.isLt N_0

/-- Row `r` of a point's block in the array. -/
abbrev at_ (t : Fin cfg0.N) (r : Fin 1024) : Fin 4096 := ⟨1024 * t.val + r.val, by have := lt4 t; omega⟩

theorem blkY (t : Fin cfg0.N) (r : Fin 1024) (l : Fin 512) : bY m c t (ix2 r l) = Y m c (ix2 (at_ t r) l) := by
  obtain ⟨e0, e1, e2, e3, e4⟩ := idx t
  blk_ext [bY, iblk, V, e0]
theorem blkZ (t : Fin cfg0.N) (r : Fin 1024) (l : Fin 512) : bZ m c t (ix2 r l) = Z m c (ix2 (at_ t r) ⟨l.val, l.isLt.trans (by decide)⟩) := by
  obtain ⟨e0, e1, e2, e3, e4⟩ := idx t
  unfold bZ X0_1 Pipeline.Window.fill
  rw [dif_pos (moved0_1 t _)]
  blk_ext [iblk, V, e1]
theorem blkD (t : Fin cfg0.N) (l : Fin 512) : bD m c t (ix2 0 l) = D m c (ix2 0 l) := by
  obtain ⟨e0, e1, e2, e3, e4⟩ := idx t
  blk_ext [bD, iblk, V, e2]

theorem pay1_eq (t : Fin cfg0.N) (r : Fin 1024) (l : Fin 512) :
    k0_pay1 (F := Ideal) (bY m c t) (bD m c t) (bZ m c t) (ix2 r l) = skip (Y m c) (Z m c) (D m c) (ix2 (at_ t r) l) := by
  rw [pay1, blkY, blkZ, blkD]
  rfl

theorem pay2_eq (t : Fin cfg0.N) (r : Fin 1024) (l : Fin 512) :
    k0_pay2 (F := Ideal) (bY m c t) (bD m c t) (bZ m c t) (ix2 r l) = act (Y m c) (Z m c) (D m c) (ix2 (at_ t r) l) := by
  rw [pay2, pay1_eq]
  rfl

theorem kernel_skip : (dats m 0 c).arrAt 3 cfg0.N = skip (Y m c) (Z m c) (D m c) := by
  refine (dats m 0 c).arrAt_eq_of_covers 3 _ (by decide +kernel) fun t hf y => ?_
  blk_simp
  rw [after0_3]
  unfold outsAt0
  dsimp only
  unfold out0_A_3
  frame_out
  idx_vars y
  obtain ⟨e0, e1, e2, e3, e4⟩ := idx t
  refine (pay1_eq m c t y0 y1).trans (congrArg (skip _ _ _) ?_)
  blk_ext [e3]

theorem kernel_act : (dats m 0 c).arrAt 4 cfg0.N = act (Y m c) (Z m c) (D m c) := by
  refine (dats m 0 c).arrAt_eq_of_covers 4 _ (by decide +kernel) fun t hf y => ?_
  blk_simp
  rw [after0_4]
  unfold outsAt0
  dsimp only
  unfold out0_A_4
  frame_out
  idx_vars y
  obtain ⟨e0, e1, e2, e3, e4⟩ := idx t
  refine (pay2_eq m c t y0 y1).trans (congrArg (act _ _ _) ?_)
  blk_ext [e4]

end Kernel

section Reference
open Cert.S5OutRefIdeal Cert.S5OutRefIdeal.Gen

variable (Y : FVec Ideal S4096x512 .f32) (Z : FVec Ideal S4096x2176 .f32) (D : FVec Ideal S1x512 .f32)

/-- The output with its skip, as the reference writes it. -/
def rskip : FVec Ideal S4096x512 .f32 := addf Y (mulf (broadcastInDim S4096x512 ![0, 1] bcast_S1x512_S4096x512_0_1 D) (extractStridedSlice S4096x512 ![0, 0] Z slices_S4096x2176_S4096x512_0_0))

theorem rskip_eq : rskip Y Z D = skip Y Z D := by
  funext i
  idx_vars i
  pointwise [rskip, skip]
  first | done | rfl | skip

/-- The GELU as the reference writes it. -/
def rgelu (E : FVec Ideal S4096x512 .f32) : FVec Ideal S4096x512 .f32 := mulf E (mulf (broadcastInDim S4096x512 ![] bcast_S_S4096x512 (constant S_ .f32 0x3F000000#32)) (addf (broadcastInDim S4096x512 ![] bcast_S_S4096x512 (constant S_ .f32 0x3F800000#32)) (Host.tanh (mulf (broadcastInDim S4096x512 ![] bcast_S_S4096x512 (constant S_ .f32 0x3F4C422A#32)) (addf E (mulf (broadcastInDim S4096x512 ![] bcast_S_S4096x512 (constant S_ .f32 0x3D372713#32)) (mulf (mulf E E) E)))))))

theorem rgelu_eq : rgelu (rskip Y Z D) = act Y Z D := by
  rw [rskip_eq]
  funext i
  idx_vars i
  pointwise [rgelu, act, gelu, mul_assoc]

end Reference

end Cert.Proof.S5Out

end
-- ==== Proof.S5DuValue.lean ====
/- `s5_du` read at `Ideal`: the two parts of the gradient at the S5 block's input, added. -/
module

public import proofs.«01_k».proof.Proof.Gen.S5DuIdeal.Value
public import proofs.«01_k».proof.Proof.Gen.S5DuRefIdeal.Run
public import proofs.«01_k».proof.Proof.WindowSum
public import Idealize.ShloMosaic.Lib.Claim

@[expose] public section

set_option maxRecDepth 16384

noncomputable section

namespace Cert.Proof.S5Du

open Idealize.ShloMosaic Idealize.ShloMosaic.TcCoe Idealize.SL.Sem
open Idealize.ShloMosaic.Pipeline (Dat)

section Kernel
open Cert.S5DuIdeal Cert.S5DuIdeal.Gen

/-- The sum of two arrays. -/
def both (A B : S4096x512.Idx → EReal) : S4096x512.Idx → EReal := fun i => A i + B i

/-- The blocks' places on the grid of 4 points. -/
theorem idx : ∀ t : Fin grid0.N, win0_0.index t = ![t.val, 0] ∧ win0_1.index t = ![t.val, 0]
    ∧ win0_2.index t = ![t.val, 0] := by decide +kernel

/-- The kernel's result array. -/
theorem kernel_eq (m : (ℓ : Loc nD τ sig) → Buf (Elt Ideal) ℓ) (c : Dev nD) :
    (dats m 0 c).arrAt 2 cfg0.N = both (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  pointwise [k0_pay1, both]
  congr 1

end Kernel

section Reference
open Cert.S5DuRefIdeal

/-- The reference's sum. -/
theorem ref_eq (A B : FVec Ideal S4096x512 .f32) : addf A B = both A B := rfl

end Reference

end Cert.Proof.S5Du

end
-- ==== Proof.GateFwdValue.lean ====
/- `fox_gate` read at `Ideal`: kernel and reference both leave the running sum of the log forget gate, to the base two. -/
module

public import proofs.«01_k».proof.Proof.Gen.GateFwdIdeal.Value
public import proofs.«01_k».proof.Proof.Gen.GateFwdRefIdeal.Run
public import proofs.«01_k».proof.Proof.ProjSpec
public import proofs.«01_k».proof.Proof.WindowSum
public import proofs.«01_k».proof.Proof.GateValue
public import Idealize.ShloMosaic.Lib.Pipeline.ReadBack
public import Idealize.ShloMosaic.Lib.Claim

@[expose] public section

set_option maxRecDepth 16384

noncomputable section

namespace Cert.Proof.GateFwd

open Idealize.ShloMosaic Idealize.ShloMosaic.TcCoe Idealize.SL.Sem
open Idealize.ShloMosaic.Pipeline (Dat)
open Cert.Proof.WindowSum

section Spec
open Cert.GateFwdIdeal

/-- The log forget gate of a preactivation. -/
def lsg (x : EReal) : EReal := -(max (-x) 0 + Ideal.log1p (Ideal.exp (-FloatOps.absf (F := Ideal) (φ := .f32) (-x))))

variable (Z : S4096x2176.Idx → EReal) (B : S1x128.Idx → EReal)

/-- The log forget gate at position `n` of lane `l`. -/
def logf (l : Fin 128) (n : ℕ) : EReal := if h : n < 4096 then lsg (Z (ix2 ⟨n, h⟩ ⟨2048 + l.val, by omega⟩) + B (ix2 0 l)) else 0

/-- Its running sum, to the base two. -/
def gate : S4096x128.Idx → EReal := fun i => sumIco (logf Z B (i 1)) 0 ((i 0).val + 1) * Ideal.ofBits .f32 0x3FB8AA3B#32

/-- A sum over a block, of the positions up to `r` alone. -/
theorem sum_fin_upto (f : ℕ → EReal) (a N r : ℕ) (hr : r < N) :
    (∑ k : Fin N, if k.val ≤ r then f (a + k.val) else 0) = sumIco f a (a + (r + 1)) := by
  rw [← sum_fin, Finset.sum_range (f := fun k => f (a + k)) |>.symm,
    ← Finset.sum_range (f := fun k => if k ≤ r then f (a + k) else 0),
    ← Finset.sum_range_add_sum_Ico _ (show r + 1 ≤ N by omega)]
  refine (congrArg₂ (· + ·) (Finset.sum_congr rfl fun k hk => if_pos (by have := Finset.mem_range.1 hk; omega))
    (Finset.sum_eq_zero fun k hk => if_neg (by have := (Finset.mem_Ico.1 hk).1; omega))).trans (add_zero _)

end Spec

section Kernel
open Cert.GateFwdIdeal Cert.GateFwdIdeal.Gen

/-- The blocks' places on the grid of 16 points. -/
theorem idx : ∀ t : Fin grid0.N, win0_0.index t = ![t.val, 16] ∧ win0_1.index t = ![0, 0]
    ∧ win0_2.index t = ![t.val, 0] := by decide +kernel

variable (m : (ℓ : Loc nD τ sig) → Buf (Elt Ideal) ℓ) (c : Dev nD)

/-- The comparison of a column's number with a row's. -/
theorem sle : ∀ r k : Fin 256, IntOp.cmpi .sle (BitVec.ofNat 32 k.val) (BitVec.ofNat 32 r.val) = if k.val ≤ r.val then 1#1 else 0#1 := by
  intro r k
  have small : ∀ n : Fin 256, (BitVec.ofNat 32 n.val).toInt = n.val := fun n => by
    have h : (BitVec.ofNat 32 n.val).toNat = n.val := by rw [BitVec.toNat_ofNat]; omega
    rw [BitVec.toInt_eq_toNat_of_lt (by omega), h]
  have hr := small r
  have hk := small k
  by_cases h : k.val ≤ r.val <;> simp [IntOp.cmpi, BitVec.sle, hr, hk, h]

/-- The triangular product: the gates of the block up to row `r`, on top of those of earlier blocks. -/
theorem pay3 (v3 : FVec Ideal S256x128 .f32) (v4 v31 : FVec Ideal S1x128 .f32) (r : Fin 256) (l : Fin 128) :
    (k0_pay3 (F := Ideal) v3 v4 v31 (ix2 r l) : EReal)
      = (∑ k : Fin 256, if k.val ≤ r.val then lsg (v3 (ix2 k l) + v4 (ix2 0 l) : EReal) else 0) + v31 (ix2 0 l) := by
  pointwise [k0_pay3]
  refine congrArg₂ (· + ·) (@Finset.sum_congr _ EReal _ _ _ _ _ rfl fun k _ => ?_) rfl
  rw [sle, if_neg (not_not.2 rfl)]
  simp only [zero_sub]
  split_ifs
  · exact (congrArg (· * _) (show ((((BitVec.setWidth 32 1#1).toInt : ℤ) : ℝ) : EReal) = 1 by simp)).trans (one_mul _)
  · exact (congrArg (· * _) Proj.sitofp_zero).trans (zero_mul _)

/-- The result is that, to the base two. -/
theorem pay4 (v3 : FVec Ideal S256x128 .f32) (v4 v31 : FVec Ideal S1x128 .f32) (r : Fin 256) (l : Fin 128) :
    (k0_pay4 (F := Ideal) v3 v4 v31 (ix2 r l) : EReal) = (k0_pay3 (F := Ideal) v3 v4 v31 (ix2 r l) : EReal) * Ideal.ofBits .f32 0x3FB8AA3B#32 := by
  pointwise [k0_pay4]

/-- The carried row is the block's last. -/
theorem pay5 (v3 : FVec Ideal S256x128 .f32) (v4 v31 : FVec Ideal S1x128 .f32) (l : Fin 128) :
    k0_pay1 (F := Ideal) (k0_pay5 (F := Ideal) v3 v4 v31) (ix2 0 l) = k0_pay3 (F := Ideal) v3 v4 v31 (ix2 255 l) := by
  pointwise [k0_pay1, k0_pay5]
  first | done | rfl

/-- Where a block starts. -/
abbrev base (t : Fin cfg0.N) : ℕ := t.val * 256

abbrev Z := m ((c : Thread nD τ).loc main_arg0)
abbrev B := m ((c : Thread nD τ).loc main_arg1)

/-- The point's blocks. -/
abbrev X (t : Fin cfg0.N) : FVec Ideal S256x128 .f32 := iblk m c 0 t
abbrev Y (t : Fin cfg0.N) : FVec Ideal S1x128 .f32 := iblk m c 1 t

theorem lt16 (t : Fin cfg0.N) : t.val < 16 := lt_of_lt_of_eq t.isLt N_0

/-- A block of the gates. -/
theorem blk (t : Fin cfg0.N) (k : Fin 256) (l : Fin 128) :
    lsg (X m c t (ix2 k l) + Y m c t (ix2 0 l) : EReal) = logf (Z m c) (B m c) l (base t + k.val) := by
  have ht := lt16 t
  obtain ⟨e0, e1, e2⟩ := idx t
  rw [logf, dif_pos (show base t + k.val < 4096 by unfold base; omega)]
  refine congrArg lsg (congrArg₂ (· + ·) ?_ ?_)
  · blk_ext [X, iblk, V, e0, base]
  · blk_ext [Y, iblk, V, e1]

/-- The sums a point forms from the row `v` carried over, if that holds the sum up to the block's start. -/
theorem pay3_eq (t : Fin cfg0.N) (v : FVec Ideal S1x128 .f32) (hv : ∀ l, v (ix2 0 l) = sumIco (logf (Z m c) (B m c) l) 0 (base t))
    (r : Fin 256) (l : Fin 128) :
    k0_pay3 (F := Ideal) (X m c t) (Y m c t) v (ix2 r l) = sumIco (logf (Z m c) (B m c) l) 0 (base t + (r.val + 1)) := by
  rw [pay3, hv, add_comm]
  refine Eq.trans ?_ (sumIco_add _ (b := base t) (Nat.zero_le _) (Nat.le_add_right _ _))
  refine congrArg (_ + ·) ((@Finset.sum_congr _ EReal _ _ _ _ _ rfl fun k _ => ?_).trans (sum_fin_upto _ _ _ _ r.isLt))
  rw [blk]

theorem pay4_eq (t : Fin cfg0.N) (v : FVec Ideal S1x128 .f32) (hv : ∀ l, v (ix2 0 l) = sumIco (logf (Z m c) (B m c) l) 0 (base t))
    (r : Fin 256) (l : Fin 128) :
    k0_pay4 (F := Ideal) (X m c t) (Y m c t) v (ix2 r l)
      = sumIco (logf (Z m c) (B m c) l) 0 (base t + (r.val + 1)) * Ideal.ofBits .f32 0x3FB8AA3B#32 := by
  rw [pay4, pay3_eq m c t v hv]

theorem pay5_eq (t : Fin cfg0.N) (v : FVec Ideal S1x128 .f32) (hv : ∀ l, v (ix2 0 l) = sumIco (logf (Z m c) (B m c) l) 0 (base t)) (l : Fin 128) :
    k0_pay1 (F := Ideal) (k0_pay5 (F := Ideal) (X m c t) (Y m c t) v) (ix2 0 l) = sumIco (logf (Z m c) (B m c) l) 0 (base t + 256) :=
  (pay5 _ _ _ l).trans (pay3_eq m c t v hv 255 l)

/-- The scratch's first row. -/
theorem row0 (l : Fin 128) : (Rect.unit (s := S8x128) ![0, 0] ![1, 128] inb_S8x128_S1x128_0_0).emb (ix2 0 l) = ix2 0 l := by
  funext a
  apply Fin.ext
  match a with
  | ⟨0, _⟩ => rfl
  | ⟨1, _⟩ => show 0 + 1 * l.val = l.val; omega

/-- Loading the scratch's first row. -/
theorem ld_row (w : FVec Ideal S8x128 .f32) (l : Fin 128) :
    (View.ld (Val := Elt Ideal) (e' := .f32) w (Rect.unit (s := S8x128) ![0, 0] ![1, 128] inb_S8x128_S1x128_0_0) : FVec Ideal S1x128 .f32) (ix2 0 l)
      = w (ix2 0 l) := congrArg w (row0 l)

theorem fill (i : S8x128.Idx) : (k0_pay2 (F := Ideal) i : EReal) = 0 := by
  idx_vars i
  pointwise [k0_pay2]

/-- The row that the first point reads after it has cleared the scratch. -/
theorem first (t : Fin cfg0.N) (h0 : t.val % 16 = 0) (f : ℕ → EReal) (l : Fin 128) :
    (View.ld (Val := Elt Ideal) (e' := .f32) (k0_pay2 (F := Ideal)) (Rect.unit (s := S8x128) ![0, 0] ![1, 128] inb_S8x128_S1x128_0_0) : FVec Ideal S1x128 .f32) (ix2 0 l)
      = sumIco f 0 (base t) := by
  have ht := lt16 t
  rw [ld_row, fill, sumIco, Finset.Ico_eq_empty (by unfold base; omega), Finset.sum_empty]

/-- What point `t` leaves: the carried row and the block of sums. -/
def Left (t : Fin cfg0.N) (l : Fin 128) : Prop :=
  (outsAt0 m c t.val t.isLt).2 (ix2 0 l) = sumIco (logf (Z m c) (B m c) l) 0 (base t + 256)
    ∧ ∀ r : Fin 256, (outsAt0 m c t.val t.isLt).1 (ix2 r l)
        = sumIco (logf (Z m c) (B m c) l) 0 (base t + (r.val + 1)) * Ideal.ofBits .f32 0x3FB8AA3B#32

theorem left_A (t : Fin cfg0.N) (h0 : t.val % 16 = 0) (l : Fin 128) : Left m c t l := by
  unfold Left
  rw [outsAt0_A m c t h0]
  dsimp only
  unfold sout0_A_0 out0_A_2
  frame_out
  rw [View.readCov_fill _ _ _ _ _ (by intro a; fin_cases a <;> rfl)]
  refine ⟨?_, fun r => pay4_eq m c t _ (fun l => first t h0 _ l) r l⟩
  refine (congrArg _ (row0 l).symm).trans ((View.canon_cons_emb _ _ _ _).trans ?_)
  exact pay5_eq m c t _ (fun l => first t h0 _ l) l

theorem left_B (t : Fin cfg0.N) (h0 : ¬t.val % 16 = 0) (hp : t.val - 1 < cfg0.N)
    (h : ∀ l, Left m c ⟨t.val - 1, hp⟩ l) (l : Fin 128) : Left m c t l := by
  have e : base ⟨t.val - 1, hp⟩ + 256 = base t := by unfold base; dsimp only; omega
  unfold Left at h
  rw [e] at h
  unfold Left
  rw [outsAt0_B m c t h0]
  dsimp only
  unfold sout0_B_0 out0_B_2
  frame_out
  rw [read_unread_whole]
  refine ⟨?_, fun r => pay4_eq m c t _ (fun l => (ld_row _ l).trans (h l).1) r l⟩
  refine (congrArg _ (row0 l).symm).trans ((View.read_writes_cons_emb _ _ _ _ _ _).trans ?_)
  exact pay5_eq m c t _ (fun l => (ld_row _ l).trans (h l).1) l

theorem left (n : ℕ) : ∀ (t : Fin cfg0.N), t.val = n → ∀ l : Fin 128, Left m c t l := by
  induction n with
  | zero => exact fun t ht l => left_A m c t (by omega) l
  | succ n ih =>
    intro t ht l
    have h16 := lt16 t
    have hp : t.val - 1 < cfg0.N := (Nat.sub_le _ _).trans_lt t.isLt
    exact left_B m c t (by omega) hp (fun l => ih ⟨t.val - 1, hp⟩ (by dsimp only; omega) l) l

/-- The kernel's result array. -/
theorem kernel_eq : (dats m 0 c).arrAt 2 cfg0.N = gate (Z m c) (B m c) := by
  refine (dats m 0 c).arrAt_eq_of_covers 2 _ (by decide +kernel) fun t hf y => ?_
  blk_simp
  rw [after0_2]
  idx_vars y
  obtain ⟨e0, e1, e2⟩ := idx t
  unfold gate
  refine ((left m c t.val t rfl y1).2 y0).trans (congrArg (· * _) (congrArg₂ (fun l n => sumIco (logf _ _ l) 0 n) (Fin.ext ?_) ?_))
  · blk_simp [e2]
  · blk_simp [e2, base]
    first | done | omega

end Kernel

section Reference
open Cert.GateFwdRefIdeal Cert.GateFwdRefIdeal.Gen
open Cert.Proof.Gate (col at_)

/-- The running sum: the entries up to an index, added up. -/
theorem window (x : FVec Ideal S4096x128 .f32) :
    Host.reduceWindowAdd ![4096, 1] ![1, 1] ![4095, 0] ![0, 0] x (broadcastInDim S_ ![] bcast_S_S_ (constant S_ .f32 0x00000000#32))
        reduceWindows_S4096x128_S4096x128_w4096s1p4095_0_w1s1p0_0 h_S_
      = fun i => sumIco (at_ x (i 1)) 0 ((i 0).val + 1) := by
  funext i
  refine (eq_sum _ _ _ _ _ _ _ _ Ideal.ofBits_zero_f32 i).trans ?_
  idx_vars i
  have h0 : sumIco (at_ x i1) 0 (i0.val + 1) = ∑ k : Fin 4096, if 4095 ≤ i0.val + k.val then at_ x i1 (i0.val + k.val - 4095) else 0 := by
    rw [← Finset.sum_range (f := fun k => if 4095 ≤ i0.val + k then at_ x i1 (i0.val + k - 4095) else 0),
      ← Finset.sum_range_add_sum_Ico _ (show 4095 - i0.val ≤ 4096 by omega), Finset.sum_eq_zero fun k hk => if_neg (by have := Finset.mem_range.1 hk; omega),
      zero_add, Finset.sum_Ico_eq_sum_range, sumIco, Finset.sum_Ico_eq_sum_range, show 4096 - (4095 - i0.val) = i0.val + 1 - 0 by omega]
    refine Finset.sum_congr rfl fun k hk => ?_
    rw [if_pos (by omega)]
    exact congrArg _ (by omega)
  refine Eq.trans ?_ h0.symm
  rw [← Equiv.sum_comp col]
  refine @Finset.sum_congr _ EReal _ _ _ _ _ rfl fun k _ => ?_
  by_cases hk : 4095 ≤ i0.val + k.val
  · refine Eq.trans ?_ (if_pos hk).symm
    rw [dif_pos]
    · unfold at_
      rw [dif_pos (show i0.val + k.val - 4095 < 4096 by omega)]
      refine congrArg x ?_
      funext a
      apply Fin.ext
      match a with
      | ⟨0, _⟩ => show i0.val * 1 + k.val - 4095 = i0.val + k.val - 4095; omega
      | ⟨1, _⟩ => show i1.val * 1 + 0 - 0 = i1.val; omega
    · intro a
      match a with
      | ⟨0, _⟩ => exact ⟨show 4095 ≤ i0.val * 1 + k.val by omega, show i0.val * 1 + k.val - 4095 < 4096 by omega⟩
      | ⟨1, _⟩ => exact ⟨Nat.zero_le _, show i1.val * 1 + 0 - 0 < 128 by omega⟩
  · refine Eq.trans (dif_neg fun h => ?_) (if_neg hk).symm
    have : 4095 ≤ i0.val * 1 + k.val := (h 0).1
    omega

/-- The gate's preactivation. -/
def pre (Z : FVec Ideal S4096x2176 .f32) (B : FVec Ideal S1x128 .f32) : FVec Ideal S4096x128 .f32 :=
  addf (extractStridedSlice S4096x128 ![0, 2048] Z slices_S4096x2176_S4096x128_0_2048) (broadcastInDim S4096x128 ![0, 1] bcast_S1x128_S4096x128_0_1 B)

/-- The log forget gate as the reference writes it. -/
def rlsg (E : FVec Ideal S4096x128 .f32) : FVec Ideal S4096x128 .f32 :=
  Host.negf (select (cmpf .une (subf (Host.negf E) (broadcastInDim S4096x128 ![] bcast_S_S4096x128 (constant S_ .f32 0x00000000#32))) (subf (Host.negf E) (broadcastInDim S4096x128 ![] bcast_S_S4096x128 (constant S_ .f32 0x00000000#32)))) (addf (Host.negf E) (broadcastInDim S4096x128 ![] bcast_S_S4096x128 (constant S_ .f32 0x00000000#32))) (addf (maximumf (Host.negf E) (broadcastInDim S4096x128 ![] bcast_S_S4096x128 (constant S_ .f32 0x00000000#32))) (Host.log1p (Host.exp (Host.negf (Host.absf (subf (Host.negf E) (broadcastInDim S4096x128 ![] bcast_S_S4096x128 (constant S_ .f32 0x00000000#32)))))))))

theorem rlsg_eq (E : FVec Ideal S4096x128 .f32) (r : Fin 4096) (l : Fin 128) : (rlsg E (ix2 r l) : EReal) = lsg (E (ix2 r l)) := by
  pointwise [rlsg]
  rw [if_neg (not_not.2 rfl)]
  rfl

theorem at_lsg (Z : FVec Ideal S4096x2176 .f32) (B : FVec Ideal S1x128 .f32) (l : Fin 128) : at_ (rlsg (pre Z B)) l = logf Z B l := by
  funext n
  unfold at_ logf
  split_ifs with h
  · rw [rlsg_eq]
    refine congrArg lsg ?_
    pointwise [pre]
  · rfl

/-- The reference's result, as it is written. -/
def rgate (Z : FVec Ideal S4096x2176 .f32) (B : FVec Ideal S1x128 .f32) : FVec Ideal S4096x128 .f32 :=
  mulf (Host.reduceWindowAdd ![4096, 1] ![1, 1] ![4095, 0] ![0, 0] (rlsg (pre Z B)) (broadcastInDim S_ ![] bcast_S_S_ (constant S_ .f32 0x00000000#32))
    reduceWindows_S4096x128_S4096x128_w4096s1p4095_0_w1s1p0_0 h_S_) (broadcastInDim S4096x128 ![] bcast_S_S4096x128 (constant S_ .f32 0x3FB8AA3B#32))

/-- The reference's result. -/
theorem ref_eq (Z : FVec Ideal S4096x2176 .f32) (B : FVec Ideal S1x128 .f32) : rgate Z B = gate Z B := by
  unfold rgate
  rw [window]
  funext i
  idx_vars i
  pointwise [gate]
  rw [at_lsg]

end Reference

end Cert.Proof.GateFwd

end
-- ==== Proof.PoolSpec.lean ====
/- The pooling products: every group of 128 channels has its own matrix of 128 by 128, laid out by the kernel as one matrix
   of 512 by 512 with nothing off the groups. -/
module

public import proofs.«01_k».proof.Proof.Gen.PoolIdeal.Value
public import proofs.«01_k».proof.Proof.WindowSum
public import proofs.«01_k».proof.Proof.ProjSpec
public import Idealize.ShloMosaic.Lib.Claim

@[expose] public section

set_option maxRecDepth 16384

noncomputable section

namespace Cert.Proof.Pools

open Idealize.ShloMosaic Idealize.ShloMosaic.TcCoe Idealize.SL.Sem
open Cert.PoolIdeal Cert.PoolIdeal.Gen

/-- The group that a channel lies in. -/
abbrev grp (l : Fin 512) : Fin 4 := ⟨l.val / 128, by omega⟩
/-- Its place in the group. -/
abbrev lane (l : Fin 512) : Fin 128 := ⟨l.val % 128, by omega⟩
/-- The channel at a place of a group. -/
abbrev chan (g : Fin 4) (k : Fin 128) : Fin 512 := ⟨128 * g.val + k.val, by omega⟩

/-- The groups' matrices as one. -/
def dense (W : S4x128x128.Idx → EReal) (a b : Fin 512) : EReal := if grp a = grp b then W (ix3 (grp b) (lane a) (lane b)) else 0

/-- The product of each group with its matrix. -/
def poolFwd (X : S4096x512.Idx → EReal) (W : S4x128x128.Idx → EReal) : S4096x512.Idx → EReal :=
  fun i => ∑ k : Fin 128, X (ix2 (i 0) (chan (grp (i 1)) k)) * W (ix3 (grp (i 1)) k (lane (i 1)))

/-- The product of each group with its matrix transposed. -/
def poolDx (X : S4096x512.Idx → EReal) (W : S4x128x128.Idx → EReal) : S4096x512.Idx → EReal :=
  fun i => ∑ k : Fin 128, X (ix2 (i 0) (chan (grp (i 1)) k)) * W (ix3 (grp (i 1)) (lane (i 1)) k)

/-- A sum over the channels of which only one group counts. -/
theorem sum_grp (f : Fin 512 → EReal) (g : Fin 4) (h : ∀ k, grp k ≠ g → f k = 0) : ∑ k, f k = ∑ k : Fin 128, f (chan g k) := by
  rw [← (finProdFinEquiv : Fin 4 × Fin 128 ≃ Fin 512).sum_comp f, Fintype.sum_prod_type,
    @Finset.sum_eq_single _ EReal _ _ _ g]
  · refine Finset.sum_congr rfl fun k _ => congrArg f (Fin.ext ?_)
    simp only [finProdFinEquiv_apply_val]
    omega
  · intro a _ ha
    refine Finset.sum_eq_zero fun k _ => h _ fun e => ha ?_
    rw [← e]
    apply Fin.ext
    simp only [finProdFinEquiv_apply_val]
    omega
  · exact fun h => absurd (Finset.mem_univ _) h

theorem grp_chan (g : Fin 4) (k : Fin 128) : grp (chan g k) = g := Fin.ext (by dsimp only; omega)
theorem lane_chan (g : Fin 4) (k : Fin 128) : lane (chan g k) = k := Fin.ext (by dsimp only; omega)

/-- The product with the dense matrix. -/
theorem sum_dense (f : Fin 512 → EReal) (W : S4x128x128.Idx → EReal) (b : Fin 512) :
    ∑ k, f k * dense W k b = ∑ k : Fin 128, f (chan (grp b) k) * W (ix3 (grp b) k (lane b)) := by
  rw [sum_grp _ (grp b) fun k hk => by rw [dense, if_neg hk, mul_zero]]
  refine Finset.sum_congr rfl fun k _ => ?_
  rw [dense, if_pos (grp_chan _ k), lane_chan]

/-- The product with the dense matrix transposed. -/
theorem sum_dense_tr (f : Fin 512 → EReal) (W : S4x128x128.Idx → EReal) (b : Fin 512) :
    ∑ k, f k * dense W b k = ∑ k : Fin 128, f (chan (grp b) k) * W (ix3 (grp b) (lane b) k) := by
  rw [sum_grp _ (grp b) fun k hk => by rw [dense, if_neg (Ne.symm hk), mul_zero]]
  refine Finset.sum_congr rfl fun k _ => ?_
  rw [dense, if_pos (grp_chan _ k).symm, lane_chan, grp_chan]

/-- The mark of two equal groups. -/
theorem same : ∀ a b : Fin 4, IntOp.cmpi .eq (IntOp.addi (BitVec.ofNat 32 a.val) 0#32) (BitVec.ofNat 32 b.val) = if a = b then 1#1 else 0#1 := by
  decide +kernel

/-- The matrix that the host lays out. -/
theorem dense_apply (W : FVec Ideal S4x128x128 .f32) (a b : Fin 512) :
    (shapeCast S512x512 (mulf (broadcastInDim S4x128x4x128 ![0, 1, 2, 3] bcast_S4x1x4x1_S4x128x4x128_0_1_2_3
        (broadcastInDim S4x1x4x1 ![0, 2] bcast_S4x4_S4x1x4x1_0_2 (uitofp (F := Ideal) .f32 (cmpi .eq
          (addi (iotaInDim S4x4 32 0) (broadcastInDim S4x4 ![] bcast_S_S4x4 (constantI S_ 32 0#32))) (iotaInDim S4x4 32 1)))))
      (broadcastInDim S4x128x4x128 ![0, 1, 2, 3] bcast_S4x128x1x128_S4x128x4x128_0_1_2_3
        (broadcastInDim S4x128x1x128 ![0, 1, 3] bcast_S4x128x128_S4x128x1x128_0_1_3 W))) shapeCasts_S4x128x4x128_S512x512 (ix2 a b) : EReal)
      = dense W a b := by
  pointwise
  rw [same (grp a) (grp b), dense]
  by_cases h : grp a = grp b
  · rw [if_pos h, if_pos h]
    refine (congrArg₂ (· * ·) (show ((((1#1 : BitVec 1).toNat : ℕ) : ℝ) : EReal) = 1 by simp) rfl).trans ((one_mul _).trans ?_)
    rw [← h]
  · rw [if_neg h, if_neg h]
    exact (congrArg₂ (· * ·) (show ((((0#1 : BitVec 1).toNat : ℕ) : ℝ) : EReal) = 0 by simp) rfl).trans (zero_mul _)

end Cert.Proof.Pools

end
-- ==== Proof.PoolValue.lean ====
/- `pool_proj` read at `Ideal`: kernel and reference both leave each pooled group's product with its own matrix. -/
module

public import proofs.«01_k».proof.Proof.Gen.PoolIdeal.Value
public import proofs.«01_k».proof.Proof.Gen.PoolRefIdeal.Run
public import proofs.«01_k».proof.Proof.PoolSpec

@[expose] public section

set_option maxRecDepth 16384

noncomputable section

namespace Cert.Proof.Pool

open Idealize.ShloMosaic Idealize.ShloMosaic.TcCoe Idealize.SL.Sem
open Idealize.ShloMosaic.Pipeline (Dat)
open Cert.Proof.Pools

section Kernel
open Cert.PoolIdeal Cert.PoolIdeal.Gen

/-- The blocks' places on the grid of 2 points. -/
theorem idx : ∀ t : Fin grid0.N, win0_0.index t = ![t.val, 0] ∧ win0_1.index t = ![0, 0]
    ∧ win0_2.index t = ![t.val, 0] := by decide +kernel

variable (m : (ℓ : Loc nD τ sig) → Buf (Elt Ideal) ℓ) (c : Dev nD)

theorem pay1 (v0 : FVec Ideal S512x512 .f32) (v2 : FVec Ideal S2048x512 .bf16) (r : Fin 2048) (l : Fin 512) :
    (k0_pay1 (F := Ideal) v0 v2 (ix2 r l) : EReal) = ∑ k : Fin 512, (v2 (ix2 r k) * v0 (ix2 k l) : EReal) := by
  pointwise [k0_pay1]

abbrev X := m ((c : Thread nD τ).loc main_arg0)
abbrev W := m ((c : Thread nD τ).loc main_arg1)

/-- The point's blocks. -/
abbrev bX (t : Fin cfg0.N) : FVec Ideal S2048x512 .bf16 := iblk m c 0 t
abbrev bW (t : Fin cfg0.N) : FVec Ideal S512x512 .f32 := iblk m c 1 t

theorem lt2 (t : Fin cfg0.N) : t.val < 2 := lt_of_lt_of_eq t.isLt N_0

/-- Row `r` of a point's block in the array. -/
abbrev at_ (t : Fin cfg0.N) (r : Fin 2048) : Fin 4096 := ⟨2048 * t.val + r.val, by have := lt2 t; omega⟩

theorem blkX (t : Fin cfg0.N) (r : Fin 2048) (k : Fin 512) : bX m c t (ix2 r k) = X m c (ix2 (at_ t r) k) := by
  obtain ⟨e0, e1, e2⟩ := idx t
  blk_ext [bX, iblk, V, e0]

/-- The matrix that the region is entered with. -/
theorem entry (x : S512x512.Idx) : (V m c main_v11 : S512x512.Idx → EReal) x = dense (W m c) (x 0) (x 1) := by
  obtain ⟨x0, x1, rfl⟩ : ∃ (x0 x1 : Fin 512), x = ix2 x0 x1 := ⟨x 0, x 1, (ix2_eta x).symm⟩
  exact dense_apply _ x0 x1

theorem blkW (t : Fin cfg0.N) (a b : Fin 512) : bW m c t (ix2 a b) = dense (W m c) a b := by
  obtain ⟨e0, e1, e2⟩ := idx t
  unfold bW
  blk_simp [iblk]
  refine (entry m c _).trans (congrArg₂ (dense _) ?_ ?_) <;> (apply Fin.ext; blk_simp [e1])

/-- The kernel's result array. -/
theorem kernel_eq : (dats m 0 c).arrAt 2 cfg0.N = poolFwd (X m c) (W m c) := by
  refine (dats m 0 c).arrAt_eq_of_covers 2 _ (by decide +kernel) fun t hf y => ?_
  blk_simp
  rw [after0_2]
  frame_out
  idx_vars y
  obtain ⟨e0, e1, e2⟩ := idx t
  have h : k0_pay1 (F := Ideal) (bW m c t) (bX m c t) (ix2 y0 y1) = poolFwd (X m c) (W m c) (ix2 (at_ t y0) y1) := by
    rw [pay1]
    simp only [blkX, blkW]
    exact sum_dense (fun k => X m c (ix2 (at_ t y0) k)) _ _
  refine h.trans (congrArg (poolFwd _ _) ?_)
  blk_ext [e2]

end Kernel

section Reference
open Cert.PoolRefIdeal Cert.PoolRefIdeal.Gen

/-- The reference's result. -/
theorem ref_eq (X : FVec Ideal S4096x512 .bf16) (W : FVec Ideal S4x128x128 .f32) :
    shapeCast S4096x512 (transpose S4096x4x128 [2, 0, 1] (Host.dotGeneral dot_S4x128x128_S4096x4x128_S4x128x4096_1_2_2_0_0_1 none W (shapeCast S4096x4x128 (extf .f32 X bitsLt_bf16_f32) shapeCasts_S4096x512_S4096x4x128)) transposes_S4x128x4096_S4096x4x128_2_0_1) shapeCasts_S4096x4x128_S4096x512 = poolFwd X W := by
  funext i
  idx_vars i
  pointwise [poolFwd]
  refine @Finset.sum_congr _ EReal _ _ _ _ _ rfl fun k _ => ?_
  refine (mul_comm _ _).trans (congrArg₂ (· * ·) (congrArg X ?_) rfl)
  refine congrArg (ix2 _) (Fin.ext ?_)
  dsimp only
  omega

end Reference

end Cert.Proof.Pool

end
-- ==== Proof.PoolDxValue.lean ====
/- `pool_proj_dx` read at `Ideal`: kernel and reference both leave the pooling products' gradient at the pooled channels. -/
module

public import proofs.«01_k».proof.Proof.Gen.PoolDxIdeal.Value
public import proofs.«01_k».proof.Proof.Gen.PoolDxRefIdeal.Run
public import proofs.«01_k».proof.Proof.PoolSpec

@[expose] public section

set_option maxRecDepth 16384

noncomputable section

namespace Cert.Proof.PoolDx

open Idealize.ShloMosaic Idealize.ShloMosaic.TcCoe Idealize.SL.Sem
open Idealize.ShloMosaic.Pipeline (Dat)
open Cert.Proof.Pools

section Kernel
open Cert.PoolDxIdeal Cert.PoolDxIdeal.Gen

/-- The blocks' places on the grid of 2 points. -/
theorem idx : ∀ t : Fin grid0.N, win0_0.index t = ![t.val, 0] ∧ win0_1.index t = ![0, 0]
    ∧ win0_2.index t = ![t.val, 0] := by decide +kernel

variable (m : (ℓ : Loc nD τ sig) → Buf (Elt Ideal) ℓ) (c : Dev nD)

theorem pay1 (v0 : FVec Ideal S512x512 .f32) (v2 : FVec Ideal S2048x512 .bf16) (r : Fin 2048) (l : Fin 512) :
    (k0_pay1 (F := Ideal) v0 v2 (ix2 r l) : EReal) = ∑ k : Fin 512, (v2 (ix2 r k) * v0 (ix2 l k) : EReal) := by
  pointwise [k0_pay1]

abbrev X := m ((c : Thread nD τ).loc main_arg0)
abbrev W := m ((c : Thread nD τ).loc main_arg1)

/-- The point's blocks. -/
abbrev bX (t : Fin cfg0.N) : FVec Ideal S2048x512 .bf16 := iblk m c 0 t
abbrev bW (t : Fin cfg0.N) : FVec Ideal S512x512 .f32 := iblk m c 1 t

theorem lt2 (t : Fin cfg0.N) : t.val < 2 := lt_of_lt_of_eq t.isLt N_0

/-- Row `r` of a point's block in the array. -/
abbrev at_ (t : Fin cfg0.N) (r : Fin 2048) : Fin 4096 := ⟨2048 * t.val + r.val, by have := lt2 t; omega⟩

theorem blkX (t : Fin cfg0.N) (r : Fin 2048) (k : Fin 512) : bX m c t (ix2 r k) = X m c (ix2 (at_ t r) k) := by
  obtain ⟨e0, e1, e2⟩ := idx t
  blk_ext [bX, iblk, V, e0]

/-- The matrix that the region is entered with. -/
theorem entry (x : S512x512.Idx) : (V m c main_v11 : S512x512.Idx → EReal) x = dense (W m c) (x 0) (x 1) := by
  obtain ⟨x0, x1, rfl⟩ : ∃ (x0 x1 : Fin 512), x = ix2 x0 x1 := ⟨x 0, x 1, (ix2_eta x).symm⟩
  exact dense_apply _ x0 x1

theorem blkW (t : Fin cfg0.N) (a b : Fin 512) : bW m c t (ix2 a b) = dense (W m c) a b := by
  obtain ⟨e0, e1, e2⟩ := idx t
  unfold bW
  blk_simp [iblk]
  refine (entry m c _).trans (congrArg₂ (dense _) ?_ ?_) <;> (apply Fin.ext; blk_simp [e1])

/-- The kernel's result array. -/
theorem kernel_eq : (dats m 0 c).arrAt 2 cfg0.N = poolDx (X m c) (W m c) := by
  refine (dats m 0 c).arrAt_eq_of_covers 2 _ (by decide +kernel) fun t hf y => ?_
  blk_simp
  rw [after0_2]
  frame_out
  idx_vars y
  obtain ⟨e0, e1, e2⟩ := idx t
  have h : k0_pay1 (F := Ideal) (bW m c t) (bX m c t) (ix2 y0 y1) = poolDx (X m c) (W m c) (ix2 (at_ t y0) y1) := by
    rw [pay1]
    simp only [blkX, blkW]
    exact sum_dense_tr (fun k => X m c (ix2 (at_ t y0) k)) _ _
  refine h.trans (congrArg (poolDx _ _) ?_)
  blk_ext [e2]

end Kernel

section Reference
open Cert.PoolDxRefIdeal Cert.PoolDxRefIdeal.Gen

/-- The reference's result. -/
theorem ref_eq (X : FVec Ideal S4096x512 .bf16) (W : FVec Ideal S4x128x128 .f32) :
    shapeCast S4096x512 (transpose S4096x4x128 [1, 0, 2] (Host.dotGeneral dot_S4x128x4096_S4x128x128_S4x4096x128_1_2_2_1_0_0 none (transpose S4x128x4096 [1, 2, 0] (shapeCast S4096x4x128 (extf .f32 X bitsLt_bf16_f32) shapeCasts_S4096x512_S4096x4x128) transposes_S4096x4x128_S4x128x4096_1_2_0) W) transposes_S4x4096x128_S4096x4x128_1_0_2) shapeCasts_S4096x4x128_S4096x512 = poolDx X W := by
  funext i
  idx_vars i
  pointwise [poolDx]
  refine @Finset.sum_congr _ EReal _ _ _ _ _ rfl fun k _ => ?_
  refine congrArg₂ (· * ·) (congrArg X ?_) rfl
  refine congrArg (ix2 _) (Fin.ext ?_)
  dsimp only
  omega

end Reference

end Cert.Proof.PoolDx

end
-- ==== Proof.PoolDwValue.lean ====
/- `pool_proj_dw` read at `Ideal`: kernel and reference both leave the pooling products' gradient at their weights, as one dense array. -/
module

public import proofs.«01_k».proof.Proof.Gen.PoolDwIdeal.Value
public import proofs.«01_k».proof.Proof.Gen.PoolDwRefIdeal.Run
public import proofs.«01_k».proof.Proof.ProjSpec
public import Idealize.ShloMosaic.Lib.Claim

@[expose] public section

set_option maxRecDepth 16384

noncomputable section

namespace Cert.Proof.PoolDw

open Idealize.ShloMosaic Idealize.ShloMosaic.TcCoe Idealize.SL.Sem
open Idealize.ShloMosaic.Pipeline (Dat)
open Cert.Proof.Proj

section Kernel
open Cert.PoolDwIdeal Cert.PoolDwIdeal.Gen

/-- The blocks' places on the grid of one point. -/
theorem idx : ∀ t : Fin grid0.N, win0_0.index t = ![0, t.val] ∧ win0_1.index t = ![0, 0]
    ∧ win0_2.index t = ![t.val, 0] := by decide +kernel

/-- The kernel's result array. -/
theorem kernel_eq (m : (ℓ : Loc nD τ sig) → Buf (Elt Ideal) ℓ) (c : Dev nD) :
    (dats m 0 c).arrAt 2 cfg0.N = mmDw (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain ⟨e0, e1, e2⟩ := idx t
  have ht : t.val < 1 := lt_of_lt_of_eq t.isLt N_0
  pointwise [k0_pay1, mmDw]
  refine @Finset.sum_congr _ EReal _ _ _ _ _ rfl fun k _ => ?_
  congr 1
  · blk_ext [iblk, V, e0, e2]
  · blk_ext [iblk, V, e1, e2]

end Kernel

section Reference
open Cert.PoolDwRefIdeal Cert.PoolDwRefIdeal.Gen

/-- The reference's result. -/
theorem ref_eq (A0 A1 : FVec Ideal S4096x512 .bf16) :
    transpose S512x512 [1, 0] (Host.dotGeneral dot_S4096x512_S4096x512_S512x512_0_0_1_1_n_n none (extf .f32 A1 bitsLt_bf16_f32) (extf .f32 A0 bitsLt_bf16_f32)) transposes_S512x512_S512x512_1_0
      = mmDw A0 A1 := by
  funext i
  idx_vars i
  pointwise [mmDw]
  refine Finset.sum_congr rfl fun k _ => ?_
  rw [mul_comm]

end Reference

end Cert.Proof.PoolDw

end
-- ==== Proof.SmallClaims.lean ====
/- The value claims of the pooling products, of the forget gate, and of what stands around the S5 block. -/
module

public import proofs.«01_k».proof.Defs
public import proofs.«01_k».proof.Proof.PreNormValue
public import proofs.«01_k».proof.Proof.PoolScaleValue
public import proofs.«01_k».proof.Proof.S5OutValue
public import proofs.«01_k».proof.Proof.S5DuValue
public import proofs.«01_k».proof.Proof.GateFwdValue
public import proofs.«01_k».proof.Proof.PoolValue
public import proofs.«01_k».proof.Proof.PoolDxValue
public import proofs.«01_k».proof.Proof.PoolDwValue

@[expose] public section

set_option maxRecDepth 16384

noncomputable section

namespace Cert.Proof

open Idealize.ShloMosaic Idealize.ShloMosaic.TcCoe Idealize.SL.Sem

/-- The step's input, normed. -/
theorem algebraic_PreNorm : Cert.algebraic_PreNormIdeal_PreNormRefIdeal (hPreNormIdeal := Cert.PreNormIdeal.Gen.facts) (hPreNormRefIdeal := Cert.PreNormRefIdeal.Gen.facts) :=
  fun m g m' g' _ hA => ⟨fun c => PreNorm.normed (m ((c : Thread Cert.PreNormIdeal.nD Cert.PreNormIdeal.τ).loc Cert.PreNormIdeal.main_arg0)) (m ((c : Thread Cert.PreNormIdeal.nD Cert.PreNormIdeal.τ).loc Cert.PreNormIdeal.main_arg1)),
    (θ_run _ _ _).mono (fun _ h c => ⟨(h c).1.trans (PreNorm.kernel_eq m c), (h c).2⟩)
      (Cert.PreNormIdeal.Value.run_blocks m g),
    (θ_run _ _ _).mono (fun _ h c => ⟨by
      refine (h c).1.trans ((PreNorm.ref_eq _ _).trans ?_)
      rw [(hA c).1, (hA c).2], (h c).2⟩) (Cert.PreNormRefIdeal.Value.run m' g')⟩

/-- Back through the pooling's scale. -/
theorem algebraic_PoolScale : Cert.algebraic_PoolScaleIdeal_PoolScaleRefIdeal (hPoolScaleIdeal := Cert.PoolScaleIdeal.Gen.facts) (hPoolScaleRefIdeal := Cert.PoolScaleRefIdeal.Gen.facts) :=
  fun m g m' g' _ hA => ⟨fun c => PoolScale.da (m ((c : Thread Cert.PoolScaleIdeal.nD Cert.PoolScaleIdeal.τ).loc Cert.PoolScaleIdeal.main_arg1)) (m ((c : Thread Cert.PoolScaleIdeal.nD Cert.PoolScaleIdeal.τ).loc Cert.PoolScaleIdeal.main_arg2)),
    fun c => PoolScale.ds (m ((c : Thread Cert.PoolScaleIdeal.nD Cert.PoolScaleIdeal.τ).loc Cert.PoolScaleIdeal.main_arg0)) (m ((c : Thread Cert.PoolScaleIdeal.nD Cert.PoolScaleIdeal.τ).loc Cert.PoolScaleIdeal.main_arg2)),
    (θ_run _ _ _).mono (fun _ h c => ⟨(h c).1.trans (PoolScale.kernel_da m c), (h c).2.1.trans (PoolScale.kernel_ds m c), (h c).2.2⟩)
      (Cert.PoolScaleIdeal.Value.run_blocks m g),
    (θ_run _ _ _).mono (fun _ h c => ⟨by
      refine (h c).1.trans ((PoolScale.rda_eq _ _).trans ?_)
      rw [(hA c).2.1, (hA c).2.2], by
      refine (h c).2.1.trans ((PoolScale.rds_eq _ _).trans ?_)
      rw [(hA c).1, (hA c).2.2], (h c).2.2⟩) (Cert.PoolScaleRefIdeal.Value.run m' g')⟩

/-- The S5 block's output with its skip, and that through the GELU. -/
theorem algebraic_S5Out : Cert.algebraic_S5OutIdeal_S5OutRefIdeal (hS5OutIdeal := Cert.S5OutIdeal.Gen.facts) (hS5OutRefIdeal := Cert.S5OutRefIdeal.Gen.facts) :=
  fun m g m' g' _ hA => ⟨fun c => S5Out.skip (m ((c : Thread Cert.S5OutIdeal.nD Cert.S5OutIdeal.τ).loc Cert.S5OutIdeal.main_arg0)) (m ((c : Thread Cert.S5OutIdeal.nD Cert.S5OutIdeal.τ).loc Cert.S5OutIdeal.main_arg1)) (m ((c : Thread Cert.S5OutIdeal.nD Cert.S5OutIdeal.τ).loc Cert.S5OutIdeal.main_arg2)),
    fun c => S5Out.act (m ((c : Thread Cert.S5OutIdeal.nD Cert.S5OutIdeal.τ).loc Cert.S5OutIdeal.main_arg0)) (m ((c : Thread Cert.S5OutIdeal.nD Cert.S5OutIdeal.τ).loc Cert.S5OutIdeal.main_arg1)) (m ((c : Thread Cert.S5OutIdeal.nD Cert.S5OutIdeal.τ).loc Cert.S5OutIdeal.main_arg2)),
    (θ_run _ _ _).mono (fun _ h c => ⟨(h c).1.trans (S5Out.kernel_skip m c), (h c).2.1.trans (S5Out.kernel_act m c), (h c).2.2⟩)
      (Cert.S5OutIdeal.Value.run_blocks m g),
    (θ_run _ _ _).mono (fun _ h c => ⟨by
      refine (h c).1.trans ((S5Out.rskip_eq _ _ _).trans ?_)
      rw [(hA c).1, (hA c).2.1, (hA c).2.2], by
      refine (h c).2.1.trans ((S5Out.rgelu_eq _ _ _).trans ?_)
      rw [(hA c).1, (hA c).2.1, (hA c).2.2], (h c).2.2⟩) (Cert.S5OutRefIdeal.Value.run m' g')⟩

/-- The gradient at the S5 block's input. -/
theorem algebraic_S5Du : Cert.algebraic_S5DuIdeal_S5DuRefIdeal (hS5DuIdeal := Cert.S5DuIdeal.Gen.facts) (hS5DuRefIdeal := Cert.S5DuRefIdeal.Gen.facts) :=
  fun m g m' g' _ hA => ⟨fun c => S5Du.both (m ((c : Thread Cert.S5DuIdeal.nD Cert.S5DuIdeal.τ).loc Cert.S5DuIdeal.main_arg0)) (m ((c : Thread Cert.S5DuIdeal.nD Cert.S5DuIdeal.τ).loc Cert.S5DuIdeal.main_arg1)),
    (θ_run _ _ _).mono (fun _ h c => ⟨(h c).1.trans (S5Du.kernel_eq m c), (h c).2⟩)
      (Cert.S5DuIdeal.Value.run_blocks m g),
    (θ_run _ _ _).mono (fun _ h c => ⟨by
      refine (h c).1.trans ((S5Du.ref_eq _ _).trans ?_)
      rw [(hA c).1, (hA c).2], (h c).2⟩) (Cert.S5DuRefIdeal.Value.run m' g')⟩

/-- The running sum of the log forget gate. -/
theorem algebraic_GateFwd : Cert.algebraic_GateFwdIdeal_GateFwdRefIdeal (hGateFwdIdeal := Cert.GateFwdIdeal.Gen.facts) (hGateFwdRefIdeal := Cert.GateFwdRefIdeal.Gen.facts) :=
  fun m g m' g' _ hA => ⟨fun c => GateFwd.gate (m ((c : Thread Cert.GateFwdIdeal.nD Cert.GateFwdIdeal.τ).loc Cert.GateFwdIdeal.main_arg0)) (m ((c : Thread Cert.GateFwdIdeal.nD Cert.GateFwdIdeal.τ).loc Cert.GateFwdIdeal.main_arg1)),
    (θ_run _ _ _).mono (fun _ h c => ⟨(h c).1.trans (GateFwd.kernel_eq m c), (h c).2⟩)
      (Cert.GateFwdIdeal.Value.run_blocks m g),
    (θ_run _ _ _).mono (fun _ h c => ⟨by
      refine (h c).1.trans ((GateFwd.ref_eq _ _).trans ?_)
      rw [(hA c).1, (hA c).2], (h c).2⟩) (Cert.GateFwdRefIdeal.Value.run m' g')⟩

/-- The pooled groups' products. -/
theorem algebraic_Pool : Cert.algebraic_PoolIdeal_PoolRefIdeal (hPoolIdeal := Cert.PoolIdeal.Gen.facts) (hPoolRefIdeal := Cert.PoolRefIdeal.Gen.facts) :=
  fun m g m' g' _ hA => ⟨fun c => Pools.poolFwd (m ((c : Thread Cert.PoolIdeal.nD Cert.PoolIdeal.τ).loc Cert.PoolIdeal.main_arg0)) (m ((c : Thread Cert.PoolIdeal.nD Cert.PoolIdeal.τ).loc Cert.PoolIdeal.main_arg1)),
    (θ_run _ _ _).mono (fun _ h c => ⟨(h c).1.trans (Pool.kernel_eq m c), (h c).2⟩)
      (Cert.PoolIdeal.Value.run_blocks m g),
    (θ_run _ _ _).mono (fun _ h c => ⟨by
      refine (h c).1.trans ((Pool.ref_eq _ _).trans ?_)
      rw [(hA c).1, (hA c).2], (h c).2⟩) (Cert.PoolRefIdeal.Value.run m' g')⟩

/-- The products' gradient at the pooled channels. -/
theorem algebraic_PoolDx : Cert.algebraic_PoolDxIdeal_PoolDxRefIdeal (hPoolDxIdeal := Cert.PoolDxIdeal.Gen.facts) (hPoolDxRefIdeal := Cert.PoolDxRefIdeal.Gen.facts) :=
  fun m g m' g' _ hA => ⟨fun c => Pools.poolDx (m ((c : Thread Cert.PoolDxIdeal.nD Cert.PoolDxIdeal.τ).loc Cert.PoolDxIdeal.main_arg0)) (m ((c : Thread Cert.PoolDxIdeal.nD Cert.PoolDxIdeal.τ).loc Cert.PoolDxIdeal.main_arg1)),
    (θ_run _ _ _).mono (fun _ h c => ⟨(h c).1.trans (PoolDx.kernel_eq m c), (h c).2⟩)
      (Cert.PoolDxIdeal.Value.run_blocks m g),
    (θ_run _ _ _).mono (fun _ h c => ⟨by
      refine (h c).1.trans ((PoolDx.ref_eq _ _).trans ?_)
      rw [(hA c).1, (hA c).2], (h c).2⟩) (Cert.PoolDxRefIdeal.Value.run m' g')⟩

/-- The products' gradient at their weights. -/
theorem algebraic_PoolDw : Cert.algebraic_PoolDwIdeal_PoolDwRefIdeal (hPoolDwIdeal := Cert.PoolDwIdeal.Gen.facts) (hPoolDwRefIdeal := Cert.PoolDwRefIdeal.Gen.facts) :=
  fun m g m' g' _ hA => ⟨fun c => Proj.mmDw (m ((c : Thread Cert.PoolDwIdeal.nD Cert.PoolDwIdeal.τ).loc Cert.PoolDwIdeal.main_arg0)) (m ((c : Thread Cert.PoolDwIdeal.nD Cert.PoolDwIdeal.τ).loc Cert.PoolDwIdeal.main_arg1)),
    (θ_run _ _ _).mono (fun _ h c => ⟨(h c).1.trans (PoolDw.kernel_eq m c), (h c).2⟩)
      (Cert.PoolDwIdeal.Value.run_blocks m g),
    (θ_run _ _ _).mono (fun _ h c => ⟨by
      refine (h c).1.trans ((PoolDw.ref_eq _ _).trans ?_)
      rw [(hA c).1, (hA c).2], (h c).2⟩) (Cert.PoolDwRefIdeal.Value.run m' g')⟩

end Cert.Proof

end
-- ==== Proof.lean ====
/- The proof of the claims. -/
module

public import proofs.«01_k».proof.Defs
public import proofs.«01_k».proof.Proof.Gen.Up0.Frame
public import proofs.«01_k».proof.Proof.Gen.Up0Ideal.Value
public import proofs.«01_k».proof.Proof.Gen.Up0RefIdeal.Run
public import proofs.«01_k».proof.Proof.Gen.Down0.Frame
public import proofs.«01_k».proof.Proof.Gen.Down0Ideal.Value
public import proofs.«01_k».proof.Proof.Gen.Down0RefIdeal.Run
public import proofs.«01_k».proof.Proof.Gen.DownDx0.Frame
public import proofs.«01_k».proof.Proof.Gen.DownDx0Ideal.Value
public import proofs.«01_k».proof.Proof.Gen.DownDx0RefIdeal.Run
public import proofs.«01_k».proof.Proof.Gen.DownDw0.Frame
public import proofs.«01_k».proof.Proof.Gen.DownDw0Ideal.Value
public import proofs.«01_k».proof.Proof.Gen.DownDw0RefIdeal.Run
public import proofs.«01_k».proof.Proof.Gen.UpDx0.Frame
public import proofs.«01_k».proof.Proof.Gen.UpDx0Ideal.Value
public import proofs.«01_k».proof.Proof.Gen.UpDx0RefIdeal.Run
public import proofs.«01_k».proof.Proof.Gen.UpDw0.Frame
public import proofs.«01_k».proof.Proof.Gen.UpDw0Ideal.Value
public import proofs.«01_k».proof.Proof.Gen.UpDw0RefIdeal.Run
public import proofs.«01_k».proof.Proof.Gen.Up1.Frame
public import proofs.«01_k».proof.Proof.Gen.Up1Ideal.Value
public import proofs.«01_k».proof.Proof.Gen.Up1RefIdeal.Run
public import proofs.«01_k».proof.Proof.Gen.Down1.Frame
public import proofs.«01_k».proof.Proof.Gen.Down1Ideal.Value
public import proofs.«01_k».proof.Proof.Gen.Down1RefIdeal.Run
public import proofs.«01_k».proof.Proof.Gen.DownDx1.Frame
public import proofs.«01_k».proof.Proof.Gen.DownDx1Ideal.Value
public import proofs.«01_k».proof.Proof.Gen.DownDx1RefIdeal.Run
public import proofs.«01_k».proof.Proof.Gen.DownDw1.Frame
public import proofs.«01_k».proof.Proof.Gen.DownDw1Ideal.Value
public import proofs.«01_k».proof.Proof.Gen.DownDw1RefIdeal.Run
public import proofs.«01_k».proof.Proof.Gen.UpDx1.Frame
public import proofs.«01_k».proof.Proof.Gen.UpDx1Ideal.Value
public import proofs.«01_k».proof.Proof.Gen.UpDx1RefIdeal.Run
public import proofs.«01_k».proof.Proof.Gen.UpDw1.Frame
public import proofs.«01_k».proof.Proof.Gen.UpDw1Ideal.Value
public import proofs.«01_k».proof.Proof.Gen.UpDw1RefIdeal.Run
public import proofs.«01_k».proof.Proof.Gen.InE.Frame
public import proofs.«01_k».proof.Proof.Gen.InEIdeal.Value
public import proofs.«01_k».proof.Proof.Gen.InERefIdeal.Run
public import proofs.«01_k».proof.Proof.Gen.InEDx.Frame
public import proofs.«01_k».proof.Proof.Gen.InEDxIdeal.Value
public import proofs.«01_k».proof.Proof.Gen.InEDxRefIdeal.Run
public import proofs.«01_k».proof.Proof.Gen.InEDw.Frame
public import proofs.«01_k».proof.Proof.Gen.InEDwIdeal.Value
public import proofs.«01_k».proof.Proof.Gen.InEDwRefIdeal.Run
public import proofs.«01_k».proof.Proof.Gen.InO.Frame
public import proofs.«01_k».proof.Proof.Gen.InOIdeal.Value
public import proofs.«01_k».proof.Proof.Gen.InORefIdeal.Run
public import proofs.«01_k».proof.Proof.Gen.InODx.Frame
public import proofs.«01_k».proof.Proof.Gen.InODxIdeal.Value
public import proofs.«01_k».proof.Proof.Gen.InODxRefIdeal.Run
public import proofs.«01_k».proof.Proof.Gen.InODw.Frame
public import proofs.«01_k».proof.Proof.Gen.InODwIdeal.Value
public import proofs.«01_k».proof.Proof.Gen.InODwRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.OutDx.Frame
public import proofs.«01_k».proof.Proof.Gen.OutDxIdeal.Value
public import proofs.«01_k».proof.Proof.Gen.OutDxRefIdeal.Run
public import proofs.«01_k».proof.Proof.Gen.OutDw.Frame
public import proofs.«01_k».proof.Proof.Gen.OutDwIdeal.Value
public import proofs.«01_k».proof.Proof.Gen.OutDwRefIdeal.Run
public import proofs.«01_k».proof.Proof.Gen.Glu.Frame
public import proofs.«01_k».proof.Proof.Gen.GluIdeal.Value
public import proofs.«01_k».proof.Proof.Gen.GluRefIdeal.Run
public import proofs.«01_k».proof.Proof.Gen.GluDx.Frame
public import proofs.«01_k».proof.Proof.Gen.GluDxIdeal.Value
public import proofs.«01_k».proof.Proof.Gen.GluDxRefIdeal.Run
public import proofs.«01_k».proof.Proof.Gen.GluDw.Frame
public import proofs.«01_k».proof.Proof.Gen.GluDwIdeal.Value
public import proofs.«01_k».proof.Proof.Gen.GluDwRefIdeal.Run
public import proofs.«01_k».proof.Proof.Gen.AdamMlp.Frame
public import proofs.«01_k».proof.Proof.Gen.AdamMlpIdeal.Value
public import proofs.«01_k».proof.Proof.Gen.AdamMlpRefIdeal.Run
public import proofs.«01_k».proof.Proof.Gen.AdamInE.Frame
public import proofs.«01_k».proof.Proof.Gen.AdamInEIdeal.Value
public import proofs.«01_k».proof.Proof.Gen.AdamInERefIdeal.Run
public import proofs.«01_k».proof.Proof.Gen.AdamInO.Frame
public import proofs.«01_k».proof.Proof.Gen.AdamInOIdeal.Value
public import proofs.«01_k».proof.Proof.Gen.AdamInORefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamGlu.Frame
public import proofs.«01_k».proof.Proof.Gen.AdamGluIdeal.Value
public import proofs.«01_k».proof.Proof.Gen.AdamGluRefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamVec.Frame
public import proofs.«01_k».proof.Proof.Gen.AdamVecIdeal.Value
public import proofs.«01_k».proof.Proof.Gen.AdamVecRefIdeal.Run
public import proofs.«01_k».proof.Proof.Gen.GluBwd.Frame
public import proofs.«01_k».proof.Proof.Gen.GluBwdIdeal.Value
public import proofs.«01_k».proof.Proof.Gen.GluBwdRefIdeal.Run
public import proofs.«01_k».proof.Proof.Gen.Gate.Frame
public import proofs.«01_k».proof.Proof.Gen.GateIdeal.Value
public import proofs.«01_k».proof.Proof.Gen.GateRefIdeal.Run
public import proofs.«01_k».proof.Proof.Gen.Rms.Frame
public import proofs.«01_k».proof.Proof.Gen.RmsIdeal.Value
public import proofs.«01_k».proof.Proof.Gen.RmsRefIdeal.Run
public import proofs.«01_k».proof.Proof.Gen.NormRes.Frame
public import proofs.«01_k».proof.Proof.Gen.NormResIdeal.Value
public import proofs.«01_k».proof.Proof.Gen.NormResRefIdeal.Run
public import proofs.«01_k».proof.Proof.Gen.PostBwd.Frame
public import proofs.«01_k».proof.Proof.Gen.PostBwdIdeal.Value
public import proofs.«01_k».proof.Proof.Gen.PostBwdRefIdeal.Run
public import proofs.«01_k».proof.Proof.Gen.ResNorm.Frame
public import proofs.«01_k».proof.Proof.Gen.ResNormIdeal.Value
public import proofs.«01_k».proof.Proof.Gen.ResNormRefIdeal.Run
public import proofs.«01_k».proof.Proof.Gen.Loss.Frame
public import proofs.«01_k».proof.Proof.Gen.LossIdeal.Value
public import proofs.«01_k».proof.Proof.Gen.LossRefIdeal.Run
public import proofs.«01_k».proof.Proof.Gen.PreNorm.Frame
public import proofs.«01_k».proof.Proof.Gen.PreNormIdeal.Value
public import proofs.«01_k».proof.Proof.Gen.PreNormRefIdeal.Run
public import proofs.«01_k».proof.Proof.Gen.PoolScale.Frame
public import proofs.«01_k».proof.Proof.Gen.PoolScaleIdeal.Value
public import proofs.«01_k».proof.Proof.Gen.PoolScaleRefIdeal.Run
public import proofs.«01_k».proof.Proof.Gen.S5Out.Frame
public import proofs.«01_k».proof.Proof.Gen.S5OutIdeal.Value
public import proofs.«01_k».proof.Proof.Gen.S5OutRefIdeal.Run
public import proofs.«01_k».proof.Proof.Gen.S5Du.Frame
public import proofs.«01_k».proof.Proof.Gen.S5DuIdeal.Value
public import proofs.«01_k».proof.Proof.Gen.S5DuRefIdeal.Run
public import proofs.«01_k».proof.Proof.Gen.GateFwd.Frame
public import proofs.«01_k».proof.Proof.Gen.GateFwdIdeal.Value
public import proofs.«01_k».proof.Proof.Gen.GateFwdRefIdeal.Run
public import proofs.«01_k».proof.Proof.Gen.Pool.Frame
public import proofs.«01_k».proof.Proof.Gen.PoolIdeal.Value
public import proofs.«01_k».proof.Proof.Gen.PoolRefIdeal.Run
public import proofs.«01_k».proof.Proof.Gen.PoolDx.Frame
public import proofs.«01_k».proof.Proof.Gen.PoolDxIdeal.Value
public import proofs.«01_k».proof.Proof.Gen.PoolDxRefIdeal.Run
public import proofs.«01_k».proof.Proof.Gen.PoolDw.Frame
public import proofs.«01_k».proof.Proof.Gen.PoolDwIdeal.Value
public import proofs.«01_k».proof.Proof.Gen.PoolDwRefIdeal.Run
public import proofs.«01_k».proof.Proof.MlpClaims
public import proofs.«01_k».proof.Proof.ProjClaims
public import proofs.«01_k».proof.Proof.AdamClaims
public import proofs.«01_k».proof.Proof.GluBwdClaims
public import proofs.«01_k».proof.Proof.GateClaims
public import proofs.«01_k».proof.Proof.RmsClaims
public import proofs.«01_k».proof.Proof.NormsClaims
public import proofs.«01_k».proof.Proof.SmallClaims
public import Idealize.ShloMosaic.Adequacy
public import Idealize.ShloMosaic.Init

@[expose] public section

noncomputable section

namespace Cert.Proof

open Idealize.ShloMosaic Idealize.SL.Sem

/-- The reference of `Up0` runs to its end: host operations only, so no counter ever moves. -/
theorem frame_Up0Ref : Cert.quiescent_Up0RefIdeal (hUp0RefIdeal := Cert.Up0RefIdeal.Gen.facts) := fun m ρ _ =>
  (θ_run _ _ _).mono (fun r h => ⟨fun c => (h c).2.2, sem_eq_zero_of_no_sems rfl r.2⟩) (Cert.Up0RefIdeal.Value.run m ρ)

/-- The reference of `Down0` runs to its end: host operations only, so no counter ever moves. -/
theorem frame_Down0Ref : Cert.quiescent_Down0RefIdeal (hDown0RefIdeal := Cert.Down0RefIdeal.Gen.facts) := fun m ρ _ =>
  (θ_run _ _ _).mono (fun r h => ⟨fun c => (h c).2, sem_eq_zero_of_no_sems rfl r.2⟩) (Cert.Down0RefIdeal.Value.run m ρ)

/-- The reference of `DownDx0` runs to its end: host operations only, so no counter ever moves. -/
theorem frame_DownDx0Ref : Cert.quiescent_DownDx0RefIdeal (hDownDx0RefIdeal := Cert.DownDx0RefIdeal.Gen.facts) := fun m ρ _ =>
  (θ_run _ _ _).mono (fun r h => ⟨fun c => (h c).2, sem_eq_zero_of_no_sems rfl r.2⟩) (Cert.DownDx0RefIdeal.Value.run m ρ)

/-- The reference of `DownDw0` runs to its end: host operations only, so no counter ever moves. -/
theorem frame_DownDw0Ref : Cert.quiescent_DownDw0RefIdeal (hDownDw0RefIdeal := Cert.DownDw0RefIdeal.Gen.facts) := fun m ρ _ =>
  (θ_run _ _ _).mono (fun r h => ⟨fun c => (h c).2, sem_eq_zero_of_no_sems rfl r.2⟩) (Cert.DownDw0RefIdeal.Value.run m ρ)

/-- The reference of `UpDx0` runs to its end: host operations only, so no counter ever moves. -/
theorem frame_UpDx0Ref : Cert.quiescent_UpDx0RefIdeal (hUpDx0RefIdeal := Cert.UpDx0RefIdeal.Gen.facts) := fun m ρ _ =>
  (θ_run _ _ _).mono (fun r h => ⟨fun c => (h c).2, sem_eq_zero_of_no_sems rfl r.2⟩) (Cert.UpDx0RefIdeal.Value.run m ρ)

/-- The reference of `UpDw0` runs to its end: host operations only, so no counter ever moves. -/
theorem frame_UpDw0Ref : Cert.quiescent_UpDw0RefIdeal (hUpDw0RefIdeal := Cert.UpDw0RefIdeal.Gen.facts) := fun m ρ _ =>
  (θ_run _ _ _).mono (fun r h => ⟨fun c => (h c).2, sem_eq_zero_of_no_sems rfl r.2⟩) (Cert.UpDw0RefIdeal.Value.run m ρ)

/-- The reference of `Up1` runs to its end: host operations only, so no counter ever moves. -/
theorem frame_Up1Ref : Cert.quiescent_Up1RefIdeal (hUp1RefIdeal := Cert.Up1RefIdeal.Gen.facts) := fun m ρ _ =>
  (θ_run _ _ _).mono (fun r h => ⟨fun c => (h c).2.2, sem_eq_zero_of_no_sems rfl r.2⟩) (Cert.Up1RefIdeal.Value.run m ρ)

/-- The reference of `Down1` runs to its end: host operations only, so no counter ever moves. -/
theorem frame_Down1Ref : Cert.quiescent_Down1RefIdeal (hDown1RefIdeal := Cert.Down1RefIdeal.Gen.facts) := fun m ρ _ =>
  (θ_run _ _ _).mono (fun r h => ⟨fun c => (h c).2, sem_eq_zero_of_no_sems rfl r.2⟩) (Cert.Down1RefIdeal.Value.run m ρ)

/-- The reference of `DownDx1` runs to its end: host operations only, so no counter ever moves. -/
theorem frame_DownDx1Ref : Cert.quiescent_DownDx1RefIdeal (hDownDx1RefIdeal := Cert.DownDx1RefIdeal.Gen.facts) := fun m ρ _ =>
  (θ_run _ _ _).mono (fun r h => ⟨fun c => (h c).2, sem_eq_zero_of_no_sems rfl r.2⟩) (Cert.DownDx1RefIdeal.Value.run m ρ)

/-- The reference of `DownDw1` runs to its end: host operations only, so no counter ever moves. -/
theorem frame_DownDw1Ref : Cert.quiescent_DownDw1RefIdeal (hDownDw1RefIdeal := Cert.DownDw1RefIdeal.Gen.facts) := fun m ρ _ =>
  (θ_run _ _ _).mono (fun r h => ⟨fun c => (h c).2, sem_eq_zero_of_no_sems rfl r.2⟩) (Cert.DownDw1RefIdeal.Value.run m ρ)

/-- The reference of `UpDx1` runs to its end: host operations only, so no counter ever moves. -/
theorem frame_UpDx1Ref : Cert.quiescent_UpDx1RefIdeal (hUpDx1RefIdeal := Cert.UpDx1RefIdeal.Gen.facts) := fun m ρ _ =>
  (θ_run _ _ _).mono (fun r h => ⟨fun c => (h c).2, sem_eq_zero_of_no_sems rfl r.2⟩) (Cert.UpDx1RefIdeal.Value.run m ρ)

/-- The reference of `UpDw1` runs to its end: host operations only, so no counter ever moves. -/
theorem frame_UpDw1Ref : Cert.quiescent_UpDw1RefIdeal (hUpDw1RefIdeal := Cert.UpDw1RefIdeal.Gen.facts) := fun m ρ _ =>
  (θ_run _ _ _).mono (fun r h => ⟨fun c => (h c).2, sem_eq_zero_of_no_sems rfl r.2⟩) (Cert.UpDw1RefIdeal.Value.run m ρ)

/-- The reference of `InE` runs to its end: host operations only, so no counter ever moves. -/
theorem frame_InERef : Cert.quiescent_InERefIdeal (hInERefIdeal := Cert.InERefIdeal.Gen.facts) := fun m ρ _ =>
  (θ_run _ _ _).mono (fun r h => ⟨fun c => (h c).2, sem_eq_zero_of_no_sems rfl r.2⟩) (Cert.InERefIdeal.Value.run m ρ)

/-- The reference of `InEDx` runs to its end: host operations only, so no counter ever moves. -/
theorem frame_InEDxRef : Cert.quiescent_InEDxRefIdeal (hInEDxRefIdeal := Cert.InEDxRefIdeal.Gen.facts) := fun m ρ _ =>
  (θ_run _ _ _).mono (fun r h => ⟨fun c => (h c).2, sem_eq_zero_of_no_sems rfl r.2⟩) (Cert.InEDxRefIdeal.Value.run m ρ)

/-- The reference of `InEDw` runs to its end: host operations only, so no counter ever moves. -/
theorem frame_InEDwRef : Cert.quiescent_InEDwRefIdeal (hInEDwRefIdeal := Cert.InEDwRefIdeal.Gen.facts) := fun m ρ _ =>
  (θ_run _ _ _).mono (fun r h => ⟨fun c => (h c).2, sem_eq_zero_of_no_sems rfl r.2⟩) (Cert.InEDwRefIdeal.Value.run m ρ)

/-- The reference of `InO` runs to its end: host operations only, so no counter ever moves. -/
theorem frame_InORef : Cert.quiescent_InORefIdeal (hInORefIdeal := Cert.InORefIdeal.Gen.facts) := fun m ρ _ =>
  (θ_run _ _ _).mono (fun r h => ⟨fun c => (h c).2, sem_eq_zero_of_no_sems rfl r.2⟩) (Cert.InORefIdeal.Value.run m ρ)

/-- The reference of `InODx` runs to its end: host operations only, so no counter ever moves. -/
theorem frame_InODxRef : Cert.quiescent_InODxRefIdeal (hInODxRefIdeal := Cert.InODxRefIdeal.Gen.facts) := fun m ρ _ =>
  (θ_run _ _ _).mono (fun r h => ⟨fun c => (h c).2, sem_eq_zero_of_no_sems rfl r.2⟩) (Cert.InODxRefIdeal.Value.run m ρ)

/-- The reference of `InODw` runs to its end: host operations only, so no counter ever moves. -/
theorem frame_InODwRef : Cert.quiescent_InODwRefIdeal (hInODwRefIdeal := Cert.InODwRefIdeal.Gen.facts) := fun m ρ _ =>
  (θ_run _ _ _).mono (fun r h => ⟨fun c => (h c).2, sem_eq_zero_of_no_sems rfl r.2⟩) (Cert.InODwRefIdeal.Value.run m ρ)

/-- The reference of `Out` runs to its end: host operations only, so no counter ever moves. -/
theorem frame_OutRef : Cert.quiescent_OutRefIdeal (hOutRefIdeal := Cert.OutRefIdeal.Gen.facts) := fun m ρ _ =>
  (θ_run _ _ _).mono (fun r h => ⟨fun c => (h c).2, sem_eq_zero_of_no_sems rfl r.2⟩) (Cert.OutRefIdeal.Value.run m ρ)

/-- The reference of `OutDx` runs to its end: host operations only, so no counter ever moves. -/
theorem frame_OutDxRef : Cert.quiescent_OutDxRefIdeal (hOutDxRefIdeal := Cert.OutDxRefIdeal.Gen.facts) := fun m ρ _ =>
  (θ_run _ _ _).mono (fun r h => ⟨fun c => (h c).2, sem_eq_zero_of_no_sems rfl r.2⟩) (Cert.OutDxRefIdeal.Value.run m ρ)

/-- The reference of `OutDw` runs to its end: host operations only, so no counter ever moves. -/
theorem frame_OutDwRef : Cert.quiescent_OutDwRefIdeal (hOutDwRefIdeal := Cert.OutDwRefIdeal.Gen.facts) := fun m ρ _ =>
  (θ_run _ _ _).mono (fun r h => ⟨fun c => (h c).2, sem_eq_zero_of_no_sems rfl r.2⟩) (Cert.OutDwRefIdeal.Value.run m ρ)

/-- The reference of `Glu` runs to its end: host operations only, so no counter ever moves. -/
theorem frame_GluRef : Cert.quiescent_GluRefIdeal (hGluRefIdeal := Cert.GluRefIdeal.Gen.facts) := fun m ρ _ =>
  (θ_run _ _ _).mono (fun r h => ⟨fun c => (h c).2, sem_eq_zero_of_no_sems rfl r.2⟩) (Cert.GluRefIdeal.Value.run m ρ)

/-- The reference of `GluDx` runs to its end: host operations only, so no counter ever moves. -/
theorem frame_GluDxRef : Cert.quiescent_GluDxRefIdeal (hGluDxRefIdeal := Cert.GluDxRefIdeal.Gen.facts) := fun m ρ _ =>
  (θ_run _ _ _).mono (fun r h => ⟨fun c => (h c).2, sem_eq_zero_of_no_sems rfl r.2⟩) (Cert.GluDxRefIdeal.Value.run m ρ)

/-- The reference of `GluDw` runs to its end: host operations only, so no counter ever moves. -/
theorem frame_GluDwRef : Cert.quiescent_GluDwRefIdeal (hGluDwRefIdeal := Cert.GluDwRefIdeal.Gen.facts) := fun m ρ _ =>
  (θ_run _ _ _).mono (fun r h => ⟨fun c => (h c).2, sem_eq_zero_of_no_sems rfl r.2⟩) (Cert.GluDwRefIdeal.Value.run m ρ)

/-- The reference of `AdamMlp` runs to its end: host operations only, so no counter ever moves. -/
theorem frame_AdamMlpRef : Cert.quiescent_AdamMlpRefIdeal (hAdamMlpRefIdeal := Cert.AdamMlpRefIdeal.Gen.facts) := fun m ρ _ =>
  (θ_run _ _ _).mono (fun r h => ⟨fun c => (h c).2.2.2, sem_eq_zero_of_no_sems rfl r.2⟩) (Cert.AdamMlpRefIdeal.Value.run m ρ)

/-- The reference of `AdamInE` runs to its end: host operations only, so no counter ever moves. -/
theorem frame_AdamInERef : Cert.quiescent_AdamInERefIdeal (hAdamInERefIdeal := Cert.AdamInERefIdeal.Gen.facts) := fun m ρ _ =>
  (θ_run _ _ _).mono (fun r h => ⟨fun c => (h c).2.2.2, sem_eq_zero_of_no_sems rfl r.2⟩) (Cert.AdamInERefIdeal.Value.run m ρ)

/-- The reference of `AdamInO` runs to its end: host operations only, so no counter ever moves. -/
theorem frame_AdamInORef : Cert.quiescent_AdamInORefIdeal (hAdamInORefIdeal := Cert.AdamInORefIdeal.Gen.facts) := fun m ρ _ =>
  (θ_run _ _ _).mono (fun r h => ⟨fun c => (h c).2.2.2, sem_eq_zero_of_no_sems rfl r.2⟩) (Cert.AdamInORefIdeal.Value.run m ρ)

/-- The reference of `AdamOut` runs to its end: host operations only, so no counter ever moves. -/
theorem frame_AdamOutRef : Cert.quiescent_AdamOutRefIdeal (hAdamOutRefIdeal := Cert.AdamOutRefIdeal.Gen.facts) := fun m ρ _ =>
  (θ_run _ _ _).mono (fun r h => ⟨fun c => (h c).2.2.2, sem_eq_zero_of_no_sems rfl r.2⟩) (Cert.AdamOutRefIdeal.Value.run m ρ)

/-- The reference of `AdamGlu` runs to its end: host operations only, so no counter ever moves. -/
theorem frame_AdamGluRef : Cert.quiescent_AdamGluRefIdeal (hAdamGluRefIdeal := Cert.AdamGluRefIdeal.Gen.facts) := fun m ρ _ =>
  (θ_run _ _ _).mono (fun r h => ⟨fun c => (h c).2.2.2, sem_eq_zero_of_no_sems rfl r.2⟩) (Cert.AdamGluRefIdeal.Value.run m ρ)

/-- The reference of `AdamSmall` runs to its end: host operations only, so no counter ever moves. -/
theorem frame_AdamSmallRef : Cert.quiescent_AdamSmallRefIdeal (hAdamSmallRefIdeal := Cert.AdamSmallRefIdeal.Gen.facts) := fun m ρ _ =>
  (θ_run _ _ _).mono (fun r h => ⟨fun c => (h c).2.2.2, sem_eq_zero_of_no_sems rfl r.2⟩) (Cert.AdamSmallRefIdeal.Value.run m ρ)

/-- The reference of `AdamVec` runs to its end: host operations only, so no counter ever moves. -/
theorem frame_AdamVecRef : Cert.quiescent_AdamVecRefIdeal (hAdamVecRefIdeal := Cert.AdamVecRefIdeal.Gen.facts) := fun m ρ _ =>
  (θ_run _ _ _).mono (fun r h => ⟨fun c => (h c).2.2.2, sem_eq_zero_of_no_sems rfl r.2⟩) (Cert.AdamVecRefIdeal.Value.run m ρ)

/-- The reference of `GluBwd` runs to its end: host operations only, so no counter ever moves. -/
theorem frame_GluBwdRef : Cert.quiescent_GluBwdRefIdeal (hGluBwdRefIdeal := Cert.GluBwdRefIdeal.Gen.facts) := fun m ρ _ =>
  (θ_run _ _ _).mono (fun r h => ⟨fun c => (h c).2.2, sem_eq_zero_of_no_sems rfl r.2⟩) (Cert.GluBwdRefIdeal.Value.run m ρ)

/-- The reference of `Gate` runs to its end: host operations only, so no counter ever moves. -/
theorem frame_GateRef : Cert.quiescent_GateRefIdeal (hGateRefIdeal := Cert.GateRefIdeal.Gen.facts) := fun m ρ _ =>
  (θ_run _ _ _).mono (fun r h => ⟨fun c => (h c).2.2, sem_eq_zero_of_no_sems rfl r.2⟩) (Cert.GateRefIdeal.Value.run m ρ)

/-- The reference of `Rms` runs to its end: host operations only, so no counter ever moves. -/
theorem frame_RmsRef : Cert.quiescent_RmsRefIdeal (hRmsRefIdeal := Cert.RmsRefIdeal.Gen.facts) := fun m ρ _ =>
  (θ_run _ _ _).mono (fun r h => ⟨fun c => (h c).2.2, sem_eq_zero_of_no_sems rfl r.2⟩) (Cert.RmsRefIdeal.Value.run m ρ)

/-- The reference of `NormRes` runs to its end: host operations only, so no counter ever moves. -/
theorem frame_NormResRef : Cert.quiescent_NormResRefIdeal (hNormResRefIdeal := Cert.NormResRefIdeal.Gen.facts) := fun m ρ _ =>
  (θ_run _ _ _).mono (fun r h => ⟨fun c => (h c).2.2.2.2, sem_eq_zero_of_no_sems rfl r.2⟩) (Cert.NormResRefIdeal.Value.run m ρ)

/-- The reference of `PostBwd` runs to its end: host operations only, so no counter ever moves. -/
theorem frame_PostBwdRef : Cert.quiescent_PostBwdRefIdeal (hPostBwdRefIdeal := Cert.PostBwdRefIdeal.Gen.facts) := fun m ρ _ =>
  (θ_run _ _ _).mono (fun r h => ⟨fun c => (h c).2.2, sem_eq_zero_of_no_sems rfl r.2⟩) (Cert.PostBwdRefIdeal.Value.run m ρ)

/-- The reference of `ResNorm` runs to its end: host operations only, so no counter ever moves. -/
theorem frame_ResNormRef : Cert.quiescent_ResNormRefIdeal (hResNormRefIdeal := Cert.ResNormRefIdeal.Gen.facts) := fun m ρ _ =>
  (θ_run _ _ _).mono (fun r h => ⟨fun c => (h c).2.2, sem_eq_zero_of_no_sems rfl r.2⟩) (Cert.ResNormRefIdeal.Value.run m ρ)

/-- The reference of `Loss` runs to its end: host operations only, so no counter ever moves. -/
theorem frame_LossRef : Cert.quiescent_LossRefIdeal (hLossRefIdeal := Cert.LossRefIdeal.Gen.facts) := fun m ρ _ =>
  (θ_run _ _ _).mono (fun r h => ⟨fun c => (h c).2.2, sem_eq_zero_of_no_sems rfl r.2⟩) (Cert.LossRefIdeal.Value.run m ρ)

/-- The reference of `PreNorm` runs to its end: host operations only, so no counter ever moves. -/
theorem frame_PreNormRef : Cert.quiescent_PreNormRefIdeal (hPreNormRefIdeal := Cert.PreNormRefIdeal.Gen.facts) := fun m ρ _ =>
  (θ_run _ _ _).mono (fun r h => ⟨fun c => (h c).2, sem_eq_zero_of_no_sems rfl r.2⟩) (Cert.PreNormRefIdeal.Value.run m ρ)

/-- The reference of `PoolScale` runs to its end: host operations only, so no counter ever moves. -/
theorem frame_PoolScaleRef : Cert.quiescent_PoolScaleRefIdeal (hPoolScaleRefIdeal := Cert.PoolScaleRefIdeal.Gen.facts) := fun m ρ _ =>
  (θ_run _ _ _).mono (fun r h => ⟨fun c => (h c).2.2, sem_eq_zero_of_no_sems rfl r.2⟩) (Cert.PoolScaleRefIdeal.Value.run m ρ)

/-- The reference of `S5Out` runs to its end: host operations only, so no counter ever moves. -/
theorem frame_S5OutRef : Cert.quiescent_S5OutRefIdeal (hS5OutRefIdeal := Cert.S5OutRefIdeal.Gen.facts) := fun m ρ _ =>
  (θ_run _ _ _).mono (fun r h => ⟨fun c => (h c).2.2, sem_eq_zero_of_no_sems rfl r.2⟩) (Cert.S5OutRefIdeal.Value.run m ρ)

/-- The reference of `S5Du` runs to its end: host operations only, so no counter ever moves. -/
theorem frame_S5DuRef : Cert.quiescent_S5DuRefIdeal (hS5DuRefIdeal := Cert.S5DuRefIdeal.Gen.facts) := fun m ρ _ =>
  (θ_run _ _ _).mono (fun r h => ⟨fun c => (h c).2, sem_eq_zero_of_no_sems rfl r.2⟩) (Cert.S5DuRefIdeal.Value.run m ρ)

/-- The reference of `GateFwd` runs to its end: host operations only, so no counter ever moves. -/
theorem frame_GateFwdRef : Cert.quiescent_GateFwdRefIdeal (hGateFwdRefIdeal := Cert.GateFwdRefIdeal.Gen.facts) := fun m ρ _ =>
  (θ_run _ _ _).mono (fun r h => ⟨fun c => (h c).2, sem_eq_zero_of_no_sems rfl r.2⟩) (Cert.GateFwdRefIdeal.Value.run m ρ)

/-- The reference of `Pool` runs to its end: host operations only, so no counter ever moves. -/
theorem frame_PoolRef : Cert.quiescent_PoolRefIdeal (hPoolRefIdeal := Cert.PoolRefIdeal.Gen.facts) := fun m ρ _ =>
  (θ_run _ _ _).mono (fun r h => ⟨fun c => (h c).2, sem_eq_zero_of_no_sems rfl r.2⟩) (Cert.PoolRefIdeal.Value.run m ρ)

/-- The reference of `PoolDx` runs to its end: host operations only, so no counter ever moves. -/
theorem frame_PoolDxRef : Cert.quiescent_PoolDxRefIdeal (hPoolDxRefIdeal := Cert.PoolDxRefIdeal.Gen.facts) := fun m ρ _ =>
  (θ_run _ _ _).mono (fun r h => ⟨fun c => (h c).2, sem_eq_zero_of_no_sems rfl r.2⟩) (Cert.PoolDxRefIdeal.Value.run m ρ)

/-- The reference of `PoolDw` runs to its end: host operations only, so no counter ever moves. -/
theorem frame_PoolDwRef : Cert.quiescent_PoolDwRefIdeal (hPoolDwRefIdeal := Cert.PoolDwRefIdeal.Gen.facts) := fun m ρ _ =>
  (θ_run _ _ _).mono (fun r h => ⟨fun c => (h c).2, sem_eq_zero_of_no_sems rfl r.2⟩) (Cert.PoolDwRefIdeal.Value.run m ρ)

/-- Every claim. -/
theorem claim : Cert.Claim := ⟨Cert.Up0.Gen.facts, Cert.Up0Ideal.Gen.facts, Cert.Up0RefIdeal.Gen.facts,
  Cert.Down0.Gen.facts, Cert.Down0Ideal.Gen.facts, Cert.Down0RefIdeal.Gen.facts,
  Cert.DownDx0.Gen.facts, Cert.DownDx0Ideal.Gen.facts, Cert.DownDx0RefIdeal.Gen.facts,
  Cert.DownDw0.Gen.facts, Cert.DownDw0Ideal.Gen.facts, Cert.DownDw0RefIdeal.Gen.facts,
  Cert.UpDx0.Gen.facts, Cert.UpDx0Ideal.Gen.facts, Cert.UpDx0RefIdeal.Gen.facts,
  Cert.UpDw0.Gen.facts, Cert.UpDw0Ideal.Gen.facts, Cert.UpDw0RefIdeal.Gen.facts,
  Cert.Up1.Gen.facts, Cert.Up1Ideal.Gen.facts, Cert.Up1RefIdeal.Gen.facts,
  Cert.Down1.Gen.facts, Cert.Down1Ideal.Gen.facts, Cert.Down1RefIdeal.Gen.facts,
  Cert.DownDx1.Gen.facts, Cert.DownDx1Ideal.Gen.facts, Cert.DownDx1RefIdeal.Gen.facts,
  Cert.DownDw1.Gen.facts, Cert.DownDw1Ideal.Gen.facts, Cert.DownDw1RefIdeal.Gen.facts,
  Cert.UpDx1.Gen.facts, Cert.UpDx1Ideal.Gen.facts, Cert.UpDx1RefIdeal.Gen.facts,
  Cert.UpDw1.Gen.facts, Cert.UpDw1Ideal.Gen.facts, Cert.UpDw1RefIdeal.Gen.facts,
  Cert.InE.Gen.facts, Cert.InEIdeal.Gen.facts, Cert.InERefIdeal.Gen.facts,
  Cert.InEDx.Gen.facts, Cert.InEDxIdeal.Gen.facts, Cert.InEDxRefIdeal.Gen.facts,
  Cert.InEDw.Gen.facts, Cert.InEDwIdeal.Gen.facts, Cert.InEDwRefIdeal.Gen.facts,
  Cert.InO.Gen.facts, Cert.InOIdeal.Gen.facts, Cert.InORefIdeal.Gen.facts,
  Cert.InODx.Gen.facts, Cert.InODxIdeal.Gen.facts, Cert.InODxRefIdeal.Gen.facts,
  Cert.InODw.Gen.facts, Cert.InODwIdeal.Gen.facts, Cert.InODwRefIdeal.Gen.facts,
  Cert.Out.Gen.facts, Cert.OutIdeal.Gen.facts, Cert.OutRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.Glu.Gen.facts, Cert.GluIdeal.Gen.facts, Cert.GluRefIdeal.Gen.facts,
  Cert.GluDx.Gen.facts, Cert.GluDxIdeal.Gen.facts, Cert.GluDxRefIdeal.Gen.facts,
  Cert.GluDw.Gen.facts, Cert.GluDwIdeal.Gen.facts, Cert.GluDwRefIdeal.Gen.facts,
  Cert.AdamMlp.Gen.facts, Cert.AdamMlpIdeal.Gen.facts, Cert.AdamMlpRefIdeal.Gen.facts,
  Cert.AdamInE.Gen.facts, Cert.AdamInEIdeal.Gen.facts, Cert.AdamInERefIdeal.Gen.facts,
  Cert.AdamInO.Gen.facts, Cert.AdamInOIdeal.Gen.facts, Cert.AdamInORefIdeal.Gen.facts,
  Cert.AdamOut.Gen.facts, Cert.AdamOutIdeal.Gen.facts, Cert.AdamOutRefIdeal.Gen.facts,
  Cert.AdamGlu.Gen.facts, Cert.AdamGluIdeal.Gen.facts, Cert.AdamGluRefIdeal.Gen.facts,
  Cert.AdamSmall.Gen.facts, Cert.AdamSmallIdeal.Gen.facts, Cert.AdamSmallRefIdeal.Gen.facts,
  Cert.AdamVec.Gen.facts, Cert.AdamVecIdeal.Gen.facts, Cert.AdamVecRefIdeal.Gen.facts,
  Cert.GluBwd.Gen.facts, Cert.GluBwdIdeal.Gen.facts, Cert.GluBwdRefIdeal.Gen.facts,
  Cert.Gate.Gen.facts, Cert.GateIdeal.Gen.facts, Cert.GateRefIdeal.Gen.facts,
  Cert.Rms.Gen.facts, Cert.RmsIdeal.Gen.facts, Cert.RmsRefIdeal.Gen.facts,
  Cert.NormRes.Gen.facts, Cert.NormResIdeal.Gen.facts, Cert.NormResRefIdeal.Gen.facts,
  Cert.PostBwd.Gen.facts, Cert.PostBwdIdeal.Gen.facts, Cert.PostBwdRefIdeal.Gen.facts,
  Cert.ResNorm.Gen.facts, Cert.ResNormIdeal.Gen.facts, Cert.ResNormRefIdeal.Gen.facts,
  Cert.Loss.Gen.facts, Cert.LossIdeal.Gen.facts, Cert.LossRefIdeal.Gen.facts,
  Cert.PreNorm.Gen.facts, Cert.PreNormIdeal.Gen.facts, Cert.PreNormRefIdeal.Gen.facts,
  Cert.PoolScale.Gen.facts, Cert.PoolScaleIdeal.Gen.facts, Cert.PoolScaleRefIdeal.Gen.facts,
  Cert.S5Out.Gen.facts, Cert.S5OutIdeal.Gen.facts, Cert.S5OutRefIdeal.Gen.facts,
  Cert.S5Du.Gen.facts, Cert.S5DuIdeal.Gen.facts, Cert.S5DuRefIdeal.Gen.facts,
  Cert.GateFwd.Gen.facts, Cert.GateFwdIdeal.Gen.facts, Cert.GateFwdRefIdeal.Gen.facts,
  Cert.Pool.Gen.facts, Cert.PoolIdeal.Gen.facts, Cert.PoolRefIdeal.Gen.facts,
  Cert.PoolDx.Gen.facts, Cert.PoolDxIdeal.Gen.facts, Cert.PoolDxRefIdeal.Gen.facts,
  Cert.PoolDw.Gen.facts, Cert.PoolDwIdeal.Gen.facts, Cert.PoolDwRefIdeal.Gen.facts,
  fun m ρ _ => Cert.Up0.Gen.frame m ρ, fun m ρ _ => Cert.Up0Ideal.Gen.frame m ρ, frame_Up0Ref,
  fun m ρ _ => Cert.Down0.Gen.frame m ρ, fun m ρ _ => Cert.Down0Ideal.Gen.frame m ρ, frame_Down0Ref,
  fun m ρ _ => Cert.DownDx0.Gen.frame m ρ, fun m ρ _ => Cert.DownDx0Ideal.Gen.frame m ρ, frame_DownDx0Ref,
  fun m ρ _ => Cert.DownDw0.Gen.frame m ρ, fun m ρ _ => Cert.DownDw0Ideal.Gen.frame m ρ, frame_DownDw0Ref,
  fun m ρ _ => Cert.UpDx0.Gen.frame m ρ, fun m ρ _ => Cert.UpDx0Ideal.Gen.frame m ρ, frame_UpDx0Ref,
  fun m ρ _ => Cert.UpDw0.Gen.frame m ρ, fun m ρ _ => Cert.UpDw0Ideal.Gen.frame m ρ, frame_UpDw0Ref,
  fun m ρ _ => Cert.Up1.Gen.frame m ρ, fun m ρ _ => Cert.Up1Ideal.Gen.frame m ρ, frame_Up1Ref,
  fun m ρ _ => Cert.Down1.Gen.frame m ρ, fun m ρ _ => Cert.Down1Ideal.Gen.frame m ρ, frame_Down1Ref,
  fun m ρ _ => Cert.DownDx1.Gen.frame m ρ, fun m ρ _ => Cert.DownDx1Ideal.Gen.frame m ρ, frame_DownDx1Ref,
  fun m ρ _ => Cert.DownDw1.Gen.frame m ρ, fun m ρ _ => Cert.DownDw1Ideal.Gen.frame m ρ, frame_DownDw1Ref,
  fun m ρ _ => Cert.UpDx1.Gen.frame m ρ, fun m ρ _ => Cert.UpDx1Ideal.Gen.frame m ρ, frame_UpDx1Ref,
  fun m ρ _ => Cert.UpDw1.Gen.frame m ρ, fun m ρ _ => Cert.UpDw1Ideal.Gen.frame m ρ, frame_UpDw1Ref,
  fun m ρ _ => Cert.InE.Gen.frame m ρ, fun m ρ _ => Cert.InEIdeal.Gen.frame m ρ, frame_InERef,
  fun m ρ _ => Cert.InEDx.Gen.frame m ρ, fun m ρ _ => Cert.InEDxIdeal.Gen.frame m ρ, frame_InEDxRef,
  fun m ρ _ => Cert.InEDw.Gen.frame m ρ, fun m ρ _ => Cert.InEDwIdeal.Gen.frame m ρ, frame_InEDwRef,
  fun m ρ _ => Cert.InO.Gen.frame m ρ, fun m ρ _ => Cert.InOIdeal.Gen.frame m ρ, frame_InORef,
  fun m ρ _ => Cert.InODx.Gen.frame m ρ, fun m ρ _ => Cert.InODxIdeal.Gen.frame m ρ, frame_InODxRef,
  fun m ρ _ => Cert.InODw.Gen.frame m ρ, fun m ρ _ => Cert.InODwIdeal.Gen.frame m ρ, frame_InODwRef,
  fun m ρ _ => Cert.Out.Gen.frame m ρ, fun m ρ _ => Cert.OutIdeal.Gen.frame m ρ, frame_OutRef,
  fun m ρ _ => Cert.OutDx.Gen.frame m ρ, fun m ρ _ => Cert.OutDxIdeal.Gen.frame m ρ, frame_OutDxRef,
  fun m ρ _ => Cert.OutDw.Gen.frame m ρ, fun m ρ _ => Cert.OutDwIdeal.Gen.frame m ρ, frame_OutDwRef,
  fun m ρ _ => Cert.Glu.Gen.frame m ρ, fun m ρ _ => Cert.GluIdeal.Gen.frame m ρ, frame_GluRef,
  fun m ρ _ => Cert.GluDx.Gen.frame m ρ, fun m ρ _ => Cert.GluDxIdeal.Gen.frame m ρ, frame_GluDxRef,
  fun m ρ _ => Cert.GluDw.Gen.frame m ρ, fun m ρ _ => Cert.GluDwIdeal.Gen.frame m ρ, frame_GluDwRef,
  fun m ρ _ => Cert.AdamMlp.Gen.frame m ρ, fun m ρ _ => Cert.AdamMlpIdeal.Gen.frame m ρ, frame_AdamMlpRef,
  fun m ρ _ => Cert.AdamInE.Gen.frame m ρ, fun m ρ _ => Cert.AdamInEIdeal.Gen.frame m ρ, frame_AdamInERef,
  fun m ρ _ => Cert.AdamInO.Gen.frame m ρ, fun m ρ _ => Cert.AdamInOIdeal.Gen.frame m ρ, frame_AdamInORef,
  fun m ρ _ => Cert.AdamOut.Gen.frame m ρ, fun m ρ _ => Cert.AdamOutIdeal.Gen.frame m ρ, frame_AdamOutRef,
  fun m ρ _ => Cert.AdamGlu.Gen.frame m ρ, fun m ρ _ => Cert.AdamGluIdeal.Gen.frame m ρ, frame_AdamGluRef,
  fun m ρ _ => Cert.AdamSmall.Gen.frame m ρ, fun m ρ _ => Cert.AdamSmallIdeal.Gen.frame m ρ, frame_AdamSmallRef,
  fun m ρ _ => Cert.AdamVec.Gen.frame m ρ, fun m ρ _ => Cert.AdamVecIdeal.Gen.frame m ρ, frame_AdamVecRef,
  fun m ρ _ => Cert.GluBwd.Gen.frame m ρ, fun m ρ _ => Cert.GluBwdIdeal.Gen.frame m ρ, frame_GluBwdRef,
  fun m ρ _ => Cert.Gate.Gen.frame m ρ, fun m ρ _ => Cert.GateIdeal.Gen.frame m ρ, frame_GateRef,
  fun m ρ _ => Cert.Rms.Gen.frame m ρ, fun m ρ _ => Cert.RmsIdeal.Gen.frame m ρ, frame_RmsRef,
  fun m ρ _ => Cert.NormRes.Gen.frame m ρ, fun m ρ _ => Cert.NormResIdeal.Gen.frame m ρ, frame_NormResRef,
  fun m ρ _ => Cert.PostBwd.Gen.frame m ρ, fun m ρ _ => Cert.PostBwdIdeal.Gen.frame m ρ, frame_PostBwdRef,
  fun m ρ _ => Cert.ResNorm.Gen.frame m ρ, fun m ρ _ => Cert.ResNormIdeal.Gen.frame m ρ, frame_ResNormRef,
  fun m ρ _ => Cert.Loss.Gen.frame m ρ, fun m ρ _ => Cert.LossIdeal.Gen.frame m ρ, frame_LossRef,
  fun m ρ _ => Cert.PreNorm.Gen.frame m ρ, fun m ρ _ => Cert.PreNormIdeal.Gen.frame m ρ, frame_PreNormRef,
  fun m ρ _ => Cert.PoolScale.Gen.frame m ρ, fun m ρ _ => Cert.PoolScaleIdeal.Gen.frame m ρ, frame_PoolScaleRef,
  fun m ρ _ => Cert.S5Out.Gen.frame m ρ, fun m ρ _ => Cert.S5OutIdeal.Gen.frame m ρ, frame_S5OutRef,
  fun m ρ _ => Cert.S5Du.Gen.frame m ρ, fun m ρ _ => Cert.S5DuIdeal.Gen.frame m ρ, frame_S5DuRef,
  fun m ρ _ => Cert.GateFwd.Gen.frame m ρ, fun m ρ _ => Cert.GateFwdIdeal.Gen.frame m ρ, frame_GateFwdRef,
  fun m ρ _ => Cert.Pool.Gen.frame m ρ, fun m ρ _ => Cert.PoolIdeal.Gen.frame m ρ, frame_PoolRef,
  fun m ρ _ => Cert.PoolDx.Gen.frame m ρ, fun m ρ _ => Cert.PoolDxIdeal.Gen.frame m ρ, frame_PoolDxRef,
  fun m ρ _ => Cert.PoolDw.Gen.frame m ρ, fun m ρ _ => Cert.PoolDwIdeal.Gen.frame m ρ, frame_PoolDwRef,
  trivial, algebraic_Up0,
  trivial, algebraic_Down0,
  trivial, algebraic_DownDx0,
  trivial, algebraic_DownDw0,
  trivial, algebraic_UpDx0,
  trivial, algebraic_UpDw0,
  trivial, algebraic_Up1,
  trivial, algebraic_Down1,
  trivial, algebraic_DownDx1,
  trivial, algebraic_DownDw1,
  trivial, algebraic_UpDx1,
  trivial, algebraic_UpDw1,
  trivial, algebraic_InE,
  trivial, algebraic_InEDx,
  trivial, algebraic_InEDw,
  trivial, algebraic_InO,
  trivial, algebraic_InODx,
  trivial, algebraic_InODw,
  trivial, algebraic_Out,
  trivial, algebraic_OutDx,
  trivial, algebraic_OutDw,
  trivial, algebraic_Glu,
  trivial, algebraic_GluDx,
  trivial, algebraic_GluDw,
  trivial, algebraic_AdamMlp,
  trivial, algebraic_AdamInE,
  trivial, algebraic_AdamInO,
  trivial, algebraic_AdamOut,
  trivial, algebraic_AdamGlu,
  trivial, algebraic_AdamSmall,
  trivial, algebraic_AdamVec,
  trivial, algebraic_GluBwd,
  trivial, algebraic_Gate,
  trivial, algebraic_Rms,
  trivial, algebraic_NormRes,
  trivial, algebraic_PostBwd,
  trivial, algebraic_ResNorm,
  trivial, algebraic_Loss,
  trivial, algebraic_PreNorm,
  trivial, algebraic_PoolScale,
  trivial, algebraic_S5Out,
  trivial, algebraic_S5Du,
  trivial, algebraic_GateFwd,
  trivial, algebraic_Pool,
  trivial, algebraic_PoolDx,
  trivial, algebraic_PoolDw⟩

end Cert.Proof

end
